-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores4 [hPre_finite_scores4 : Cert.Pre_finite_scores4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores4 [hPre_finite_scores4 : Cert.Pre_finite_scores4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_scores4 [hKernel4Ideal : Cert.Kernel4Ideal.Facts] [hPre_finite_scores4 : Cert.Pre_finite_scores4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_scores4 [hReference4Ideal : Cert.Reference4Ideal.Facts] [hPre_finite_scores4 : Cert.Pre_finite_scores4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_on_latent_rows_pre_finite_scores [hKernelIdeal : Cert.KernelIdeal.Facts] [hReferenceIdeal : Cert.ReferenceIdeal.Facts] [hPre_finite_scores : Cert.Pre_finite_scores.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![33280, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![33280, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v24) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_on_latent_rows4_pre_finite_scores4 [hKernel4Ideal : Cert.Kernel4Ideal.Facts] [hReference4Ideal : Cert.Reference4Ideal.Facts] [hPre_finite_scores4 : Cert.Pre_finite_scores4.Facts] [hOn_latent_rows4 : Cert.On_latent_rows4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![33280, 512]⟩ : Shape).Idx, (Cert.On_latent_rows4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) i = 1#1 → r.2.mem ((c.tc : Thread Cert.Kernel4Ideal.nD Cert.Kernel4Ideal.τ).loc Cert.Kernel4Ideal.main_v0) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![33280, 512]⟩ : Shape).Idx, (Cert.On_latent_rows4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) i = 1#1 → r.2.mem ((c.tc : Thread Cert.Reference4Ideal.nD Cert.Reference4Ideal.τ).loc Cert.Reference4Ideal.main_v23) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v72) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v21_0)) (v1 : (c : Dev Cert.Kernel8Ideal.nD) → Buf (Elt Ideal) ((c.tc : Thread Cert.Kernel8Ideal.nD Cert.Kernel8Ideal.τ).loc Cert.Kernel8Ideal.main_v21_1)) (v2 : (c : Dev Cert.Kernel8Ideal.nD) → Buf (Elt Ideal) ((c.tc : Thread Cert.Kernel8Ideal.nD Cert.Kernel8Ideal.τ).loc Cert.Kernel8Ideal.main_v21_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v21_0) = v0 c
          ∧ r.2.mem ((c.tc : Thread Cert.Kernel8Ideal.nD Cert.Kernel8Ideal.τ).loc Cert.Kernel8Ideal.main_v21_1) = v1 c
          ∧ r.2.mem ((c.tc : Thread Cert.Kernel8Ideal.nD Cert.Kernel8Ideal.τ).loc Cert.Kernel8Ideal.main_v21_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v77) = v0 c
          ∧ r.2.mem ((c.tc : Thread Cert.Reference8Ideal.nD Cert.Reference8Ideal.τ).loc Cert.Reference8Ideal.main_v84) = v1 c
          ∧ r.2.mem ((c.tc : Thread Cert.Reference8Ideal.nD Cert.Reference8Ideal.τ).loc Cert.Reference8Ideal.main_v92) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_finite_scores4 : Cert.Pre_finite_scores4.Facts) (hOn_latent_rows : Cert.On_latent_rows.Facts) (hOn_latent_rows4 : Cert.On_latent_rows4.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores4 (hKernel4Ideal := hKernel4Ideal) (hPre_finite_scores4 := hPre_finite_scores4)
    ∧ quiescent_Reference4Ideal (hReference4Ideal := hReference4Ideal)
    ∧ quiescent_Reference4Ideal_pre_finite_scores4 (hReference4Ideal := hReference4Ideal) (hPre_finite_scores4 := hPre_finite_scores4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_on_latent_rows_pre_finite_scores (hKernelIdeal := hKernelIdeal) (hReferenceIdeal := hReferenceIdeal) (hPre_finite_scores := hPre_finite_scores) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_latent_rows4_pre_finite_scores4 (hKernel4Ideal := hKernel4Ideal) (hReference4Ideal := hReference4Ideal) (hPre_finite_scores4 := hPre_finite_scores4) (hOn_latent_rows4 := hOn_latent_rows4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== On_latent_rows.lean ====
abbrev S33280x512 : Shape := ⟨2, ![33280, 512]⟩
abbrev S33280x256 : Shape := ⟨2, ![33280, 256]⟩
abbrev S288x33280 : Shape := ⟨2, ![288, 33280]⟩
abbrev S_ : Shape := ⟨0, ![]⟩

class Facts : Prop where
  bcast_S_S33280x512 : S_.BroadcastsInDim S33280x512 (![] : Fin 0 → Fin S33280x512.rank)

variable [Facts]

def fn {F : FTy → Type} [FloatOps F] (main_arg0 : FVec F S33280x512 .bf16) (main_arg1 : FVec F S33280x256 .bf16) (main_arg2 : FVec F S288x33280 .bf16) : IVec S33280x512 1 :=
  let main_v0 : IVec S33280x512 32 := iotaInDim S33280x512 32 0
  let main_c : IVec S_ 32 := constantI S_ 32 32768#32
  let main_v1 : IVec S33280x512 32 := broadcastInDim S33280x512 ![] bcast_S_S33280x512 main_c
  let main_v2 : IVec S33280x512 1 := cmpi .slt main_v0 main_v1
  main_v2
-- ==== On_latent_rows4.lean ====
abbrev S33280x1024 : Shape := ⟨2, ![33280, 1024]⟩
abbrev S576x33280 : Shape := ⟨2, ![576, 33280]⟩
abbrev S33280x512 : Shape := ⟨2, ![33280, 512]⟩
abbrev S_ : Shape := ⟨0, ![]⟩

class Facts : Prop where
  bcast_S_S33280x512 : S_.BroadcastsInDim S33280x512 (![] : Fin 0 → Fin S33280x512.rank)

variable [Facts]

def fn {F : FTy → Type} [FloatOps F] (main_arg0 : FVec F S33280x1024 .bf16) (main_arg1 : FVec F S33280x1024 .bf16) (main_arg2 : FVec F S576x33280 .bf16) : IVec S33280x512 1 :=
  let main_v0 : IVec S33280x512 32 := iotaInDim S33280x512 32 0
  let main_c : IVec S_ 32 := constantI S_ 32 32768#32
  let main_v1 : IVec S33280x512 32 := broadcastInDim S33280x512 ![] bcast_S_S33280x512 main_c
  let main_v2 : IVec S33280x512 1 := cmpi .slt main_v0 main_v1
  main_v2
-- ==== Pre_finite_scores.lean ====
abbrev S33280x512 : Shape := ⟨2, ![33280, 512]⟩
abbrev S33280x256 : Shape := ⟨2, ![33280, 256]⟩
abbrev S288x33280 : Shape := ⟨2, ![288, 33280]⟩
abbrev S2x144x33280 : Shape := ⟨3, ![2, 144, 33280]⟩
abbrev S2x1x33280 : Shape := ⟨3, ![2, 1, 33280]⟩
abbrev S2x33280 : Shape := ⟨2, ![2, 33280]⟩
abbrev S_ : Shape := ⟨0, ![]⟩

class Facts : Prop where
  bitsLt_bf16_f32 : FTy.bits .bf16 < FTy.bits .f32
  shapeCasts_S288x33280_S2x144x33280 : S288x33280.ShapeCasts S2x144x33280
  slices_S2x144x33280_S2x1x33280_0_128_0 : S2x144x33280.Slices ![0, 128, 0] S2x1x33280
  shapeCasts_S2x1x33280_S2x33280 : S2x1x33280.ShapeCasts S2x33280
  bcast_S_S33280x512 : S_.BroadcastsInDim S33280x512 (![] : Fin 0 → Fin S33280x512.rank)
  reducesTo_S33280x512_S_d0_1 : S33280x512.ReducesTo [0, 1] S_
  h_S_ : 0 < S_.numel
  bcast_S_S33280x256 : S_.BroadcastsInDim S33280x256 (![] : Fin 0 → Fin S33280x256.rank)
  reducesTo_S33280x256_S_d0_1 : S33280x256.ReducesTo [0, 1] S_
  bcast_S_S2x33280 : S_.BroadcastsInDim S2x33280 (![] : Fin 0 → Fin S2x33280.rank)
  reducesTo_S2x33280_S_d0_1 : S2x33280.ReducesTo [0, 1] S_

variable [Facts]

def fn_part1 {F : FTy → Type} [FloatOps F] (main_v14 : IVec S_ 1) (main_v17 : IVec S_ 1) : IVec S_ 1 :=
  let main_v18 : IVec S_ 1 := andi main_v14 main_v17
  main_v18

def fn {F : FTy → Type} [FloatOps F] (main_arg0 : FVec F S33280x512 .bf16) (main_arg1 : FVec F S33280x256 .bf16) (main_arg2 : FVec F S288x33280 .bf16) : IVec S_ 1 :=
  let main_v0 : FVec F S288x33280 .f32 := (extf .f32 · bitsLt_bf16_f32) main_arg2
  let main_v1 : FVec F S2x144x33280 .f32 := shapeCast S2x144x33280 main_v0 shapeCasts_S288x33280_S2x144x33280
  let main_v2 : FVec F S2x1x33280 .f32 := (extractStridedSlice S2x1x33280 ![0, 128, 0] · slices_S2x144x33280_S2x1x33280_0_128_0) main_v1
  let main_v3 : FVec F S2x33280 .f32 := shapeCast S2x33280 main_v2 shapeCasts_S2x1x33280_S2x33280
  let main_v4 : FVec F S33280x512 .f32 := (extf .f32 · bitsLt_bf16_f32) main_arg0
  let main_v5 : FVec F S33280x512 .f32 := Host.absf main_v4
  let main_cst : FVec F S_ .f32 := constant S_ .f32 0x7F800000#32
  let main_v6 : FVec F S33280x512 .f32 := broadcastInDim S33280x512 ![] bcast_S_S33280x512 main_cst
  let main_v7 : IVec S33280x512 1 := cmpf .olt main_v5 main_v6
  let main_c : IVec S_ 1 := constantI S_ 1 1#1
  let main_v8 : IVec S_ 1 := (fun x v => Host.reduce IntOp.andi x v reducesTo_S33280x512_S_d0_1 h_S_) main_v7 main_c
  let main_v9 : FVec F S33280x256 .f32 := (extf .f32 · bitsLt_bf16_f32) main_arg1
  let main_v10 : FVec F S33280x256 .f32 := Host.absf main_v9
  let main_cst_0 : FVec F S_ .f32 := constant S_ .f32 0x7F800000#32
  let main_v11 : FVec F S33280x256 .f32 := broadcastInDim S33280x256 ![] bcast_S_S33280x256 main_cst_0
  let main_v12 : IVec S33280x256 1 := cmpf .olt main_v10 main_v11
  let main_c_1 : IVec S_ 1 := constantI S_ 1 1#1
  let main_v13 : IVec S_ 1 := (fun x v => Host.reduce IntOp.andi x v reducesTo_S33280x256_S_d0_1 h_S_) main_v12 main_c_1
  let main_v14 : IVec S_ 1 := andi main_v8 main_v13
  let main_cst_2 : FVec F S_ .f32 := constant S_ .f32 0x3F800000#32
  let main_v15 : FVec F S2x33280 .f32 := broadcastInDim S2x33280 ![] bcast_S_S2x33280 main_cst_2
  let main_v16 : IVec S2x33280 1 := cmpf .oeq main_v3 main_v15
  let main_c_3 : IVec S_ 1 := constantI S_ 1 1#1
  let main_v17 : IVec S_ 1 := (fun x v => Host.reduce IntOp.andi x v reducesTo_S2x33280_S_d0_1 h_S_) main_v16 main_c_3
  fn_part1 (F := F) main_v14 main_v17
-- ==== Pre_finite_scores4.lean ====
abbrev S33280x1024 : Shape := ⟨2, ![33280, 1024]⟩
abbrev S576x33280 : Shape := ⟨2, ![576, 33280]⟩
abbrev S4x144x33280 : Shape := ⟨3, ![4, 144, 33280]⟩
abbrev S4x1x33280 : Shape := ⟨3, ![4, 1, 33280]⟩
abbrev S4x33280 : Shape := ⟨2, ![4, 33280]⟩
abbrev S_ : Shape := ⟨0, ![]⟩

class Facts : Prop where
  bitsLt_bf16_f32 : FTy.bits .bf16 < FTy.bits .f32
  shapeCasts_S576x33280_S4x144x33280 : S576x33280.ShapeCasts S4x144x33280
  slices_S4x144x33280_S4x1x33280_0_128_0 : S4x144x33280.Slices ![0, 128, 0] S4x1x33280
  shapeCasts_S4x1x33280_S4x33280 : S4x1x33280.ShapeCasts S4x33280
  bcast_S_S33280x1024 : S_.BroadcastsInDim S33280x1024 (![] : Fin 0 → Fin S33280x1024.rank)
  reducesTo_S33280x1024_S_d0_1 : S33280x1024.ReducesTo [0, 1] S_
  h_S_ : 0 < S_.numel
  bcast_S_S4x33280 : S_.BroadcastsInDim S4x33280 (![] : Fin 0 → Fin S4x33280.rank)
  reducesTo_S4x33280_S_d0_1 : S4x33280.ReducesTo [0, 1] S_

variable [Facts]

def fn_part1 {F : FTy → Type} [FloatOps F] (main_v14 : IVec S_ 1) (main_v17 : IVec S_ 1) : IVec S_ 1 :=
  let main_v18 : IVec S_ 1 := andi main_v14 main_v17
  main_v18

def fn {F : FTy → Type} [FloatOps F] (main_arg0 : FVec F S33280x1024 .bf16) (main_arg1 : FVec F S33280x1024 .bf16) (main_arg2 : FVec F S576x33280 .bf16) : IVec S_ 1 :=
  let main_v0 : FVec F S576x33280 .f32 := (extf .f32 · bitsLt_bf16_f32) main_arg2
  let main_v1 : FVec F S4x144x33280 .f32 := shapeCast S4x144x33280 main_v0 shapeCasts_S576x33280_S4x144x33280
  let main_v2 : FVec F S4x1x33280 .f32 := (extractStridedSlice S4x1x33280 ![0, 128, 0] · slices_S4x144x33280_S4x1x33280_0_128_0) main_v1
  let main_v3 : FVec F S4x33280 .f32 := shapeCast S4x33280 main_v2 shapeCasts_S4x1x33280_S4x33280
  let main_v4 : FVec F S33280x1024 .f32 := (extf .f32 · bitsLt_bf16_f32) main_arg0
  let main_v5 : FVec F S33280x1024 .f32 := Host.absf main_v4
  let main_cst : FVec F S_ .f32 := constant S_ .f32 0x7F800000#32
  let main_v6 : FVec F S33280x1024 .f32 := broadcastInDim S33280x1024 ![] bcast_S_S33280x1024 main_cst
  let main_v7 : IVec S33280x1024 1 := cmpf .olt main_v5 main_v6
  let main_c : IVec S_ 1 := constantI S_ 1 1#1
  let main_v8 : IVec S_ 1 := (fun x v => Host.reduce IntOp.andi x v reducesTo_S33280x1024_S_d0_1 h_S_) main_v7 main_c
  let main_v9 : FVec F S33280x1024 .f32 := (extf .f32 · bitsLt_bf16_f32) main_arg1
  let main_v10 : FVec F S33280x1024 .f32 := Host.absf main_v9
  let main_cst_0 : FVec F S_ .f32 := constant S_ .f32 0x7F800000#32
  let main_v11 : FVec F S33280x1024 .f32 := broadcastInDim S33280x1024 ![] bcast_S_S33280x1024 main_cst_0
  let main_v12 : IVec S33280x1024 1 := cmpf .olt main_v10 main_v11
  let main_c_1 : IVec S_ 1 := constantI S_ 1 1#1
  let main_v13 : IVec S_ 1 := (fun x v => Host.reduce IntOp.andi x v reducesTo_S33280x1024_S_d0_1 h_S_) main_v12 main_c_1
  let main_v14 : IVec S_ 1 := andi main_v8 main_v13
  let main_cst_2 : FVec F S_ .f32 := constant S_ .f32 0x3F800000#32
  let main_v15 : FVec F S4x33280 .f32 := broadcastInDim S4x33280 ![] bcast_S_S4x33280 main_cst_2
  let main_v16 : IVec S4x33280 1 := cmpf .oeq main_v3 main_v15
  let main_c_3 : IVec S_ 1 := constantI S_ 1 1#1
  let main_v17 : IVec S_ 1 := (fun x v => Host.reduce IntOp.andi x v reducesTo_S4x33280_S_d0_1 h_S_) main_v16 main_c_3
  fn_part1 (F := F) main_v14 main_v17
-- ==== Kernel.lean ====
abbrev S33280x512 : Shape := ⟨2, ![33280, 512]⟩
abbrev S33280x256 : Shape := ⟨2, ![33280, 256]⟩
abbrev S288x33280 : Shape := ⟨2, ![288, 33280]⟩
abbrev S512x256 : Shape := ⟨2, ![512, 256]⟩
abbrev S16640x128 : Shape := ⟨2, ![16640, 128]⟩
abbrev S144x16640 : Shape := ⟨2, ![144, 16640]⟩
abbrev S2x1x512 : Shape := ⟨3, ![2, 1, 512]⟩
abbrev S2x144x512 : Shape := ⟨3, ![2, 144, 512]⟩
abbrev S2x2x1664x512 : Shape := ⟨4, ![2, 2, 1664, 512]⟩
abbrev S512x128 : Shape := ⟨2, ![512, 128]⟩
abbrev S1664x128 : Shape := ⟨2, ![1664, 128]⟩
abbrev S1664x512 : Shape := ⟨2, ![1664, 512]⟩
abbrev S1x1x1664x512 : Shape := ⟨4, ![1, 1, 1664, 512]⟩
abbrev S144x1664 : Shape := ⟨2, ![144, 1664]⟩
abbrev S512 : Shape := ⟨1, ![512]⟩
abbrev S1x512 : Shape := ⟨2, ![1, 512]⟩
abbrev S144x512 : Shape := ⟨2, ![144, 512]⟩
abbrev S1x1x512 : Shape := ⟨3, ![1, 1, 512]⟩
abbrev S1x144x512 : Shape := ⟨3, ![1, 144, 512]⟩
abbrev S1x128x512 : Shape := ⟨3, ![1, 128, 512]⟩
abbrev S128x512 : Shape := ⟨2, ![128, 512]⟩

abbrev nBuf : Space → Nat
  | .hbm => 4
  | .vmem => 11
  | .smem => 0
  | _ => 0

abbrev bufTy : (tb : Table) → Fin (tcTables nBuf tb) → BufTy
  | .hbm, ⟨0, _⟩ => ⟨S33280x512, .bf16⟩
  | .hbm, ⟨1, _⟩ => ⟨S33280x256, .bf16⟩
  | .hbm, ⟨2, _⟩ => ⟨S288x33280, .bf16⟩
  | .hbm, ⟨3, _⟩ => ⟨S33280x512, .bf16⟩
  | .local _ .vmem, ⟨0, _⟩ => ⟨S512x256, .bf16⟩
  | .local _ .vmem, ⟨1, _⟩ => ⟨S512x256, .bf16⟩
  | .local _ .vmem, ⟨2, _⟩ => ⟨S16640x128, .bf16⟩
  | .local _ .vmem, ⟨3, _⟩ => ⟨S16640x128, .bf16⟩
  | .local _ .vmem, ⟨4, _⟩ => ⟨S144x16640, .bf16⟩
  | .local _ .vmem, ⟨5, _⟩ => ⟨S144x16640, .bf16⟩
  | .local _ .vmem, ⟨6, _⟩ => ⟨S512x256, .bf16⟩
  | .local _ .vmem, ⟨7, _⟩ => ⟨S512x256, .bf16⟩
  | .local _ .vmem, ⟨8, _⟩ => ⟨S2x1x512, .f32⟩
  | .local _ .vmem, ⟨9, _⟩ => ⟨S2x144x512, .f32⟩
  | .local _ .vmem, ⟨10, _⟩ => ⟨S2x2x1664x512, .f32⟩
  | _, _ => ⟨S33280x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1664_i32 : BitVec 32 := 1664#32
  let v170 : BitVec 32 := Scalar.muli v169 c1664_i32
  v170
def k0_mult2 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1_i32_131 : BitVec 32 := 1#32
  let v172 : BitVec 32 := Scalar.addi v169 c1_i32_131
  let c1664_i32_132 : BitVec 32 := 1664#32
  let v173 : BitVec 32 := Scalar.muli v172 c1664_i32_132
  v173
def k0_off1 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1_i32_131 : BitVec 32 := 1#32
  let v172 : BitVec 32 := Scalar.addi v169 c1_i32_131
  let c1664_i32_132 : BitVec 32 := 1664#32
  let v173 : BitVec 32 := Scalar.muli v172 c1664_i32_132
  let v174 : BitVec 32 := v173
  let v175 : Index := Scalar.indexCast v174
  let c0_133 : Index := 0#32
  ![v175.toNat, 0]
def k0_off2 (k0_t1 : Fin k0_t1_loop.trips) : Fin 2 → Nat :=
  let c0_143 : Index := 0#32
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1664_i32 : BitVec 32 := 1664#32
  let v170 : BitVec 32 := Scalar.muli v169 c1664_i32
  let v171 : BitVec 32 := v170
  let v183 : Index := Scalar.indexCast v171
  ![0, v183.toNat]
def k0_mult3 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1_i32_158 : BitVec 32 := 1#32
  let v212 : BitVec 32 := Scalar.addi v169 c1_i32_158
  let c1664_i32_159 : BitVec 32 := 1664#32
  let v213 : BitVec 32 := Scalar.muli v212 c1664_i32_159
  v213
def k0_mult4 (k0_t1 : Fin k0_t1_loop.trips) : BitVec 32 :=
  let c2_i32_185 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_185 arg10
  let c1_i32_186 : BitVec 32 := 1#32
  let v253 : BitVec 32 := Scalar.addi v252 c1_i32_186
  let c1664_i32_187 : BitVec 32 := 1664#32
  let v254 : BitVec 32 := Scalar.muli v253 c1664_i32_187
  v254
def k0_mult5 (k0_t1 : Fin k0_t1_loop.trips) : BitVec 32 :=
  let c2_i32_185 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_185 arg10
  let c1_i32_186 : BitVec 32 := 1#32
  let v253 : BitVec 32 := Scalar.addi v252 c1_i32_186
  let c1_i32_188 : BitVec 32 := 1#32
  let v256 : BitVec 32 := Scalar.addi v253 c1_i32_188
  let c1664_i32_189 : BitVec 32 := 1664#32
  let v257 : BitVec 32 := Scalar.muli v256 c1664_i32_189
  v257
def k0_off3 (k0_t1 : Fin k0_t1_loop.trips) : Fin 2 → Nat :=
  let c2_i32_185 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_185 arg10
  let c1_i32_186 : BitVec 32 := 1#32
  let v253 : BitVec 32 := Scalar.addi v252 c1_i32_186
  let c1_i32_188 : BitVec 32 := 1#32
  let v256 : BitVec 32 := Scalar.addi v253 c1_i32_188
  let c1664_i32_189 : BitVec 32 := 1664#32
  let v257 : BitVec 32 := Scalar.muli v256 c1664_i32_189
  let v258 : BitVec 32 := v257
  let v259 : Index := Scalar.indexCast v258
  let c0_190 : Index := 0#32
  ![v259.toNat, 0]
def k0_off4 (k0_t1 : Fin k0_t1_loop.trips) : Fin 2 → Nat :=
  let c0_200 : Index := 0#32
  let c2_i32_185 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_185 arg10
  let c1_i32_186 : BitVec 32 := 1#32
  let v253 : BitVec 32 := Scalar.addi v252 c1_i32_186
  let c1664_i32_187 : BitVec 32 := 1664#32
  let v254 : BitVec 32 := Scalar.muli v253 c1664_i32_187
  let v255 : BitVec 32 := v254
  let v267 : Index := Scalar.indexCast v255
  ![0, v267.toNat]
def k0_mult6 (k0_t1 : Fin k0_t1_loop.trips) : BitVec 32 :=
  let c2_i32_185 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_185 arg10
  let c1_i32_186 : BitVec 32 := 1#32
  let v253 : BitVec 32 := Scalar.addi v252 c1_i32_186
  let c1_i32_215 : BitVec 32 := 1#32
  let v296 : BitVec 32 := Scalar.addi v253 c1_i32_215
  let c1664_i32_216 : BitVec 32 := 1664#32
  let v297 : BitVec 32 := Scalar.muli v296 c1664_i32_216
  v297
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S144x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S33280x512 : Shape := ⟨2, ![33280, 512]⟩
abbrev S33280x256 : Shape := ⟨2, ![33280, 256]⟩
abbrev S288x33280 : Shape := ⟨2, ![288, 33280]⟩
abbrev S32768x512 : Shape := ⟨2, ![32768, 512]⟩
abbrev S2x16384x2x2x128 : Shape := ⟨5, ![2, 16384, 2, 2, 128]⟩
abbrev S2x16640x2x128 : Shape := ⟨4, ![2, 16640, 2, 128]⟩
abbrev S2x144x2x16640 : Shape := ⟨4, ![2, 144, 2, 16640]⟩
abbrev S2x128x2x16640 : Shape := ⟨4, ![2, 128, 2, 16640]⟩
abbrev S2x2x16640x16384x2 : Shape := ⟨5, ![2, 2, 16640, 16384, 2]⟩
abbrev S2x2x2x16384x16640 : Shape := ⟨5, ![2, 2, 2, 16384, 16640]⟩
abbrev S_ : Shape := ⟨0, ![]⟩
abbrev S2x2x2x16384 : Shape := ⟨4, ![2, 2, 2, 16384]⟩
abbrev S2x2x2x16384x1 : Shape := ⟨5, ![2, 2, 2, 16384, 1]⟩
abbrev S2x2x128x2x16384 : Shape := ⟨5, ![2, 2, 128, 2, 16384]⟩

abbrev nBuf : Space → Nat
  | .hbm => 33
  | .vmem => 0
  | .smem => 0
  | _ => 0

abbrev bufTy : (tb : Table) → Fin (tcTables nBuf tb) → BufTy
  | .hbm, ⟨0, _⟩ => ⟨S33280x512, .bf16⟩
  | .hbm, ⟨1, _⟩ => ⟨S33280x256, .bf16⟩
  | .hbm, ⟨2, _⟩ => ⟨S288x33280, .bf16⟩
  | .hbm, ⟨3, _⟩ => ⟨S33280x512, .f32⟩
  | .hbm, ⟨4, _⟩ => ⟨S32768x512, .f32⟩
  | .hbm, ⟨5, _⟩ => ⟨S2x16384x2x2x128, .f32⟩
  | .hbm, ⟨6, _⟩ => ⟨S33280x256, .f32⟩
  | .hbm, ⟨7, _⟩ => ⟨S2x16640x2x128, .f32⟩
  | .hbm, ⟨8, _⟩ => ⟨S288x33280, .f32⟩
  | .hbm, ⟨9, _⟩ => ⟨S2x144x2x16640, .f32⟩
  | .hbm, ⟨10, _⟩ => ⟨S2x128x2x16640, .f32⟩
  | .hbm, ⟨11, _⟩ => ⟨S2x2x16640x16384x2, .f32⟩
  | .hbm, ⟨12, _⟩ => ⟨S2x2x2x16384x16640, .f32⟩
  | .hbm, ⟨13, _⟩ => ⟨S_, .f32⟩
  | .hbm, ⟨14, _⟩ => ⟨S2x2x2x16384x16640, .f32⟩
  | .hbm, ⟨15, _⟩ => ⟨S_, .f32⟩
  | .hbm, ⟨16, _⟩ => ⟨S2x2x2x16384, .f32⟩
  | .hbm, ⟨17, _⟩ => ⟨S2x2x2x16384x1, .f32⟩
  | .hbm, ⟨18, _⟩ => ⟨S2x2x2x16384x16640, .f32⟩
  | .hbm, ⟨19, _⟩ => ⟨S2x2x2x16384x16640, .f32⟩
  | .hbm, ⟨20, _⟩ => ⟨S2x2x2x16384x16640, .f32⟩
  | .hbm, ⟨21, _⟩ => ⟨S_, .f32⟩
  | .hbm, ⟨22, _⟩ => ⟨S2x2x2x16384, .f32⟩
  | .hbm, ⟨23, _⟩ => ⟨S2x2x2x16384x1, .f32⟩
  | .hbm, ⟨24, _⟩ => ⟨S2x2x2x16384x16640, .f32⟩
  | .hbm, ⟨25, _⟩ => ⟨S2x2x2x16384x16640, .f32⟩
  | .hbm, ⟨26, _⟩ => ⟨S2x2x128x2x16384, .f32⟩
  | .hbm, ⟨27, _⟩ => ⟨S2x16384x2x2x128, .f32⟩
  | .hbm, ⟨28, _⟩ => ⟨S32768x512, .f32⟩
  | .hbm, ⟨29, _⟩ => ⟨S_, .i32⟩
  | .hbm, ⟨30, _⟩ => ⟨S_, .f32⟩
  | .hbm, ⟨31, _⟩ => ⟨S33280x512, .f32⟩
  | .hbm, ⟨32, _⟩ => ⟨S33280x512, .bf16⟩
  | _, _ => ⟨S33280x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel2.lean ====
abbrev S33280x2048 : Shape := ⟨2, ![33280, 2048]⟩
abbrev S2048 : Shape := ⟨1, ![2048]⟩
abbrev S8x9x1x2048 : Shape := ⟨4, ![8, 9, 1, 2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S512x2048 : Shape := ⟨2, ![512, 2048]⟩
abbrev S1x1x1x2048 : Shape := ⟨4, ![1, 1, 1, 2048]⟩
abbrev S1x1x2048x512 : Shape := ⟨4, ![1, 1, 2048, 512]⟩
abbrev S1x1x512x2048 : Shape := ⟨4, ![1, 1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S8x9x1x2048, .f32⟩
  | .hbm, ⟨3, _⟩ => ⟨S4x2x2048x5632, .bf16⟩
  | .hbm, ⟨4, _⟩ => ⟨S4x2x2048x5632, .bf16⟩
  | .hbm, ⟨5, _⟩ => ⟨S4x2x5632x2048, .bf16⟩
  | .hbm, ⟨6, _⟩ => ⟨S1x2048, .f32⟩
  | .hbm, ⟨7, _⟩ => ⟨S33280x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x2048x512, .bf16⟩
  | .local _ .vmem, ⟨10, _⟩ => ⟨S1x1x2048x512, .bf16⟩
  | .local _ .vmem, ⟨11, _⟩ => ⟨S1x1x2048x512, .bf16⟩
  | .local _ .vmem, ⟨12, _⟩ => ⟨S1x1x2048x512, .bf16⟩
  | .local _ .vmem, ⟨13, _⟩ => ⟨S1x1x512x2048, .bf16⟩
  | .local _ .vmem, ⟨14, _⟩ => ⟨S1x1x512x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![65, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  let c0_i32_7 : BitVec 32 := 0#32
  ![v18.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c1_i32_4 : BitVec 32 := 1#32
  let c0_i32_5 : BitVec 32 := 0#32
  let c0_i32_6 : BitVec 32 := 0#32
  let c0_i32_7 : BitVec 32 := 0#32
  ![v18.toNat, c1_i32_4.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c2_i32_4 : BitVec 32 := 2#32
  let c0_i32_5 : BitVec 32 := 0#32
  let c0_i32_6 : BitVec 32 := 0#32
  let c0_i32_7 : BitVec 32 := 0#32
  ![v18.toNat, c2_i32_4.toNat, c0_i32_5.toNat, c0_i32_6.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S33280x2048 : Shape := ⟨2, ![33280, 2048]⟩
abbrev S2048 : Shape := ⟨1, ![2048]⟩
abbrev S8x9x1x2048 : Shape := ⟨4, ![8, 9, 1, 2048]⟩
abbrev S4x2x2048x5632 : Shape := ⟨4, ![4, 2, 2048, 5632]⟩
abbrev S4x2x5632x2048 : Shape := ⟨4, ![4, 2, 5632, 2048]⟩
abbrev S8x1x1x2048 : Shape := ⟨4, ![8, 1, 1, 2048]⟩
abbrev S8x1x2048 : Shape := ⟨3, ![8, 1, 2048]⟩
abbrev S1x1x2048 : Shape := ⟨3, ![1, 1, 2048]⟩
abbrev S1x2048 : Shape := ⟨2, ![1, 2048]⟩
abbrev S16384x2048 : Shape := ⟨2, ![16384, 2048]⟩
abbrev S512x2048 : Shape := ⟨2, ![512, 2048]⟩
abbrev S_ : Shape := ⟨0, ![]⟩
abbrev S33280 : Shape := ⟨1, ![33280]⟩
abbrev S33280x1 : Shape := ⟨2, ![33280, 1]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S33280x5632 : Shape := ⟨2, ![33280, 5632]⟩

abbrev nBuf : Space → Nat
  | .hbm => 90
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S8x9x1x2048, .f32⟩
  | .hbm, ⟨3, _⟩ => ⟨S4x2x2048x5632, .bf16⟩
  | .hbm, ⟨4, _⟩ => ⟨S4x2x2048x5632, .bf16⟩
  | .hbm, ⟨5, _⟩ => ⟨S4x2x5632x2048, .bf16⟩
  | .hbm, ⟨6, _⟩ => ⟨S8x1x1x2048, .f32⟩
  | .hbm, ⟨7, _⟩ => ⟨S8x1x2048, .f32⟩
  | .hbm, ⟨8, _⟩ => ⟨S1x1x2048, .f32⟩
  | .hbm, ⟨9, _⟩ => ⟨S1x2048, .f32⟩
  | .hbm, ⟨10, _⟩ => ⟨S16384x2048, .f32⟩
  | .hbm, ⟨11, _⟩ => ⟨S1x1x2048, .f32⟩
  | .hbm, ⟨12, _⟩ => ⟨S1x2048, .f32⟩
  | .hbm, ⟨13, _⟩ => ⟨S16384x2048, .f32⟩
  | .hbm, ⟨14, _⟩ => ⟨S1x1x2048, .f32⟩
  | .hbm, ⟨15, _⟩ => ⟨S1x2048, .f32⟩
  | .hbm, ⟨16, _⟩ => ⟨S512x2048, .f32⟩
  | .hbm, ⟨17, _⟩ => ⟨S33280x2048, .f32⟩
  | .hbm, ⟨18, _⟩ => ⟨S8x1x1x2048, .f32⟩
  | .hbm, ⟨19, _⟩ => ⟨S8x1x2048, .f32⟩
  | .hbm, ⟨20, _⟩ => ⟨S1x1x2048, .f32⟩
  | .hbm, ⟨21, _⟩ => ⟨S1x2048, .f32⟩
  | .hbm, ⟨22, _⟩ => ⟨S16384x2048, .f32⟩
  | .hbm, ⟨23, _⟩ => ⟨S1x1x2048, .f32⟩
  | .hbm, ⟨24, _⟩ => ⟨S1x2048, .f32⟩
  | .hbm, ⟨25, _⟩ => ⟨S16384x2048, .f32⟩
  | .hbm, ⟨26, _⟩ => ⟨S1x1x2048, .f32⟩
  | .hbm, ⟨27, _⟩ => ⟨S1x2048, .f32⟩
  | .hbm, ⟨28, _⟩ => ⟨S512x2048, .f32⟩
  | .hbm, ⟨29, _⟩ => ⟨S33280x2048, .f32⟩
  | .hbm, ⟨30, _⟩ => ⟨S8x1x1x2048, .f32⟩
  | .hbm, ⟨31, _⟩ => ⟨S8x1x2048, .f32⟩
  | .hbm, ⟨32, _⟩ => ⟨S1x1x2048, .f32⟩
  | .hbm, ⟨33, _⟩ => ⟨S1x2048, .f32⟩
  | .hbm, ⟨34, _⟩ => ⟨S16384x2048, .f32⟩
  | .hbm, ⟨35, _⟩ => ⟨S1x1x2048, .f32⟩
  | .hbm, ⟨36, _⟩ => ⟨S1x2048, .f32⟩
  | .hbm, ⟨37, _⟩ => ⟨S16384x2048, .f32⟩
  | .hbm, ⟨38, _⟩ => ⟨S1x1x2048, .f32⟩
  | .hbm, ⟨39, _⟩ => ⟨S1x2048, .f32⟩
  | .hbm, ⟨40, _⟩ => ⟨S512x2048, .f32⟩
  | .hbm, ⟨41, _⟩ => ⟨S33280x2048, .f32⟩
  | .hbm, ⟨42, _⟩ => ⟨S33280x2048, .f32⟩
  | .hbm, ⟨43, _⟩ => ⟨S_, .f32⟩
  | .hbm, ⟨44, _⟩ => ⟨S33280, .f32⟩
  | .hbm, ⟨45, _⟩ => ⟨S33280x1, .f32⟩
  | .hbm, ⟨46, _⟩ => ⟨S_, .f32⟩
  | .hbm, ⟨47, _⟩ => ⟨S33280x1, .f32⟩
  | .hbm, ⟨48, _⟩ => ⟨S33280x1, .f32⟩
  | .hbm, ⟨49, _⟩ => ⟨S_, .f32⟩
  | .hbm, ⟨50, _⟩ => ⟨S33280x1, .f32⟩
  | .hbm, ⟨51, _⟩ => ⟨S33280x1, .f32⟩
  | .hbm, ⟨52, _⟩ => ⟨S33280x1, .f32⟩
  | .hbm, ⟨53, _⟩ => ⟨S33280x2048, .f32⟩
  | .hbm, ⟨54, _⟩ => ⟨S33280x2048, .f32⟩
  | .hbm, ⟨55, _⟩ => ⟨S1x2048, .f32⟩
  | .hbm, ⟨56, _⟩ => ⟨S33280x2048, .f32⟩
  | .hbm, ⟨57, _⟩ => ⟨S33280x2048, .f32⟩
  | .hbm, ⟨58, _⟩ => ⟨S_, .f32⟩
  | .hbm, ⟨59, _⟩ => ⟨S33280x2048, .f32⟩
  | .hbm, ⟨60, _⟩ => ⟨S33280x2048, .f32⟩
  | .hbm, ⟨61, _⟩ => ⟨S33280x2048, .f32⟩
  | .hbm, ⟨62, _⟩ => ⟨S33280x2048, .f32⟩
  | .hbm, ⟨63, _⟩ => ⟨S1x1x2048x5632, .bf16⟩
  | .hbm, ⟨64, _⟩ => ⟨S2048x5632, .bf16⟩
  | .hbm, ⟨65, _⟩ => ⟨S2048x5632, .f32⟩
  | .hbm, ⟨66, _⟩ => ⟨S1x1x2048x5632, .bf16⟩
  | .hbm, ⟨67, _⟩ => ⟨S2048x5632, .bf16⟩
  | .hbm, ⟨68, _⟩ => ⟨S2048x5632, .f32⟩
  | .hbm, ⟨69, _⟩ => ⟨S1x1x5632x2048, .bf16⟩
  | .hbm, ⟨70, _⟩ => ⟨S5632x2048, .bf16⟩
  | .hbm, ⟨71, _⟩ => ⟨S5632x2048, .f32⟩
  | .hbm, ⟨72, _⟩ => ⟨S_, .f32⟩
  | .hbm, ⟨73, _⟩ => ⟨S33280x2048, .f32⟩
  | .hbm, ⟨74, _⟩ => ⟨S33280x2048, .f32⟩
  | .hbm, ⟨75, _⟩ => ⟨S33280x5632, .f32⟩
  | .hbm, ⟨76, _⟩ => ⟨S33280x5632, .f32⟩
  | .hbm, ⟨77, _⟩ => ⟨S33280x5632, .f32⟩
  | .hbm, ⟨78, _⟩ => ⟨S_, .f32⟩
  | .hbm, ⟨79, _⟩ => ⟨S33280x5632, .f32⟩
  | .hbm, ⟨80, _⟩ => ⟨S33280x5632, .f32⟩
  | .hbm, ⟨81, _⟩ => ⟨S_, .f32⟩
  | .hbm, ⟨82, _⟩ => ⟨S33280x5632, .f32⟩
  | .hbm, ⟨83, _⟩ => ⟨S33280x5632, .f32⟩
  | .hbm, ⟨84, _⟩ => ⟨S33280x5632, .f32⟩
  | .hbm, ⟨85, _⟩ => ⟨S33280x5632, .f32⟩
  | .hbm, ⟨86, _⟩ => ⟨S33280x5632, .f32⟩
  | .hbm, ⟨87, _⟩ => ⟨S33280x2048, .f32⟩
  | .hbm, ⟨88, _⟩ => ⟨S33280x2048, .f32⟩
  | .hbm, ⟨89, _⟩ => ⟨S33280x2048, .f32⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_v39 : Ref sig .tc := ⟨.hbm, 47, rfl⟩
abbrev main_v40 : Ref sig .tc := ⟨.hbm, 48, rfl⟩
abbrev main_cst_1 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_3 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel3.lean ====
abbrev S33280x2048 : Shape := ⟨2, ![33280, 2048]⟩
abbrev S2048 : Shape := ⟨1, ![2048]⟩
abbrev S8x9x1x2048 : Shape := ⟨4, ![8, 9, 1, 2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S32768x2048 : Shape := ⟨2, ![32768, 2048]⟩
abbrev S512x2048 : Shape := ⟨2, ![512, 2048]⟩
abbrev S1x1x1x2048 : Shape := ⟨4, ![1, 1, 1, 2048]⟩
abbrev S1x1x2048x512 : Shape := ⟨4, ![1, 1, 2048, 512]⟩
abbrev S1x1x512x2048 : Shape := ⟨4, ![1, 1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 19
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S8x9x1x2048, .f32⟩
  | .hbm, ⟨3, _⟩ => ⟨S4x2x2048x5632, .bf16⟩
  | .hbm, ⟨4, _⟩ => ⟨S4x2x2048x5632, .bf16⟩
  | .hbm, ⟨5, _⟩ => ⟨S4x2x5632x2048, .bf16⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x2048x512, .bf16⟩
  | .local _ .vmem, ⟨10, _⟩ => ⟨S1x1x2048x512, .bf16⟩
  | .local _ .vmem, ⟨11, _⟩ => ⟨S1x1x2048x512, .bf16⟩
  | .local _ .vmem, ⟨12, _⟩ => ⟨S1x1x2048x512, .bf16⟩
  | .local _ .vmem, ⟨13, _⟩ => ⟨S1x1x512x2048, .bf16⟩
  | .local _ .vmem, ⟨14, _⟩ => ⟨S1x1x512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c6_i32 : BitVec 32 := 6#32
  let c0_i32_4 : BitVec 32 := 0#32
  let c0_i32_5 : BitVec 32 := 0#32
  let c0_i32_6 : BitVec 32 := 0#32
  ![v18.toNat, c6_i32.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c7_i32 : BitVec 32 := 7#32
  let c0_i32_4 : BitVec 32 := 0#32
  let c0_i32_5 : BitVec 32 := 0#32
  let c0_i32_6 : BitVec 32 := 0#32
  ![v18.toNat, c7_i32.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32 : BitVec 32 := 8#32
  let c0_i32_4 : BitVec 32 := 0#32
  let c0_i32_5 : BitVec 32 := 0#32
  let c0_i32_6 : BitVec 32 := 0#32
  ![v18.toNat, c8_i32.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S33280x2048 : Shape := ⟨2, ![33280, 2048]⟩
abbrev S2048 : Shape := ⟨1, ![2048]⟩
abbrev S8x9x1x2048 : Shape := ⟨4, ![8, 9, 1, 2048]⟩
abbrev S4x2x2048x5632 : Shape := ⟨4, ![4, 2, 2048, 5632]⟩
abbrev S4x2x5632x2048 : Shape := ⟨4, ![4, 2, 5632, 2048]⟩
abbrev S32768x2048 : Shape := ⟨2, ![32768, 2048]⟩
abbrev S8x1x1x2048 : Shape := ⟨4, ![8, 1, 1, 2048]⟩
abbrev S8x1x2048 : Shape := ⟨3, ![8, 1, 2048]⟩
abbrev S1x1x2048 : Shape := ⟨3, ![1, 1, 2048]⟩
abbrev S1x2048 : Shape := ⟨2, ![1, 2048]⟩
abbrev S16384x2048 : Shape := ⟨2, ![16384, 2048]⟩
abbrev S_ : Shape := ⟨0, ![]⟩
abbrev S32768 : Shape := ⟨1, ![32768]⟩
abbrev S32768x1 : Shape := ⟨2, ![32768, 1]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S32768x5632 : Shape := ⟨2, ![32768, 5632]⟩

abbrev nBuf : Space → Nat
  | .hbm => 99
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S8x9x1x2048, .f32⟩
  | .hbm, ⟨3, _⟩ => ⟨S4x2x2048x5632, .bf16⟩
  | .hbm, ⟨4, _⟩ => ⟨S4x2x2048x5632, .bf16⟩
  | .hbm, ⟨5, _⟩ => ⟨S4x2x5632x2048, .bf16⟩
  | .hbm, ⟨6, _⟩ => ⟨S2048, .f32⟩
  | .hbm, ⟨7, _⟩ => ⟨S32768x2048, .f32⟩
  | .hbm, ⟨8, _⟩ => ⟨S8x1x1x2048, .f32⟩
  | .hbm, ⟨9, _⟩ => ⟨S8x1x2048, .f32⟩
  | .hbm, ⟨10, _⟩ => ⟨S1x1x2048, .f32⟩
  | .hbm, ⟨11, _⟩ => ⟨S1x2048, .f32⟩
  | .hbm, ⟨12, _⟩ => ⟨S16384x2048, .f32⟩
  | .hbm, ⟨13, _⟩ => ⟨S1x1x2048, .f32⟩
  | .hbm, ⟨14, _⟩ => ⟨S1x2048, .f32⟩
  | .hbm, ⟨15, _⟩ => ⟨S16384x2048, .f32⟩
  | .hbm, ⟨16, _⟩ => ⟨S32768x2048, .f32⟩
  | .hbm, ⟨17, _⟩ => ⟨S8x1x1x2048, .f32⟩
  | .hbm, ⟨18, _⟩ => ⟨S8x1x2048, .f32⟩
  | .hbm, ⟨19, _⟩ => ⟨S1x1x2048, .f32⟩
  | .hbm, ⟨20, _⟩ => ⟨S1x2048, .f32⟩
  | .hbm, ⟨21, _⟩ => ⟨S16384x2048, .f32⟩
  | .hbm, ⟨22, _⟩ => ⟨S1x1x2048, .f32⟩
  | .hbm, ⟨23, _⟩ => ⟨S1x2048, .f32⟩
  | .hbm, ⟨24, _⟩ => ⟨S16384x2048, .f32⟩
  | .hbm, ⟨25, _⟩ => ⟨S32768x2048, .f32⟩
  | .hbm, ⟨26, _⟩ => ⟨S8x1x1x2048, .f32⟩
  | .hbm, ⟨27, _⟩ => ⟨S8x1x2048, .f32⟩
  | .hbm, ⟨28, _⟩ => ⟨S1x1x2048, .f32⟩
  | .hbm, ⟨29, _⟩ => ⟨S1x2048, .f32⟩
  | .hbm, ⟨30, _⟩ => ⟨S16384x2048, .f32⟩
  | .hbm, ⟨31, _⟩ => ⟨S1x1x2048, .f32⟩
  | .hbm, ⟨32, _⟩ => ⟨S1x2048, .f32⟩
  | .hbm, ⟨33, _⟩ => ⟨S16384x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768x2048, .f32⟩
  | .hbm, ⟨53, _⟩ => ⟨S32768x2048, .f32⟩
  | .hbm, ⟨54, _⟩ => ⟨S32768x2048, .f32⟩
  | .hbm, ⟨55, _⟩ => ⟨S32768x2048, .f32⟩
  | .hbm, ⟨56, _⟩ => ⟨S1x1x2048x5632, .bf16⟩
  | .hbm, ⟨57, _⟩ => ⟨S2048x5632, .bf16⟩
  | .hbm, ⟨58, _⟩ => ⟨S2048x5632, .f32⟩
  | .hbm, ⟨59, _⟩ => ⟨S1x1x2048x5632, .bf16⟩
  | .hbm, ⟨60, _⟩ => ⟨S2048x5632, .bf16⟩
  | .hbm, ⟨61, _⟩ => ⟨S2048x5632, .f32⟩
  | .hbm, ⟨62, _⟩ => ⟨S1x1x5632x2048, .bf16⟩
  | .hbm, ⟨63, _⟩ => ⟨S5632x2048, .bf16⟩
  | .hbm, ⟨64, _⟩ => ⟨S5632x2048, .f32⟩
  | .hbm, ⟨65, _⟩ => ⟨S_, .f32⟩
  | .hbm, ⟨66, _⟩ => ⟨S32768x2048, .f32⟩
  | .hbm, ⟨67, _⟩ => ⟨S32768x2048, .f32⟩
  | .hbm, ⟨68, _⟩ => ⟨S32768x5632, .f32⟩
  | .hbm, ⟨69, _⟩ => ⟨S32768x5632, .f32⟩
  | .hbm, ⟨70, _⟩ => ⟨S32768x5632, .f32⟩
  | .hbm, ⟨71, _⟩ => ⟨S_, .f32⟩
  | .hbm, ⟨72, _⟩ => ⟨S32768x5632, .f32⟩
  | .hbm, ⟨73, _⟩ => ⟨S32768x5632, .f32⟩
  | .hbm, ⟨74, _⟩ => ⟨S_, .f32⟩
  | .hbm, ⟨75, _⟩ => ⟨S32768x5632, .f32⟩
  | .hbm, ⟨76, _⟩ => ⟨S32768x5632, .f32⟩
  | .hbm, ⟨77, _⟩ => ⟨S32768x5632, .f32⟩
  | .hbm, ⟨78, _⟩ => ⟨S32768x5632, .f32⟩
  | .hbm, ⟨79, _⟩ => ⟨S32768x5632, .f32⟩
  | .hbm, ⟨80, _⟩ => ⟨S32768x2048, .f32⟩
  | .hbm, ⟨81, _⟩ => ⟨S32768x2048, .f32⟩
  | .hbm, ⟨82, _⟩ => ⟨S32768x2048, .f32⟩
  | .hbm, ⟨83, _⟩ => ⟨S32768x2048, .f32⟩
  | .hbm, ⟨84, _⟩ => ⟨S_, .f32⟩
  | .hbm, ⟨85, _⟩ => ⟨S32768, .f32⟩
  | .hbm, ⟨86, _⟩ => ⟨S32768x1, .f32⟩
  | .hbm, ⟨87, _⟩ => ⟨S_, .f32⟩
  | .hbm, ⟨88, _⟩ => ⟨S32768x1, .f32⟩
  | .hbm, ⟨89, _⟩ => ⟨S32768x1, .f32⟩
  | .hbm, ⟨90, _⟩ => ⟨S_, .f32⟩
  | .hbm, ⟨91, _⟩ => ⟨S32768x1, .f32⟩
  | .hbm, ⟨92, _⟩ => ⟨S32768x1, .f32⟩
  | .hbm, ⟨93, _⟩ => ⟨S32768x1, .f32⟩
  | .hbm, ⟨94, _⟩ => ⟨S32768x2048, .f32⟩
  | .hbm, ⟨95, _⟩ => ⟨S32768x2048, .f32⟩
  | .hbm, ⟨96, _⟩ => ⟨S1x2048, .f32⟩
  | .hbm, ⟨97, _⟩ => ⟨S32768x2048, .f32⟩
  | .hbm, ⟨98, _⟩ => ⟨S32768x2048, .f32⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel4.lean ====
abbrev S33280x1024 : Shape := ⟨2, ![33280, 1024]⟩
abbrev S576x33280 : Shape := ⟨2, ![576, 33280]⟩
abbrev S33280x512 : Shape := ⟨2, ![33280, 512]⟩
abbrev S1024x256 : Shape := ⟨2, ![1024, 256]⟩
abbrev S16640x256 : Shape := ⟨2, ![16640, 256]⟩
abbrev S144x16640 : Shape := ⟨2, ![144, 16640]⟩
abbrev S1024x128 : Shape := ⟨2, ![1024, 128]⟩
abbrev S2x1x512 : Shape := ⟨3, ![2, 1, 512]⟩
abbrev S2x144x512 : Shape := ⟨3, ![2, 144, 512]⟩
abbrev S2x2x1664x512 : Shape := ⟨4, ![2, 2, 1664, 512]⟩
abbrev S512x256 : Shape := ⟨2, ![512, 256]⟩
abbrev S1664x256 : Shape := ⟨2, ![1664, 256]⟩
abbrev S1664x512 : Shape := ⟨2, ![1664, 512]⟩
abbrev S1x1x1664x512 : Shape := ⟨4, ![1, 1, 1664, 512]⟩
abbrev S144x1664 : Shape := ⟨2, ![144, 1664]⟩
abbrev S512 : Shape := ⟨1, ![512]⟩
abbrev S1x512 : Shape := ⟨2, ![1, 512]⟩
abbrev S144x512 : Shape := ⟨2, ![144, 512]⟩
abbrev S1x1x512 : Shape := ⟨3, ![1, 1, 512]⟩
abbrev S1x144x512 : Shape := ⟨3, ![1, 144, 512]⟩
abbrev S1x128x512 : Shape := ⟨3, ![1, 128, 512]⟩
abbrev S128x512 : Shape := ⟨2, ![128, 512]⟩
abbrev S512x128 : Shape := ⟨2, ![512, 128]⟩

abbrev nBuf : Space → Nat
  | .hbm => 4
  | .vmem => 11
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S576x33280, .bf16⟩
  | .hbm, ⟨3, _⟩ => ⟨S33280x512, .bf16⟩
  | .local _ .vmem, ⟨0, _⟩ => ⟨S1024x256, .bf16⟩
  | .local _ .vmem, ⟨1, _⟩ => ⟨S1024x256, .bf16⟩
  | .local _ .vmem, ⟨2, _⟩ => ⟨S16640x256, .bf16⟩
  | .local _ .vmem, ⟨3, _⟩ => ⟨S16640x256, .bf16⟩
  | .local _ .vmem, ⟨4, _⟩ => ⟨S144x16640, .bf16⟩
  | .local _ .vmem, ⟨5, _⟩ => ⟨S144x16640, .bf16⟩
  | .local _ .vmem, ⟨6, _⟩ => ⟨S1024x128, .bf16⟩
  | .local _ .vmem, ⟨7, _⟩ => ⟨S1024x128, .bf16⟩
  | .local _ .vmem, ⟨8, _⟩ => ⟨S2x1x512, .f32⟩
  | .local _ .vmem, ⟨9, _⟩ => ⟨S2x144x512, .f32⟩
  | .local _ .vmem, ⟨10, _⟩ => ⟨S2x2x1664x512, .f32⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1664_i32 : BitVec 32 := 1664#32
  let v170 : BitVec 32 := Scalar.muli v169 c1664_i32
  v170
def k0_mult2 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1_i32_130 : BitVec 32 := 1#32
  let v172 : BitVec 32 := Scalar.addi v169 c1_i32_130
  let c1664_i32_131 : BitVec 32 := 1664#32
  let v173 : BitVec 32 := Scalar.muli v172 c1664_i32_131
  v173
def k0_off1 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1_i32_130 : BitVec 32 := 1#32
  let v172 : BitVec 32 := Scalar.addi v169 c1_i32_130
  let c1664_i32_131 : BitVec 32 := 1664#32
  let v173 : BitVec 32 := Scalar.muli v172 c1664_i32_131
  let v174 : BitVec 32 := v173
  let v175 : Index := Scalar.indexCast v174
  let c0_132 : Index := 0#32
  ![v175.toNat, 0]
def k0_off2 (k0_t1 : Fin k0_t1_loop.trips) : Fin 2 → Nat :=
  let c0_142 : Index := 0#32
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1664_i32 : BitVec 32 := 1664#32
  let v170 : BitVec 32 := Scalar.muli v169 c1664_i32
  let v171 : BitVec 32 := v170
  let v183 : Index := Scalar.indexCast v171
  ![0, v183.toNat]
def k0_mult3 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v169 : BitVec 32 := Scalar.muli c2_i32 arg10
  let c1_i32_157 : BitVec 32 := 1#32
  let v212 : BitVec 32 := Scalar.addi v169 c1_i32_157
  let c1664_i32_158 : BitVec 32 := 1664#32
  let v213 : BitVec 32 := Scalar.muli v212 c1664_i32_158
  v213
def k0_mult4 (k0_t1 : Fin k0_t1_loop.trips) : BitVec 32 :=
  let c2_i32_184 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_184 arg10
  let c1_i32_185 : BitVec 32 := 1#32
  let v253 : BitVec 32 := Scalar.addi v252 c1_i32_185
  let c1664_i32_186 : BitVec 32 := 1664#32
  let v254 : BitVec 32 := Scalar.muli v253 c1664_i32_186
  v254
def k0_mult5 (k0_t1 : Fin k0_t1_loop.trips) : BitVec 32 :=
  let c2_i32_184 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_184 arg10
  let c1_i32_185 : BitVec 32 := 1#32
  let v253 : BitVec 32 := Scalar.addi v252 c1_i32_185
  let c1_i32_187 : BitVec 32 := 1#32
  let v256 : BitVec 32 := Scalar.addi v253 c1_i32_187
  let c1664_i32_188 : BitVec 32 := 1664#32
  let v257 : BitVec 32 := Scalar.muli v256 c1664_i32_188
  v257
def k0_off3 (k0_t1 : Fin k0_t1_loop.trips) : Fin 2 → Nat :=
  let c2_i32_184 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_184 arg10
  let c1_i32_185 : BitVec 32 := 1#32
  let v253 : BitVec 32 := Scalar.addi v252 c1_i32_185
  let c1_i32_187 : BitVec 32 := 1#32
  let v256 : BitVec 32 := Scalar.addi v253 c1_i32_187
  let c1664_i32_188 : BitVec 32 := 1664#32
  let v257 : BitVec 32 := Scalar.muli v256 c1664_i32_188
  let v258 : BitVec 32 := v257
  let v259 : Index := Scalar.indexCast v258
  let c0_189 : Index := 0#32
  ![v259.toNat, 0]
def k0_off4 (k0_t1 : Fin k0_t1_loop.trips) : Fin 2 → Nat :=
  let c0_199 : Index := 0#32
  let c2_i32_184 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_184 arg10
  let c1_i32_185 : BitVec 32 := 1#32
  let v253 : BitVec 32 := Scalar.addi v252 c1_i32_185
  let c1664_i32_186 : BitVec 32 := 1664#32
  let v254 : BitVec 32 := Scalar.muli v253 c1664_i32_186
  let v255 : BitVec 32 := v254
  let v267 : Index := Scalar.indexCast v255
  ![0, v267.toNat]
def k0_mult6 (k0_t1 : Fin k0_t1_loop.trips) : BitVec 32 :=
  let c2_i32_184 : BitVec 32 := 2#32
  let c0_i32 : BitVec 32 := 0#32
  let c1_i32 : BitVec 32 := 1#32
  let arg10 : BitVec 32 := Scf.iv c0_i32 c1_i32 k0_t1
  let v252 : BitVec 32 := Scalar.muli c2_i32_184 arg10
  let c1_i32_185 : BitVec 32 := 1#32
  let v253 : BitVec 32 := Scalar.addi v252 c1_i32_185
  let c1_i32_214 : BitVec 32 := 1#32
  let v296 : BitVec 32 := Scalar.addi v253 c1_i32_214
  let c1664_i32_215 : BitVec 32 := 1664#32
  let v297 : BitVec 32 := Scalar.muli v296 c1664_i32_215
  v297
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S144x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference4Ideal.lean ====
abbrev S33280x1024 : Shape := ⟨2, ![33280, 1024]⟩
abbrev S576x33280 : Shape := ⟨2, ![576, 33280]⟩
abbrev S32768x1024 : Shape := ⟨2, ![32768, 1024]⟩
abbrev S2x16384x4x256 : Shape := ⟨4, ![2, 16384, 4, 256]⟩
abbrev S2x16640x4x256 : Shape := ⟨4, ![2, 16640, 4, 256]⟩
abbrev S4x144x2x16640 : Shape := ⟨4, ![4, 144, 2, 16640]⟩
abbrev S4x128x2x16640 : Shape := ⟨4, ![4, 128, 2, 16640]⟩
abbrev S2x4x16384x16640 : Shape := ⟨4, ![2, 4, 16384, 16640]⟩
abbrev S_ : Shape := ⟨0, ![]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x4x128 : Shape := ⟨4, ![2, 16384, 4, 128]⟩
abbrev S32768x512 : Shape := ⟨2, ![32768, 512]⟩
abbrev S33280x512 : Shape := ⟨2, ![33280, 512]⟩

abbrev nBuf : Space → Nat
  | .hbm => 32
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S576x33280, .bf16⟩
  | .hbm, ⟨3, _⟩ => ⟨S33280x1024, .f32⟩
  | .hbm, ⟨4, _⟩ => ⟨S32768x1024, .f32⟩
  | .hbm, ⟨5, _⟩ => ⟨S2x16384x4x256, .f32⟩
  | .hbm, ⟨6, _⟩ => ⟨S33280x1024, .f32⟩
  | .hbm, ⟨7, _⟩ => ⟨S2x16640x4x256, .f32⟩
  | .hbm, ⟨8, _⟩ => ⟨S576x33280, .f32⟩
  | .hbm, ⟨9, _⟩ => ⟨S4x144x2x16640, .f32⟩
  | .hbm, ⟨10, _⟩ => ⟨S4x128x2x16640, .f32⟩
  | .hbm, ⟨11, _⟩ => ⟨S2x4x16384x16640, .f32⟩
  | .hbm, ⟨12, _⟩ => ⟨S_, .f32⟩
  | .hbm, ⟨13, _⟩ => ⟨S2x4x16384x16640, .f32⟩
  | .hbm, ⟨14, _⟩ => ⟨S_, .f32⟩
  | .hbm, ⟨15, _⟩ => ⟨S2x4x16384, .f32⟩
  | .hbm, ⟨16, _⟩ => ⟨S2x4x16384x1, .f32⟩
  | .hbm, ⟨17, _⟩ => ⟨S2x4x16384x16640, .f32⟩
  | .hbm, ⟨18, _⟩ => ⟨S2x4x16384x16640, .f32⟩
  | .hbm, ⟨19, _⟩ => ⟨S2x4x16384x16640, .f32⟩
  | .hbm, ⟨20, _⟩ => ⟨S_, .f32⟩
  | .hbm, ⟨21, _⟩ => ⟨S2x4x16384, .f32⟩
  | .hbm, ⟨22, _⟩ => ⟨S2x4x16384x1, .f32⟩
  | .hbm, ⟨23, _⟩ => ⟨S2x4x16384x16640, .f32⟩
  | .hbm, ⟨24, _⟩ => ⟨S2x4x16384x16640, .f32⟩
  | .hbm, ⟨25, _⟩ => ⟨S2x4x128x16384, .f32⟩
  | .hbm, ⟨26, _⟩ => ⟨S2x16384x4x128, .f32⟩
  | .hbm, ⟨27, _⟩ => ⟨S32768x512, .f32⟩
  | .hbm, ⟨28, _⟩ => ⟨S_, .i32⟩
  | .hbm, ⟨29, _⟩ => ⟨S_, .f32⟩
  | .hbm, ⟨30, _⟩ => ⟨S33280x512, .f32⟩
  | .hbm, ⟨31, _⟩ => ⟨S33280x512, .bf16⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S33280x2048 : Shape := ⟨2, ![33280, 2048]⟩
abbrev S2048 : Shape := ⟨1, ![2048]⟩
abbrev S8x9x1x2048 : Shape := ⟨4, ![8, 9, 1, 2048]⟩
abbrev S2048x3840 : Shape := ⟨2, ![2048, 3840]⟩
abbrev S1x2048 : Shape := ⟨2, ![1, 2048]⟩
abbrev S33280x3840 : Shape := ⟨2, ![33280, 3840]⟩
abbrev S512x2048 : Shape := ⟨2, ![512, 2048]⟩
abbrev S1x1x1x2048 : Shape := ⟨4, ![1, 1, 1, 2048]⟩
abbrev S2048x1280 : Shape := ⟨2, ![2048, 1280]⟩
abbrev S512x1280 : Shape := ⟨2, ![512, 1280]⟩
abbrev S256x2048 : Shape := ⟨2, ![256, 2048]⟩
abbrev S256 : Shape := ⟨1, ![256]⟩
abbrev S256x1 : Shape := ⟨2, ![256, 1]⟩
abbrev S256x1280 : Shape := ⟨2, ![256, 1280]⟩

abbrev nBuf : Space → Nat
  | .hbm => 6
  | .vmem => 12
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S8x9x1x2048, .f32⟩
  | .hbm, ⟨3, _⟩ => ⟨S2048x3840, .bf16⟩
  | .hbm, ⟨4, _⟩ => ⟨S1x2048, .f32⟩
  | .hbm, ⟨5, _⟩ => ⟨S33280x3840, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1280, .bf16⟩
  | .local _ .vmem, ⟨8, _⟩ => ⟨S2048x1280, .bf16⟩
  | .local _ .vmem, ⟨9, _⟩ => ⟨S512x1280, .f32⟩
  | .local _ .vmem, ⟨10, _⟩ => ⟨S512x1280, .f32⟩
  | .local _ .vmem, ⟨11, _⟩ => ⟨S512x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![65, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c3_i32 : BitVec 32 := 3#32
  let c0_i32_4 : BitVec 32 := 0#32
  let c0_i32_5 : BitVec 32 := 0#32
  let c0_i32_6 : BitVec 32 := 0#32
  ![v18.toNat, c3_i32.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c4_i32 : BitVec 32 := 4#32
  let c0_i32_4 : BitVec 32 := 0#32
  let c0_i32_5 : BitVec 32 := 0#32
  let c0_i32_6 : BitVec 32 := 0#32
  ![v18.toNat, c4_i32.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S33280x2048 : Shape := ⟨2, ![33280, 2048]⟩
abbrev S2048 : Shape := ⟨1, ![2048]⟩
abbrev S8x9x1x2048 : Shape := ⟨4, ![8, 9, 1, 2048]⟩
abbrev S2048x3840 : Shape := ⟨2, ![2048, 3840]⟩
abbrev S8x1x1x2048 : Shape := ⟨4, ![8, 1, 1, 2048]⟩
abbrev S8x1x2048 : Shape := ⟨3, ![8, 1, 2048]⟩
abbrev S1x1x2048 : Shape := ⟨3, ![1, 1, 2048]⟩
abbrev S1x2048 : Shape := ⟨2, ![1, 2048]⟩
abbrev S16384x2048 : Shape := ⟨2, ![16384, 2048]⟩
abbrev S512x2048 : Shape := ⟨2, ![512, 2048]⟩
abbrev S_ : Shape := ⟨0, ![]⟩
abbrev S33280 : Shape := ⟨1, ![33280]⟩
abbrev S33280x1 : Shape := ⟨2, ![33280, 1]⟩
abbrev S33280x3840 : Shape := ⟨2, ![33280, 3840]⟩

abbrev nBuf : Space → Nat
  | .hbm => 51
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S2048, .f32⟩
  | .hbm, ⟨2, _⟩ => ⟨S8x9x1x2048, .f32⟩
  | .hbm, ⟨3, _⟩ => ⟨S2048x3840, .bf16⟩
  | .hbm, ⟨4, _⟩ => ⟨S8x1x1x2048, .f32⟩
  | .hbm, ⟨5, _⟩ => ⟨S8x1x2048, .f32⟩
  | .hbm, ⟨6, _⟩ => ⟨S1x1x2048, .f32⟩
  | .hbm, ⟨7, _⟩ => ⟨S1x2048, .f32⟩
  | .hbm, ⟨8, _⟩ => ⟨S16384x2048, .f32⟩
  | .hbm, ⟨9, _⟩ => ⟨S1x1x2048, .f32⟩
  | .hbm, ⟨10, _⟩ => ⟨S1x2048, .f32⟩
  | .hbm, ⟨11, _⟩ => ⟨S16384x2048, .f32⟩
  | .hbm, ⟨12, _⟩ => ⟨S1x1x2048, .f32⟩
  | .hbm, ⟨13, _⟩ => ⟨S1x2048, .f32⟩
  | .hbm, ⟨14, _⟩ => ⟨S512x2048, .f32⟩
  | .hbm, ⟨15, _⟩ => ⟨S33280x2048, .f32⟩
  | .hbm, ⟨16, _⟩ => ⟨S8x1x1x2048, .f32⟩
  | .hbm, ⟨17, _⟩ => ⟨S8x1x2048, .f32⟩
  | .hbm, ⟨18, _⟩ => ⟨S1x1x2048, .f32⟩
  | .hbm, ⟨19, _⟩ => ⟨S1x2048, .f32⟩
  | .hbm, ⟨20, _⟩ => ⟨S16384x2048, .f32⟩
  | .hbm, ⟨21, _⟩ => ⟨S1x1x2048, .f32⟩
  | .hbm, ⟨22, _⟩ => ⟨S1x2048, .f32⟩
  | .hbm, ⟨23, _⟩ => ⟨S16384x2048, .f32⟩
  | .hbm, ⟨24, _⟩ => ⟨S1x1x2048, .f32⟩
  | .hbm, ⟨25, _⟩ => ⟨S1x2048, .f32⟩
  | .hbm, ⟨26, _⟩ => ⟨S512x2048, .f32⟩
  | .hbm, ⟨27, _⟩ => ⟨S33280x2048, .f32⟩
  | .hbm, ⟨28, _⟩ => ⟨S33280x2048, .f32⟩
  | .hbm, ⟨29, _⟩ => ⟨S_, .f32⟩
  | .hbm, ⟨30, _⟩ => ⟨S33280, .f32⟩
  | .hbm, ⟨31, _⟩ => ⟨S33280x1, .f32⟩
  | .hbm, ⟨32, _⟩ => ⟨S_, .f32⟩
  | .hbm, ⟨33, _⟩ => ⟨S33280x1, .f32⟩
  | .hbm, ⟨34, _⟩ => ⟨S33280x1, .f32⟩
  | .hbm, ⟨35, _⟩ => ⟨S_, .f32⟩
  | .hbm, ⟨36, _⟩ => ⟨S33280x1, .f32⟩
  | .hbm, ⟨37, _⟩ => ⟨S33280x1, .f32⟩
  | .hbm, ⟨38, _⟩ => ⟨S33280x1, .f32⟩
  | .hbm, ⟨39, _⟩ => ⟨S33280x2048, .f32⟩
  | .hbm, ⟨40, _⟩ => ⟨S33280x2048, .f32⟩
  | .hbm, ⟨41, _⟩ => ⟨S1x2048, .f32⟩
  | .hbm, ⟨42, _⟩ => ⟨S33280x2048, .f32⟩
  | .hbm, ⟨43, _⟩ => ⟨S33280x2048, .f32⟩
  | .hbm, ⟨44, _⟩ => ⟨S_, .f32⟩
  | .hbm, ⟨45, _⟩ => ⟨S33280x2048, .f32⟩
  | .hbm, ⟨46, _⟩ => ⟨S33280x2048, .f32⟩
  | .hbm, ⟨47, _⟩ => ⟨S33280x2048, .f32⟩
  | .hbm, ⟨48, _⟩ => ⟨S33280x2048, .f32⟩
  | .hbm, ⟨49, _⟩ => ⟨S2048x3840, .f32⟩
  | .hbm, ⟨50, _⟩ => ⟨S33280x3840, .f32⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel6.lean ====
abbrev S33280x2048 : Shape := ⟨2, ![33280, 2048]⟩
abbrev S8x9x1x2048 : Shape := ⟨4, ![8, 9, 1, 2048]⟩
abbrev S33280x512 : Shape := ⟨2, ![33280, 512]⟩
abbrev S33280x3840 : Shape := ⟨2, ![33280, 3840]⟩
abbrev S512 : Shape := ⟨1, ![512]⟩
abbrev S512x512 : Shape := ⟨2, ![512, 512]⟩
abbrev S33280x1024 : Shape := ⟨2, ![33280, 1024]⟩
abbrev S8 : Shape := ⟨1, ![8]⟩
abbrev S4x2048x2048 : Shape := ⟨3, ![4, 2048, 2048]⟩
abbrev S1x512 : Shape := ⟨2, ![1, 512]⟩
abbrev S8x64 : Shape := ⟨2, ![8, 64]⟩
abbrev S512x2048 : Shape := ⟨2, ![512, 2048]⟩
abbrev S1x1x1x2048 : Shape := ⟨4, ![1, 1, 1, 2048]⟩
abbrev S1x2048x2048 : Shape := ⟨3, ![1, 2048, 2048]⟩
abbrev S512x1 : Shape := ⟨2, ![512, 1]⟩
abbrev S1x512x2048 : Shape := ⟨3, ![1, 512, 2048]⟩
abbrev S1x2048 : Shape := ⟨2, ![1, 2048]⟩

abbrev nBuf : Space → Nat
  | .hbm => 23
  | .vmem => 28
  | .smem => 0
  | _ => 0

abbrev bufTy : (tb : Table) → Fin (tcTables nBuf tb) → BufTy
  | .hbm, ⟨0, _⟩ => ⟨S33280x2048, .f32⟩
  | .hbm, ⟨1, _⟩ => ⟨S8x9x1x2048, .f32⟩
  | .hbm, ⟨2, _⟩ => ⟨S33280x512, .bf16⟩
  | .hbm, ⟨3, _⟩ => ⟨S33280x3840, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S33280x512, .f32⟩
  | .hbm, ⟨8, _⟩ => ⟨S33280x512, .f32⟩
  | .hbm, ⟨9, _⟩ => ⟨S33280x1024, .f32⟩
  | .hbm, ⟨10, _⟩ => ⟨S8, .f32⟩
  | .hbm, ⟨11, _⟩ => ⟨S512, .f32⟩
  | .hbm, ⟨12, _⟩ => ⟨S33280x512, .bf16⟩
  | .hbm, ⟨13, _⟩ => ⟨S33280x512, .bf16⟩
  | .hbm, ⟨14, _⟩ => ⟨S4x2048x2048, .bf16⟩
  | .hbm, ⟨15, _⟩ => ⟨S1x512, .f32⟩
  | .hbm, ⟨16, _⟩ => ⟨S512x512, .bf16⟩
  | .hbm, ⟨17, _⟩ => ⟨S1x512, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S33280x2048, .f32⟩
  | .local _ .vmem, ⟨0, _⟩ => ⟨S512x2048, .f32⟩
  | .local _ .vmem, ⟨1, _⟩ => ⟨S512x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1x512, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S1x2048x2048, .bf16⟩
  | .local _ .vmem, ⟨26, _⟩ => ⟨S512x2048, .f32⟩
  | .local _ .vmem, ⟨27, _⟩ => ⟨S512x2048, .f32⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c5_i32 : BitVec 32 := 5#32
  let c0_i32_4 : BitVec 32 := 0#32
  let c0_i32_5 : BitVec 32 := 0#32
  let c0_i32_6 : BitVec 32 := 0#32
  ![v18.toNat, c5_i32.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S33280x2048 : Shape := ⟨2, ![33280, 2048]⟩
abbrev S8x9x1x2048 : Shape := ⟨4, ![8, 9, 1, 2048]⟩
abbrev S33280x512 : Shape := ⟨2, ![33280, 512]⟩
abbrev S33280x3840 : Shape := ⟨2, ![33280, 3840]⟩
abbrev S512 : Shape := ⟨1, ![512]⟩
abbrev S512x512 : Shape := ⟨2, ![512, 512]⟩
abbrev S33280x1024 : Shape := ⟨2, ![33280, 1024]⟩
abbrev S8 : Shape := ⟨1, ![8]⟩
abbrev S4x2048x2048 : Shape := ⟨3, ![4, 2048, 2048]⟩
abbrev S1x1x1x2048 : Shape := ⟨4, ![1, 1, 1, 2048]⟩
abbrev S1x2048 : Shape := ⟨2, ![1, 2048]⟩
abbrev S16384x2048 : Shape := ⟨2, ![16384, 2048]⟩
abbrev S512x2048 : Shape := ⟨2, ![512, 2048]⟩
abbrev S1x512 : Shape := ⟨2, ![1, 512]⟩
abbrev S_ : Shape := ⟨0, ![]⟩
abbrev S1x8x1 : Shape := ⟨3, ![1, 8, 1]⟩
abbrev S33280x8x64 : Shape := ⟨3, ![33280, 8, 64]⟩
abbrev S33280 : Shape := ⟨1, ![33280]⟩
abbrev S33280x1 : Shape := ⟨2, ![33280, 1]⟩
abbrev S1x2048x2048 : Shape := ⟨3, ![1, 2048, 2048]⟩
abbrev S2048x2048 : Shape := ⟨2, ![2048, 2048]⟩

abbrev nBuf : Space → Nat
  | .hbm => 105
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S8x9x1x2048, .f32⟩
  | .hbm, ⟨2, _⟩ => ⟨S33280x512, .bf16⟩
  | .hbm, ⟨3, _⟩ => ⟨S33280x3840, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S33280x512, .f32⟩
  | .hbm, ⟨8, _⟩ => ⟨S33280x512, .f32⟩
  | .hbm, ⟨9, _⟩ => ⟨S33280x1024, .f32⟩
  | .hbm, ⟨10, _⟩ => ⟨S8, .f32⟩
  | .hbm, ⟨11, _⟩ => ⟨S512, .f32⟩
  | .hbm, ⟨12, _⟩ => ⟨S33280x512, .bf16⟩
  | .hbm, ⟨13, _⟩ => ⟨S33280x512, .bf16⟩
  | .hbm, ⟨14, _⟩ => ⟨S4x2048x2048, .bf16⟩
  | .hbm, ⟨15, _⟩ => ⟨S1x1x1x2048, .f32⟩
  | .hbm, ⟨16, _⟩ => ⟨S1x2048, .f32⟩
  | .hbm, ⟨17, _⟩ => ⟨S16384x2048, .f32⟩
  | .hbm, ⟨18, _⟩ => ⟨S1x1x1x2048, .f32⟩
  | .hbm, ⟨19, _⟩ => ⟨S1x2048, .f32⟩
  | .hbm, ⟨20, _⟩ => ⟨S16384x2048, .f32⟩
  | .hbm, ⟨21, _⟩ => ⟨S1x1x1x2048, .f32⟩
  | .hbm, ⟨22, _⟩ => ⟨S1x2048, .f32⟩
  | .hbm, ⟨23, _⟩ => ⟨S512x2048, .f32⟩
  | .hbm, ⟨24, _⟩ => ⟨S33280x2048, .f32⟩
  | .hbm, ⟨25, _⟩ => ⟨S33280x512, .f32⟩
  | .hbm, ⟨26, _⟩ => ⟨S33280x512, .f32⟩
  | .hbm, ⟨27, _⟩ => ⟨S33280x512, .f32⟩
  | .hbm, ⟨28, _⟩ => ⟨S33280x512, .f32⟩
  | .hbm, ⟨29, _⟩ => ⟨S1x512, .f32⟩
  | .hbm, ⟨30, _⟩ => ⟨S33280x512, .f32⟩
  | .hbm, ⟨31, _⟩ => ⟨S33280x512, .f32⟩
  | .hbm, ⟨32, _⟩ => ⟨S33280x512, .f32⟩
  | .hbm, ⟨33, _⟩ => ⟨S33280x512, .f32⟩
  | .hbm, ⟨34, _⟩ => ⟨S33280x512, .f32⟩
  | .hbm, ⟨35, _⟩ => ⟨S_, .f32⟩
  | .hbm, ⟨36, _⟩ => ⟨S33280x512, .f32⟩
  | .hbm, ⟨37, _⟩ => ⟨S33280x512, .f32⟩
  | .hbm, ⟨38, _⟩ => ⟨S33280x512, .f32⟩
  | .hbm, ⟨39, _⟩ => ⟨S_, .f32⟩
  | .hbm, ⟨40, _⟩ => ⟨S33280x512, .f32⟩
  | .hbm, ⟨41, _⟩ => ⟨S33280x512, .f32⟩
  | .hbm, ⟨42, _⟩ => ⟨S33280x512, .f32⟩
  | .hbm, ⟨43, _⟩ => ⟨S_, .f32⟩
  | .hbm, ⟨44, _⟩ => ⟨S33280x512, .f32⟩
  | .hbm, ⟨45, _⟩ => ⟨S33280x512, .f32⟩
  | .hbm, ⟨46, _⟩ => ⟨S_, .f32⟩
  | .hbm, ⟨47, _⟩ => ⟨S33280x512, .f32⟩
  | .hbm, ⟨48, _⟩ => ⟨S33280x512, .f32⟩
  | .hbm, ⟨49, _⟩ => ⟨S33280x512, .f32⟩
  | .hbm, ⟨50, _⟩ => ⟨S33280x512, .f32⟩
  | .hbm, ⟨51, _⟩ => ⟨S1x512, .f32⟩
  | .hbm, ⟨52, _⟩ => ⟨S33280x512, .f32⟩
  | .hbm, ⟨53, _⟩ => ⟨S33280x512, .f32⟩
  | .hbm, ⟨54, _⟩ => ⟨S33280x512, .f32⟩
  | .hbm, ⟨55, _⟩ => ⟨S33280x512, .f32⟩
  | .hbm, ⟨56, _⟩ => ⟨S_, .f32⟩
  | .hbm, ⟨57, _⟩ => ⟨S33280x512, .f32⟩
  | .hbm, ⟨58, _⟩ => ⟨S33280x512, .f32⟩
  | .hbm, ⟨59, _⟩ => ⟨S_, .f32⟩
  | .hbm, ⟨60, _⟩ => ⟨S33280x512, .f32⟩
  | .hbm, ⟨61, _⟩ => ⟨S33280x512, .f32⟩
  | .hbm, ⟨62, _⟩ => ⟨S33280x512, .f32⟩
  | .hbm, ⟨63, _⟩ => ⟨S1x8x1, .f32⟩
  | .hbm, ⟨64, _⟩ => ⟨S33280x8x64, .f32⟩
  | .hbm, ⟨65, _⟩ => ⟨S33280x8x64, .f32⟩
  | .hbm, ⟨66, _⟩ => ⟨S33280x8x64, .f32⟩
  | .hbm, ⟨67, _⟩ => ⟨S33280x512, .f32⟩
  | .hbm, ⟨68, _⟩ => ⟨S33280x512, .f32⟩
  | .hbm, ⟨69, _⟩ => ⟨S33280x512, .f32⟩
  | .hbm, ⟨70, _⟩ => ⟨S33280x512, .f32⟩
  | .hbm, ⟨71, _⟩ => ⟨S33280x512, .f32⟩
  | .hbm, ⟨72, _⟩ => ⟨S_, .f32⟩
  | .hbm, ⟨73, _⟩ => ⟨S33280x512, .f32⟩
  | .hbm, ⟨74, _⟩ => ⟨S33280x512, .f32⟩
  | .hbm, ⟨75, _⟩ => ⟨S_, .f32⟩
  | .hbm, ⟨76, _⟩ => ⟨S33280x512, .f32⟩
  | .hbm, ⟨77, _⟩ => ⟨S33280x512, .f32⟩
  | .hbm, ⟨78, _⟩ => ⟨S33280x512, .f32⟩
  | .hbm, ⟨79, _⟩ => ⟨S33280x512, .f32⟩
  | .hbm, ⟨80, _⟩ => ⟨S33280x512, .f32⟩
  | .hbm, ⟨81, _⟩ => ⟨S_, .f32⟩
  | .hbm, ⟨82, _⟩ => ⟨S33280, .f32⟩
  | .hbm, ⟨83, _⟩ => ⟨S33280x1, .f32⟩
  | .hbm, ⟨84, _⟩ => ⟨S_, .f32⟩
  | .hbm, ⟨85, _⟩ => ⟨S33280x1, .f32⟩
  | .hbm, ⟨86, _⟩ => ⟨S33280x1, .f32⟩
  | .hbm, ⟨87, _⟩ => ⟨S_, .f32⟩
  | .hbm, ⟨88, _⟩ => ⟨S33280x1, .f32⟩
  | .hbm, ⟨89, _⟩ => ⟨S33280x1, .f32⟩
  | .hbm, ⟨90, _⟩ => ⟨S33280x1, .f32⟩
  | .hbm, ⟨91, _⟩ => ⟨S33280x512, .f32⟩
  | .hbm, ⟨92, _⟩ => ⟨S33280x512, .f32⟩
  | .hbm, ⟨93, _⟩ => ⟨S1x512, .f32⟩
  | .hbm, ⟨94, _⟩ => ⟨S33280x512, .f32⟩
  | .hbm, ⟨95, _⟩ => ⟨S33280x512, .f32⟩
  | .hbm, ⟨96, _⟩ => ⟨S33280x512, .f32⟩
  | .hbm, ⟨97, _⟩ => ⟨S33280x512, .f32⟩
  | .hbm, ⟨98, _⟩ => ⟨S33280x2048, .f32⟩
  | .hbm, ⟨99, _⟩ => ⟨S1x2048x2048, .bf16⟩
  | .hbm, ⟨100, _⟩ => ⟨S2048x2048, .bf16⟩
  | .hbm, ⟨101, _⟩ => ⟨S2048x2048, .f32⟩
  | .hbm, ⟨102, _⟩ => ⟨S33280x2048, .f32⟩
  | .hbm, ⟨103, _⟩ => ⟨S33280x2048, .f32⟩
  | .hbm, ⟨104, _⟩ => ⟨S33280x2048, .f32⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]
-- ==== Kernel7.lean ====
abbrev S2x2048 : Shape := ⟨2, ![2, 2048]⟩
abbrev S2048 : Shape := ⟨1, ![2048]⟩
abbrev S4x2048x18432 : Shape := ⟨3, ![4, 2048, 18432]⟩
abbrev S4x18432 : Shape := ⟨2, ![4, 18432]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x1x18432 : Shape := ⟨3, ![4, 1, 18432]⟩
abbrev S4x8x18432 : Shape := ⟨3, ![4, 8, 18432]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x18432, .f32⟩
  | .hbm, ⟨3, _⟩ => ⟨S4x18432, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S4x1x18432, .f32⟩
  | .hbm, ⟨9, _⟩ => ⟨S4x8x18432, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x2048 : Shape := ⟨2, ![2, 2048]⟩
abbrev S2048 : Shape := ⟨1, ![2048]⟩
abbrev S4x2048x18432 : Shape := ⟨3, ![4, 2048, 18432]⟩
abbrev S4x18432 : Shape := ⟨2, ![4, 18432]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x18432x8 : Shape := ⟨3, ![4, 18432, 8]⟩
abbrev S4x8x18432 : Shape := ⟨3, ![4, 8, 18432]⟩
abbrev S4x1x18432 : Shape := ⟨3, ![4, 1, 18432]⟩

abbrev nBuf : Space → Nat
  | .hbm => 22
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x18432, .f32⟩
  | .hbm, ⟨3, _⟩ => ⟨S4x18432, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x18432x8, .f32⟩
  | .hbm, ⟨18, _⟩ => ⟨S4x8x18432, .f32⟩
  | .hbm, ⟨19, _⟩ => ⟨S4x1x18432, .f32⟩
  | .hbm, ⟨20, _⟩ => ⟨S4x8x18432, .f32⟩
  | .hbm, ⟨21, _⟩ => ⟨S4x8x18432, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel8.lean ====
abbrev S33280x3840 : Shape := ⟨2, ![33280, 3840]⟩
abbrev S384 : Shape := ⟨1, ![384]⟩
abbrev S128 : Shape := ⟨1, ![128]⟩
abbrev S384x768 : Shape := ⟨2, ![384, 768]⟩
abbrev S128x1024 : Shape := ⟨2, ![128, 1024]⟩
abbrev S33280x32 : Shape := ⟨2, ![33280, 32]⟩
abbrev S384x4x192 : Shape := ⟨3, ![384, 4, 192]⟩
abbrev S_ : Shape := ⟨0, ![]⟩
abbrev S384x4x64 : Shape := ⟨3, ![384, 4, 64]⟩
abbrev S384x4x256 : Shape := ⟨3, ![384, 4, 256]⟩
abbrev S384x1024 : Shape := ⟨2, ![384, 1024]⟩
abbrev S128x4x256 : Shape := ⟨3, ![128, 4, 256]⟩
abbrev S128x4x128 : Shape := ⟨3, ![128, 4, 128]⟩
abbrev S128x512 : Shape := ⟨2, ![128, 512]⟩
abbrev S512x128 : Shape := ⟨2, ![512, 128]⟩
abbrev S33280x64 : Shape := ⟨2, ![33280, 64]⟩
abbrev S33280x128 : Shape := ⟨2, ![33280, 128]⟩
abbrev S1x384 : Shape := ⟨2, ![1, 384]⟩
abbrev S1x128 : Shape := ⟨2, ![1, 128]⟩
abbrev S33280x1024 : Shape := ⟨2, ![33280, 1024]⟩
abbrev S576x33280 : Shape := ⟨2, ![576, 33280]⟩
abbrev S256x384 : Shape := ⟨2, ![256, 384]⟩
abbrev S256x128 : Shape := ⟨2, ![256, 128]⟩
abbrev S256x1024 : Shape := ⟨2, ![256, 1024]⟩
abbrev S576x256 : Shape := ⟨2, ![576, 256]⟩
abbrev S256 : Shape := ⟨1, ![256]⟩
abbrev S256x1 : Shape := ⟨2, ![256, 1]⟩
abbrev S256x512 : Shape := ⟨2, ![256, 512]⟩
abbrev S512x256 : Shape := ⟨2, ![512, 256]⟩
abbrev S16x256 : Shape := ⟨2, ![16, 256]⟩
abbrev S128x256 : Shape := ⟨2, ![128, 256]⟩

abbrev nBuf : Space → Nat
  | .hbm => 34
  | .vmem => 23
  | .smem => 0
  | _ => 0

abbrev bufTy : (tb : Table) → Fin (tcTables nBuf tb) → BufTy
  | .hbm, ⟨0, _⟩ => ⟨S33280x3840, .f32⟩
  | .hbm, ⟨1, _⟩ => ⟨S384, .f32⟩
  | .hbm, ⟨2, _⟩ => ⟨S128, .f32⟩
  | .hbm, ⟨3, _⟩ => ⟨S384x768, .f32⟩
  | .hbm, ⟨4, _⟩ => ⟨S128x1024, .f32⟩
  | .hbm, ⟨5, _⟩ => ⟨S33280x32, .f32⟩
  | .hbm, ⟨6, _⟩ => ⟨S33280x32, .f32⟩
  | .hbm, ⟨7, _⟩ => ⟨S384x4x192, .f32⟩
  | .hbm, ⟨8, _⟩ => ⟨S_, .f32⟩
  | .hbm, ⟨9, _⟩ => ⟨S384x4x64, .f32⟩
  | .hbm, ⟨10, _⟩ => ⟨S384x4x256, .f32⟩
  | .hbm, ⟨11, _⟩ => ⟨S384x1024, .f32⟩
  | .hbm, ⟨12, _⟩ => ⟨S128x4x256, .f32⟩
  | .hbm, ⟨13, _⟩ => ⟨S128x4x128, .f32⟩
  | .hbm, ⟨14, _⟩ => ⟨S128x512, .f32⟩
  | .hbm, ⟨15, _⟩ => ⟨S128x4x128, .f32⟩
  | .hbm, ⟨16, _⟩ => ⟨S128x512, .f32⟩
  | .hbm, ⟨17, _⟩ => ⟨S512x128, .f32⟩
  | .hbm, ⟨18, _⟩ => ⟨S_, .f32⟩
  | .hbm, ⟨19, _⟩ => ⟨S33280x32, .f32⟩
  | .hbm, ⟨20, _⟩ => ⟨S_, .f32⟩
  | .hbm, ⟨21, _⟩ => ⟨S33280x64, .f32⟩
  | .hbm, ⟨22, _⟩ => ⟨S33280x128, .f32⟩
  | .hbm, ⟨23, _⟩ => ⟨S33280x32, .f32⟩
  | .hbm, ⟨24, _⟩ => ⟨S33280x128, .f32⟩
  | .hbm, ⟨25, _⟩ => ⟨S33280x128, .f32⟩
  | .hbm, ⟨26, _⟩ => ⟨S384x1024, .bf16⟩
  | .hbm, ⟨27, _⟩ => ⟨S128x512, .bf16⟩
  | .hbm, ⟨28, _⟩ => ⟨S512x128, .bf16⟩
  | .hbm, ⟨29, _⟩ => ⟨S1x384, .f32⟩
  | .hbm, ⟨30, _⟩ => ⟨S1x128, .f32⟩
  | .hbm, ⟨31, _⟩ => ⟨S33280x1024, .bf16⟩
  | .hbm, ⟨32, _⟩ => ⟨S33280x1024, .bf16⟩
  | .hbm, ⟨33, _⟩ => ⟨S576x33280, .bf16⟩
  | .local _ .vmem, ⟨0, _⟩ => ⟨S256x384, .f32⟩
  | .local _ .vmem, ⟨1, _⟩ => ⟨S256x384, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x384, .f32⟩
  | .local _ .vmem, ⟨7, _⟩ => ⟨S1x128, .f32⟩
  | .local _ .vmem, ⟨8, _⟩ => ⟨S384x1024, .bf16⟩
  | .local _ .vmem, ⟨9, _⟩ => ⟨S128x512, .bf16⟩
  | .local _ .vmem, ⟨10, _⟩ => ⟨S512x128, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S576x256, .bf16⟩
  | .local _ .vmem, ⟨22, _⟩ => ⟨S576x256, .bf16⟩
  | _, _ => ⟨S33280x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_2 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c128_i32 : BitVec 32 := 128#32
  let v0 : BitVec 1 := Scalar.cmpi .slt arg0 c128_i32
  let c64_i32 : BitVec 32 := 64#32
  let v1 : BitVec 32 := Scalar.divsi arg0 c64_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi arg0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c65_i32 : BitVec 32 := 65#32
  let v18 : BitVec 32 := Scalar.muli v17 c65_i32
  let c1_i32_4 : BitVec 32 := 1#32
  let v19 : BitVec 32 := Scalar.addi v18 c1_i32_4
  let c64_i32_5 : BitVec 32 := 64#32
  let c0_i32_6 : BitVec 32 := 0#32
  let v20 : BitVec 1 := Scalar.cmpi .eq c64_i32_5 c0_i32_6
  let c1_i32_7 : BitVec 32 := 1#32
  let v21 : BitVec 32 := Scalar.select v20 c1_i32_7 c64_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c128_i32_11 : BitVec 32 := 128#32
  let v31 : BitVec 32 := Scalar.subi arg0 c128_i32_11
  let c65_i32_12 : BitVec 32 := 65#32
  let v32 : BitVec 32 := Scalar.muli v31 c65_i32_12
  let v33 : BitVec 32 := Scalar.select v0 v30 v32
  let c0_i32_13 : BitVec 32 := 0#32
  let c0_i32_14 : BitVec 32 := 0#32
  ![v33.toNat, c0_i32_13.toNat]

def cc0_transform_13 (i : grid0.Coords) : Fin 2 → Nat :=
  let arg0 : BitVec 32 := BitVec.ofNat 32 (i 0).val
  let c128_i32 : BitVec 32 := 128#32
  let v0 : BitVec 1 := Scalar.cmpi .slt arg0 c128_i32
  let c64_i32 : BitVec 32 := 64#32
  let v1 : BitVec 32 := Scalar.divsi arg0 c64_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi arg0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c65_i32 : BitVec 32 := 65#32
  let v18 : BitVec 32 := Scalar.muli v17 c65_i32
  let c1_i32_4 : BitVec 32 := 1#32
  let v19 : BitVec 32 := Scalar.addi v18 c1_i32_4
  let c64_i32_5 : BitVec 32 := 64#32
  let c0_i32_6 : BitVec 32 := 0#32
  let v20 : BitVec 1 := Scalar.cmpi .eq c64_i32_5 c0_i32_6
  let c1_i32_7 : BitVec 32 := 1#32
  let v21 : BitVec 32 := Scalar.select v20 c1_i32_7 c64_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c128_i32_11 : BitVec 32 := 128#32
  let v31 : BitVec 32 := Scalar.subi arg0 c128_i32_11
  let c65_i32_12 : BitVec 32 := 65#32
  let v32 : BitVec 32 := Scalar.muli v31 c65_i32_12
  let v33 : BitVec 32 := Scalar.select v0 v30 v32
  let c0_i32_13 : BitVec 32 := 0#32
  let c0_i32_14 : BitVec 32 := 0#32
  ![c0_i32_13.toNat, v33.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S576x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S33280x3840 : Shape := ⟨2, ![33280, 3840]⟩
abbrev S384 : Shape := ⟨1, ![384]⟩
abbrev S128 : Shape := ⟨1, ![128]⟩
abbrev S384x768 : Shape := ⟨2, ![384, 768]⟩
abbrev S128x1024 : Shape := ⟨2, ![128, 1024]⟩
abbrev S33280x32 : Shape := ⟨2, ![33280, 32]⟩
abbrev S33280x384 : Shape := ⟨2, ![33280, 384]⟩
abbrev S_ : Shape := ⟨0, ![]⟩
abbrev S33280 : Shape := ⟨1, ![33280]⟩
abbrev S33280x1 : Shape := ⟨2, ![33280, 1]⟩
abbrev S1x384 : Shape := ⟨2, ![1, 384]⟩
abbrev S33280x768 : Shape := ⟨2, ![33280, 768]⟩
abbrev S33280x4x192 : Shape := ⟨3, ![33280, 4, 192]⟩
abbrev S33280x4x128 : Shape := ⟨3, ![33280, 4, 128]⟩
abbrev S33280x4x64 : Shape := ⟨3, ![33280, 4, 64]⟩
abbrev S33280x1x32 : Shape := ⟨3, ![33280, 1, 32]⟩
abbrev S33280x4x32 : Shape := ⟨3, ![33280, 4, 32]⟩
abbrev S33280x4x256 : Shape := ⟨3, ![33280, 4, 256]⟩
abbrev S33280x128 : Shape := ⟨2, ![33280, 128]⟩
abbrev S1x128 : Shape := ⟨2, ![1, 128]⟩
abbrev S33280x1024 : Shape := ⟨2, ![33280, 1024]⟩
abbrev S33280x64 : Shape := ⟨2, ![33280, 64]⟩
abbrev S33280x1x64 : Shape := ⟨3, ![33280, 1, 64]⟩
abbrev S33280x1x128 : Shape := ⟨3, ![33280, 1, 128]⟩
abbrev S33280x4x1 : Shape := ⟨3, ![33280, 4, 1]⟩
abbrev S33280x4x15 : Shape := ⟨3, ![33280, 4, 15]⟩
abbrev S33280x4x144 : Shape := ⟨3, ![33280, 4, 144]⟩
abbrev S256x1024 : Shape := ⟨2, ![256, 1024]⟩
abbrev S16384x1024 : Shape := ⟨2, ![16384, 1024]⟩
abbrev S33280x576 : Shape := ⟨2, ![33280, 576]⟩
abbrev S256x576 : Shape := ⟨2, ![256, 576]⟩
abbrev S16384x576 : Shape := ⟨2, ![16384, 576]⟩
abbrev S576x33280 : Shape := ⟨2, ![576, 33280]⟩

abbrev nBuf : Space → Nat
  | .hbm => 110
  | .vmem => 0
  | .smem => 0
  | _ => 0

abbrev bufTy : (tb : Table) → Fin (tcTables nBuf tb) → BufTy
  | .hbm, ⟨0, _⟩ => ⟨S33280x3840, .f32⟩
  | .hbm, ⟨1, _⟩ => ⟨S384, .f32⟩
  | .hbm, ⟨2, _⟩ => ⟨S128, .f32⟩
  | .hbm, ⟨3, _⟩ => ⟨S384x768, .f32⟩
  | .hbm, ⟨4, _⟩ => ⟨S128x1024, .f32⟩
  | .hbm, ⟨5, _⟩ => ⟨S33280x32, .f32⟩
  | .hbm, ⟨6, _⟩ => ⟨S33280x32, .f32⟩
  | .hbm, ⟨7, _⟩ => ⟨S33280x384, .f32⟩
  | .hbm, ⟨8, _⟩ => ⟨S33280x384, .f32⟩
  | .hbm, ⟨9, _⟩ => ⟨S_, .f32⟩
  | .hbm, ⟨10, _⟩ => ⟨S33280, .f32⟩
  | .hbm, ⟨11, _⟩ => ⟨S33280x1, .f32⟩
  | .hbm, ⟨12, _⟩ => ⟨S_, .f32⟩
  | .hbm, ⟨13, _⟩ => ⟨S33280x1, .f32⟩
  | .hbm, ⟨14, _⟩ => ⟨S33280x1, .f32⟩
  | .hbm, ⟨15, _⟩ => ⟨S_, .f32⟩
  | .hbm, ⟨16, _⟩ => ⟨S33280x1, .f32⟩
  | .hbm, ⟨17, _⟩ => ⟨S33280x1, .f32⟩
  | .hbm, ⟨18, _⟩ => ⟨S33280x1, .f32⟩
  | .hbm, ⟨19, _⟩ => ⟨S33280x384, .f32⟩
  | .hbm, ⟨20, _⟩ => ⟨S33280x384, .f32⟩
  | .hbm, ⟨21, _⟩ => ⟨S1x384, .f32⟩
  | .hbm, ⟨22, _⟩ => ⟨S33280x384, .f32⟩
  | .hbm, ⟨23, _⟩ => ⟨S33280x384, .f32⟩
  | .hbm, ⟨24, _⟩ => ⟨S33280x768, .f32⟩
  | .hbm, ⟨25, _⟩ => ⟨S33280x4x192, .f32⟩
  | .hbm, ⟨26, _⟩ => ⟨S33280x4x128, .f32⟩
  | .hbm, ⟨27, _⟩ => ⟨S33280x4x64, .f32⟩
  | .hbm, ⟨28, _⟩ => ⟨S33280x1x32, .f32⟩
  | .hbm, ⟨29, _⟩ => ⟨S33280x1x32, .f32⟩
  | .hbm, ⟨30, _⟩ => ⟨S33280x4x32, .f32⟩
  | .hbm, ⟨31, _⟩ => ⟨S33280x4x32, .f32⟩
  | .hbm, ⟨32, _⟩ => ⟨S33280x4x32, .f32⟩
  | .hbm, ⟨33, _⟩ => ⟨S33280x4x32, .f32⟩
  | .hbm, ⟨34, _⟩ => ⟨S33280x4x32, .f32⟩
  | .hbm, ⟨35, _⟩ => ⟨S33280x4x32, .f32⟩
  | .hbm, ⟨36, _⟩ => ⟨S33280x4x32, .f32⟩
  | .hbm, ⟨37, _⟩ => ⟨S33280x4x32, .f32⟩
  | .hbm, ⟨38, _⟩ => ⟨S33280x4x32, .f32⟩
  | .hbm, ⟨39, _⟩ => ⟨S33280x4x32, .f32⟩
  | .hbm, ⟨40, _⟩ => ⟨S33280x4x32, .f32⟩
  | .hbm, ⟨41, _⟩ => ⟨S33280x4x32, .f32⟩
  | .hbm, ⟨42, _⟩ => ⟨S33280x4x64, .f32⟩
  | .hbm, ⟨43, _⟩ => ⟨S_, .f32⟩
  | .hbm, ⟨44, _⟩ => ⟨S33280x4x64, .f32⟩
  | .hbm, ⟨45, _⟩ => ⟨S33280x4x256, .f32⟩
  | .hbm, ⟨46, _⟩ => ⟨S_, .f32⟩
  | .hbm, ⟨47, _⟩ => ⟨S33280x4x256, .f32⟩
  | .hbm, ⟨48, _⟩ => ⟨S33280x4x256, .f32⟩
  | .hbm, ⟨49, _⟩ => ⟨S33280x128, .f32⟩
  | .hbm, ⟨50, _⟩ => ⟨S33280x128, .f32⟩
  | .hbm, ⟨51, _⟩ => ⟨S_, .f32⟩
  | .hbm, ⟨52, _⟩ => ⟨S33280, .f32⟩
  | .hbm, ⟨53, _⟩ => ⟨S33280x1, .f32⟩
  | .hbm, ⟨54, _⟩ => ⟨S_, .f32⟩
  | .hbm, ⟨55, _⟩ => ⟨S33280x1, .f32⟩
  | .hbm, ⟨56, _⟩ => ⟨S33280x1, .f32⟩
  | .hbm, ⟨57, _⟩ => ⟨S_, .f32⟩
  | .hbm, ⟨58, _⟩ => ⟨S33280x1, .f32⟩
  | .hbm, ⟨59, _⟩ => ⟨S33280x1, .f32⟩
  | .hbm, ⟨60, _⟩ => ⟨S33280x1, .f32⟩
  | .hbm, ⟨61, _⟩ => ⟨S33280x128, .f32⟩
  | .hbm, ⟨62, _⟩ => ⟨S33280x128, .f32⟩
  | .hbm, ⟨63, _⟩ => ⟨S1x128, .f32⟩
  | .hbm, ⟨64, _⟩ => ⟨S33280x128, .f32⟩
  | .hbm, ⟨65, _⟩ => ⟨S33280x128, .f32⟩
  | .hbm, ⟨66, _⟩ => ⟨S33280x1024, .f32⟩
  | .hbm, ⟨67, _⟩ => ⟨S33280x4x256, .f32⟩
  | .hbm, ⟨68, _⟩ => ⟨S33280x64, .f32⟩
  | .hbm, ⟨69, _⟩ => ⟨S33280x1x64, .f32⟩
  | .hbm, ⟨70, _⟩ => ⟨S33280x1x32, .f32⟩
  | .hbm, ⟨71, _⟩ => ⟨S33280x1x32, .f32⟩
  | .hbm, ⟨72, _⟩ => ⟨S33280x1x32, .f32⟩
  | .hbm, ⟨73, _⟩ => ⟨S33280x1x32, .f32⟩
  | .hbm, ⟨74, _⟩ => ⟨S33280x1x32, .f32⟩
  | .hbm, ⟨75, _⟩ => ⟨S33280x1x32, .f32⟩
  | .hbm, ⟨76, _⟩ => ⟨S33280x1x32, .f32⟩
  | .hbm, ⟨77, _⟩ => ⟨S33280x1x32, .f32⟩
  | .hbm, ⟨78, _⟩ => ⟨S33280x1x32, .f32⟩
  | .hbm, ⟨79, _⟩ => ⟨S33280x1x32, .f32⟩
  | .hbm, ⟨80, _⟩ => ⟨S33280x1x64, .f32⟩
  | .hbm, ⟨81, _⟩ => ⟨S33280x64, .f32⟩
  | .hbm, ⟨82, _⟩ => ⟨S33280x1x64, .f32⟩
  | .hbm, ⟨83, _⟩ => ⟨S33280x1x128, .f32⟩
  | .hbm, ⟨84, _⟩ => ⟨S33280x4x128, .f32⟩
  | .hbm, ⟨85, _⟩ => ⟨S33280x4x128, .f32⟩
  | .hbm, ⟨86, _⟩ => ⟨S33280x4x256, .f32⟩
  | .hbm, ⟨87, _⟩ => ⟨S33280x4x128, .f32⟩
  | .hbm, ⟨88, _⟩ => ⟨S_, .f32⟩
  | .hbm, ⟨89, _⟩ => ⟨S33280x4x1, .f32⟩
  | .hbm, ⟨90, _⟩ => ⟨S_, .f32⟩
  | .hbm, ⟨91, _⟩ => ⟨S33280x4x15, .f32⟩
  | .hbm, ⟨92, _⟩ => ⟨S33280x4x144, .f32⟩
  | .hbm, ⟨93, _⟩ => ⟨S33280x1024, .f32⟩
  | .hbm, ⟨94, _⟩ => ⟨S33280x1024, .bf16⟩
  | .hbm, ⟨95, _⟩ => ⟨S33280x1024, .f32⟩
  | .hbm, ⟨96, _⟩ => ⟨S256x1024, .f32⟩
  | .hbm, ⟨97, _⟩ => ⟨S16384x1024, .f32⟩
  | .hbm, ⟨98, _⟩ => ⟨S256x1024, .f32⟩
  | .hbm, ⟨99, _⟩ => ⟨S16384x1024, .f32⟩
  | .hbm, ⟨100, _⟩ => ⟨S33280x1024, .f32⟩
  | .hbm, ⟨101, _⟩ => ⟨S33280x1024, .bf16⟩
  | .hbm, ⟨102, _⟩ => ⟨S33280x576, .f32⟩
  | .hbm, ⟨103, _⟩ => ⟨S256x576, .f32⟩
  | .hbm, ⟨104, _⟩ => ⟨S16384x576, .f32⟩
  | .hbm, ⟨105, _⟩ => ⟨S256x576, .f32⟩
  | .hbm, ⟨106, _⟩ => ⟨S16384x576, .f32⟩
  | .hbm, ⟨107, _⟩ => ⟨S33280x576, .f32⟩
  | .hbm, ⟨108, _⟩ => ⟨S576x33280, .f32⟩
  | .hbm, ⟨109, _⟩ => ⟨S576x33280, .bf16⟩
  | _, _ => ⟨S33280x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_7 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩

abbrev nD : Nat := 1
abbrev τ : Topo := Topo.v7x

variable {F : FTy → Type} [FloatOps F]
-- ==== Proof.K.Frame.lean ====
module

public import proofs.«01_k».proof.Proof.K.Run

/-! The attention kernel as compiled: every launch ends, the three arguments as they were and every counter at zero. What the
    kernel leaves in its output is not named here. -/

@[expose] public section

set_option maxRecDepth 16384
set_option maxHeartbeats 2000000

noncomputable section

namespace Cert.Kernel.Att

open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the output's window is forgotten. -/
def forgotten : Fin 4 → Bool := fun w => w.val == 3

/-- The proof data on core `c`: the arrays as launched, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem arrays (c : Dev nD) (w : Fin cfg0.W) : (dats m 0 c).A w = V m c (Pipeline.arrRef spec0 w) := by dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]

theorem found_0 (c : Dev nD) (t : Fin cfg0.N) (d) : (dats m 0 c).before 0 t d = iblk m c 0 t :=
  before0_0_of m (dats m 0 c) (arrays m c 0) (left_0 m c) t d
theorem found_1 (c : Dev nD) (t : Fin cfg0.N) (d) : (dats m 0 c).before 1 t d = iblk m c 1 t :=
  before0_1_of m (dats m 0 c) (arrays m c 1) (left_1 m c) t d
theorem found_2 (c : Dev nD) (t : Fin cfg0.N) (d) : (dats m 0 c).before 2 t d = iblk m c 2 t :=
  before0_2_of m (dats m 0 c) (arrays m c 2) (left_2 m c) t d

/-- The three scratch buffers. -/
abbrev scr0 : Memref sig .tc .vmem S2x1x512 .f32 := Memref.whole cc0_scratch0
abbrev scr1 : Memref sig .tc .vmem S2x144x512 .f32 := Memref.whole cc0_scratch1
abbrev scr2 : Memref sig .tc .vmem S2x2x1664x512 .f32 := Memref.whole cc0_scratch2

/-- Between points the scratch buffers hold something, and so does the generator's register. -/
theorem between_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- What the body is called with at point `t`, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (∃ d, owns (c : Thread nD τ) (st0_3 t) fullShare d))

theorem live_0 : ∀ t : Fin cfg0.N, cfg0.idle 0 (grid0.coords t) = false := by intro t; rfl
theorem live_1 : ∀ t : Fin cfg0.N, cfg0.idle 1 (grid0.coords t) = false := by intro t; rfl
theorem live_2 : ∀ t : Fin cfg0.N, cfg0.idle 2 (grid0.coords t) = false := by intro t; rfl

/-- One point's body: the run of the module before, at the point's blocks. -/
theorem body_sound (c : Dev nD) (t : Fin cfg0.N) :
    pre m c t ⊢ wp frame (wpE (defs₀ (F := F)) Variants.none c none) Set.univ (bodyAt0 t) (fun _ => post m c t) := by
  unfold pre post bodyAt0
  simp only [found_0, found_1, found_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, between_eq]
  rw [show (dats m 0 c).leavesExact 0 t = owns (c : Thread nD τ) (st0_0 t) fullShare ((dats m 0 c).after 0 t) from by
    unfold Dat.leavesExact; rw [live_0 t], left_0]
  rw [show (dats m 0 c).leavesExact 1 t = owns (c : Thread nD τ) (st0_1 t) fullShare ((dats m 0 c).after 1 t) from by
    unfold Dat.leavesExact; rw [live_1 t], left_1]
  rw [show (dats m 0 c).leavesExact 2 t = owns (c : Thread nD τ) (st0_2 t) fullShare ((dats m 0 c).after 2 t) from by
    unfold Dat.leavesExact; rw [live_2 t], left_2]
  iintro ⟨⟨⟨⟨%d7, H7⟩, ⟨%d8, H8⟩, ⟨%d9, H9⟩⟩, Hg⟩, Ho, ⟨%d0, H0⟩, ⟨%d1, H1⟩, ⟨%d2, H2⟩, ⟨%d3, H3⟩⟩
  iapply ((bodyRun c (grid0.coords t) _ _ _ _ _ _ _ _ _ _ _ _ _ _ (iblk m c 0 t) (iblk m c 1 t) (iblk m c 2 t)).2 Set.univ _ d7 d8 d9)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  iintro ⟨H0, H1, H2, ⟨%e, H3⟩, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H0]; · iexact H0
  isplitl [H1]; · iexact H1
  isplitl [H2]; · iexact H2
  iexists _; unfold owns; iexists _; isplitr; swap; · iexact H3
  ipureintro; rfl

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgotten := fun t => by
  rw [bigSep_W0, bigSep_W0, row]
  exact triple_restated (body_sound m c t) rfl .rfl fun _ => .rfl

set_option backward.isDefEq.respectTransparency.types false in
theorem launched : θ_run defs (onTc (τ := τ) (main (F := F))) (s₀ m ρ)
    (fun r => (Pipeline.RDat.FramePost (cfgs 0) (fun c => (dats m 0 c).toRForget forgotten) (V m)) r ∧ r.2.sem = fun _ => 0) :=
  Pipeline.θ_run_frame_forget (Q' := _) cfgs (dats m) (0 : Fin 1) launch0 defs₀ Variants.none forgotten m ρ main
    (hbody := fun c => (obligation m c).loose) (hshare := fun c => (dats m 0 c).share_full fun _ => rfl) (howed := fun _ _ => rfl) (V := V m)
    (hmain := hmain m Variants.none) (hA := arrays m) (hΦ := fun _ _ => rfl)

/-- The launch's claim: arguments unchanged, counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (launched m ρ)
  exact ⟨(Pipeline.RDat.FramePost.arr_in h.1 c 0 rfl).trans ((arrays m c 0).trans (V_main_arg0 m c)),
    (Pipeline.RDat.FramePost.arr_in h.1 c 1 rfl).trans ((arrays m c 1).trans (V_main_arg1 m c)),
    (Pipeline.RDat.FramePost.arr_in h.1 c 2 rfl).trans ((arrays m c 2).trans (V_main_arg2 m c))⟩

end Cert.Kernel.Att

end
-- ==== Proof.A.Reads.lean ====
module

public import Idealize.ShloMosaic.Lib.Pipeline.ReadBack
public import Idealize.ShloMosaic.Lib.WritesUnit

/-! What a load of a piece of a buffer gives after stores of pieces: the store of that very piece, or what lay under a store
    of a piece apart from it. -/

@[expose] public section

noncomputable section

namespace Cert.KernelIdeal.Att

open Idealize.ShloMosaic

variable {sig : RefSig} {κ : Kind} {sp : Space} {s : Shape} {e : EltTy} {Val : EltTy → Type}

/-- Reading the piece just stored. -/
theorem at_same (v : View sig κ sp s e) (f : v.ty.Contents Val) (r : Rect s) (w : r.shape.Idx → Val e) (L : List (View.Piece Val s e)) :
    v.readAt Val r.toLoadRect (v.writes Val f (⟨r, w⟩ :: L)) = w := by
  funext x
  rw [View.readAt_apply]
  exact View.read_writes_cons_emb v f r w L x

/-- Reading a piece apart from the one just stored. -/
theorem at_skip (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext x
  rw [View.readAt_apply, View.readAt_apply]
  rw [View.writes_cons]
  exact View.read_slice_write_of_not_mem _ _ _ _ (by rw [Rect.map_emb_univ]; exact LoadRect.idx_not_mem_of_disj h x)

theorem cov_same [∀ e, Nonempty (Val e)] (v : View sig κ sp s e) (r : Rect s) (w : r.shape.Idx → Val e) (L : List (View.Piece Val s e)) :
    v.readCov (⟨r, w⟩ :: L) r.toLoadRect = w := at_same v v.junk r w L

end Cert.KernelIdeal.Att

end
-- ==== Proof.A.Run.lean ====
module

public import proofs.«01_k».proof.Proof.Gen.KernelIdeal.Frame
public import proofs.«01_k».proof.Proof.Gen.KernelIdeal.Loops

/-! One call of the attention kernel's body, run once from any contents of its three scratch buffers. The run finds the two
    stores into the output block; what they hold is read elsewhere. -/

@[expose] public section

set_option maxRecDepth 16384
set_option maxHeartbeats 4000000

noncomputable section

namespace Cert.KernelIdeal.Att

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's stores into the output block, as a function of the three input blocks and of what the scratch buffers hold when
    it starts, with the run that makes them: the inputs come back as they were, the scratch buffers at some contents. -/
def bodyRun (c : Dev nD) (i : grid0.Coords)
    (arg3 : Memref sig .tc .vmem S512x256 .bf16) (harg3 : arg3.IsWhole)
    (arg4 : Memref sig .tc .vmem S16640x128 .bf16) (harg4 : arg4.IsWhole)
    (arg5 : Memref sig .tc .vmem S144x16640 .bf16) (harg5 : arg5.IsWhole)
    (arg6 : Memref sig .tc .vmem S512x256 .bf16) (harg6 : arg6.IsWhole)
    (arg7 : Memref sig .tc .vmem S2x1x512 .f32) (harg7 : arg7.IsWhole)
    (arg8 : Memref sig .tc .vmem S2x144x512 .f32) (harg8 : arg8.IsWhole)
    (arg9 : Memref sig .tc .vmem S2x2x1664x512 .f32) (harg9 : arg9.IsWhole)
    (x0 : Vec F S512x256 .bf16) (x1 : Vec F S16640x128 .bf16) (x2 : Vec F S144x16640 .bf16) :
    { L : Vec F S2x1x512 .f32 → Vec F S2x144x512 .f32 → Vec F S2x2x1664x512 .f32
        → List (View.Piece (Elt F) S512x256 .bf16) //
      ∀ (E : Set ℕ) (K : PUnit → sProp 𝕄) (d7 : Vec F S2x1x512 .f32) (d8 : Vec F S2x144x512 .f32) (d9 : Vec F S2x2x1664x512 .f32),
        iprop(owns (c : Thread nD τ) arg3 fullShare x0 ∗ owns (c : Thread nD τ) arg4 fullShare x1
            ∗ owns (c : Thread nD τ) arg5 fullShare x2 ∗ (∃ d, owns (c : Thread nD τ) arg6 fullShare d)
            ∗ owns (c : Thread nD τ) arg7 fullShare d7
            ∗ owns (c : Thread nD τ) arg8 fullShare d8
            ∗ owns (c : Thread nD τ) arg9 fullShare d9
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f (L d7 d8 d9))
                ∗ (∃ d, owns (c : Thread nD τ) arg7 fullShare d) ∗ (∃ d, owns (c : Thread nD τ) arg8 fullShare d)
                ∗ (∃ d, owns (c : Thread nD τ) arg9 fullShare d)) -∗ K ⟨⟩))
          ⊢ wp frame (wpE (defs₀ (F := F)) Variants.none c none) E
              (cc0_attention_latent i arg3 harg3 arg4 harg4 arg5 harg5 arg6 harg6 arg7 harg7 arg8 harg8 arg9 harg9) K } := by
  refine ⟨?_, fun E K d7 d8 d9 => ?run⟩
  case run =>
    simp only [cc0_attention_latent_eq_skeleton]; unfold cc0_attention_latent_skel
    simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H7]
    · iexists _; iexists _; isplitr; swap; · iexact H7
      ipureintro; rfl
    isplitl [H8]
    · iexists _; iexists _; isplitr; swap; · iexact H8
      ipureintro; rfl
    iexists _; iexists _; isplitr; swap; · iexact H9
    ipureintro; rfl

end Cert.KernelIdeal.Att

end
-- ==== Proof.A.Trip.lean ====
module

public import proofs.«01_k».proof.Proof.A.Reads
public import proofs.«01_k».proof.Proof.A.Run

/-! One trip of the key loop, and the loop, in terms of what the scratch buffers hold: per query head the running maxima, the
    running sums and the scores of the chunk about to be summed. -/

@[expose] public section

set_option maxRecDepth 16384
set_option maxHeartbeats 4000000

noncomputable section

namespace Cert.KernelIdeal.Att

open Idealize.ShloMosaic Idealize.ShloMosaic.TcCoe Idealize.ShloMosaic.Tactic Cert.KernelIdeal Cert.KernelIdeal.Gen
open Idealize.SL Idealize.SL.RA Idealize.SL.BI

variable {F : FTy → Type} [FloatOps F]

/-- The scores of a chunk of keys against a block of queries. -/
abbrev SC (q : Vec F S512x128 .bf16) (kc : Vec F S1664x128 .bf16) : FVec F S1x1x1664x512 .f32 := k0_pay3 q kc
/-- The maxima once a chunk's scores are taken in. -/
abbrev MX (s : Vec F S1x1x1664x512 .f32) (mm : Vec F S1x1x512 .f32) : FVec F S1x1x512 .f32 := k0_pay9 s mm
/-- The sums once a chunk's scores and values are taken in. -/
abbrev AC (s : Vec F S1x1x1664x512 .f32) (vc : Vec F S144x1664 .bf16) (mm : Vec F S1x1x512 .f32) (a : Vec F S1x144x512 .f32) :
    FVec F S1x144x512 .f32 := k0_pay37 s vc mm a

abbrev rm0 := Rect.unit (s := S2x1x512) ![0, 0, 0] S1x1x512.size inb_S2x1x512_S1x1x512_0_0_0
abbrev rm1 := Rect.unit (s := S2x1x512) ![1, 0, 0] S1x1x512.size inb_S2x1x512_S1x1x512_1_0_0
abbrev ra0 := Rect.unit (s := S2x144x512) ![0, 0, 0] S1x144x512.size inb_S2x144x512_S1x144x512_0_0_0
abbrev ra1 := Rect.unit (s := S2x144x512) ![1, 0, 0] S1x144x512.size inb_S2x144x512_S1x144x512_1_0_0
abbrev rs0 := Rect.unit (s := S2x2x1664x512) ![0, 0, 0, 0] S1x1x1664x512.size inb_S2x2x1664x512_S1x1x1664x512_0_0_0_0
abbrev rs1 := Rect.unit (s := S2x2x1664x512) ![1, 0, 0, 0] S1x1x1664x512.size inb_S2x2x1664x512_S1x1x1664x512_1_0_0_0

theorem trip_reads (𝒱 : Variants) (c : Dev nD) (bd : Option 𝒱.V) (i : grid0.Coords) (arg3 : Memref sig .tc .vmem S512x256 .bf16) (harg3 : arg3.IsWhole) (arg4 : Memref sig .tc .vmem S16640x128 .bf16) (harg4 : arg4.IsWhole) (arg5 : Memref sig .tc .vmem S144x16640 .bf16) (harg5 : arg5.IsWhole) (arg6 : Memref sig .tc .vmem S512x256 .bf16) (harg6 : arg6.IsWhole) (arg7 : Memref sig .tc .vmem S2x1x512 .f32) (harg7 : arg7.IsWhole) (arg8 : Memref sig .tc .vmem S2x144x512 .f32) (harg8 : arg8.IsWhole) (arg9 : Memref sig .tc .vmem S2x2x1664x512 .f32) (harg9 : arg9.IsWhole) (v0 : Vec F S512x128 .bf16) (v1 : Vec F S512x128 .bf16) (X4 : BufTy.Contents (Elt F) arg4.view.ty) (X5 : BufTy.Contents (Elt F) arg5.view.ty) (k : Fin k0_t1_loop.trips)
  (f7 : BufTy.Contents (Elt F) arg7.view.ty) (f8 : BufTy.Contents (Elt F) arg8.view.ty) (f9 b9 : BufTy.Contents (Elt F) arg9.view.ty) :
  let T := trip_k0_t1 (F := F) 𝒱 c bd i arg3 harg3 arg4 harg4 arg5 harg5 arg6 harg6 arg7 harg7 arg8 harg8 arg9 harg9 v0 v1 X4 X5 k
  let K1 := arg4.view.readAt (Elt F) (Rect.unit (s := S16640x128) (k0_off1 k) S1664x128.size (k0_off1_inb k)).toLoadRect X4
  let K2 := arg4.view.readAt (Elt F) (Rect.unit (s := S16640x128) (k0_off3 k) S1664x128.size (k0_off3_inb k)).toLoadRect X4
  let V1 := arg5.view.readAt (Elt F) (Rect.unit (s := S144x16640) (k0_off2 k) S144x1664.size (k0_off2_inb k)).toLoadRect X5
  let V2 := arg5.view.readAt (Elt F) (Rect.unit (s := S144x16640) (k0_off4 k) S144x1664.size (k0_off4_inb k)).toLoadRect X5
  let m0 := arg7.view.readAt (Elt F) rm0.toLoadRect f7
  let m1 := arg7.view.readAt (Elt F) rm1.toLoadRect f7
  let a0 := arg8.view.readAt (Elt F) ra0.toLoadRect f8
  let a1 := arg8.view.readAt (Elt F) ra1.toLoadRect f8
  let s0 := arg9.view.readAt (Elt F) rs0.toLoadRect f9
  let s1 := arg9.view.readAt (Elt F) rs1.toLoadRect f9
  let g7 := arg7.view.writes (Elt F) f7 (T.1 f7 f8 f9)
  let g8 := arg8.view.writes (Elt F) f8 (T.2.1 f7 f8 f9)
  let g9 := arg9.view.writes (Elt F) b9 (T.2.2.1 f7 f8 f9)
  arg7.view.readAt (Elt F) rm0.toLoadRect g7 = MX (SC v0 K1) (MX s0 m0)
  ∧ arg7.view.readAt (Elt F) rm1.toLoadRect g7 = MX (SC v1 K1) (MX s1 m1)
  ∧ arg8.view.readAt (Elt F) ra0.toLoadRect g8 = AC (SC v0 K1) V2 (MX s0 m0) (AC s0 V1 m0 a0)
  ∧ arg8.view.readAt (Elt F) ra1.toLoadRect g8 = AC (SC v1 K1) V2 (MX s1 m1) (AC s1 V1 m1 a1)
  ∧ arg9.view.readAt (Elt F) rs0.toLoadRect g9 = SC v0 K2
  ∧ arg9.view.readAt (Elt F) rs1.toLoadRect g9 = SC v1 K2 := by
  intro T K1 K2 V1 V2 m0 m1 a0 a1 s0 s1 g7 g8 g9
  subst g7 g8 g9 T
  unfold trip_k0_t1
  dsimp only
  sl_unfold_words
  dsimp only
  refine ⟨?_, ?_, ?_, ?_, ?_, ?_⟩
  all_goals
    simp (discharger := decide) only [at_same, at_skip, cov_same, View.readCov_skip]
  · rfl
  · rfl
  · rfl
  · rfl
  · rfl
  · rfl

end Cert.KernelIdeal.Att

end
-- ==== Proof.A.Loop.lean ====
module

public import proofs.«01_k».proof.Proof.A.Trip

/-! The key loop by induction on its trips: before trip `n` the scratch buffers hold the running maxima and sums of the first
    `2n` chunks and the scores of chunk `2n`. -/

@[expose] public section

set_option maxRecDepth 16384
set_option maxHeartbeats 4000000

noncomputable section

namespace Cert.KernelIdeal.Att

open Idealize.ShloMosaic Idealize.ShloMosaic.TcCoe Idealize.ShloMosaic.Tactic Cert.KernelIdeal Cert.KernelIdeal.Gen
open Idealize.SL Idealize.SL.RA Idealize.SL.BI

variable {F : FTy → Type} [FloatOps F]

theorem kinb (j : ℕ) : ∀ a, (![1664 * (j % 10), 0] : Fin 2 → ℕ) a + S1664x128.size a ≤ S16640x128.size a := by
  have h : j % 10 < 10 := Nat.mod_lt _ (by decide)
  intro a
  match a with
  | ⟨0, _⟩ => show 1664 * (j % 10) + 1664 ≤ 16640; omega
  | ⟨1, _⟩ => show 0 + 128 ≤ 128; omega

theorem vinb (j : ℕ) : ∀ a, (![0, 1664 * (j % 10)] : Fin 2 → ℕ) a + S144x1664.size a ≤ S144x16640.size a := by
  have h : j % 10 < 10 := Nat.mod_lt _ (by decide)
  intro a
  match a with
  | ⟨0, _⟩ => show 0 + 144 ≤ 144; omega
  | ⟨1, _⟩ => show 1664 * (j % 10) + 1664 ≤ 16640; omega

/-- Chunk `j` of a block of keys (1664 of its 16640 rows). -/
def kch (x1 : Vec F S16640x128 .bf16) (j : ℕ) : Vec F S1664x128 .bf16 :=
  View.ld x1 (Rect.unit (s := S16640x128) ![1664 * (j % 10), 0] S1664x128.size (kinb j))
/-- Chunk `j` of a block of values (1664 of its 16640 columns). -/
def vch (x2 : Vec F S144x16640 .bf16) (j : ℕ) : Vec F S144x1664 .bf16 :=
  View.ld x2 (Rect.unit (s := S144x16640) ![0, 1664 * (j % 10)] S144x1664.size (vinb j))
/-- The maxima before any chunk. -/
def mIni : Vec F S1x1x512 .f32 := View.ld (k0_pay28 (F := F)) rm0
/-- The sums before any chunk. -/
def aIni : Vec F S1x144x512 .f32 := View.ld (k0_pay29 (F := F)) ra0
/-- The running maxima after `n` chunks. -/
def mSt (q : Vec F S512x128 .bf16) (x1 : Vec F S16640x128 .bf16) : ℕ → Vec F S1x1x512 .f32
  | 0 => mIni
  | n + 1 => MX (SC q (kch x1 n)) (mSt q x1 n)
/-- The running sums after `n` chunks. -/
def aSt (q : Vec F S512x128 .bf16) (x1 : Vec F S16640x128 .bf16) (x2 : Vec F S144x16640 .bf16) : ℕ → Vec F S1x144x512 .f32
  | 0 => aIni
  | n + 1 => AC (SC q (kch x1 n)) (vch x2 n) (mSt q x1 n) (aSt q x1 x2 n)

theorem kload {sig : RefSig} {κ : Kind} {sp : Space} (v : View sig κ sp S16640x128 .bf16) (X : v.ty.Contents (Elt F)) (x1 : Vec F S16640x128 .bf16) (hX : v.read (Elt F) X = x1) (j : ℕ) (o : Fin 2 → ℕ)
    (h) (ho : o = ![1664 * (j % 10), 0]) :
    v.readAt (Elt F) (Rect.unit (s := S16640x128) o S1664x128.size h).toLoadRect X = kch x1 j := by
  subst ho
  rw [View.readAt_eq_ld, hX]
  rfl

theorem vload {sig : RefSig} {κ : Kind} {sp : Space} (v : View sig κ sp S144x16640 .bf16) (X : v.ty.Contents (Elt F)) (x2 : Vec F S144x16640 .bf16) (hX : v.read (Elt F) X = x2) (j : ℕ) (o : Fin 2 → ℕ)
    (h) (ho : o = ![0, 1664 * (j % 10)]) :
    v.readAt (Elt F) (Rect.unit (s := S144x16640) o S144x1664.size h).toLoadRect X = vch x2 j := by
  subst ho
  rw [View.readAt_eq_ld, hX]
  rfl

theorem off1_eq : ∀ k : Fin k0_t1_loop.trips, k0_off1 k = ![1664 * ((2 * k.val + 1) % 10), 0] := by decide +kernel
theorem off2_eq : ∀ k : Fin k0_t1_loop.trips, k0_off2 k = ![0, 1664 * ((2 * k.val) % 10)] := by decide +kernel
theorem off3_eq : ∀ k : Fin k0_t1_loop.trips, k0_off3 k = ![1664 * ((2 * k.val + 2) % 10), 0] := by decide +kernel
theorem off4_eq : ∀ k : Fin k0_t1_loop.trips, k0_off4 k = ![0, 1664 * ((2 * k.val + 1) % 10)] := by decide +kernel

theorem loop_reads (𝒱 : Variants) (c : Dev nD) (bd : Option 𝒱.V) (i : grid0.Coords) (arg3 : Memref sig .tc .vmem S512x256 .bf16) (harg3 : arg3.IsWhole) (arg4 : Memref sig .tc .vmem S16640x128 .bf16) (harg4 : arg4.IsWhole) (arg5 : Memref sig .tc .vmem S144x16640 .bf16) (harg5 : arg5.IsWhole) (arg6 : Memref sig .tc .vmem S512x256 .bf16) (harg6 : arg6.IsWhole) (arg7 : Memref sig .tc .vmem S2x1x512 .f32) (harg7 : arg7.IsWhole) (arg8 : Memref sig .tc .vmem S2x144x512 .f32) (harg8 : arg8.IsWhole) (arg9 : Memref sig .tc .vmem S2x2x1664x512 .f32) (harg9 : arg9.IsWhole) (v0 v1 : Vec F S512x128 .bf16)
  (X4 : BufTy.Contents (Elt F) arg4.view.ty) (X5 : BufTy.Contents (Elt F) arg5.view.ty)
  (x1 : Vec F S16640x128 .bf16) (x2 : Vec F S144x16640 .bf16) (h4 : arg4.view.read (Elt F) X4 = x1) (h5 : arg5.view.read (Elt F) X5 = x2)
  (G7 : BufTy.Contents (Elt F) arg7.view.ty) (G8 : BufTy.Contents (Elt F) arg8.view.ty) (G9 : BufTy.Contents (Elt F) arg9.view.ty)
  (h70 : arg7.view.readAt (Elt F) rm0.toLoadRect G7 = mIni) (h71 : arg7.view.readAt (Elt F) rm1.toLoadRect G7 = mIni)
  (h80 : arg8.view.readAt (Elt F) ra0.toLoadRect G8 = aIni) (h81 : arg8.view.readAt (Elt F) ra1.toLoadRect G8 = aIni)
  (h90 : arg9.view.readAt (Elt F) rs0.toLoadRect G9 = SC v0 (kch x1 0)) (h91 : arg9.view.readAt (Elt F) rs1.toLoadRect G9 = SC v1 (kch x1 0)) :
  ∀ n : ℕ, n ≤ k0_t1_loop.trips →
  let P := pb_k0_t1 (F := F) 𝒱 c bd i arg3 harg3 arg4 harg4 arg5 harg5 arg6 harg6 arg7 harg7 arg8 harg8 arg9 harg9 v0 v1 X4 X5 G7 G8 G9 n
  arg7.view.readAt (Elt F) rm0.toLoadRect (arg7.view.writes (Elt F) G7 P.1) = mSt v0 x1 (2 * n)
  ∧ arg7.view.readAt (Elt F) rm1.toLoadRect (arg7.view.writes (Elt F) G7 P.1) = mSt v1 x1 (2 * n)
  ∧ arg8.view.readAt (Elt F) ra0.toLoadRect (arg8.view.writes (Elt F) G8 P.2.1) = aSt v0 x1 x2 (2 * n)
  ∧ arg8.view.readAt (Elt F) ra1.toLoadRect (arg8.view.writes (Elt F) G8 P.2.1) = aSt v1 x1 x2 (2 * n)
  ∧ ∀ B9 : BufTy.Contents (Elt F) arg9.view.ty, arg9.view.readAt (Elt F) rs0.toLoadRect B9 = SC v0 (kch x1 0) →
    arg9.view.readAt (Elt F) rs1.toLoadRect B9 = SC v1 (kch x1 0) →
    arg9.view.readAt (Elt F) rs0.toLoadRect (arg9.view.writes (Elt F) B9 P.2.2) = SC v0 (kch x1 (2 * n))
    ∧ arg9.view.readAt (Elt F) rs1.toLoadRect (arg9.view.writes (Elt F) B9 P.2.2) = SC v1 (kch x1 (2 * n)) := by
  intro n
  induction n with
  | zero =>
    intro _
    exact ⟨h70, h71, h80, h81, fun B9 hb0 hb1 => ⟨hb0, hb1⟩⟩
  | succ n ih =>
    intro hn
    obtain ⟨i70, i71, i80, i81, i9⟩ := ih (by omega)
    obtain ⟨i90, i91⟩ := i9 G9 h90 h91
    have hs := pb_k0_t1_succ (F := F) 𝒱 c bd i arg3 harg3 arg4 harg4 arg5 harg5 arg6 harg6 arg7 harg7 arg8 harg8 arg9 harg9 v0 v1 X4 X5 G7 G8 G9 ⟨n, hn⟩
    dsimp only at hs
    dsimp only
    rw [hs]
    clear hs
    generalize pb_k0_t1 (F := F) 𝒱 c bd i arg3 harg3 arg4 harg4 arg5 harg5 arg6 harg6 arg7 harg7 arg8 harg8 arg9 harg9 v0 v1 X4 X5 G7 G8 G9 n = P at *
    have key := fun b9 => trip_reads (F := F) 𝒱 c bd i arg3 harg3 arg4 harg4 arg5 harg5 arg6 harg6 arg7 harg7 arg8 harg8 arg9 harg9 v0 v1 X4 X5 ⟨n, hn⟩
      (arg7.view.writes (Elt F) G7 P.1) (arg8.view.writes (Elt F) G8 P.2.1) (arg9.view.writes (Elt F) G9 P.2.2) b9
    dsimp only at key
    simp only [i70, i71, i80, i81, i90, i91, kload arg4.view X4 x1 h4 (2 * n + 1) _ _ (off1_eq ⟨n, hn⟩), kload arg4.view X4 x1 h4 (2 * n + 2) _ _ (off3_eq ⟨n, hn⟩),
      vload arg5.view X5 x2 h5 (2 * n) _ _ (off2_eq ⟨n, hn⟩), vload arg5.view X5 x2 h5 (2 * n + 1) _ _ (off4_eq ⟨n, hn⟩)] at key
    simp only [View.writes_append]
    refine ⟨(key (arg9.view.writes (Elt F) G9 P.2.2)).1, (key (arg9.view.writes (Elt F) G9 P.2.2)).2.1,
      (key (arg9.view.writes (Elt F) G9 P.2.2)).2.2.1, (key (arg9.view.writes (Elt F) G9 P.2.2)).2.2.2.1, fun B9 _ _ => ?_⟩
    exact (key (arg9.view.writes (Elt F) B9 P.2.2)).2.2.2.2

end Cert.KernelIdeal.Att

end
-- ==== Proof.A.Body.lean ====
module

public import proofs.«01_k».proof.Proof.A.Loop
public import Idealize.ShloMosaic.Lib.Pipeline.ValueKit

/-! What one call of the body leaves in its output block: per query head, the quotient of the sums over all ten chunks by the
    row of ones among them, whatever the scratch buffers held. -/

@[expose] public section

set_option maxRecDepth 16384
set_option maxHeartbeats 4000000

noncomputable section

namespace Cert.KernelIdeal.Att

open Idealize.ShloMosaic Idealize.ShloMosaic.TcCoe Idealize.ShloMosaic.Tactic Cert.KernelIdeal Cert.KernelIdeal.Gen
open Idealize.SL Idealize.SL.RA Idealize.SL.BI

variable {F : FTy → Type} [FloatOps F]

/-- The first head's queries of a block. -/
def qh0 (x0 : Vec F S512x256 .bf16) : Vec F S512x128 .bf16 := View.ld x0 (Rect.unit (s := S512x256) ![0, 0] S512x128.size inb_S512x256_S512x128_0_0)
/-- The second head's queries of a block. -/
def qh1 (x0 : Vec F S512x256 .bf16) : Vec F S512x128 .bf16 := View.ld x0 (Rect.unit (s := S512x256) ![0, 128] S512x128.size inb_S512x256_S512x128_0_128)

abbrev rv0 := Rect.unit (s := S2x144x512) ![0, 0, 0] S1x128x512.size inb_S2x144x512_S1x128x512_0_0_0
abbrev rl0 := Rect.unit (s := S2x144x512) ![0, 128, 0] S1x1x512.size inb_S2x144x512_S1x1x512_0_128_0
abbrev rv1 := Rect.unit (s := S2x144x512) ![1, 0, 0] S1x128x512.size inb_S2x144x512_S1x128x512_1_0_0
abbrev rl1 := Rect.unit (s := S2x144x512) ![1, 128, 0] S1x1x512.size inb_S2x144x512_S1x1x512_1_128_0

abbrev rvh := Rect.unit (s := S1x144x512) ![0, 0, 0] S1x128x512.size (by decide)
abbrev rlh := Rect.unit (s := S1x144x512) ![0, 128, 0] S1x1x512.size (by decide)

/-- The rows of a head's output: sums over keys of weighted values, over the sum of the weights. -/
def oh0 (a : Vec F S1x144x512 .f32) : FVec F S512x128 .bf16 := k0_pay1 (k0_pay68 (View.ld a rvh)) (View.ld a rlh)
def oh1 (a : Vec F S1x144x512 .f32) : FVec F S512x128 .bf16 := k0_pay2 (View.ld a rvh) (View.ld a rlh)

def outPieces (x0 : Vec F S512x256 .bf16) (x1 : Vec F S16640x128 .bf16) (x2 : Vec F S144x16640 .bf16) : List (View.Piece (Elt F) S512x256 .bf16) :=
  [⟨Rect.unit (s := S512x256) ![0, 128] S512x128.size inb_S512x256_S512x128_0_128, oh1 (aSt (qh1 x0) x1 x2 10)⟩,
   ⟨Rect.unit (s := S512x256) ![0, 0] S512x128.size inb_S512x256_S512x128_0_0, oh0 (aSt (qh0 x0) x1 x2 10)⟩]

/-- Reading part of the piece just stored. -/
theorem cov_sub {sig : RefSig} {κ : Kind} {sp : Space} (v : View sig κ sp S2x144x512 .f32) {o o1 : Fin 3 → ℕ} {sz sz1 : Fin 3 → ℕ} (h h1) (o2 : Fin 3 → ℕ) (h2)
    (ho : ∀ a, o1 a = o a + o2 a) (w : (Rect.unit (s := S2x144x512) o sz h).shape.Idx → Elt F .f32) (L : List (View.Piece (Elt F) S2x144x512 .f32)) :
    v.readCov (⟨Rect.unit (s := S2x144x512) o sz h, w⟩ :: L) (Rect.unit (s := S2x144x512) o1 sz1 h1).toLoadRect
      = View.ld w (Rect.unit (s := (Rect.unit (s := S2x144x512) o sz h).shape) o2 sz1 h2) := by
  funext x
  show v.read (Elt F) (v.writes (Elt F) v.junk (⟨Rect.unit (s := S2x144x512) o sz h, w⟩ :: L)) ((Rect.unit (s := S2x144x512) o1 sz1 h1).idx x)
    = w ((Rect.unit (s := (Rect.unit (s := S2x144x512) o sz h).shape) o2 sz1 h2).idx x)
  have e : (Rect.unit (s := S2x144x512) o1 sz1 h1).idx x
      = (Rect.unit (s := S2x144x512) o sz h).emb ((Rect.unit (s := (Rect.unit (s := S2x144x512) o sz h).shape) o2 sz1 h2).idx x) := by
    funext a
    apply Fin.ext
    show ((Rect.unit (s := S2x144x512) o1 sz1 h1).idx x a : ℕ)
      = ((Rect.unit (s := S2x144x512) o sz h).idx ((Rect.unit (s := (Rect.unit (s := S2x144x512) o sz h).shape) o2 sz1 h2).idx x) a : ℕ)
    rw [Rect.idx_unit_val, Rect.idx_unit_val, Rect.idx_unit_val, ho a]
    exact Nat.add_assoc _ _ _
  rw [e]
  exact View.read_writes_cons_emb v _ _ w L _

theorem sub_v0 {sig : RefSig} {κ : Kind} {sp : Space} (v : View sig κ sp S2x144x512 .f32) (w : Vec F S1x144x512 .f32) (L : List (View.Piece (Elt F) S2x144x512 .f32)) :
    v.readCov (⟨ra0, w⟩ :: L) rv0.toLoadRect = View.ld w rvh := cov_sub v _ _ ![0, 0, 0] (by decide) (by decide) w L

theorem sub_l0 {sig : RefSig} {κ : Kind} {sp : Space} (v : View sig κ sp S2x144x512 .f32) (w : Vec F S1x144x512 .f32) (L : List (View.Piece (Elt F) S2x144x512 .f32)) :
    v.readCov (⟨ra0, w⟩ :: L) rl0.toLoadRect = View.ld w rlh := cov_sub v _ _ ![0, 128, 0] (by decide) (by decide) w L

theorem sub_v1 {sig : RefSig} {κ : Kind} {sp : Space} (v : View sig κ sp S2x144x512 .f32) (w : Vec F S1x144x512 .f32) (L : List (View.Piece (Elt F) S2x144x512 .f32)) :
    v.readCov (⟨ra1, w⟩ :: L) rv1.toLoadRect = View.ld w rvh := cov_sub v _ _ ![0, 0, 0] (by decide) (by decide) w L

theorem sub_l1 {sig : RefSig} {κ : Kind} {sp : Space} (v : View sig κ sp S2x144x512 .f32) (w : Vec F S1x144x512 .f32) (L : List (View.Piece (Elt F) S2x144x512 .f32)) :
    v.readCov (⟨ra1, w⟩ :: L) rl1.toLoadRect = View.ld w rlh := cov_sub v _ _ ![0, 128, 0] (by decide) (by decide) w L

/-- The two stores into the output block, with the two heads' sums in the scratch buffer. -/
theorem two {sig : RefSig} {κ : Kind} {sp : Space} (v : View sig κ sp S2x144x512 .f32) (w1 w0 A1 A0 : Vec F S1x144x512 .f32) (L L' : List (View.Piece (Elt F) S2x144x512 .f32)) (h1 : w1 = A1) (h0 : w0 = A0) :
      ([⟨Rect.unit (s := S512x256) ![0, 128] S512x128.size inb_S512x256_S512x128_0_128,
        k0_pay2 (v.readCov (⟨ra1, w1⟩ :: L) rv1.toLoadRect) (v.readCov (⟨ra1, w1⟩ :: L) rl1.toLoadRect)⟩,
       ⟨Rect.unit (s := S512x256) ![0, 0] S512x128.size inb_S512x256_S512x128_0_0,
        k0_pay1 (k0_pay68 (v.readCov (⟨ra0, w0⟩ :: L') rv0.toLoadRect)) (v.readCov (⟨ra0, w0⟩ :: L') rl0.toLoadRect)⟩] : List (View.Piece (Elt F) S512x256 .bf16))
      = [⟨Rect.unit (s := S512x256) ![0, 128] S512x128.size inb_S512x256_S512x128_0_128, oh1 A1⟩,
   ⟨Rect.unit (s := S512x256) ![0, 0] S512x128.size inb_S512x256_S512x128_0_0, oh0 A0⟩] := by
  subst h1 h0
  rw [sub_v1, sub_l1, sub_v0, sub_l0]
  rfl

theorem aSt_ten (q : Vec F S512x128 .bf16) (x1 : Vec F S16640x128 .bf16) (x2 : Vec F S144x16640 .bf16) :
    aSt q x1 x2 10 = AC (SC q (kch x1 9)) (vch x2 9) (MX (SC q (kch x1 8)) (mSt q x1 8)) (AC (SC q (kch x1 8)) (vch x2 8) (mSt q x1 8) (aSt q x1 x2 8)) := rfl

theorem cov_append {sig : RefSig} {κ : Kind} {sp : Space} {s : Shape} {e : EltTy} (v : View sig κ sp s e) (L L' : List (View.Piece (Elt F) s e)) (B : LoadRect s) :
    v.readCov (L ++ L') B = v.readAt (Elt F) B (v.writes (Elt F) (v.writes (Elt F) v.junk L') L) := by
  rw [← View.writes_append]; rfl

theorem two_trips : 2 * k0_t1_loop.trips = 8 := by decide +kernel

theorem body_list (c : Dev nD) (i : grid0.Coords) (arg3 : Memref sig .tc .vmem S512x256 .bf16) (harg3 : arg3.IsWhole) (arg4 : Memref sig .tc .vmem S16640x128 .bf16) (harg4 : arg4.IsWhole) (arg5 : Memref sig .tc .vmem S144x16640 .bf16) (harg5 : arg5.IsWhole) (arg6 : Memref sig .tc .vmem S512x256 .bf16) (harg6 : arg6.IsWhole) (arg7 : Memref sig .tc .vmem S2x1x512 .f32) (harg7 : arg7.IsWhole) (arg8 : Memref sig .tc .vmem S2x144x512 .f32) (harg8 : arg8.IsWhole) (arg9 : Memref sig .tc .vmem S2x2x1664x512 .f32) (harg9 : arg9.IsWhole)
  (x0 : Vec F S512x256 .bf16) (x1 : Vec F S16640x128 .bf16) (x2 : Vec F S144x16640 .bf16) (d7 : Vec F S2x1x512 .f32) (d8 : Vec F S2x144x512 .f32) (d9 : Vec F S2x2x1664x512 .f32) :
  (bodyRun (F := F) c i arg3 harg3 arg4 harg4 arg5 harg5 arg6 harg6 arg7 harg7 arg8 harg8 arg9 harg9 x0 x1 x2).1 d7 d8 d9 = outPieces x0 x1 x2 := by
  unfold bodyRun
  dsimp only
  sl_unfold_words
  dsimp only
  have q0 : View.readAt (Elt F) arg3.view (Rect.unit (s := S512x256) ![0, 0] S512x128.size inb_S512x256_S512x128_0_0).toLoadRect (harg3.unread x0) = qh0 x0 := by
    rw [View.readAt_eq_ld, harg3.read_unread]; rfl
  have q1 : View.readAt (Elt F) arg3.view (Rect.unit (s := S512x256) ![0, 128] S512x128.size inb_S512x256_S512x128_0_128).toLoadRect (harg3.unread x0) = qh1 x0 := by
    rw [View.readAt_eq_ld, harg3.read_unread]; rfl
  have k0 : View.readAt (Elt F) arg4.view (Rect.unit (s := S16640x128) ![0, 0] S1664x128.size inb_S16640x128_S1664x128_0_0).toLoadRect (harg4.unread x1) = kch x1 0 :=
    kload arg4.view _ x1 (harg4.read_unread _) 0 _ _ rfl
  have k9 : View.readAt (Elt F) arg4.view (Rect.unit (s := S16640x128) ![14976, 0] S1664x128.size inb_S16640x128_S1664x128_14976_0).toLoadRect (harg4.unread x1) = kch x1 9 :=
    kload arg4.view _ x1 (harg4.read_unread _) 9 _ _ rfl
  have w8 : View.readAt (Elt F) arg5.view (Rect.unit (s := S144x16640) ![0, 13312] S144x1664.size inb_S144x16640_S144x1664_0_13312).toLoadRect (harg5.unread x2) = vch x2 8 :=
    vload arg5.view _ x2 (harg5.read_unread _) 8 _ _ rfl
  have w9 : View.readAt (Elt F) arg5.view (Rect.unit (s := S144x16640) ![0, 14976] S144x1664.size inb_S144x16640_S144x1664_0_14976).toLoadRect (harg5.unread x2) = vch x2 9 :=
    vload arg5.view _ x2 (harg5.read_unread _) 9 _ _ rfl
  simp (discharger := decide) only [at_same, at_skip, cov_same, View.readCov_skip, q0, q1, k0, k9, w8, w9]
  have e9 := loop_reads (F := F) Variants.none c none i arg3 harg3 arg4 harg4 arg5 harg5 arg6 harg6 arg7 harg7 arg8 harg8 arg9 harg9 (qh0 x0) (qh1 x0)
    (harg4.unread x1) (harg5.unread x2) x1 x2 (harg4.read_unread _) (harg5.read_unread _)
    (arg7.view.writes (Elt F) arg7.view.junk [⟨Rect.unit (s := S2x1x512) ![0, 0, 0] S2x1x512.size inb_S2x1x512_S2x1x512_0_0_0, k0_pay28⟩])
    (arg8.view.writes (Elt F) arg8.view.junk [⟨Rect.unit (s := S2x144x512) ![0, 0, 0] S2x144x512.size inb_S2x144x512_S2x144x512_0_0_0, k0_pay29⟩])
    (arg9.view.writes (Elt F) (harg9.unread d9) [⟨rs1, k0_pay31 (qh1 x0) (kch x1 0)⟩, ⟨rs0, k0_pay30 (qh0 x0) (kch x1 0)⟩])
    (View.readCov_fill _ _ _ _ _ (by decide)) (View.readCov_fill _ _ _ _ _ (by decide)) (View.readCov_fill _ _ _ _ _ (by decide)) (View.readCov_fill _ _ _ _ _ (by decide))
    (by simp (discharger := decide) only [at_same, at_skip]; rfl) (by simp (discharger := decide) only [at_same]; rfl)
    (Scf.trips (0#32) (Scalar.addi 0#32 4#32) 1#32) le_rfl
  dsimp only at e9
  rw [show 2 * Scf.trips (0#32) (Scalar.addi 0#32 4#32) 1#32 = 8 from two_trips] at e9
  obtain ⟨e70, e71, e80, e81, e9⟩ := e9
  obtain ⟨e90, e91⟩ := e9 (arg9.view.writes (Elt F) arg9.view.junk [⟨rs1, k0_pay31 (qh1 x0) (kch x1 0)⟩, ⟨rs0, k0_pay30 (qh0 x0) (kch x1 0)⟩])
    (by simp (discharger := decide) only [at_same, at_skip]; rfl) (by simp (discharger := decide) only [at_same]; rfl)
  clear e9 q0 q1 k0 k9 w8 w9
  simp only [cov_append, e70, e71, e80, e81, e90, e91]
  clear e70 e71 e80 e81 e90 e91
  unfold outPieces
  rw [aSt_ten, aSt_ten]
  generalize mSt (qh1 x0) x1 8 = m1
  generalize mSt (qh0 x0) x1 8 = m0
  generalize aSt (qh1 x0) x1 x2 8 = a1
  generalize aSt (qh0 x0) x1 x2 8 = a0
  refine two arg8.view _ _ _ _ _ _ ?_ ?_
  · rfl
  · rfl

end Cert.KernelIdeal.Att

end
-- ==== Proof.A.Point.lean ====
module

public import proofs.«01_k».proof.Proof.A.Body
public import Idealize.ShloMosaic.Lib.Pipeline.ValueKit

/-! The body's values over the extended reals, one element at a time: scores, running maxima, running sums. -/

@[expose] public section

set_option maxRecDepth 16384

noncomputable section

namespace Cert.KernelIdeal.Att

open Idealize.ShloMosaic Idealize.ShloMosaic.TcCoe Idealize.ShloMosaic.Tactic Cert.KernelIdeal Cert.KernelIdeal.Gen
open scoped BigOperators

theorem SC_apply (q : Vec Ideal S512x128 .bf16) (kc : Vec Ideal S1664x128 .bf16) (i : Fin 1664) (c : Fin 512) :
    SC q kc (ix4 0 0 i c) = ∑ d : Fin 128, kc (ix2 i d) * q (ix2 c d) := by
  unfold SC k0_pay3
  pointwise

/-- The largest score of a chunk in a column. -/
def top (s : Vec Ideal S1x1x1664x512 .f32) (c : Fin 512) : EReal :=
  (Finset.univ : Finset (Fin 1664)).fold max ⊥ fun i => s (ix4 0 0 i c)

/-- Two to a power. -/
abbrev e2 (x : EReal) : EReal := FloatOps.exp2 (F := Ideal) (φ := .f32) x

theorem pay32_apply (s : Vec Ideal S1x1x1664x512 .f32) (i : Fin 1664) (c : Fin 512) : k0_pay32 s (ix2 i c) = s (ix4 0 0 i c) := by
  unfold k0_pay32
  pointwise

theorem ninf : Ideal.ofBits .f32 0xFF800000#32 = ⊥ := by
  simp [Ideal.ofBits, Ideal.ieee]

theorem pay33_apply (s : Vec Ideal S1x1x1664x512 .f32) (c : Fin 512) : k0_pay33 s (ix2 0 c) = top s c := by
  unfold k0_pay33 k0_pay32 top
  pointwise
  rw [← ninf]

theorem pay5_apply (s : Vec Ideal S1x1x1664x512 .f32) (c : Fin 512) : k0_pay5 s (ix2 0 c) = top s c := by
  unfold k0_pay5 k0_pay4 top
  pointwise
  rw [← ninf]

theorem MX_apply (s : Vec Ideal S1x1x1664x512 .f32) (mm : Vec Ideal S1x1x512 .f32) (c : Fin 512) :
    MX s mm (ix3 0 0 c) = max (mm (ix3 0 0 c)) (top s c) := by
  unfold MX k0_pay9 k0_pay8 k0_pay7
  rw [← pay5_apply]
  generalize k0_pay5 s = T
  pointwise

theorem ac1 (A B : FVec Ideal S1x512 .f32) (C : FVec Ideal S144x512 .f32) (a : Vec Ideal S1x144x512 .f32) (d : Fin 144) (c : Fin 512) :
    shapeCast S1x144x512 (addf (mulf (broadcastTo S144x512 A broadcasts_S1x512_S144x512) (shapeCast S144x512 a shapeCasts_S1x144x512_S144x512))
      (mulf (broadcastTo S144x512 B broadcasts_S1x512_S144x512) C)) shapeCasts_S144x512_S1x144x512 (ix3 0 d c)
      = A (ix2 0 c) * a (ix3 0 d c) + B (ix2 0 c) * C (ix2 d c) := by
  pointwise

theorem ac2 (vc : FVec Ideal S144x1664 .bf16) (E : FVec Ideal S1664x512 .f32) (d : Fin 144) (c : Fin 512) :
    matmul dot_S144x1664_S1664x512_S144x512_1_0_0_1_n_n none vc (truncf .bf16 E bitsLt_bf16_f32) (constant S144x512 .f32 0x00000000#32) (ix2 d c)
      = ∑ i : Fin 1664, vc (ix2 d i) * E (ix2 i c) := by
  pointwise

theorem ac3 (U : FVec Ideal S1664x512 .f32) (T : FVec Ideal S1x512 .f32) (i : Fin 1664) (c : Fin 512) :
    exp2 (subf U (broadcastTo S1664x512 T broadcasts_S1x512_S1664x512)) (ix2 i c) = e2 (U (ix2 i c) - T (ix2 0 c)) := by
  pointwise

theorem ac4 (m : Vec Ideal S1x1x512 .f32) (T : FVec Ideal S1x512 .f32) (c : Fin 512) :
    exp2 (subf (shapeCast S1x512 m shapeCasts_S1x1x512_S1x512) (maximumf (shapeCast S1x512 m shapeCasts_S1x1x512_S1x512) T)) (ix2 0 c)
      = e2 (m (ix3 0 0 c) - max (m (ix3 0 0 c)) (T (ix2 0 c))) := by
  pointwise

theorem ac5 (m : Vec Ideal S1x1x512 .f32) (T : FVec Ideal S1x512 .f32) (c : Fin 512) :
    exp2 (subf T (maximumf (shapeCast S1x512 m shapeCasts_S1x1x512_S1x512) T)) (ix2 0 c)
      = e2 (T (ix2 0 c) - max (m (ix3 0 0 c)) (T (ix2 0 c))) := by
  pointwise

theorem AC_apply (s : Vec Ideal S1x1x1664x512 .f32) (vc : Vec Ideal S144x1664 .bf16) (mm : Vec Ideal S1x1x512 .f32) (a : Vec Ideal S1x144x512 .f32)
    (d : Fin 144) (c : Fin 512) :
    AC s vc mm a (ix3 0 d c) = e2 (mm (ix3 0 0 c) - max (mm (ix3 0 0 c)) (top s c)) * a (ix3 0 d c)
      + e2 (top s c - max (mm (ix3 0 0 c)) (top s c))
        * ∑ i : Fin 1664, vc (ix2 d i) * e2 (s (ix4 0 0 i c) - top s c) := by
  unfold AC k0_pay37 k0_pay35 k0_pay34
  dsimp only
  rw [ac1, ac2, ac4, ac5, pay33_apply]
  simp only [ac3, pay33_apply, pay32_apply]

theorem mIni_apply (c : Fin 512) : mIni (F := Ideal) (ix3 0 0 c) = Ideal.ofBits .f32 0xF149F2CA#32 := rfl

theorem aIni_apply (d : Fin 144) (c : Fin 512) : aIni (F := Ideal) (ix3 0 d c) = 0 := by
  rw [show aIni (F := Ideal) (ix3 0 d c) = Ideal.ofBits .f32 0x00000000#32 from rfl]
  exact Ideal.ofBits_zero_f32

theorem kch_apply (x1 : Vec Ideal S16640x128 .bf16) (j : ℕ) (i : Fin 1664) (d : Fin 128) (k : Fin 16640) (hk : (k : ℕ) = 1664 * (j % 10) + i) :
    kch x1 j (ix2 i d) = x1 (ix2 k d) := by
  unfold kch
  refine congrArg x1 (funext fun a => Fin.ext ?_)
  rw [Rect.idx_unit_val]
  match a with
  | ⟨0, _⟩ => exact hk.symm
  | ⟨1, _⟩ => exact Nat.zero_add _

theorem vch_apply (x2 : Vec Ideal S144x16640 .bf16) (j : ℕ) (d : Fin 144) (i : Fin 1664) (k : Fin 16640) (hk : (k : ℕ) = 1664 * (j % 10) + i) :
    vch x2 j (ix2 d i) = x2 (ix2 d k) := by
  unfold vch
  refine congrArg x2 (funext fun a => Fin.ext ?_)
  rw [Rect.idx_unit_val]
  match a with
  | ⟨0, _⟩ => exact Nat.zero_add _
  | ⟨1, _⟩ => exact hk.symm

theorem qh0_apply (x0 : Vec Ideal S512x256 .bf16) (c : Fin 512) (d : Fin 128) (e : Fin 256) (he : (e : ℕ) = d) : qh0 x0 (ix2 c d) = x0 (ix2 c e) := by
  unfold qh0
  refine congrArg x0 (funext fun a => Fin.ext ?_)
  rw [Rect.idx_unit_val]
  match a with
  | ⟨0, _⟩ => exact Nat.zero_add _
  | ⟨1, _⟩ => exact (Nat.zero_add _).trans he.symm

theorem qh1_apply (x0 : Vec Ideal S512x256 .bf16) (c : Fin 512) (d : Fin 128) (e : Fin 256) (he : (e : ℕ) = 128 + d) : qh1 x0 (ix2 c d) = x0 (ix2 c e) := by
  unfold qh1
  refine congrArg x0 (funext fun a => Fin.ext ?_)
  rw [Rect.idx_unit_val]
  match a with
  | ⟨0, _⟩ => exact Nat.zero_add _
  | ⟨1, _⟩ => exact he.symm

theorem rvh_apply (a : Vec Ideal S1x144x512 .f32) (d : Fin 128) (c : Fin 512) (e : Fin 144) (he : (e : ℕ) = d) :
    View.ld a rvh (ix3 0 d c) = a (ix3 0 e c) := by
  refine congrArg a (funext fun b => Fin.ext ?_)
  rw [Rect.idx_unit_val]
  match b with
  | ⟨0, _⟩ => rfl
  | ⟨1, _⟩ => exact (Nat.zero_add _).trans he.symm
  | ⟨2, _⟩ => exact Nat.zero_add _

theorem rlh_apply (a : Vec Ideal S1x144x512 .f32) (c : Fin 512) :
    View.ld a rlh (ix3 0 0 c) = a (ix3 0 128 c) := by
  refine congrArg a (funext fun b => Fin.ext ?_)
  rw [Rect.idx_unit_val]
  match b with
  | ⟨0, _⟩ => rfl
  | ⟨1, _⟩ => rfl
  | ⟨2, _⟩ => exact Nat.zero_add _

theorem pay2_apply (n : Vec Ideal S1x128x512 .f32) (l : Vec Ideal S1x1x512 .f32) (c : Fin 512) (d : Fin 128) :
    k0_pay2 n l (ix2 c d) = Ideal.div (n (ix3 0 d c)) (l (ix3 0 0 c)) := by
  unfold k0_pay2
  pointwise

theorem pay1_apply (n : Vec Ideal S1x128x512 .f32) (l : Vec Ideal S1x1x512 .f32) (c : Fin 512) (d : Fin 128) :
    k0_pay1 (k0_pay68 n) l (ix2 c d) = Ideal.div (n (ix3 0 d c)) (l (ix3 0 0 c)) := by
  unfold k0_pay1 k0_pay68
  pointwise

theorem oh0_apply (a : Vec Ideal S1x144x512 .f32) (c : Fin 512) (d : Fin 128) (e : Fin 144) (he : (e : ℕ) = d) :
    oh0 a (ix2 c d) = Ideal.div (a (ix3 0 e c)) (a (ix3 0 128 c)) := by
  unfold oh0
  rw [pay1_apply, rvh_apply a d c e he, rlh_apply]

theorem oh1_apply (a : Vec Ideal S1x144x512 .f32) (c : Fin 512) (d : Fin 128) (e : Fin 144) (he : (e : ℕ) = d) :
    oh1 a (ix2 c d) = Ideal.div (a (ix3 0 e c)) (a (ix3 0 128 c)) := by
  unfold oh1
  rw [pay2_apply, rvh_apply a d c e he, rlh_apply]

end Cert.KernelIdeal.Att

end
-- ==== Proof.M.Softmax.lean ====
module

public import Idealize.ShloMosaic.PureOps.Ideal.Laws
public import Mathlib.Data.EReal.Operations
public import Mathlib.Algebra.BigOperators.Fin

/-! Softmax in one pass. Weighted sums of values (which may be infinite) with weights `2^(score − m)`, kept chunk by chunk for a
    running maximum `m`, and their quotient, which does not depend on `m`. -/

@[expose] public section

noncomputable section

namespace Cert.Softmax

open Idealize.ShloMosaic
open scoped BigOperators

/-- `2^r`, an extended real. -/
abbrev P (r : ℝ) : EReal := ((Real.rpow 2 r : ℝ) : EReal)

theorem rpow_pos (r : ℝ) : 0 < Real.rpow 2 r := Real.rpow_pos_of_pos (by norm_num) r

theorem P_mul (a b : ℝ) : P a * P b = P (a + b) := by
  unfold P
  rw [← EReal.coe_mul]
  congr 1
  exact (Real.rpow_add (by norm_num) a b).symm

theorem exp2_coe (r : ℝ) : Ideal.exp2 (r : EReal) = P r := rfl

theorem coe_sub (a b : ℝ) : (a : EReal) - (b : EReal) = ((a - b : ℝ) : EReal) := (EReal.coe_sub a b).symm

/-- A nonnegative real factor distributes over a finite sum of extended reals. -/
theorem mul_sum {ι : Type*} (s : Finset ι) (x : ℝ) (hx : 0 ≤ x) (f : ι → EReal) : (x : EReal) * ∑ i ∈ s, f i = ∑ i ∈ s, (x : EReal) * f i := by
  classical
  induction s using Finset.induction_on with
  | empty => simp
  | insert a s ha ih =>
    rw [Finset.sum_insert ha, Finset.sum_insert ha, EReal.left_distrib_of_nonneg_of_ne_top (by exact_mod_cast hx) (EReal.coe_ne_top x), ih]

/-- Rebasing one weight. -/
theorem rebase (v : EReal) (a b c : ℝ) : P (b - c) * (v * P (a - b)) = v * P (a - c) := by
  rw [mul_left_comm, P_mul, show b - c + (a - b) = a - c by ring]

/-- Rebasing a sum. -/
theorem rebase_sum {ι : Type*} (s : Finset ι) (v : ι → EReal) (f : ι → ℝ) (b c : ℝ) :
    P (b - c) * ∑ i ∈ s, v i * P (f i - b) = ∑ i ∈ s, v i * P (f i - c) := by
  rw [mul_sum _ _ (rpow_pos _).le]
  exact Finset.sum_congr rfl fun i _ => rebase _ _ _ _

/-- The maximum of finitely many reals, at least one, is a real. -/
theorem fold_real {n : ℕ} (hn : 0 < n) (s : Fin n → ℝ) :
    ∃ M : ℝ, (Finset.univ : Finset (Fin n)).fold max (⊥ : EReal) (fun i => (s i : EReal)) = (M : EReal) := by
  have h : ∀ t : Finset (Fin n), t.Nonempty → ∃ M : ℝ, t.fold max (⊥ : EReal) (fun i => (s i : EReal)) = (M : EReal) := by
    intro t ht
    classical
    induction ht using Finset.Nonempty.cons_induction with
    | singleton a => exact ⟨s a, by simp⟩
    | cons a t ha ht ih =>
      obtain ⟨M, hM⟩ := ih
      refine ⟨max (s a) M, ?_⟩
      rw [Finset.fold_cons, hM]
      exact (EReal.coe_strictMono.monotone.map_max).symm
  exact h _ ⟨⟨0, hn⟩, Finset.mem_univ _⟩

/-- One chunk taken in: what the sums hold after it, for the new maximum. -/
theorem step {ι κ : Type*} [Fintype ι] [Fintype κ] (v : ι → EReal) (f : ι → ℝ) (v' : κ → EReal) (f' : κ → ℝ) (a : EReal) (m m' t : ℝ)
    (ha : a = ∑ i, v i * P (f i - m)) :
    P (m - m') * a + P (t - m') * ∑ i, v' i * P (f' i - t) = (∑ i, v i * P (f i - m')) + ∑ i, v' i * P (f' i - m') := by
  rw [ha, rebase_sum, rebase_sum]

theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient: weights for any base `m`, the sum of weights for the same base, against weights normalised first, base `m'`. -/
theorem quotient {n : ℕ} (hn : 0 < n) (v : Fin n → EReal) (f : Fin n → ℝ) (m m' : ℝ) :
    Ideal.div (∑ i, v i * P (f i - m)) (∑ i, 1 * P (f i - m))
      = ∑ i, v i * Ideal.div (P (f i - m')) (∑ j, P (f j - m')) := by
  have pos : ∀ b : ℝ, 0 < ∑ j, Real.rpow 2 (f j - b) := fun b =>
    Finset.sum_pos (fun j _ => rpow_pos _) ⟨⟨0, hn⟩, Finset.mem_univ _⟩
  have e : ∀ b : ℝ, ∑ j, P (f j - b) = ((∑ j, Real.rpow 2 (f j - b) : ℝ) : EReal) := fun b => sum_real _ _
  have ne : ∀ b : ℝ, ((∑ j, Real.rpow 2 (f j - b) : ℝ) : EReal) ≠ 0 := fun b => by
    exact_mod_cast (pos b).ne'
  have dv : ∀ (b : ℝ) (x : EReal), Ideal.div x ((∑ j, Real.rpow 2 (f j - b) : ℝ) : EReal) = x * (((∑ j, Real.rpow 2 (f j - b))⁻¹ : ℝ) : EReal) := by
    intro b x
    unfold Ideal.div
    rw [if_neg (ne b), EReal.coe_inv]
  simp only [one_mul]
  rw [e m, e m', dv]
  simp only [dv]
  rw [← rebase_sum _ _ _ m' m]
  have hc : (∑ j, Real.rpow 2 (f j - m)) = Real.rpow 2 (m' - m) * ∑ j, Real.rpow 2 (f j - m') := by
    rw [Finset.mul_sum]
    refine Finset.sum_congr rfl fun j _ => ?_
    have := Real.rpow_add (x := 2) (by norm_num) (m' - m) (f j - m')
    show (2 : ℝ) ^ (f j - m) = (2 : ℝ) ^ (m' - m) * (2 : ℝ) ^ (f j - m')
    rw [← this]; congr 1; ring
  rw [hc]
  set E := ∑ j, Real.rpow 2 (f j - m') with hE
  rw [mul_comm (P (m' - m)), mul_assoc]
  have : P (m' - m) * (((Real.rpow 2 (m' - m) * E)⁻¹ : ℝ) : EReal) = ((E⁻¹ : ℝ) : EReal) := by
    unfold P
    rw [← EReal.coe_mul]
    congr 1
    have h1 := (rpow_pos (m' - m)).ne'
    have h2 : E ≠ 0 := (pos m').ne'
    field_simp
  rw [this, mul_comm, mul_sum _ _ (inv_nonneg.mpr (pos m').le)]
  refine Finset.sum_congr rfl fun i _ => ?_
  rw [mul_comm, mul_assoc]

end Cert.Softmax

end
-- ==== Proof.A.Online.lean ====
module

public import proofs.«01_k».proof.Proof.A.Point
public import proofs.«01_k».proof.Proof.M.Softmax

/-! The body's sums over all ten chunks in closed form, and the output block: softmax of a query's scores over all keys, applied
    to the values. -/

@[expose] public section

set_option maxRecDepth 16384

noncomputable section

namespace Cert.KernelIdeal.Att

open Idealize.ShloMosaic Idealize.ShloMosaic.TcCoe Idealize.ShloMosaic.Tactic Cert.KernelIdeal Cert.KernelIdeal.Gen
open Cert.Softmax
open scoped BigOperators

/-- Key `i` of chunk `j`. -/
def key (j : ℕ) (i : Fin 1664) : Fin 16640 := ⟨1664 * (j % 10) + i, by have := i.isLt; have := Nat.mod_lt j (show 10 > 0 by decide); omega⟩

theorem init_real : ∃ r : ℝ, Ideal.ofBits .f32 0xF149F2CA#32 = (r : EReal) := by
  rw [show Ideal.ofBits .f32 0xF149F2CA#32 = Ideal.ieee 8 23 0xF149F2CA#32 from rfl]
  unfold Ideal.ieee
  dsimp only
  rw [if_neg (by decide), if_neg (by decide)]
  exact ⟨_, rfl⟩

variable (q : Vec Ideal S512x128 .bf16) (x1 : Vec Ideal S16640x128 .bf16) (x2 : Vec Ideal S144x16640 .bf16) (c : Fin 512)

theorem score_chunk (f : Fin 16640 → ℝ) (hf : ∀ k, ∑ d : Fin 128, x1 (ix2 k d) * q (ix2 c d) = (f k : EReal)) (j : ℕ) (i : Fin 1664) :
    SC q (kch x1 j) (ix4 0 0 i c) = (f (key j i) : EReal) := by
  rw [SC_apply, ← hf]
  exact Finset.sum_congr rfl fun d _ => by rw [kch_apply x1 j i d (key j i) rfl]

/-- What the two accumulators hold after `n` chunks. -/
theorem closed (f : Fin 16640 → ℝ) (hf : ∀ k, ∑ d : Fin 128, x1 (ix2 k d) * q (ix2 c d) = (f k : EReal)) :
    ∀ n : ℕ, ∃ M : ℝ, mSt q x1 n (ix3 0 0 c) = (M : EReal)
      ∧ ∀ d : Fin 144, aSt q x1 x2 n (ix3 0 d c) = ∑ p : Fin n × Fin 1664, x2 (ix2 d (key p.1 p.2)) * P (f (key p.1 p.2) - M)
  | 0 => by
    obtain ⟨r, hr⟩ := init_real
    refine ⟨r, (mIni_apply c).trans hr, fun d => ?_⟩
    rw [show aSt q x1 x2 0 = aIni from rfl, aIni_apply, Fintype.sum_prod_type]
    exact (Finset.sum_of_isEmpty _).symm
  | n + 1 => by
    obtain ⟨M, hM, hA⟩ := closed f hf n
    obtain ⟨T, hT⟩ := fold_real (by decide) (fun i : Fin 1664 => f (key n i))
    have hs := score_chunk q x1 c f hf n
    have ht : top (SC q (kch x1 n)) c = (T : EReal) := by
      unfold top; simp only [hs]; exact hT
    have hmax : max (M : EReal) (T : EReal) = ((max M T : ℝ) : EReal) := (EReal.coe_strictMono.monotone.map_max).symm
    refine ⟨max M T, ?_, fun d => ?_⟩
    · rw [show mSt q x1 (n + 1) = MX (SC q (kch x1 n)) (mSt q x1 n) from rfl, MX_apply, hM, ht, hmax]
    · rw [show aSt q x1 x2 (n + 1) = AC (SC q (kch x1 n)) (vch x2 n) (mSt q x1 n) (aSt q x1 x2 n) from rfl, AC_apply, hM, ht, hmax]
      simp only [hs, coe_sub]
      have hv : ∀ i, vch x2 n (ix2 d i) = x2 (ix2 d (key n i)) := fun i => vch_apply x2 n d i _ rfl
      simp only [hv]
      have e : ∀ r : ℝ, e2 (r : EReal) = P r := fun r => exp2_coe r
      simp only [e]
      rw [step (fun p : Fin n × Fin 1664 => x2 (ix2 d (key p.1 p.2))) (fun p => f (key p.1 p.2)) (fun i : Fin 1664 => x2 (ix2 d (key n i)))
        (fun i => f (key n i)) _ M (max M T) T (hA d)]
      rw [Fintype.sum_prod_type, Fintype.sum_prod_type, Fin.sum_univ_castSucc (n := n)]
      rfl

theorem flat (g : Fin 16640 → EReal) : ∑ p : Fin 10 × Fin 1664, g (key p.1 p.2) = ∑ k, g k := by
  refine Fintype.sum_equiv finProdFinEquiv _ _ fun p => congrArg g (Fin.ext ?_)
  show 1664 * ((p.1 : ℕ) % 10) + (p.2 : ℕ) = (p.2 : ℕ) + 1664 * (p.1 : ℕ)
  rw [Nat.mod_eq_of_lt p.1.isLt, Nat.add_comm]

/-- A quotient of the sums after the last chunk is the softmax of the scores applied to the values, whatever the base `m`. -/
theorem softmax (f : Fin 16640 → ℝ) (hf : ∀ k, ∑ d : Fin 128, x1 (ix2 k d) * q (ix2 c d) = (f k : EReal))
    (h1 : ∀ k, x2 (ix2 128 k) = 1) (m : ℝ) (d : Fin 144) :
    Ideal.div (aSt q x1 x2 10 (ix3 0 d c)) (aSt q x1 x2 10 (ix3 0 128 c))
      = ∑ k, x2 (ix2 d k) * Ideal.div (P (f k - m)) (∑ j, P (f j - m)) := by
  obtain ⟨M, -, hA⟩ := closed q x1 x2 c f hf 10
  rw [hA, hA, flat (fun k => x2 (ix2 d k) * P (f k - M)), flat (fun k => x2 (ix2 128 k) * P (f k - M))]
  simp only [h1]
  exact quotient (by decide) (fun k => x2 (ix2 d k)) f M m

end Cert.KernelIdeal.Att

end
-- ==== Proof.A.Frame.lean ====
module

public import proofs.«01_k».proof.Proof.A.Body

/-! The attention kernel over the reals: every launch ends, the arguments as they were, every counter at zero, and the result
    array overwritten block by block with what the body leaves at each point. -/

@[expose] public section

set_option maxRecDepth 16384
set_option maxHeartbeats 2000000

noncomputable section

namespace Cert.KernelIdeal.Att

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in its output block. -/
def OUT (x0 : Vec F S512x256 .bf16) (x1 : Vec F S16640x128 .bf16) (x2 : Vec F S144x16640 .bf16) : Vec F S512x256 .bf16 :=
  View.canon (outPieces x0 x1 x2)

theorem out_cover (x0 : Vec F S512x256 .bf16) (x1 : Vec F S16640x128 .bf16) (x2 : Vec F S144x16640 .bf16) :
    ∀ y : S512x256.Idx, ∃ p ∈ outPieces x0 x1 x2, y ∈ p.1.set := by
  intro y
  unfold outPieces
  by_cases h : (y 1 : ℕ) < 128
  · refine ⟨_, List.mem_cons_of_mem _ (List.mem_cons_self), ?_⟩
    rw [Rect.mem_set_unit]
    intro a
    match a with
    | ⟨0, _⟩ => exact ⟨Nat.zero_le _, by show (y 0 : ℕ) < 0 + 512; have : (y 0 : ℕ) < 512 := (y 0).isLt; omega⟩
    | ⟨1, _⟩ => exact ⟨Nat.zero_le _, by show (y 1 : ℕ) < 0 + 128; omega⟩
  · refine ⟨_, List.mem_cons_self, ?_⟩
    rw [Rect.mem_set_unit]
    intro a
    match a with
    | ⟨0, _⟩ => exact ⟨Nat.zero_le _, by show (y 0 : ℕ) < 0 + 512; have : (y 0 : ℕ) < 512 := (y 0).isLt; omega⟩
    | ⟨1, _⟩ => exact ⟨by show 128 ≤ (y 1 : ℕ); omega, by show (y 1 : ℕ) < 128 + 128; have : (y 1 : ℕ) < 256 := (y 1).isLt; omega⟩

/-- The proof data on core `c`: the arrays as launched, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := Pipeline.ΦA spec0 c
  q _ := fullShare
  owed _ := 0

theorem arrays (c : Dev nD) (w : Fin cfg0.W) : (dats m 0 c).A w = V m c (Pipeline.arrRef spec0 w) := by dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = OUT (iblk m c 0 t) (iblk m c 1 t) (iblk m c 2 t) := by dsimp only [dats]

theorem found_0 (c : Dev nD) (t : Fin cfg0.N) (d) : (dats m 0 c).before 0 t d = iblk m c 0 t :=
  before0_0_of m (dats m 0 c) (arrays m c 0) (left_0 m c) t d
theorem found_1 (c : Dev nD) (t : Fin cfg0.N) (d) : (dats m 0 c).before 1 t d = iblk m c 1 t :=
  before0_1_of m (dats m 0 c) (arrays m c 1) (left_1 m c) t d
theorem found_2 (c : Dev nD) (t : Fin cfg0.N) (d) : (dats m 0 c).before 2 t d = iblk m c 2 t :=
  before0_2_of m (dats m 0 c) (arrays m c 2) (left_2 m c) t d

/-- The three scratch buffers. -/
abbrev scr0 : Memref sig .tc .vmem S2x1x512 .f32 := Memref.whole cc0_scratch0
abbrev scr1 : Memref sig .tc .vmem S2x144x512 .f32 := Memref.whole cc0_scratch1
abbrev scr2 : Memref sig .tc .vmem S2x2x1664x512 .f32 := Memref.whole cc0_scratch2

/-- Between points the scratch buffers hold something, and so does the generator's register. -/
theorem between_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- What the body is called with at point `t`, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t)

theorem live_0 : ∀ t : Fin cfg0.N, cfg0.idle 0 (grid0.coords t) = false := by intro t; rfl
theorem live_1 : ∀ t : Fin cfg0.N, cfg0.idle 1 (grid0.coords t) = false := by intro t; rfl
theorem live_2 : ∀ t : Fin cfg0.N, cfg0.idle 2 (grid0.coords t) = false := by intro t; rfl
theorem live_3 : ∀ t : Fin cfg0.N, cfg0.idle 3 (grid0.coords t) = false := by intro t; rfl

/-- One point's body: the run of the module before, at the point's blocks. -/
theorem body_sound (c : Dev nD) (t : Fin cfg0.N) :
    pre m c t ⊢ wp frame (wpE (defs₀ (F := F)) Variants.none c none) Set.univ (bodyAt0 t) (fun _ => post m c t) := by
  unfold pre post bodyAt0
  simp only [found_0, found_1, found_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, between_eq]
  rw [show (dats m 0 c).leavesExact 0 t = owns (c : Thread nD τ) (st0_0 t) fullShare ((dats m 0 c).after 0 t) from by
    unfold Dat.leavesExact; rw [live_0 t], left_0]
  rw [show (dats m 0 c).leavesExact 1 t = owns (c : Thread nD τ) (st0_1 t) fullShare ((dats m 0 c).after 1 t) from by
    unfold Dat.leavesExact; rw [live_1 t], left_1]
  rw [show (dats m 0 c).leavesExact 2 t = owns (c : Thread nD τ) (st0_2 t) fullShare ((dats m 0 c).after 2 t) from by
    unfold Dat.leavesExact; rw [live_2 t], left_2]
  rw [show (dats m 0 c).leavesExact 3 t = owns (c : Thread nD τ) (st0_3 t) fullShare ((dats m 0 c).after 3 t) from by
    unfold Dat.leavesExact; rw [live_3 t], left_3]
  iintro ⟨⟨⟨⟨%d7, H7⟩, ⟨%d8, H8⟩, ⟨%d9, H9⟩⟩, Hg⟩, Ho, ⟨%d0, H0⟩, ⟨%d1, H1⟩, ⟨%d2, H2⟩, ⟨%d3, H3⟩⟩
  iapply ((bodyRun c (grid0.coords t) _ _ _ _ _ _ _ _ _ _ _ _ _ _ (iblk m c 0 t) (iblk m c 1 t) (iblk m c 2 t)).2 Set.univ _ d7 d8 d9)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  iintro ⟨H0, H1, H2, ⟨%e, H3⟩, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H0]; · iexact H0
  isplitl [H1]; · iexact H1
  isplitl [H2]; · iexact H2
  unfold owns; iexists _; isplitr; swap; · iexact H3
  ipureintro
  rw [body_list]
  exact View.read_writes_eq_canon _ _ _ (out_cover _ _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

set_option backward.isDefEq.respectTransparency.types false in
theorem launched : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl) (howed := fun _ _ => rfl) (V := V m)
    (hmain := hmain m Variants.none) (hA := arrays m) (hΦ := fun _ _ => rfl)

/-- The launch's claim: arguments unchanged, counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (launched m ρ)
  exact ⟨(h.1.in_eq c 0 rfl).trans ((arrays m c 0).trans (V_main_arg0 m c)),
    (h.1.in_eq c 1 rfl).trans ((arrays m c 1).trans (V_main_arg1 m c)),
    (h.1.in_eq c 2 rfl).trans ((arrays m c 2).trans (V_main_arg2 m c))⟩

/-- The result array after the launch. -/
theorem result : θ_run defs (onTc (τ := τ) (main (F := F))) ⟨m, fun _ => 0, ρ⟩ (fun r => ∀ c : Dev nD,
      r.2.mem ((c.tc : Thread nD τ).loc main_v0) = (dats m 0 c).arrAt 3 cfg0.N) := by
  refine (θ_run defs _ _).mono (fun r h c => ?_) (launched m ρ)
  exact h.1.out_eq c 3

end Cert.KernelIdeal.Att

end
-- ==== Proof.A.Out.lean ====
module

public import proofs.«01_k».proof.Proof.A.Online
public import proofs.«01_k».proof.Proof.A.Frame

/-! What one point leaves in its output block: for each of its two query heads, the softmax of the scores against the values. -/

@[expose] public section

set_option maxRecDepth 16384

noncomputable section

namespace Cert.KernelIdeal.Att

open Idealize.ShloMosaic Idealize.ShloMosaic.TcCoe Idealize.ShloMosaic.Tactic Cert.KernelIdeal Cert.KernelIdeal.Gen
open Cert.Softmax
open scoped BigOperators

variable (x0 : Vec Ideal S512x256 .bf16) (x1 : Vec Ideal S16640x128 .bf16) (x2 : Vec Ideal S144x16640 .bf16)

/-- The second head's half of the block. -/
theorem out_hi (c : Fin 512) (d : Fin 128) (i : S512x256.Idx) (h0 : (i 0 : ℕ) = c) (h1 : (i 1 : ℕ) = 128 + d) :
    OUT x0 x1 x2 i = oh1 (aSt (qh1 x0) x1 x2 10) (ix2 c d) := by
  unfold OUT outPieces
  have e : i = (Rect.unit (s := S512x256) ![0, 128] S512x128.size inb_S512x256_S512x128_0_128).emb (ix2 c d) :=
    funext fun a => Fin.ext (by
      rw [ValueKit.rect_emb_unit_val]
      match a with
      | ⟨0, _⟩ => show (i 0 : ℕ) = 0 + c; omega
      | ⟨1, _⟩ => show (i 1 : ℕ) = 128 + d; omega)
  rw [e]
  exact View.canon_cons_emb _ _ _ _

/-- The first head's half of the block. -/
theorem out_lo (c : Fin 512) (d : Fin 128) (i : S512x256.Idx) (h0 : (i 0 : ℕ) = c) (h1 : (i 1 : ℕ) = d) :
    OUT x0 x1 x2 i = oh0 (aSt (qh0 x0) x1 x2 10) (ix2 c d) := by
  unfold OUT outPieces
  rw [View.canon_cons_of_not_mem _ _ (by
    rw [Rect.mem_set_unit]
    intro h
    have := (h 1).1
    change 128 ≤ (i 1 : ℕ) at this
    omega)]
  have e : i = (Rect.unit (s := S512x256) ![0, 0] S512x128.size inb_S512x256_S512x128_0_0).emb (ix2 c d) :=
    funext fun a => Fin.ext (by
      rw [ValueKit.rect_emb_unit_val]
      match a with
      | ⟨0, _⟩ => show (i 0 : ℕ) = 0 + c; omega
      | ⟨1, _⟩ => show (i 1 : ℕ) = 0 + d; omega)
  rw [e]
  exact View.canon_cons_emb _ _ _ _

/-- One element of the output block. -/
theorem out_apply (c : Fin 512) (r : Fin 2) (d : Fin 128) (i : S512x256.Idx) (h0 : (i 0 : ℕ) = c) (h1 : (i 1 : ℕ) = r * 128 + d)
    (f : Fin 16640 → ℝ)
    (hf : ∀ k, ∑ e : Fin 128, x1 (ix2 k e) * x0 (ix2 c ⟨r * 128 + e, by omega⟩) = (f k : EReal))
    (hone : ∀ k, x2 (ix2 128 k) = 1) (m : ℝ) :
    OUT x0 x1 x2 i = ∑ k, x2 (ix2 ⟨d, by omega⟩ k) * Ideal.div (P (f k - m)) (∑ j, P (f j - m)) := by
  match r, h1, hf with
  | ⟨0, _⟩, h1, hf =>
    rw [out_lo x0 x1 x2 c d i h0 (by dsimp only at h1; omega), oh0_apply _ c d ⟨d, by omega⟩ rfl]
    exact softmax (qh0 x0) x1 x2 c f (fun k => by
      rw [← hf]
      exact Finset.sum_congr rfl fun e _ => congrArg (_ * ·) (qh0_apply x0 c e _ (by show 0 * 128 + (e : ℕ) = e; omega))) hone m _
  | ⟨1, _⟩, h1, hf =>
    rw [out_hi x0 x1 x2 c d i h0 (by dsimp only at h1; omega), oh1_apply _ c d ⟨d, by omega⟩ rfl]
    exact softmax (qh1 x0) x1 x2 c f (fun k => by
      rw [← hf]
      exact Finset.sum_congr rfl fun e _ => congrArg (_ * ·) (qh1_apply x0 c e _ (by show 1 * 128 + (e : ℕ) = 128 + e; omega))) hone m _

end Cert.KernelIdeal.Att

end
-- ==== Proof.R.Ref.lean ====
module

public import proofs.«01_k».proof.Proof.Gen.ReferenceIdeal.Read
public import proofs.«01_k».proof.Proof.M.Softmax
public import Idealize.ShloMosaic.Lib.Pipeline.ValueKit
public import Idealize.ShloMosaic.Lib.KernelVsHost

/-! The attention reference, one element at a time: batch `b`, query `q` of 16384, key head `g`, query head `r` of its two,
    channel `d`. -/

@[expose] public section

set_option maxRecDepth 16384

noncomputable section

namespace Cert.ReferenceIdeal.Att

open Idealize.ShloMosaic Idealize.ShloMosaic.TcCoe Idealize.ShloMosaic.Tactic Cert.ReferenceIdeal Cert.ReferenceIdeal.Gen Cert.ReferenceIdeal.Read
open Cert.Softmax
open scoped BigOperators

/-- The token of query `q` of batch `b`. -/
def rowQ (b : Fin 2) (q : Fin 16384) : Fin 33280 := ⟨b * 16384 + q, by omega⟩
/-- The column of channel `d` of query head `r` of group `g`. -/
def colQ (g r : Fin 2) (d : Fin 128) : Fin 512 := ⟨g * 256 + r * 128 + d, by omega⟩
/-- The row of key `k` of batch `b`. -/
def rowK (b : Fin 2) (k : Fin 16640) : Fin 33280 := ⟨b * 16640 + k, by omega⟩
/-- The column of channel `d` of key head `g`. -/
def colK (g : Fin 2) (d : Fin 128) : Fin 256 := ⟨g * 128 + d, by omega⟩
/-- The row of channel `d` of value head `g`, each of which takes 144 rows. -/
def rowV (g : Fin 2) (d : Fin 144) : Fin 288 := ⟨g * 144 + d, by omega⟩

variable (x0 : (⟨S33280x512, .bf16⟩ : BufTy).Contents (Elt Ideal)) (x1 : (⟨S33280x256, .bf16⟩ : BufTy).Contents (Elt Ideal)) (x2 : (⟨S288x33280, .bf16⟩ : BufTy).Contents (Elt Ideal))

theorem query (i : S2x16384x2x2x128.Idx) (b : Fin 2) (q : Fin 16384) (g r : Fin 2) (d : Fin 128)
    (h0 : (i 0 : ℕ) = b) (h1 : (i 1 : ℕ) = q) (h2 : (i 2 : ℕ) = g) (h3 : (i 3 : ℕ) = r) (h4 : (i 4 : ℕ) = d) :
    val_main_v2 (F := Ideal) x0 i = x0 (ix2 (rowQ b q) (colQ g r d)) := by
  rw [val_main_v2_apply, val_main_v1_apply, val_main_v0_apply]
  refine congrArg x0 (funext fun a => Fin.ext ?_)
  match a with
  | ⟨0, _⟩ =>
    show (((((i 0).val * 16384 + (i 1).val) * 2 + (i 2).val) * 2 + (i 3).val) * 128 + (i 4).val) / 512 = b * 16384 + q
    omega
  | ⟨1, _⟩ =>
    show (((((i 0).val * 16384 + (i 1).val) * 2 + (i 2).val) * 2 + (i 3).val) * 128 + (i 4).val) % 512 = g * 256 + r * 128 + d
    omega

theorem keyAt (i : S2x16640x2x128.Idx) (b : Fin 2) (k : Fin 16640) (g : Fin 2) (d : Fin 128)
    (h0 : (i 0 : ℕ) = b) (h1 : (i 1 : ℕ) = k) (h2 : (i 2 : ℕ) = g) (h3 : (i 3 : ℕ) = d) :
    val_main_v4 (F := Ideal) x1 i = x1 (ix2 (rowK b k) (colK g d)) := by
  rw [val_main_v4_apply, val_main_v3_apply]
  refine congrArg x1 (funext fun a => Fin.ext ?_)
  match a with
  | ⟨0, _⟩ =>
    show ((((i 0).val * 16640 + (i 1).val) * 2 + (i 2).val) * 128 + (i 3).val) / 256 = b * 16640 + k
    omega
  | ⟨1, _⟩ =>
    show ((((i 0).val * 16640 + (i 1).val) * 2 + (i 2).val) * 128 + (i 3).val) % 256 = g * 128 + d
    omega

theorem value (i : S2x128x2x16640.Idx) (g : Fin 2) (d : Fin 144) (b : Fin 2) (k : Fin 16640)
    (h0 : (i 0 : ℕ) = g) (h1 : (i 1 : ℕ) = d) (h2 : (i 2 : ℕ) = b) (h3 : (i 3 : ℕ) = k) :
    val_main_v7 (F := Ideal) x2 i = x2 (ix2 (rowV g d) (rowK b k)) := by
  rw [val_main_v7_apply, val_main_v6_apply, val_main_v5_apply]
  refine congrArg x2 (funext fun a => Fin.ext ?_)
  match a with
  | ⟨0, _⟩ =>
    show ((((i 0).val * 144 + (i 1).val) * 2 + (i 2).val) * 16640 + (i 3).val) / 33280 = g * 144 + d
    omega
  | ⟨1, _⟩ =>
    show ((((i 0).val * 144 + (i 1).val) * 2 + (i 2).val) * 16640 + (i 3).val) % 33280 = b * 16640 + k
    omega

/-- A score. -/
theorem score (b g r : Fin 2) (q : Fin 16384) (k : Fin 16640) (i : S2x2x2x16384x16640.Idx)
    (h0 : (i 0 : ℕ) = b) (h1 : (i 1 : ℕ) = g) (h2 : (i 2 : ℕ) = r) (h3 : (i 3 : ℕ) = q) (h4 : (i 4 : ℕ) = k) :
    val_main_v9 (F := Ideal) x0 x1 i
      = ∑ d : Fin 128, x1 (ix2 (rowK b k) (colK g d)) * x0 (ix2 (rowQ b q) (colQ g r d)) := by
  rw [val_main_v9_apply, val_main_v8_apply]
  refine Finset.sum_congr rfl fun d _ => ?_
  rw [keyAt x1 (lidx_main_v8 (idx_main_v9 i) d) b k g d h0 h4 h1 rfl, query x0 (ridx_main_v8 (idx_main_v9 i) d) b q g r d h0 h3 h1 h2 rfl]

theorem two_real : Ideal.ofBits .f32 0x40000000#32 = ((2 : ℝ) : EReal) := by
  rw [show Ideal.ofBits .f32 0x40000000#32 = Ideal.ieee 8 23 0x40000000#32 from rfl]
  unfold Ideal.ieee
  dsimp only
  rw [if_neg (by decide), if_neg (by decide)]
  refine congrArg _ ?_
  rw [if_neg (by decide)]
  rw [show (BitVec.extractLsb' 0 23 1073741824#32).toNat = 0 by decide, show (BitVec.extractLsb' 23 8 1073741824#32).toNat = 128 by decide]
  norm_num

theorem ninf : Ideal.ofBits .f32 0xFF800000#32 = ⊥ := by
  simp [Ideal.ofBits, Ideal.ieee]

/-- The largest score of a query is a real. -/
theorem largest (b g r : Fin 2) (q : Fin 16384) (f : Fin 16640 → ℝ)
    (hf : ∀ k, ∑ d : Fin 128, x1 (ix2 (rowK b k) (colK g d)) * x0 (ix2 (rowQ b q) (colQ g r d)) = (f k : EReal))  :
    ∃ M : ℝ, ∀ i : S2x2x2x16384.Idx, (i 0 : ℕ) = b → (i 1 : ℕ) = g → (i 2 : ℕ) = r → (i 3 : ℕ) = q → val_main_v11 (F := Ideal) x0 x1 i = (M : EReal) := by
  obtain ⟨M, hM⟩ := fold_real (by decide) f
  refine ⟨M, fun i h0 h1 h2 h3 => ?_⟩
  rw [← hM]
  unfold val_main_v11
  have e : ∀ y : S2x2x2x16384x16640.Idx → EReal, (∀ j : S2x2x2x16384x16640.Idx, ∀ k : Fin 16640, (j 0 : ℕ) = b → (j 1 : ℕ) = g → (j 2 : ℕ) = r → (j 3 : ℕ) = q → (j 4 : ℕ) = k → y j = (f k : EReal)) →
      Host.reduce (max : EReal → EReal → EReal) y (val_main_cst_0 (F := Ideal)) reducesTo_S2x2x2x16384x16640_S2x2x2x16384_d4 h_S_ i
        = (Finset.univ : Finset (Fin 16640)).fold max ⊥ fun k => (f k : EReal) := fun y hy => by
    rw [Host.reduce_eq_fold_single (max : EReal → EReal → EReal) y _ reducesTo_S2x2x2x16384x16640_S2x2x2x16384_d4 (by decide) h_S_ i]
    rw [show val_main_cst_0 (F := Ideal) (Shape.Idx.first h_S_) = (⊥ : EReal) from ninf]
    exact Finset.fold_congr fun k _ => hy _ k h0 h1 h2 h3 rfl
  exact e _ fun j k j0 j1 j2 j3 j4 => by rw [score x0 x1 b g r q k j j0 j1 j2 j3 j4, hf]

/-- A power of two of a score less the largest. -/
theorem powAt (b g r : Fin 2) (q : Fin 16384) (f : Fin 16640 → ℝ) (M : ℝ)
    (hf : ∀ k, ∑ d : Fin 128, x1 (ix2 (rowK b k) (colK g d)) * x0 (ix2 (rowQ b q) (colQ g r d)) = (f k : EReal))
    (hM : ∀ i : S2x2x2x16384.Idx, (i 0 : ℕ) = b → (i 1 : ℕ) = g → (i 2 : ℕ) = r → (i 3 : ℕ) = q → val_main_v11 (F := Ideal) x0 x1 i = (M : EReal))
    (k : Fin 16640) (i : S2x2x2x16384x16640.Idx)
    (h0 : (i 0 : ℕ) = b) (h1 : (i 1 : ℕ) = g) (h2 : (i 2 : ℕ) = r) (h3 : (i 3 : ℕ) = q) (h4 : (i 4 : ℕ) = k) :
    val_main_v15 (F := Ideal) x0 x1 i = P (f k - M) := by
  rw [val_main_v15_apply, val_main_v14_apply, score x0 x1 b g r q k i h0 h1 h2 h3 h4, hf, val_main_v13_apply, val_main_v12_apply,
    hM _ h0 h1 h2 h3, val_main_v10_apply]
  show Ideal.pow (Ideal.ofBits .f32 0x40000000#32) ((f k : EReal) - (M : EReal)) = P (f k - M)
  rw [two_real, coe_sub]
  rfl

/-- The attention of one query head on one channel. -/
theorem attend (b g r : Fin 2) (q : Fin 16384) (d : Fin 128) (f : Fin 16640 → ℝ)
    (hf : ∀ k, ∑ d : Fin 128, x1 (ix2 (rowK b k) (colK g d)) * x0 (ix2 (rowQ b q) (colQ g r d)) = (f k : EReal)) :
    ∃ M : ℝ, ∀ i : S33280x512.Idx, (i 0 : ℕ) = b * 16384 + q → (i 1 : ℕ) = g * 256 + r * 128 + d →
      val_main_v24 (F := Ideal) x0 x1 x2 i
        = ∑ k : Fin 16640, x2 (ix2 (rowV g ⟨d, by omega⟩) (rowK b k)) * Ideal.div (P (f k - M)) (∑ j, P (f j - M)) := by
  obtain ⟨M, hM⟩ := largest x0 x1 b g r q f hf
  refine ⟨M, fun i h0 h1 => ?_⟩
  have hr : (i 0 : ℕ) < 32768 := by omega
  rw [val_main_v24_apply]
  show val_main_v23 (F := Ideal) x0 x1 x2 i = _
  unfold val_main_v23
  rw [pad_apply_of_inside _ _ _ _ _ _ _ i (ix2 (⟨i 0, hr⟩ : Fin 32768) (⟨i 1, by omega⟩ : Fin 512)) (fun a => match a with
    | ⟨0, _⟩ => by show (i 0).val = 0 + (i 0).val * 1; omega
    | ⟨1, _⟩ => by show (i 1).val = 0 + (i 1).val * 1; omega)]
  rw [val_main_v22_apply, val_main_v21_apply, val_main_v20_apply]
  refine Finset.sum_congr rfl fun k _ => ?_
  have e0 : ((i 0).val * 512 + (i 1).val) / 8388608 = b := by omega
  have e1 : ((i 0).val * 512 + (i 1).val) / 512 % 16384 = q := by omega
  have e2 : ((i 0).val * 512 + (i 1).val) / 256 % 2 = g := by omega
  have e3 : ((i 0).val * 512 + (i 1).val) / 128 % 2 = r := by omega
  have e4 : ((i 0).val * 512 + (i 1).val) % 128 = d := by omega
  rw [value x2 (lidx_main_v20 _ k) g ⟨d, by omega⟩ b k e2 e4 e0 rfl, val_main_v19_apply,
    powAt x0 x1 b g r q f M hf hM k (ridx_main_v20 _ k) e0 e2 e3 e1 rfl, val_main_v18_apply, val_main_v17_apply, val_main_v16_apply]
  rw [show val_main_cst_1 (F := Ideal) (Shape.Idx.first h_S_) = 0 from Ideal.ofBits_zero_f32, zero_add]
  show _ * Ideal.div _ _ = _
  refine congrArg (fun z => _ * Ideal.div _ z) (Finset.sum_congr rfl fun j _ => ?_)
  exact powAt x0 x1 b g r q f M hf hM j _ e0 e2 e3 e1 rfl

end Cert.ReferenceIdeal.Att

end
-- ==== Proof.R.Pre.lean ====
module

public import proofs.«01_k».proof.Pre_finite_scores
public import proofs.«01_k».proof.On_latent_rows
public import proofs.«01_k».proof.Proof.R.Ref
public import Idealize.ShloMosaic.Lib.ReduceAll
public import Idealize.ShloMosaic.Lib.Affine

/-! What the precondition and the mask say of an index. -/

@[expose] public section

set_option maxRecDepth 16384

noncomputable section

namespace Cert.ReferenceIdeal.Att

open Idealize.ShloMosaic Idealize.ShloMosaic.TcCoe Idealize.ShloMosaic.Tactic
open Cert.Softmax

theorem preFacts : Cert.Pre_finite_scores.Facts := by constructor <;> decide
theorem onFacts : Cert.On_latent_rows.Facts := by constructor <;> decide

instance : Cert.Pre_finite_scores.Facts := preFacts
instance : Cert.On_latent_rows.Facts := onFacts

theorem inf_top : Ideal.ofBits .f32 0x7F800000#32 = ⊤ := by
  simp [Ideal.ofBits, Ideal.ieee]

/-- Below infinity in size is a real. -/
theorem real_of_lt (x : EReal) (h : Ideal.cmp .olt (max x (-x)) (Ideal.ofBits .f32 0x7F800000#32) = 1#1) : ∃ r : ℝ, x = (r : EReal) := by
  rw [inf_top] at h
  induction x with
  | bot => exact absurd h (by simp [Ideal.cmp])
  | top => exact absurd h (by simp [Ideal.cmp])
  | coe r => exact ⟨r, rfl⟩

theorem one_of_eq (x : EReal) (h : Ideal.cmp .oeq x (Ideal.ofBits .f32 0x3F800000#32) = 1#1) : x = 1 := by
  rw [Ideal.ofBits_one_f32] at h
  by_contra hx
  exact absurd h (by simp [Ideal.cmp, hx])

variable (x0 : FVec Ideal ⟨2, ![33280, 512]⟩ .bf16) (x1 : FVec Ideal ⟨2, ![33280, 256]⟩ .bf16) (x2 : FVec Ideal ⟨2, ![288, 33280]⟩ .bf16)

instance : Subsingleton Cert.Pre_finite_scores.S_.Idx := ⟨fun a b => funext fun x => x.elim0⟩

open Cert.Pre_finite_scores in
/-- The row of ones, read out of the reshaped values. -/
theorem ones_read (g : Fin 2) (k : Fin 33280) :
    (shapeCast S2x33280 (extractStridedSlice S2x1x33280 ![0, 128, 0] (shapeCast S2x144x33280 (extf (F := Ideal) .f32 x2 Facts.bitsLt_bf16_f32) Facts.shapeCasts_S288x33280_S2x144x33280) Facts.slices_S2x144x33280_S2x1x33280_0_128_0) Facts.shapeCasts_S2x1x33280_S2x33280) (ix2 g k)
      = x2 (ix2 (rowV g 128) k) := by
  pointwise
  rfl

open Cert.Pre_finite_scores in
theorem decode (h : Cert.Pre_finite_scores.fn (F := Ideal) x0 x1 x2 = fun _ => 1#1) :
    (∀ i, ∃ r : ℝ, x0 i = (r : EReal)) ∧ (∀ i, ∃ r : ℝ, x1 i = (r : EReal)) ∧ ∀ g k, x2 (ix2 (rowV g 128) k) = 1 := by
  have h0 := congrFun h (fun a => a.elim0)
  unfold Cert.Pre_finite_scores.fn fn_part1 at h0
  dsimp only at h0
  obtain ⟨h1, h2⟩ := IntOp.andi_eq_one.1 h0
  obtain ⟨h3, h4⟩ := IntOp.andi_eq_one.1 h1
  refine ⟨fun i => ?_, fun i => ?_, fun g k => ?_⟩
  · exact real_of_lt _ (Host.reduce_andi_all _ _ _ _ _ h3 i)
  · exact real_of_lt _ (Host.reduce_andi_all _ _ _ _ _ h4 i)
  · rw [← ones_read x2 g k]
    exact one_of_eq _ (Host.reduce_andi_all _ _ _ _ _ h2 (ix2 g k))

theorem masked (i : (⟨2, ![33280, 512]⟩ : Shape).Idx) (h : Cert.On_latent_rows.fn (F := Ideal) x0 x1 x2 i = 1#1) : (i 0 : ℕ) < 32768 := by
  have h' : IntOp.cmpi .slt (BitVec.ofNat 32 (i 0 : ℕ)) 32768#32 = 1#1 := h
  rw [IntOp.cmpi_slt] at h'
  have hi : (i 0 : ℕ) < 33280 := (i 0).isLt
  rw [BitVec.toInt_eq_toNat_of_lt (by rw [BitVec.toNat_ofNat]; omega), BitVec.toNat_ofNat] at h'
  have : (32768#32 : BitVec 32).toInt = 32768 := by decide
  omega

/-- The scores are reals. -/
theorem scores (h0 : ∀ i, ∃ r : ℝ, x0 i = (r : EReal)) (h1 : ∀ i, ∃ r : ℝ, x1 i = (r : EReal)) (b g r : Fin 2) (q : Fin 16384) :
    ∃ f : Fin 16640 → ℝ, ∀ k, ∑ d : Fin 128, x1 (ix2 (rowK b k) (colK g d)) * x0 (ix2 (rowQ b q) (colQ g r d)) = (f k : EReal) := by
  choose r0 e0 using h0
  choose r1 e1 using h1
  refine ⟨fun k => ∑ d : Fin 128, r1 (ix2 (rowK b k) (colK g d)) * r0 (ix2 (rowQ b q) (colQ g r d)), fun k => ?_⟩
  simp only [e0, e1, ← EReal.coe_mul]
  exact sum_real _ _

end Cert.ReferenceIdeal.Att

end
-- ==== Proof.A.Value.lean ====
module

public import proofs.«01_k».proof.Proof.A.Out
public import proofs.«01_k».proof.Proof.R.Pre
public import Idealize.ShloMosaic.Lib.Pipeline.ValueKit.Partial

/-! The attention call's result array, on the rows it writes, is the reference. -/

@[expose] public section

set_option maxRecDepth 16384

noncomputable section

namespace Cert.KernelIdeal.Att

open Idealize.ShloMosaic Idealize.ShloMosaic.TcCoe Idealize.ShloMosaic.Tactic Cert.KernelIdeal Cert.KernelIdeal.Gen
open Cert.Softmax
open Cert.ReferenceIdeal.Att (rowQ colQ rowK colK rowV)
open scoped BigOperators

variable (m : (ℓ : Loc nD τ sig) → Buf (Elt Ideal) ℓ)

theorem idx0 : ∀ t : Fin cfg0.N, win0_0.index t = ![(grid0.coords t 0).val * 32 + (grid0.coords t 2).val, (grid0.coords t 1).val] :=
  (by decide +kernel : ∀ t : Fin grid0.N, _)
theorem idx1 : ∀ t : Fin cfg0.N, win0_1.index t = ![(grid0.coords t 0).val, (grid0.coords t 1).val] :=
  (by decide +kernel : ∀ t : Fin grid0.N, _)
theorem idx2 : ∀ t : Fin cfg0.N, win0_2.index t = ![(grid0.coords t 1).val, (grid0.coords t 0).val] :=
  (by decide +kernel : ∀ t : Fin grid0.N, _)
theorem idx3 : ∀ t : Fin cfg0.N, win0_3.index t = ![(grid0.coords t 0).val * 32 + (grid0.coords t 2).val, (grid0.coords t 1).val] :=
  (by decide +kernel : ∀ t : Fin grid0.N, _)

/-- The batch of a point. -/
def bOf (t : Fin cfg0.N) : Fin 2 := grid0.coords t 0
/-- The key head of a point. -/
def gOf (t : Fin cfg0.N) : Fin 2 := grid0.coords t 1
/-- The block of queries of a point. -/
def nOf (t : Fin cfg0.N) : Fin 32 := grid0.coords t 2
/-- Query `c` of the point's block. -/
def qOf (t : Fin cfg0.N) (c : Fin 512) : Fin 16384 := ⟨nOf t * 512 + c, by omega⟩

theorem blk0 (c : Dev nD) (t : Fin cfg0.N) (a : Fin 512) (r : Fin 2) (e : Fin 128) :
    iblk m c 0 t (ix2 a (⟨r * 128 + e, by omega⟩ : Fin 256)) = m ((c : Thread nD τ).loc main_arg0) (ix2 (rowQ (bOf t) (qOf t a)) (colQ (gOf t) r e)) := by
  have h : ∀ t : Fin cfg0.N, win0_0.index t = ![(bOf t).val * 32 + (nOf t).val, (gOf t).val] := idx0
  unfold rowQ colQ qOf
  blk_ext! [iblk, V, h t]

theorem blk1 (c : Dev nD) (t : Fin cfg0.N) (k : Fin 16640) (e : Fin 128) :
    iblk m c 1 t (ix2 k e) = m ((c : Thread nD τ).loc main_arg1) (ix2 (rowK (bOf t) k) (colK (gOf t) e)) := by
  have h : ∀ t : Fin cfg0.N, win0_1.index t = ![(bOf t).val, (gOf t).val] := idx1
  unfold rowK colK
  blk_ext! [iblk, V, h t]

theorem blk2 (c : Dev nD) (t : Fin cfg0.N) (d : Fin 144) (k : Fin 16640) :
    iblk m c 2 t (ix2 d k) = m ((c : Thread nD τ).loc main_arg2) (ix2 (rowV (gOf t) d) (rowK (bOf t) k)) := by
  have h : ∀ t : Fin cfg0.N, win0_2.index t = ![(gOf t).val, (bOf t).val] := idx2
  unfold rowK rowV
  blk_ext! [iblk, V, h t]

/-- What device `c`'s result is shown to hold. -/
abbrev want (c : Dev nD) : Buf (Elt Ideal) ((c : Thread nD τ).loc main_v0) :=
  Cert.ReferenceIdeal.Read.val_main_v24 (F := Ideal) (m ((c : Thread nD τ).loc main_arg0)) (m ((c : Thread nD τ).loc main_arg1)) (m ((c : Thread nD τ).loc main_arg2))

/-- One element a point writes. -/
theorem point (c : Dev nD) (h0 : ∀ i, ∃ r : ℝ, m ((c : Thread nD τ).loc main_arg0) i = (r : EReal))
    (h1 : ∀ i, ∃ r : ℝ, m ((c : Thread nD τ).loc main_arg1) i = (r : EReal))
    (h2 : ∀ g k, m ((c : Thread nD τ).loc main_arg2) (ix2 (rowV g 128) k) = (1 : EReal))
    (t : Fin cfg0.N) (y : S512x256.Idx) (i : S33280x512.Idx)
    (e0 : (i 0 : ℕ) = ((bOf t).val * 32 + (nOf t).val) * 512 + (y 0 : ℕ)) (e1 : (i 1 : ℕ) = (gOf t).val * 256 + (y 1 : ℕ)) :
    OUT (iblk m c 0 t) (iblk m c 1 t) (iblk m c 2 t) y = want m c i := by
  have hy0 : (y 0 : ℕ) < 512 := (y 0).isLt
  have hy1 : (y 1 : ℕ) < 256 := (y 1).isLt
  obtain ⟨r, hr⟩ : ∃ r : Fin 2, (r : ℕ) = (y 1 : ℕ) / 128 := ⟨⟨(y 1 : ℕ) / 128, by omega⟩, rfl⟩
  obtain ⟨d, hd⟩ : ∃ d : Fin 128, (d : ℕ) = (y 1 : ℕ) % 128 := ⟨⟨(y 1 : ℕ) % 128, by omega⟩, rfl⟩
  obtain ⟨a, ha⟩ : ∃ a : Fin 512, (a : ℕ) = (y 0 : ℕ) := ⟨⟨(y 0 : ℕ), hy0⟩, rfl⟩
  obtain ⟨f, hf⟩ := Cert.ReferenceIdeal.Att.scores _ _ h0 h1 (bOf t) (gOf t) r (qOf t a)
  obtain ⟨M, hM⟩ := Cert.ReferenceIdeal.Att.attend (m ((c : Thread nD τ).loc main_arg0)) (m ((c : Thread nD τ).loc main_arg1)) (m ((c : Thread nD τ).loc main_arg2)) (bOf t) (gOf t) r (qOf t a) d f hf
  refine (out_apply _ _ _ a r d y ha.symm (by omega) f (fun k => ?_) (fun k => ?_) M).trans ?_
  · rw [← hf]
    exact Finset.sum_congr rfl fun e _ => congrArg₂ (· * ·) (blk1 m c t k e) (blk0 m c t a r e)
  · exact (blk2 m c t 128 k).trans (h2 _ _)
  · have ev : ((qOf t a : Fin 16384) : ℕ) = (nOf t).val * 512 + (a : ℕ) := rfl
    refine Eq.trans ?_ (hM i (by omega) (by omega)).symm
    refine Finset.sum_congr rfl fun k _ => ?_
    rw [blk2 m c t ⟨d, by omega⟩ k]

theorem final (c : Dev nD) (h0 : ∀ i, ∃ r : ℝ, m ((c : Thread nD τ).loc main_arg0) i = (r : EReal))
    (h1 : ∀ i, ∃ r : ℝ, m ((c : Thread nD τ).loc main_arg1) i = (r : EReal))
    (h2 : ∀ g k, m ((c : Thread nD τ).loc main_arg2) (ix2 (rowV g 128) k) = (1 : EReal)) (i : S33280x512.Idx) (hi : (i 0 : ℕ) < 32768) :
    (dats m 0 c).arrAt 3 cfg0.N i = want m c i := by
  refine ((dats m 0 c).arrAt_apply_of_coversWhere 3 (want m c) (P := fun i : S33280x512.Idx => (i 0 : ℕ) / 512 < 64) (fun β => β (0 : Fin 2) < 64) (by decide +kernel)
    (fun t hf y => ?_) (fun j => Iff.rfl) i).trans (if_pos (by omega))
  blk_simp
  rw [left_3]
  have h : ∀ t : Fin cfg0.N, win0_3.index t = ![(bOf t).val * 32 + (nOf t).val, (gOf t).val] := idx3
  refine point m c h0 h1 h2 t _ _ ?_ ?_ <;> blk_simp [h t] <;> rfl

end Cert.KernelIdeal.Att

end
-- ==== Proof.F.Math.lean ====
module

public import Idealize.ShloMosaic.Lib.Pipeline.ValueKit

/-! The half feed-forward step in plain words: normalise a token, scale and shift it, gate one product by another, multiply
    out, and add half of that, gated, to the token. -/

@[expose] public section

noncomputable section

namespace Cert.Ffn

open Idealize.ShloMosaic
open scoped BigOperators

/-- The number one, as both programs write it. -/
abbrev one : EReal := Ideal.ofBits .f32 0x3F800000#32

/-- A normalised, scaled and shifted token. -/
def normed (x w sh sc : Fin 2048 → EReal) (k : Fin 2048) : EReal :=
  x k * FloatOps.rsqrt (F := Ideal) (φ := .f32)
      (Ideal.div (∑ j, x j * x j) (Ideal.ofBits .f32 0x45000000#32) + Ideal.ofBits .f32 0x358637BD#32)
    * w k * (one + sc k) + sh k

/-- `a` through the gate `1 / (1 + exp (-a))`, times `b`. -/
def gated (a b : EReal) : EReal := a * Ideal.div one (one + FloatOps.exp (F := Ideal) (φ := .f32) (-a)) * b

/-- What 512 of the hidden columns add to a result. -/
def chunk (h : Fin 2048 → EReal) (a b : Fin 2048 → Fin 512 → EReal) (c : Fin 512 → Fin 2048 → EReal) (q : Fin 2048) : EReal :=
  ∑ l, gated (∑ k, h k * a k l) (∑ k, h k * b k l) * c l q

/-- Which of the modulation's rows a token takes: one per batch of latents, one for the context. -/
def seg (n : ℕ) : Fin 8 := if n < 16384 then 0 else if n < 32768 then 1 else 2

variable (X : Fin 33280 → Fin 2048 → EReal) (w : Fin 2048 → EReal) (M : Fin 8 → Fin 9 → Fin 2048 → EReal)
  (W1 W3 : Fin 2048 → Fin 5632 → EReal) (W2 : Fin 5632 → Fin 2048 → EReal)

/-- The token the products take. -/
def hid (n : Fin 33280) (k : Fin 2048) : EReal := normed (X n) w (M (seg n) 0) (M (seg n) 1) k

/-- A gated product. -/
def act (n : Fin 33280) (l : Fin 5632) : EReal :=
  gated (∑ k, hid X w M n k * W1 k l) (∑ k, hid X w M n k * W3 k l)

/-- The result. -/
def out (n : Fin 33280) (o : Fin 2048) : EReal :=
  X n o + Ideal.ofBits .f32 0x3F000000#32 * M (seg n) 2 o * ∑ l, act X w M W1 W3 n l * W2 l o

end Cert.Ffn

end
-- ==== Proof.F.Pay.lean ====
module

public import proofs.«01_k».proof.Proof.Gen.Kernel2Ideal.Frame
public import proofs.«01_k».proof.Proof.F.Math
public import Idealize.ShloMosaic.Lib.Pipeline.ValueKit

/-! The feed-forward body's values over the extended reals, one element at a time. -/

@[expose] public section

set_option maxRecDepth 16384

noncomputable section

namespace Cert.Kernel2Ideal.Half

open Idealize.ShloMosaic Idealize.ShloMosaic.TcCoe Idealize.ShloMosaic.Tactic Cert.Kernel2Ideal Cert.Kernel2Ideal.Gen
open Cert.Ffn
open scoped BigOperators

theorem rate (v : FVec Ideal S256x2048 .f32) (r : Fin 256) :
    rsqrt (addf (divf (shapeCast S256x1 (multiReduction .add [1] S256 (mulf v v) 0x00000000#32 reduces_S256x2048_S256 (.inl rfl) rfl) shapeCasts_S256_S256x1)
      (broadcast S256x1 (Scalar.ofBits (F := Ideal) .f32 0x45000000#32))) (broadcast S256x1 (Scalar.ofBits (F := Ideal) .f32 0x358637BD#32))) (ix2 r 0)
      = FloatOps.rsqrt (F := Ideal) (φ := .f32)
      (Ideal.div (∑ j : Fin 2048, v (ix2 r j) * v (ix2 r j)) (Ideal.ofBits .f32 0x45000000#32) + Ideal.ofBits .f32 0x358637BD#32) := by
  pointwise

theorem scaled (v : FVec Ideal S256x2048 .f32) (w : FVec Ideal S1x2048 .f32) (R : FVec Ideal S256x1 .f32) (r : Fin 256) (k : Fin 2048) :
    mulf (mulf v (broadcastTo S256x2048 R broadcasts_S256x1_S256x2048)) (broadcastTo S256x2048 (shapeCast S1x2048 w shapeCasts_S1x2048_S1x2048) broadcasts_S1x2048_S256x2048) (ix2 r k)
      = v (ix2 r k) * R (ix2 r 0) * w (ix2 0 k) := by
  pointwise

theorem modulated (u : FVec Ideal S256x2048 .f32) (s : FVec Ideal S1x2048 .f32) (b : Vec Ideal S1x1x1x2048 .f32) (r : Fin 256) (k : Fin 2048) :
    k0_pay9 u s b (ix2 r k) = u (ix2 r k) * s (ix2 0 k) + b (ix4 0 0 0 k) := by
  unfold k0_pay9
  pointwise

theorem oneMore (s : Vec Ideal S1x1x1x2048 .f32) (k : Fin 2048) : k0_pay8 s (ix2 0 k) = one + s (ix4 0 0 0 k) := by
  unfold k0_pay8
  pointwise

theorem rms (v : Vec Ideal S256x2048 .f32) (w : Vec Ideal S1x2048 .f32) (r : Fin 256) (k : Fin 2048) :
    k0_pay7 v w (ix2 r k) = v (ix2 r k) * FloatOps.rsqrt (F := Ideal) (φ := .f32)
      (Ideal.div (∑ j : Fin 2048, v (ix2 r j) * v (ix2 r j)) (Ideal.ofBits .f32 0x45000000#32) + Ideal.ofBits .f32 0x358637BD#32) * w (ix2 0 k) := by
  unfold k0_pay7
  dsimp only
  rw [scaled, rate]

/-- The second half's tokens. -/
theorem pay9_apply (v : Vec Ideal S256x2048 .f32) (w : Vec Ideal S1x2048 .f32) (s b : Vec Ideal S1x1x1x2048 .f32) (r : Fin 256) (k : Fin 2048) :
    k0_pay9 (k0_pay7 v w) (k0_pay8 s) b (ix2 r k)
      = normed (fun j => v (ix2 r j)) (fun j => w (ix2 0 j)) (fun j => b (ix4 0 0 0 j)) (fun j => s (ix4 0 0 0 j)) k := by
  rw [modulated, rms, oneMore]
  rfl

theorem pay3_eq (v : Vec Ideal S256x2048 .f32) (w : Vec Ideal S1x2048 .f32) (s b : Vec Ideal S1x1x1x2048 .f32) :
    k0_pay3 v w s b = k0_pay9 (k0_pay7 v w) (k0_pay8 s) b := rfl

theorem same_apply (y : FVec Ideal S256x2048 .bf16) (r : Fin 256) (k : Fin 2048) :
    shapeCast S256x2048 y shapeCasts_S256x2048_S256x2048 (ix2 r k) = y (ix2 r k) := by
  pointwise

/-- A product of a half's tokens. -/
theorem prod_half (h : FVec Ideal S256x2048 .bf16) (a : Vec Ideal S1x1x2048x512 .bf16) (r : Fin 256) (l : Fin 512) :
    matmul dot_S256x2048_S2048x512_S256x512_1_0_0_1_n_n none h (shapeCast S2048x512 a shapeCasts_S1x1x2048x512_S2048x512 : FVec Ideal S2048x512 .bf16)
      (constant S256x512 .f32 0x00000000#32) (ix2 r l) = ∑ k : Fin 2048, h (ix2 r k) * a (ix4 0 0 k l) := by
  pointwise

theorem prod_whole (h : FVec Ideal S512x2048 .bf16) (a : Vec Ideal S1x1x2048x512 .bf16) (r : Fin 512) (l : Fin 512) :
    matmul dot_S512x2048_S2048x512_S512x512_1_0_0_1_n_n none h (shapeCast S2048x512 a shapeCasts_S1x1x2048x512_S2048x512 : FVec Ideal S2048x512 .bf16)
      (constant S512x512 .f32 0x00000000#32) (ix2 r l) = ∑ k : Fin 2048, h (ix2 r k) * a (ix4 0 0 k l) := by
  pointwise

theorem back_half (g : FVec Ideal S256x512 .bf16) (c : Vec Ideal S1x1x512x2048 .bf16) (r : Fin 256) (q : Fin 2048) :
    matmul dot_S256x512_S512x2048_S256x2048_1_0_0_1_n_n none g (shapeCast S512x2048 c shapeCasts_S1x1x512x2048_S512x2048 : FVec Ideal S512x2048 .bf16)
      (constant S256x2048 .f32 0x00000000#32) (ix2 r q) = ∑ l : Fin 512, g (ix2 r l) * c (ix4 0 0 l q) := by
  pointwise

theorem back_whole (g : FVec Ideal S512x512 .bf16) (c : Vec Ideal S1x1x512x2048 .bf16) (r : Fin 512) (q : Fin 2048) :
    matmul dot_S512x512_S512x2048_S512x2048_1_0_0_1_n_n none g (shapeCast S512x2048 c shapeCasts_S1x1x512x2048_S512x2048 : FVec Ideal S512x2048 .bf16)
      (constant S512x2048 .f32 0x00000000#32) (ix2 r q) = ∑ l : Fin 512, g (ix2 r l) * c (ix4 0 0 l q) := by
  pointwise

theorem gate_eq (a b : EReal) :
    a * Ideal.div one (one + FloatOps.exp (F := Ideal) (φ := .f32) (Ideal.ofBits .f32 0x00000000#32 - a)) * b = gated a b := by
  rw [Ideal.ofBits_zero_f32, zero_sub]
  rfl

theorem gate_half (a b : FVec Ideal S256x512 .f32) (r : Fin 256) (l : Fin 512) :
    truncf .bf16 (mulf (mulf a (divf (broadcast S256x512 (Scalar.ofBits (F := Ideal) .f32 0x3F800000#32))
      (addf (broadcast S256x512 (Scalar.ofBits (F := Ideal) .f32 0x3F800000#32)) (exp (subf (broadcast S256x512 (Scalar.ofBits (F := Ideal) .f32 0x00000000#32)) a))))) b)
      bitsLt_bf16_f32 (ix2 r l) = gated (a (ix2 r l)) (b (ix2 r l)) := by
  rw [← gate_eq]
  rfl

theorem gate_whole (a b : FVec Ideal S512x512 .f32) (r : Fin 512) (l : Fin 512) :
    truncf .bf16 (mulf (mulf a (divf (broadcast S512x512 (Scalar.ofBits (F := Ideal) .f32 0x3F800000#32))
      (addf (broadcast S512x512 (Scalar.ofBits (F := Ideal) .f32 0x3F800000#32)) (exp (subf (broadcast S512x512 (Scalar.ofBits (F := Ideal) .f32 0x00000000#32)) a))))) b)
      bitsLt_bf16_f32 (ix2 r l) = gated (a (ix2 r l)) (b (ix2 r l)) := by
  rw [← gate_eq]
  rfl

/-- What the first point of a run adds for its second half. -/
theorem pay11_apply (u : FVec Ideal S256x2048 .f32) (s : FVec Ideal S1x2048 .f32) (d : Vec Ideal S1x1x1x2048 .f32)
    (a b : Vec Ideal S1x1x2048x512 .bf16) (c : Vec Ideal S1x1x512x2048 .bf16) (r : Fin 256) (q : Fin 2048) :
    k0_pay11 u s d a b c (ix2 r q)
      = chunk (fun k => k0_pay9 u s d (ix2 r k)) (fun k l => a (ix4 0 0 k l)) (fun k l => b (ix4 0 0 k l)) (fun l q => c (ix4 0 0 l q)) q := by
  unfold k0_pay11 chunk
  generalize k0_pay9 u s d = h
  dsimp only
  rw [back_half]
  refine Finset.sum_congr rfl fun l _ => ?_
  rw [gate_half, prod_half, prod_half]

/-- What it adds for its first half. -/
theorem pay6_apply (v : Vec Ideal S256x2048 .f32) (w : Vec Ideal S1x2048 .f32) (s d : Vec Ideal S1x1x1x2048 .f32)
    (a b : Vec Ideal S1x1x2048x512 .bf16) (c : Vec Ideal S1x1x512x2048 .bf16) (r : Fin 256) (q : Fin 2048) :
    k0_pay6 (k0_pay3 v w s d) (k0_pay5 v w s d a) b c (ix2 r q)
      = chunk (fun k => k0_pay3 v w s d (ix2 r k)) (fun k l => a (ix4 0 0 k l)) (fun k l => b (ix4 0 0 k l)) (fun l q => c (ix4 0 0 l q)) q := by
  unfold k0_pay5 k0_pay6 chunk
  generalize k0_pay3 v w s d = h
  dsimp only
  rw [back_half]
  refine Finset.sum_congr rfl fun l _ => ?_
  rw [gate_half, prod_half, prod_half]

theorem add_same (o : Vec Ideal S512x2048 .f32) (y : FVec Ideal S512x2048 .f32) (r : Fin 512) (q : Fin 2048) :
    addf (shapeCast S512x2048 o shapeCasts_S512x2048_S512x2048) y (ix2 r q) = o (ix2 r q) + y (ix2 r q) := by
  pointwise

/-- What a later point adds. -/
theorem pay1_apply (o : Vec Ideal S512x2048 .f32) (h : Vec Ideal S512x2048 .bf16)
    (a b : Vec Ideal S1x1x2048x512 .bf16) (c : Vec Ideal S1x1x512x2048 .bf16) (r : Fin 512) (q : Fin 2048) :
    k0_pay1 o h a b c (ix2 r q)
      = o (ix2 r q) + chunk (fun k => h (ix2 r k)) (fun k l => a (ix4 0 0 k l)) (fun k l => b (ix4 0 0 k l)) (fun l q => c (ix4 0 0 l q)) q := by
  unfold k0_pay1 chunk
  dsimp only
  rw [add_same, back_whole]
  refine congrArg (_ + ·) (Finset.sum_congr rfl fun l _ => ?_)
  rw [gate_whole, prod_whole, prod_whole]

/-- What the last point makes of the sum. -/
theorem pay2_apply (x : Vec Ideal S512x2048 .f32) (g : Vec Ideal S1x1x1x2048 .f32) (o : Vec Ideal S512x2048 .f32) (r : Fin 512) (q : Fin 2048) :
    k0_pay2 x g o (ix2 r q) = x (ix2 r q) + Ideal.ofBits .f32 0x3F000000#32 * g (ix4 0 0 0 q) * o (ix2 r q) := by
  unfold k0_pay2
  pointwise

end Cert.Kernel2Ideal.Half

end
-- ==== Proof.F.Blocks.lean ====
module

public import proofs.«01_k».proof.Proof.F.Pay
public import Idealize.ShloMosaic.Lib.Pipeline.ValueKit.Partial

/-! Which elements of the arguments a point of the feed-forward's grid sees: point `t` is chunk `t % 11` of the hidden columns
    for block `t / 11` of the tokens. -/

@[expose] public section

set_option maxRecDepth 16384

noncomputable section

namespace Cert.Kernel2Ideal.Half

open Idealize.ShloMosaic Idealize.ShloMosaic.TcCoe Idealize.ShloMosaic.Tactic Cert.Kernel2Ideal Cert.Kernel2Ideal.Gen
open Cert.Ffn
open scoped BigOperators

variable (m : (ℓ : Loc nD τ sig) → Buf (Elt Ideal) ℓ)

/-- The modulation's row for a block of tokens. -/
def segB (b : ℕ) : ℕ := if b < 32 then 0 else if b < 64 then 1 else 2

theorem idx0 : ∀ t : Fin cfg0.N, win0_0.index t = ![t.val / 11, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![segB (t.val / 11), 0, 0, 0] := (by decide +kernel : ∀ t : Fin grid0.N, _)
theorem idx3 : ∀ t : Fin cfg0.N, win0_3.index t = ![segB (t.val / 11), 1, 0, 0] := (by decide +kernel : ∀ t : Fin grid0.N, _)
theorem idx4 : ∀ t : Fin cfg0.N, win0_4.index t = ![segB (t.val / 11), 2, 0, 0] := (by decide +kernel : ∀ t : Fin grid0.N, _)
theorem idx5 : ∀ t : Fin cfg0.N, win0_5.index t = ![0, 0, 0, t.val % 11] := (by decide +kernel : ∀ t : Fin grid0.N, _)
theorem idx6 : ∀ t : Fin cfg0.N, win0_6.index t = ![0, 0, 0, t.val % 11] := (by decide +kernel : ∀ t : Fin grid0.N, _)
theorem idx7 : ∀ t : Fin cfg0.N, win0_7.index t = ![0, 0, t.val % 11, 0] := (by decide +kernel : ∀ t : Fin grid0.N, _)
theorem idx8 : ∀ t : Fin cfg0.N, win0_8.index t = ![t.val / 11, 0] := (by decide +kernel : ∀ t : Fin grid0.N, _)

theorem N_eq : cfg0.N = 715 := N_0

/-- Token `r` of the point's block. -/
def row (t : Fin cfg0.N) (r : Fin 512) : Fin 33280 := ⟨t.val / 11 * 512 + r, by have := t.isLt; have := N_eq; omega⟩
/-- Column `l` of the point's chunk. -/
def col (t : Fin cfg0.N) (l : Fin 512) : Fin 5632 := ⟨t.val % 11 * 512 + l, by omega⟩

theorem seg_row (t : Fin cfg0.N) (r : Fin 512) : ((seg (row t r)) : ℕ) = segB (t.val / 11) := by
  unfold seg segB row
  dsimp only
  by_cases h : t.val / 11 < 32
  · rw [if_pos (by omega), if_pos h]; rfl
  · rw [if_neg (by omega), if_neg h]
    by_cases h' : t.val / 11 < 64
    · rw [if_pos (by omega), if_pos h']; rfl
    · rw [if_neg (by omega), if_neg h']; rfl

theorem blk0 (c : Dev nD) (t : Fin cfg0.N) (r : Fin 512) (k : Fin 2048) :
    iblk m c 0 t (ix2 r k) = m ((c : Thread nD τ).loc main_arg0) (ix2 (row t r) k) := by
  unfold row
  blk_ext! [iblk, V, idx0 t]

/-- The norm's weights as the region finds them: one row of them. -/
theorem V_main_v0 (c : Dev nD) : V m c main_v0 = shapeCast S1x2048 (m ((c : Thread nD τ).loc main_arg1)) shapeCasts_S2048_S1x2048 := by
  show StableHlo.after hostOps0 _ (Proc.devRef .tc main_v0) = _
  after_results
  rfl

theorem blk1 (c : Dev nD) (t : Fin cfg0.N) (k : Fin 2048) :
    iblk m c 1 t (ix2 0 k) = m ((c : Thread nD τ).loc main_arg1) (ix1 k) := by
  have h : iblk m c 1 t (ix2 0 k) = V m c main_v0 (ix2 0 k) := by
    blk_ext! [iblk, idx1 t]
  rw [h, V_main_v0]
  exact shapeCast_apply _ shapeCasts_S2048_S1x2048 (ix2 0 k) (ix1 k)
    (by rw [Shape.rowMajor_val_two, Shape.rowMajor_val_one]; show k.val = 0 * 2048 + k.val; omega)

theorem blk2 (c : Dev nD) (t : Fin cfg0.N) (r : Fin 512) (k : Fin 2048) :
    iblk m c 2 t (ix4 0 0 0 k) = m ((c : Thread nD τ).loc main_arg2) (ix4 (seg (row t r)) 0 0 k) := by
  have h := seg_row t r
  blk_ext! [iblk, V, idx2 t, h]

theorem blk3 (c : Dev nD) (t : Fin cfg0.N) (r : Fin 512) (k : Fin 2048) :
    iblk m c 3 t (ix4 0 0 0 k) = m ((c : Thread nD τ).loc main_arg2) (ix4 (seg (row t r)) 1 0 k) := by
  have h := seg_row t r
  blk_ext! [iblk, V, idx3 t, h]

theorem blk4 (c : Dev nD) (t : Fin cfg0.N) (r : Fin 512) (k : Fin 2048) :
    iblk m c 4 t (ix4 0 0 0 k) = m ((c : Thread nD τ).loc main_arg2) (ix4 (seg (row t r)) 2 0 k) := by
  have h := seg_row t r
  blk_ext! [iblk, V, idx4 t, h]

theorem blk5 (c : Dev nD) (t : Fin cfg0.N) (k : Fin 2048) (l : Fin 512) :
    iblk m c 5 t (ix4 0 0 k l) = m ((c : Thread nD τ).loc main_arg3) (ix4 0 0 k (col t l)) := by
  unfold col
  blk_ext! [iblk, V, idx5 t]

theorem blk6 (c : Dev nD) (t : Fin cfg0.N) (k : Fin 2048) (l : Fin 512) :
    iblk m c 6 t (ix4 0 0 k l) = m ((c : Thread nD τ).loc main_arg4) (ix4 0 0 k (col t l)) := by
  unfold col
  blk_ext! [iblk, V, idx6 t]

theorem blk7 (c : Dev nD) (t : Fin cfg0.N) (l : Fin 512) (o : Fin 2048) :
    iblk m c 7 t (ix4 0 0 l o) = m ((c : Thread nD τ).loc main_arg5) (ix4 0 0 (col t l) o) := by
  unfold col
  blk_ext! [iblk, V, idx7 t]

end Cert.Kernel2Ideal.Half

end
-- ==== Proof.F.First.lean ====
module

public import proofs.«01_k».proof.Proof.F.Pay
public import Idealize.ShloMosaic.Lib.Pipeline.ValueKit

/-! What each kind of point leaves: the first of a run computes the tokens and stores two halves, the later ones add, and the
    last adds and finishes. -/

@[expose] public section

set_option maxRecDepth 16384

noncomputable section

namespace Cert.Kernel2Ideal.Half

open Idealize.ShloMosaic Idealize.ShloMosaic.TcCoe Idealize.ShloMosaic.Tactic Cert.Kernel2Ideal Cert.Kernel2Ideal.Gen
open Cert.Ffn
open scoped BigOperators

/-- Two halves of a block, read at a row of the second. -/
theorem hi_half {e : EltTy} (a b : Vec Ideal S256x2048 e) (r : Fin 256) (i : S512x2048.Idx) (k : Fin 2048) (h0 : (i 0 : ℕ) = 256 + r) (h1 : (i 1 : ℕ) = k) :
    View.canon (Val := Elt Ideal) [⟨Rect.unit ![256, 0] ![256, 2048] inb_S512x2048_S256x2048_256_0, b⟩,
      ⟨Rect.unit ![0, 0] ![256, 2048] inb_S512x2048_S256x2048_0_0, a⟩] i = b (ix2 r k) := by
  have e : i = (Rect.unit (s := S512x2048) ![256, 0] ![256, 2048] inb_S512x2048_S256x2048_256_0).emb (ix2 r k) :=
    funext fun a => Fin.ext (by
      rw [ValueKit.rect_emb_unit_val]
      match a with
      | ⟨0, _⟩ => show (i 0 : ℕ) = 256 + r; omega
      | ⟨1, _⟩ => show (i 1 : ℕ) = 0 + k; omega)
  rw [e]
  exact View.canon_cons_emb _ _ _ _

/-- Read at a row of the first. -/
theorem lo_half {e : EltTy} (a b : Vec Ideal S256x2048 e) (r : Fin 256) (i : S512x2048.Idx) (k : Fin 2048) (h0 : (i 0 : ℕ) = r) (h1 : (i 1 : ℕ) = k) :
    View.canon (Val := Elt Ideal) [⟨Rect.unit ![256, 0] ![256, 2048] inb_S512x2048_S256x2048_256_0, b⟩,
      ⟨Rect.unit ![0, 0] ![256, 2048] inb_S512x2048_S256x2048_0_0, a⟩] i = a (ix2 r k) := by
  rw [View.canon_cons_of_not_mem _ _ (by
    rw [Rect.mem_set_unit]
    intro h
    have := (h 0).1
    change 256 ≤ (i 0 : ℕ) at this
    omega)]
  have e : i = (Rect.unit (s := S512x2048) ![0, 0] ![256, 2048] inb_S512x2048_S256x2048_0_0).emb (ix2 r k) :=
    funext fun a => Fin.ext (by
      rw [ValueKit.rect_emb_unit_val]
      match a with
      | ⟨0, _⟩ => show (i 0 : ℕ) = 0 + r; omega
      | ⟨1, _⟩ => show (i 1 : ℕ) = 0 + k; omega)
  rw [e]
  exact View.canon_cons_emb _ _ _ _

theorem ld_hi (x : Vec Ideal S512x2048 .f32) (r : Fin 256) (k : Fin 2048) (s : Fin 512) (hs : (s : ℕ) = 256 + r) :
    View.ld x (Rect.unit ![256, 0] ![256, 2048] inb_S512x2048_S256x2048_256_0) (ix2 r k) = x (ix2 s k) := by
  refine congrArg x (funext fun b => Fin.ext ?_)
  rw [Rect.idx_unit_val]
  match b with
  | ⟨0, _⟩ => exact hs.symm
  | ⟨1, _⟩ => exact Nat.zero_add _

theorem ld_lo (x : Vec Ideal S512x2048 .f32) (r : Fin 256) (k : Fin 2048) (s : Fin 512) (hs : (s : ℕ) = r) :
    View.ld x (Rect.unit ![0, 0] ![256, 2048] inb_S512x2048_S256x2048_0_0) (ix2 r k) = x (ix2 s k) := by
  refine congrArg x (funext fun b => Fin.ext ?_)
  rw [Rect.idx_unit_val]
  match b with
  | ⟨0, _⟩ => exact (Nat.zero_add _).trans hs.symm
  | ⟨1, _⟩ => exact Nat.zero_add _

variable (m : (ℓ : Loc nD τ sig) → Buf (Elt Ideal) ℓ)

/-- Token `r` of a point's block, from its input blocks. -/
def tok (c : Dev nD) (t : Fin cfg0.N) (r : Fin 512) : Fin 2048 → EReal :=
  normed (fun j => iblk m c 0 t (ix2 r j)) (fun j => iblk m c 1 t (ix2 0 j)) (fun j => iblk m c 2 t (ix4 0 0 0 j)) (fun j => iblk m c 3 t (ix4 0 0 0 j))

theorem tok_hi (c : Dev nD) (t : Fin cfg0.N) (r : Fin 256) (s : Fin 512) (hs : (s : ℕ) = 256 + r) (k : Fin 2048) :
    k0_pay9 (k0_pay7 (View.ld (iblk m c 0 t : Vec Ideal S512x2048 .f32) (Rect.unit ![256, 0] ![256, 2048] inb_S512x2048_S256x2048_256_0)) (iblk m c 1 t)) (k0_pay8 (iblk m c 3 t)) (iblk m c 2 t) (ix2 r k)
      = tok m c t s k := by
  rw [pay9_apply]
  unfold tok
  exact congrArg (fun f => normed f _ _ _ k) (funext fun j => ld_hi _ r j s hs)

theorem tok_lo (c : Dev nD) (t : Fin cfg0.N) (r : Fin 256) (s : Fin 512) (hs : (s : ℕ) = r) (k : Fin 2048) :
    k0_pay3 (View.ld (iblk m c 0 t : Vec Ideal S512x2048 .f32) (Rect.unit ![0, 0] ![256, 2048] inb_S512x2048_S256x2048_0_0)) (iblk m c 1 t) (iblk m c 3 t) (iblk m c 2 t) (ix2 r k)
      = tok m c t s k := by
  rw [pay3_eq, pay9_apply]
  unfold tok
  exact congrArg (fun f => normed f _ _ _ k) (funext fun j => ld_lo _ r j s hs)

/-- What a point's chunk of the hidden columns gives for a token. -/
def give (c : Dev nD) (t : Fin cfg0.N) (h : Fin 2048 → EReal) (q : Fin 2048) : EReal :=
  chunk h (fun k l => iblk m c 5 t (ix4 0 0 k l)) (fun k l => iblk m c 6 t (ix4 0 0 k l)) (fun l q => iblk m c 7 t (ix4 0 0 l q)) q

theorem first_out (c : Dev nD) (t : Fin cfg0.N) (h0 : t.val % 11 = 0) (r : Fin 512) (q : Fin 2048) :
    (outsAt0 m c t.val t.isLt).1 (ix2 r q) = give m c t (tok m c t r) q := by
  rw [outsAt0_A m c t h0 (by omega) (by omega)]
  frame_out
  by_cases hr : (r : ℕ) < 256
  · rw [lo_half _ _ ⟨r, hr⟩ (ix2 r q) q rfl rfl, pay6_apply]
    unfold give
    exact congrArg (fun f => chunk f _ _ _ q) (funext fun k => tok_lo m c t ⟨r, hr⟩ r rfl k)
  · rw [hi_half _ _ ⟨r - 256, by omega⟩ (ix2 r q) q (by show (r : ℕ) = 256 + (r - 256); omega) rfl, pay11_apply]
    unfold give
    exact congrArg (fun f => chunk f _ _ _ q) (funext fun k => tok_hi m c t ⟨r - 256, by omega⟩ r (by show (r : ℕ) = 256 + (r - 256); omega) k)

theorem first_tok (c : Dev nD) (t : Fin cfg0.N) (h0 : t.val % 11 = 0) (r : Fin 512) (k : Fin 2048) :
    (outsAt0 m c t.val t.isLt).2 (ix2 r k) = tok m c t r k := by
  rw [outsAt0_A m c t h0 (by omega) (by omega)]
  frame_out
  by_cases hr : (r : ℕ) < 256
  · rw [lo_half _ _ ⟨r, hr⟩ (ix2 r k) k rfl rfl]
    unfold k0_pay4
    rw [same_apply]
    exact tok_lo m c t ⟨r, hr⟩ r rfl k
  · rw [hi_half _ _ ⟨r - 256, by omega⟩ (ix2 r k) k (by show (r : ℕ) = 256 + (r - 256); omega) rfl]
    unfold k0_pay10
    rw [same_apply]
    exact tok_hi m c t ⟨r - 256, by omega⟩ r (by show (r : ℕ) = 256 + (r - 256); omega) k

theorem later_tok (c : Dev nD) (t : Fin cfg0.N) (h0 : ¬t.val % 11 = 0) (h2 : ¬t.val % 11 = 10) :
    (outsAt0 m c t.val t.isLt).2 = (outsAt0 m c (t.val - 1) (Nat.lt_of_le_of_lt (Nat.sub_le _ _) t.isLt)).2 := by
  rw [outsAt0_B m c t h0 (by omega) h2]
  unfold sout0_B_0
  rfl

theorem later_out (c : Dev nD) (t : Fin cfg0.N) (h0 : ¬t.val % 11 = 0) (h2 : ¬t.val % 11 = 10) (r : Fin 512) (q : Fin 2048) :
    (outsAt0 m c t.val t.isLt).1 (ix2 r q) = (outsAt0 m c (t.val - 1) (Nat.lt_of_le_of_lt (Nat.sub_le _ _) t.isLt)).1 (ix2 r q)
      + give m c t (fun k => (outsAt0 m c (t.val - 1) (Nat.lt_of_le_of_lt (Nat.sub_le _ _) t.isLt)).2 (ix2 r k)) q := by
  rw [outsAt0_B m c t h0 (by omega) h2]
  frame_out
  refine (congrArg (fun h => k0_pay1 _ h _ _ _ (ix2 r q)) (Memref.IsWhole.read_unread (Memref.isWhole_whole _) _)).trans ?_
  rw [pay1_apply]
  rfl

theorem last_out (c : Dev nD) (t : Fin cfg0.N) (h2 : t.val % 11 = 10) (r : Fin 512) (q : Fin 2048)
    (x g : EReal) (hx : iblk m c 0 t (ix2 r q) = x) (hg : iblk m c 4 t (ix4 0 0 0 q) = g) :
    (outsAt0 m c t.val t.isLt).1 (ix2 r q) = x + Ideal.ofBits .f32 0x3F000000#32 * g *
      ((outsAt0 m c (t.val - 1) (Nat.lt_of_le_of_lt (Nat.sub_le _ _) t.isLt)).1 (ix2 r q)
      + give m c t (fun k => (outsAt0 m c (t.val - 1) (Nat.lt_of_le_of_lt (Nat.sub_le _ _) t.isLt)).2 (ix2 r k)) q) := by
  rw [outsAt0_C m c t (by omega) (by omega) h2]
  frame_out
  refine (congrArg (fun h => k0_pay2 _ _ (k0_pay1 _ h _ _ _) (ix2 r q)) (Memref.IsWhole.read_unread (Memref.isWhole_whole _) _)).trans ?_
  rw [pay2_apply, pay1_apply, hx, hg]
  rfl

end Cert.Kernel2Ideal.Half

end
-- ==== Proof.F.Acc.lean ====
module

public import proofs.«01_k».proof.Proof.F.Blocks
public import proofs.«01_k».proof.Proof.F.First
public import Idealize.ShloMosaic.Lib.Pipeline.ValueKit.Acc

/-! The points of one block of tokens, in order: the tokens stay as the first point left them, and the output gathers one chunk
    of the hidden columns after the other. -/

@[expose] public section

set_option maxRecDepth 16384

noncomputable section

namespace Cert.Kernel2Ideal.Half

open Idealize.ShloMosaic Idealize.ShloMosaic.TcCoe Idealize.ShloMosaic.Tactic Cert.Kernel2Ideal Cert.Kernel2Ideal.Gen
open Cert.Ffn
open scoped BigOperators

variable (m : (ℓ : Loc nD τ sig) → Buf (Elt Ideal) ℓ)

/-! The six arguments by their own coordinates. -/

def aX (c : Dev nD) : Fin 33280 → Fin 2048 → EReal := fun n k => m ((c : Thread nD τ).loc main_arg0) (ix2 n k)
def aw (c : Dev nD) : Fin 2048 → EReal := fun k => m ((c : Thread nD τ).loc main_arg1) (ix1 k)
def aM (c : Dev nD) : Fin 8 → Fin 9 → Fin 2048 → EReal := fun b p k => m ((c : Thread nD τ).loc main_arg2) (ix4 b p 0 k)
def aW1 (c : Dev nD) : Fin 2048 → Fin 5632 → EReal := fun k l => m ((c : Thread nD τ).loc main_arg3) (ix4 0 0 k l)
def aW3 (c : Dev nD) : Fin 2048 → Fin 5632 → EReal := fun k l => m ((c : Thread nD τ).loc main_arg4) (ix4 0 0 k l)
def aW2 (c : Dev nD) : Fin 5632 → Fin 2048 → EReal := fun l o => m ((c : Thread nD τ).loc main_arg5) (ix4 0 0 l o)

theorem tok_eq (c : Dev nD) (t : Fin cfg0.N) (r : Fin 512) (k : Fin 2048) : tok m c t r k = hid (aX m c) (aw m c) (aM m c) (row t r) k := by
  unfold tok hid
  have e0 : (fun j => iblk m c 0 t (ix2 r j)) = aX m c (row t r) := funext fun j => blk0 m c t r j
  have e1 : (fun j => iblk m c 1 t (ix2 0 j)) = aw m c := funext fun j => blk1 m c t j
  have e2 : (fun j => iblk m c 2 t (ix4 0 0 0 j)) = aM m c (seg (row t r)) 0 := funext fun j => blk2 m c t r j
  have e3 : (fun j => iblk m c 3 t (ix4 0 0 0 j)) = aM m c (seg (row t r)) 1 := funext fun j => blk3 m c t r j
  exact congrFun (congr (congr (congr (congrArg normed e0) e1) e2) e3) k

/-- Column `l` of chunk `j`. -/
def colN (j : ℕ) (l : Fin 512) : Fin 5632 := ⟨(j * 512 + l) % 5632, by omega⟩

/-- One chunk's share of a token's output. -/
def part (c : Dev nD) (n : Fin 33280) (j : ℕ) (q : Fin 2048) : EReal :=
  chunk (hid (aX m c) (aw m c) (aM m c) n) (fun k l => aW1 m c k (colN j l)) (fun k l => aW3 m c k (colN j l)) (fun l q => aW2 m c (colN j l) q) q

theorem give_eq (c : Dev nD) (t : Fin cfg0.N) (n : Fin 33280) (h : Fin 2048 → EReal) (hh : ∀ k, h k = hid (aX m c) (aw m c) (aM m c) n k) (q : Fin 2048) :
    give m c t h q = part m c n (t.val % 11) q := by
  have ec : ∀ l, colN (t.val % 11) l = col t l := fun l => Fin.ext (by show (t.val % 11 * 512 + l) % 5632 = t.val % 11 * 512 + l; omega)
  unfold give part
  have e0 : h = hid (aX m c) (aw m c) (aM m c) n := funext hh
  have e1 : (fun (k : Fin 2048) (l : Fin 512) => iblk m c 5 t (ix4 0 0 k l)) = fun k l => aW1 m c k (colN (t.val % 11) l) :=
    funext fun k => funext fun l => (blk5 m c t k l).trans (congrArg (aW1 m c k) (ec l).symm)
  have e2 : (fun (k : Fin 2048) (l : Fin 512) => iblk m c 6 t (ix4 0 0 k l)) = fun k l => aW3 m c k (colN (t.val % 11) l) :=
    funext fun k => funext fun l => (blk6 m c t k l).trans (congrArg (aW3 m c k) (ec l).symm)
  have e3 : (fun (l : Fin 512) (q : Fin 2048) => iblk m c 7 t (ix4 0 0 l q)) = fun l q => aW2 m c (colN (t.val % 11) l) q :=
    funext fun l => funext fun q => (blk7 m c t l q).trans (congrArg (fun j => aW2 m c j q) (ec l).symm)
  exact congrFun (congr (congr (congr (congrArg chunk e0) e1) e2) e3) q

/-- Until the last point: the tokens, and the chunks so far. -/
theorem upto (c : Dev nD) : ∀ s : ℕ, s ≤ 9 → ∀ t : Fin cfg0.N, t.val % 11 = s →
    (∀ r k, (outsAt0 m c t.val t.isLt).2 (ix2 r k) = hid (aX m c) (aw m c) (aM m c) (row t r) k) ∧
    ∀ r q, (outsAt0 m c t.val t.isLt).1 (ix2 r q) = ∑ j ∈ Finset.range (s + 1), part m c (row t r) j q
  | 0, _, t, ht => by
    refine ⟨fun r k => (first_tok m c t ht r k).trans (tok_eq m c t r k), fun r q => ?_⟩
    rw [first_out m c t ht r q, give_eq m c t (row t r) _ (tok_eq m c t r), ht, Finset.sum_range_one]
  | s + 1, hs, t, ht => by
    have ih := upto c s (by omega) ⟨t.val - 1, Nat.lt_of_le_of_lt (Nat.sub_le _ _) t.isLt⟩ (by show (t.val - 1) % 11 = s; omega)
    have er : ∀ r, row ⟨t.val - 1, Nat.lt_of_le_of_lt (Nat.sub_le _ _) t.isLt⟩ r = row t r := fun r =>
      Fin.ext (by show (t.val - 1) / 11 * 512 + r = t.val / 11 * 512 + r; omega)
    have i1 : ∀ r k, (outsAt0 m c (t.val - 1) (Nat.lt_of_le_of_lt (Nat.sub_le _ _) t.isLt)).2 (ix2 r k) = hid (aX m c) (aw m c) (aM m c) (row t r) k :=
      fun r k => (ih.1 r k).trans (congrArg (fun n => hid (aX m c) (aw m c) (aM m c) n k) (er r))
    have i2 : ∀ r q, (outsAt0 m c (t.val - 1) (Nat.lt_of_le_of_lt (Nat.sub_le _ _) t.isLt)).1 (ix2 r q) = ∑ j ∈ Finset.range (s + 1), part m c (row t r) j q :=
      fun r q => (ih.2 r q).trans (congrArg (fun n => ∑ j ∈ Finset.range (s + 1), part m c n j q) (er r))
    refine ⟨fun r k => ?_, fun r q => ?_⟩
    · rw [later_tok m c t (by omega) (by omega)]
      exact i1 r k
    · rw [later_out m c t (by omega) (by omega), i2, give_eq m c t (row t r) _ (i1 r), ht, Finset.sum_range_succ _ (s + 1)]

/-- All chunks together. -/
theorem parts (c : Dev nD) (n : Fin 33280) (q : Fin 2048) :
    ∑ j ∈ Finset.range 11, part m c n j q = ∑ l : Fin 5632, act (aX m c) (aw m c) (aM m c) (aW1 m c) (aW3 m c) n l * aW2 m c l q := by
  rw [Finset.sum_range]
  refine Eq.trans ?_ (Fin.sum_mul_add_fin 11 512 (fun l : Fin 5632 => act (aX m c) (aw m c) (aM m c) (aW1 m c) (aW3 m c) n l * aW2 m c l q))
  refine Finset.sum_congr rfl fun j _ => ?_
  unfold part chunk act
  refine Finset.sum_congr rfl fun l _ => ?_
  have e : colN j l = ⟨j * 512 + l, by omega⟩ := Fin.ext (by show ((j : ℕ) * 512 + l) % 5632 = j * 512 + l; omega)
  dsimp only
  rw [e]

/-- The last point finishes its block of tokens. -/
theorem done (c : Dev nD) (t : Fin cfg0.N) (ht : t.val % 11 = 10) (r : Fin 512) (q : Fin 2048) :
    (outsAt0 m c t.val t.isLt).1 (ix2 r q) = out (aX m c) (aw m c) (aM m c) (aW1 m c) (aW3 m c) (aW2 m c) (row t r) q := by
  have ih := upto m c 9 (le_refl _) ⟨t.val - 1, Nat.lt_of_le_of_lt (Nat.sub_le _ _) t.isLt⟩ (by show (t.val - 1) % 11 = 9; omega)
  have er : ∀ r, row ⟨t.val - 1, Nat.lt_of_le_of_lt (Nat.sub_le _ _) t.isLt⟩ r = row t r := fun r =>
    Fin.ext (by show (t.val - 1) / 11 * 512 + r = t.val / 11 * 512 + r; omega)
  have i1 : ∀ r k, (outsAt0 m c (t.val - 1) (Nat.lt_of_le_of_lt (Nat.sub_le _ _) t.isLt)).2 (ix2 r k) = hid (aX m c) (aw m c) (aM m c) (row t r) k :=
    fun r k => (ih.1 r k).trans (congrArg (fun n => hid (aX m c) (aw m c) (aM m c) n k) (er r))
  have i2 : (outsAt0 m c (t.val - 1) (Nat.lt_of_le_of_lt (Nat.sub_le _ _) t.isLt)).1 (ix2 r q) = ∑ j ∈ Finset.range 10, part m c (row t r) j q :=
    (ih.2 r q).trans (congrArg (fun n => ∑ j ∈ Finset.range 10, part m c n j q) (er r))
  rw [last_out m c t ht r q _ _ (blk0 m c t r q) (blk4 m c t r q), i2, give_eq m c t (row t r) _ (i1 r), ht, ← Finset.sum_range_succ, parts]
  rfl

end Cert.Kernel2Ideal.Half

end
-- ==== Proof.F.Ref.lean ====
module

public import proofs.«01_k».proof.Proof.Gen.Reference2Ideal.Read
public import proofs.«01_k».proof.Proof.F.Math
public import Idealize.ShloMosaic.Lib.Pipeline.ValueKit
public import Idealize.ShloMosaic.Lib.KernelVsHost

/-! The feed-forward reference, one element at a time. -/

@[expose] public section

set_option maxRecDepth 16384

noncomputable section

namespace Cert.Reference2Ideal.Half

open Idealize.ShloMosaic Idealize.ShloMosaic.TcCoe Idealize.ShloMosaic.Tactic Cert.Reference2Ideal Cert.Reference2Ideal.Gen Cert.Reference2Ideal.Read
open Cert.Ffn
open scoped BigOperators

variable (x0 : (⟨S33280x2048, .f32⟩ : BufTy).Contents (Elt Ideal)) (x1 : (⟨S2048, .f32⟩ : BufTy).Contents (Elt Ideal))
  (x2 : (⟨S8x9x1x2048, .f32⟩ : BufTy).Contents (Elt Ideal)) (x3 x4 : (⟨S4x2x2048x5632, .bf16⟩ : BufTy).Contents (Elt Ideal))
  (x5 : (⟨S4x2x5632x2048, .bf16⟩ : BufTy).Contents (Elt Ideal))

/-- Three runs of rows laid end to end. -/
theorem three (y0 y1 : (⟨S16384x2048, .f32⟩ : BufTy).Contents (Elt Ideal)) (y2 : (⟨S512x2048, .f32⟩ : BufTy).Contents (Elt Ideal))
    (g : Fin 8 → Fin 2048 → EReal)
    (h0 : ∀ i : S16384x2048.Idx, y0 i = g 0 (i 1)) (h1 : ∀ i : S16384x2048.Idx, y1 i = g 1 (i 1)) (h2 : ∀ i : S512x2048.Idx, y2 i = g 2 (i 1))
    (i : S33280x2048.Idx) :
    concatenate S33280x2048 0 [⟨S16384x2048, y0⟩, ⟨S16384x2048, y1⟩, ⟨S512x2048, y2⟩]
      concatenates_S16384x2048_S16384x2048_S512x2048_S33280x2048_d0 i = g (seg (i 0)) (i 1) := by
  have hi : (i 0 : ℕ) < 33280 := (i 0).isLt
  unfold seg
  by_cases c0 : (i 0 : ℕ) < 16384
  · rw [if_pos c0]
    rw [concatenate_apply_piece (α := EReal) (t := S33280x2048) 0 [⟨S16384x2048, y0⟩, ⟨S16384x2048, y1⟩, ⟨S512x2048, y2⟩] concatenates_S16384x2048_S16384x2048_S512x2048_S33280x2048_d0 i 0 (by show _ < 3; omega) S16384x2048 y0 rfl rfl 0 rfl
      (ix2 (⟨i 0, c0⟩ : Fin 16384) (i 1)) (fun b hb => match b with
        | ⟨0, _⟩ => absurd rfl hb
        | ⟨1, _⟩ => rfl) (Nat.zero_add _), h0]
    rfl
  · rw [if_neg c0]
    by_cases c1 : (i 0 : ℕ) < 32768
    · rw [if_pos c1]
      rw [concatenate_apply_piece (α := EReal) (t := S33280x2048) 0 [⟨S16384x2048, y0⟩, ⟨S16384x2048, y1⟩, ⟨S512x2048, y2⟩] concatenates_S16384x2048_S16384x2048_S512x2048_S33280x2048_d0 i 1 (by show _ < 3; omega) S16384x2048 y1 rfl rfl 16384 rfl
        (ix2 (⟨i 0 - 16384, by omega⟩ : Fin 16384) (i 1)) (fun b hb => match b with
          | ⟨0, _⟩ => absurd rfl hb
          | ⟨1, _⟩ => rfl) (by show 16384 + ((i 0 : ℕ) - 16384) = _; omega), h1]
      rfl
    · rw [if_neg c1]
      rw [concatenate_apply_piece (α := EReal) (t := S33280x2048) 0 [⟨S16384x2048, y0⟩, ⟨S16384x2048, y1⟩, ⟨S512x2048, y2⟩] concatenates_S16384x2048_S16384x2048_S512x2048_S33280x2048_d0 i 2 (by show _ < 3; omega) S512x2048 y2 rfl rfl 32768 rfl
        (ix2 (⟨i 0 - 32768, by omega⟩ : Fin 512) (i 1)) (fun b hb => match b with
          | ⟨0, _⟩ => absurd rfl hb
          | ⟨1, _⟩ => rfl) (by show 32768 + ((i 0 : ℕ) - 32768) = _; omega), h2]
      rfl

/-- The shift of a token. -/
theorem shift (i : S33280x2048.Idx) : val_main_v11 (F := Ideal) x2 i = x2 (ix4 (seg (i 0)) 0 0 (i 1)) := by
  unfold val_main_v11
  refine three _ _ _ (fun b k => x2 (ix4 b 0 0 k)) (fun i => ?_) (fun i => ?_) (fun i => ?_) i
  · rw [val_main_v4_apply, val_main_v3_apply, val_main_v2_apply, val_main_v1_apply, val_main_v0_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v7_apply, val_main_v6_apply, val_main_v5_apply, val_main_v1_apply, val_main_v0_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega
  · rw [val_main_v10_apply, val_main_v9_apply, val_main_v8_apply, val_main_v1_apply, val_main_v0_apply]
    have : (i 1 : ℕ) < 2048 := (i 1).isLt
    refine congrArg x2 (funext fun a => Fin.ext ?_)
    match a with
    | ⟨0, _⟩ => show (((2 + 0) * 1 + 0) * 2048 + (0 * 2048 + (i 1).val) % 2048) / 2048 = 2; omega
    | ⟨1, _⟩ => rfl
    | ⟨2, _⟩ => rfl
    | ⟨3, _⟩ => show (((2 + 0) * 1 + 0) * 2048 + (0 * 2048 + (i 1).val) % 2048) % 2048 = (i 1).val; omega

/-- The scale of a token. -/
theorem scale (i : S33280x2048.Idx) : val_main_v23 (F := Ideal) x2 i = x2 (ix4 (seg (i 0)) 1 0 (i 1)) := by
  unfold val_main_v23
  refine three _ _ _ (fun b k => x2 (ix4 b 1 0 k)) (fun i => ?_) (fun i => ?_) (fun i => ?_) i
  · rw [val_main_v16_apply, val_main_v15_apply, val_main_v14_apply, val_main_v13_apply, val_main_v12_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v19_apply, val_main_v18_apply, val_main_v17_apply, val_main_v13_apply, val_main_v12_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega
  · rw [val_main_v22_apply, val_main_v21_apply, val_main_v20_apply, val_main_v13_apply, val_main_v12_apply]
    have : (i 1 : ℕ) < 2048 := (i 1).isLt
    refine congrArg x2 (funext fun a => Fin.ext ?_)
    match a with
    | ⟨0, _⟩ => show (((2 + 0) * 1 + 0) * 2048 + (0 * 2048 + (i 1).val) % 2048) / 2048 = 2; omega
    | ⟨1, _⟩ => rfl
    | ⟨2, _⟩ => rfl
    | ⟨3, _⟩ => show (((2 + 0) * 1 + 0) * 2048 + (0 * 2048 + (i 1).val) % 2048) % 2048 = (i 1).val; omega
/-- The gate of a token. -/
theorem gate (i : S33280x2048.Idx) : val_main_v35 (F := Ideal) x2 i = x2 (ix4 (seg (i 0)) 2 0 (i 1)) := by
  unfold val_main_v35
  refine three _ _ _ (fun b k => x2 (ix4 b 2 0 k)) (fun i => ?_) (fun i => ?_) (fun i => ?_) i
  · rw [val_main_v28_apply, val_main_v27_apply, val_main_v26_apply, val_main_v25_apply, val_main_v24_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v31_apply, val_main_v30_apply, val_main_v29_apply, val_main_v25_apply, val_main_v24_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega
  · rw [val_main_v34_apply, val_main_v33_apply, val_main_v32_apply, val_main_v25_apply, val_main_v24_apply]
    have : (i 1 : ℕ) < 2048 := (i 1).isLt
    refine congrArg x2 (funext fun a => Fin.ext ?_)
    match a with
    | ⟨0, _⟩ => show (((2 + 0) * 1 + 0) * 2048 + (0 * 2048 + (i 1).val) % 2048) / 2048 = 2; omega
    | ⟨1, _⟩ => rfl
    | ⟨2, _⟩ => rfl
    | ⟨3, _⟩ => show (((2 + 0) * 1 + 0) * 2048 + (0 * 2048 + (i 1).val) % 2048) % 2048 = (i 1).val; omega

/-- The token the products take. -/
theorem hidAt (i : S33280x2048.Idx) :
    val_main_v52 (F := Ideal) x0 x1 x2 i
      = hid (fun n k => x0 (ix2 n k)) (fun k => x1 (ix1 k)) (fun b p k => x2 (ix4 b p 0 k)) (i 0) (i 1) := by
  rw [val_main_v52_apply, shift, val_main_v51_apply, val_main_v50_apply, scale, val_main_v49_apply, val_main_cst_2_apply,
    val_main_v48_apply, val_main_v47_apply, val_main_v46_apply, val_main_v45_apply, val_main_v44_apply, val_main_v43_apply,
    val_main_v42_apply, val_main_v41_apply, val_main_cst_1_apply, val_main_v40_apply, val_main_v39_apply, val_main_cst_0_apply,
    val_main_v38_apply, val_main_v37_apply]
  rw [show val_main_cst (F := Ideal) (Shape.Idx.first h_S_) = 0 from Ideal.ofBits_zero_f32, zero_add]
  unfold hid normed
  have ei : i = ix2 (i 0) (i 1) := by
    funext a
    match a with
    | ⟨0, _⟩ => rfl
    | ⟨1, _⟩ => rfl
  have e1 : idx_main_v46 (idx_main_v47 i) = ix1 (i 1) := by
    funext a
    match a with
    | ⟨0, _⟩ => rfl
  have e2 : ∀ k, val_main_v36 (F := Ideal) x0 (idx_main_v37 (idx_main_v38 (idx_main_v44 i)) k) = x0 (ix2 (i 0) k) * x0 (ix2 (i 0) k) := fun k => by
    rw [val_main_v36_apply]
    have : idx_main_v37 (idx_main_v38 (idx_main_v44 i)) k = ix2 (i 0) k := by
      funext a
      match a with
      | ⟨0, _⟩ => rfl
      | ⟨1, _⟩ => rfl
    rw [this]
    rfl
  rw [e1]
  simp only [e2]
  generalize (∑ k : Fin 2048, x0 (ix2 (i 0) k) * x0 (ix2 (i 0) k)) = S
  rw [show x0 i = x0 (ix2 (i 0) (i 1)) from congrArg x0 ei]
  rfl

/-- A weight of the first product. -/
theorem w1At (i : S2048x5632.Idx) : val_main_v55 (F := Ideal) x3 i = x3 (ix4 0 0 (i 0) (i 1)) := by
  rw [val_main_v55_apply]
  show val_main_v54 (F := Ideal) x3 i = _
  rw [val_main_v54_apply, val_main_v53_apply]
  have : (i 0 : ℕ) < 2048 := (i 0).isLt
  have : (i 1 : ℕ) < 5632 := (i 1).isLt
  refine congrArg x3 (funext fun a => Fin.ext ?_)
  match a with
  | ⟨0, _⟩ => rfl
  | ⟨1, _⟩ => rfl
  | ⟨2, _⟩ => show ((i 0).val * 5632 + (i 1).val) / 5632 % 2048 = (i 0).val; omega
  | ⟨3, _⟩ => show ((i 0).val * 5632 + (i 1).val) % 5632 = (i 1).val; omega

/-- A weight of the second. -/
theorem w3At (i : S2048x5632.Idx) : val_main_v58 (F := Ideal) x4 i = x4 (ix4 0 0 (i 0) (i 1)) := by
  rw [val_main_v58_apply]
  show val_main_v57 (F := Ideal) x4 i = _
  rw [val_main_v57_apply, val_main_v56_apply]
  have : (i 0 : ℕ) < 2048 := (i 0).isLt
  have : (i 1 : ℕ) < 5632 := (i 1).isLt
  refine congrArg x4 (funext fun a => Fin.ext ?_)
  match a with
  | ⟨0, _⟩ => rfl
  | ⟨1, _⟩ => rfl
  | ⟨2, _⟩ => show ((i 0).val * 5632 + (i 1).val) / 5632 % 2048 = (i 0).val; omega
  | ⟨3, _⟩ => show ((i 0).val * 5632 + (i 1).val) % 5632 = (i 1).val; omega

/-- A weight of the last. -/
theorem w2At (i : S5632x2048.Idx) : val_main_v61 (F := Ideal) x5 i = x5 (ix4 0 0 (i 0) (i 1)) := by
  rw [val_main_v61_apply]
  show val_main_v60 (F := Ideal) x5 i = _
  rw [val_main_v60_apply, val_main_v59_apply]
  have : (i 0 : ℕ) < 5632 := (i 0).isLt
  have : (i 1 : ℕ) < 2048 := (i 1).isLt
  refine congrArg x5 (funext fun a => Fin.ext ?_)
  match a with
  | ⟨0, _⟩ => rfl
  | ⟨1, _⟩ => rfl
  | ⟨2, _⟩ => show ((i 0).val * 2048 + (i 1).val) / 2048 % 5632 = (i 0).val; omega
  | ⟨3, _⟩ => show ((i 0).val * 2048 + (i 1).val) % 2048 = (i 1).val; omega

/-- A gated product. -/
theorem actAt (i : S33280x5632.Idx) :
    val_main_v67 (F := Ideal) x0 x1 x2 x3 x4 i
      = act (fun n k => x0 (ix2 n k)) (fun k => x1 (ix1 k)) (fun b p k => x2 (ix4 b p 0 k))
          (fun k l => x3 (ix4 0 0 k l)) (fun k l => x4 (ix4 0 0 k l)) (i 0) (i 1) := by
  have ea : val_main_v64 (F := Ideal) x0 x1 x2 x3 i
      = ∑ k, hid (fun n k => x0 (ix2 n k)) (fun k => x1 (ix1 k)) (fun b p k => x2 (ix4 b p 0 k)) (i 0) k * x3 (ix4 0 0 k (i 1)) := by
    rw [val_main_v64_apply]
    refine Finset.sum_congr rfl fun k _ => ?_
    rw [hidAt, w1At]
    rfl
  have eb : val_main_v66 (F := Ideal) x0 x1 x2 x4 i
      = ∑ k, hid (fun n k => x0 (ix2 n k)) (fun k => x1 (ix1 k)) (fun b p k => x2 (ix4 b p 0 k)) (i 0) k * x4 (ix4 0 0 k (i 1)) := by
    rw [val_main_v66_apply]
    refine Finset.sum_congr rfl fun k _ => ?_
    rw [hidAt, w3At]
    rfl
  rw [val_main_v67_apply, val_main_v65_apply, val_main_call0_v5_apply, val_main_call0_v4_apply, val_main_call0_cst_0_apply,
    val_main_call0_v3_apply, val_main_call0_v2_apply, val_main_call0_cst_apply, val_main_call0_v1_apply, val_main_call0_v0_apply, ea, eb]
  unfold act
  generalize (∑ k, hid (fun n k => x0 (ix2 n k)) (fun k => x1 (ix1 k)) (fun b p k => x2 (ix4 b p 0 k)) (i 0) k * x3 (ix4 0 0 k (i 1))) = a
  generalize (∑ k, hid (fun n k => x0 (ix2 n k)) (fun k => x1 (ix1 k)) (fun b p k => x2 (ix4 b p 0 k)) (i 0) k * x4 (ix4 0 0 k (i 1))) = b
  rfl

/-- The result. -/
theorem result (i : S33280x2048.Idx) :
    val_main_v70 (F := Ideal) x0 x1 x2 x3 x4 x5 i
      = out (fun n k => x0 (ix2 n k)) (fun k => x1 (ix1 k)) (fun b p k => x2 (ix4 b p 0 k))
          (fun k l => x3 (ix4 0 0 k l)) (fun k l => x4 (ix4 0 0 k l)) (fun l o => x5 (ix4 0 0 l o)) (i 0) (i 1) := by
  rw [val_main_v70_apply, val_main_v69_apply, val_main_v63_apply, val_main_v62_apply, val_main_cst_3_apply, gate, val_main_v68_apply]
  unfold out
  have ei : i = ix2 (i 0) (i 1) := by
    funext a
    match a with
    | ⟨0, _⟩ => rfl
    | ⟨1, _⟩ => rfl
  rw [show x0 i = x0 (ix2 (i 0) (i 1)) from congrArg x0 ei]
  have e : ∀ k, val_main_v67 (F := Ideal) x0 x1 x2 x3 x4 (lidx_main_v68 i k) * val_main_v61 (F := Ideal) x5 (ridx_main_v68 i k)
      = act (fun n k => x0 (ix2 n k)) (fun k => x1 (ix1 k)) (fun b p k => x2 (ix4 b p 0 k))
          (fun k l => x3 (ix4 0 0 k l)) (fun k l => x4 (ix4 0 0 k l)) (i 0) k * x5 (ix4 0 0 k (i 1)) := fun k => by
    rw [actAt, w2At]
    rfl
  simp only [e]
  rfl

end Cert.Reference2Ideal.Half

end
-- ==== Proof.F.Value.lean ====
module

public import proofs.«01_k».proof.Proof.F.Acc
public import proofs.«01_k».proof.Proof.F.Ref
public import proofs.«01_k».proof.Proof.Gen.Kernel2Ideal.Frame

/-! The array the feed-forward leaves is the reference's. -/

@[expose] public section

set_option maxRecDepth 16384

noncomputable section

namespace Cert.Kernel2Ideal.Half

open Idealize.ShloMosaic Idealize.ShloMosaic.TcCoe Idealize.ShloMosaic.Tactic Idealize.SL.Sem Cert.Kernel2Ideal Cert.Kernel2Ideal.Gen
open Cert.Ffn
open scoped BigOperators

variable (m : (ℓ : Loc nD τ sig) → Buf (Elt Ideal) ℓ)

/-- What device `c`'s result is shown to hold. -/
abbrev want (c : Dev nD) : Buf (Elt Ideal) ((c : Thread nD τ).loc main_v1) :=
  Cert.Reference2Ideal.Read.val_main_v70 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- One element the last point of a block writes. -/
theorem point (c : Dev nD) (t : Fin cfg0.N) (ht : t.val % 11 = 10) (y : S512x2048.Idx) (i : S33280x2048.Idx)
    (e0 : (i 0 : ℕ) = t.val / 11 * 512 + (y 0 : ℕ)) (e1 : (i 1 : ℕ) = (y 1 : ℕ)) :
    (outsAt0 m c t.val t.isLt).1 y = want m c i := by
  have ey : y = ix2 (y 0) (y 1) := funext fun a => match a with
    | ⟨0, _⟩ => rfl
    | ⟨1, _⟩ => rfl
  have r0 : row t (y 0) = i 0 := Fin.ext e0.symm
  have r1 : y 1 = i 1 := Fin.ext e1.symm
  rw [ey]
  refine (done m c t ht (y 0) (y 1)).trans ?_
  refine Eq.trans ?_ (Cert.Reference2Ideal.Half.result _ _ _ _ _ _ i).symm
  exact congr (congrArg (out (aX m c) (aw m c) (aM m c) (aW1 m c) (aW3 m c) (aW2 m c)) r0) r1

theorem final (c : Dev nD) : (dats m 0 c).arrAt 8 cfg0.N = want m c := by
  refine (dats m 0 c).arrAt_eq_of_covers 8 (want m c) (by decide +kernel) fun t hf y => ?_
  blk_simp
  rw [after0_8]
  have h : ∀ t : Fin cfg0.N, win0_8.index t = ![t.val / 11, 0] := idx8
  refine point m c t ((flush0_8 t).mp hf) _ _ ?_ ?_ <;> blk_simp [h t] <;> rfl

/-- The result array after the launch. -/
theorem result (ρ : Dev nD → PrngReg) : θ_run defs (onTc (τ := τ) (main (F := Ideal))) ⟨m, fun _ => 0, ρ⟩ (fun r => ∀ c : Dev nD,
      r.2.mem ((c.tc : Thread nD τ).loc main_v1) = want m c) := by
  refine (θ_run defs _ _).mono (fun r h c => ?_) (run_main m ρ)
  exact (h.out_eq c 8).trans (final m c)

end Cert.Kernel2Ideal.Half

end
-- ==== Proof.G.Math.lean ====
module

public import proofs.«01_k».proof.Proof.F.Math

/-! The last step: the half feed-forward of a latent token, normalised once more. -/

@[expose] public section

noncomputable section

namespace Cert.Ffn

open Idealize.ShloMosaic
open scoped BigOperators

/-- A row over its root mean square, times the weights. -/
def rmsRow (y w : Fin 2048 → EReal) (k : Fin 2048) : EReal :=
  y k * FloatOps.rsqrt (F := Ideal) (φ := .f32)
      (Ideal.div (∑ j, y j * y j) (Ideal.ofBits .f32 0x45000000#32) + Ideal.ofBits .f32 0x358637BD#32) * w k

/-- A latent token among all tokens. -/
def up (n : Fin 32768) : Fin 33280 := ⟨n, by omega⟩

end Cert.Ffn

end
-- ==== Proof.G.Pay.lean ====
module

public import proofs.«01_k».proof.Proof.Gen.Kernel3Ideal.Frame
public import proofs.«01_k».proof.Proof.G.Math
public import Idealize.ShloMosaic.Lib.Pipeline.ValueKit

/-! The feed-forward body's values over the extended reals, one element at a time. -/

@[expose] public section

set_option maxRecDepth 16384

noncomputable section

namespace Cert.Kernel3Ideal.Half

open Idealize.ShloMosaic Idealize.ShloMosaic.TcCoe Idealize.ShloMosaic.Tactic Cert.Kernel3Ideal Cert.Kernel3Ideal.Gen
open Cert.Ffn
open scoped BigOperators

theorem rate (v : FVec Ideal S256x2048 .f32) (r : Fin 256) :
    rsqrt (addf (divf (shapeCast S256x1 (multiReduction .add [1] S256 (mulf v v) 0x00000000#32 reduces_S256x2048_S256 (.inl rfl) rfl) shapeCasts_S256_S256x1)
      (broadcast S256x1 (Scalar.ofBits (F := Ideal) .f32 0x45000000#32))) (broadcast S256x1 (Scalar.ofBits (F := Ideal) .f32 0x358637BD#32))) (ix2 r 0)
      = FloatOps.rsqrt (F := Ideal) (φ := .f32)
      (Ideal.div (∑ j : Fin 2048, v (ix2 r j) * v (ix2 r j)) (Ideal.ofBits .f32 0x45000000#32) + Ideal.ofBits .f32 0x358637BD#32) := by
  pointwise

theorem scaled (v : FVec Ideal S256x2048 .f32) (w : FVec Ideal S1x2048 .f32) (R : FVec Ideal S256x1 .f32) (r : Fin 256) (k : Fin 2048) :
    mulf (mulf v (broadcastTo S256x2048 R broadcasts_S256x1_S256x2048)) (broadcastTo S256x2048 (shapeCast S1x2048 w shapeCasts_S1x2048_S1x2048) broadcasts_S1x2048_S256x2048) (ix2 r k)
      = v (ix2 r k) * R (ix2 r 0) * w (ix2 0 k) := by
  pointwise

theorem modulated (u : FVec Ideal S256x2048 .f32) (s : FVec Ideal S1x2048 .f32) (b : Vec Ideal S1x1x1x2048 .f32) (r : Fin 256) (k : Fin 2048) :
    k0_pay9 u s b (ix2 r k) = u (ix2 r k) * s (ix2 0 k) + b (ix4 0 0 0 k) := by
  unfold k0_pay9
  pointwise

theorem oneMore (s : Vec Ideal S1x1x1x2048 .f32) (k : Fin 2048) : k0_pay8 s (ix2 0 k) = one + s (ix4 0 0 0 k) := by
  unfold k0_pay8
  pointwise

theorem rms (v : Vec Ideal S256x2048 .f32) (w : Vec Ideal S1x2048 .f32) (r : Fin 256) (k : Fin 2048) :
    k0_pay7 v w (ix2 r k) = v (ix2 r k) * FloatOps.rsqrt (F := Ideal) (φ := .f32)
      (Ideal.div (∑ j : Fin 2048, v (ix2 r j) * v (ix2 r j)) (Ideal.ofBits .f32 0x45000000#32) + Ideal.ofBits .f32 0x358637BD#32) * w (ix2 0 k) := by
  unfold k0_pay7
  dsimp only
  rw [scaled, rate]

/-- The second half's tokens. -/
theorem pay9_apply (v : Vec Ideal S256x2048 .f32) (w : Vec Ideal S1x2048 .f32) (s b : Vec Ideal S1x1x1x2048 .f32) (r : Fin 256) (k : Fin 2048) :
    k0_pay9 (k0_pay7 v w) (k0_pay8 s) b (ix2 r k)
      = normed (fun j => v (ix2 r j)) (fun j => w (ix2 0 j)) (fun j => b (ix4 0 0 0 j)) (fun j => s (ix4 0 0 0 j)) k := by
  rw [modulated, rms, oneMore]
  rfl

theorem pay3_eq (v : Vec Ideal S256x2048 .f32) (w : Vec Ideal S1x2048 .f32) (s b : Vec Ideal S1x1x1x2048 .f32) :
    k0_pay3 v w s b = k0_pay9 (k0_pay7 v w) (k0_pay8 s) b := rfl

theorem same_apply (y : FVec Ideal S256x2048 .bf16) (r : Fin 256) (k : Fin 2048) :
    shapeCast S256x2048 y shapeCasts_S256x2048_S256x2048 (ix2 r k) = y (ix2 r k) := by
  pointwise

/-- A product of a half's tokens. -/
theorem prod_half (h : FVec Ideal S256x2048 .bf16) (a : Vec Ideal S1x1x2048x512 .bf16) (r : Fin 256) (l : Fin 512) :
    matmul dot_S256x2048_S2048x512_S256x512_1_0_0_1_n_n none h (shapeCast S2048x512 a shapeCasts_S1x1x2048x512_S2048x512 : FVec Ideal S2048x512 .bf16)
      (constant S256x512 .f32 0x00000000#32) (ix2 r l) = ∑ k : Fin 2048, h (ix2 r k) * a (ix4 0 0 k l) := by
  pointwise

theorem prod_whole (h : FVec Ideal S512x2048 .bf16) (a : Vec Ideal S1x1x2048x512 .bf16) (r : Fin 512) (l : Fin 512) :
    matmul dot_S512x2048_S2048x512_S512x512_1_0_0_1_n_n none h (shapeCast S2048x512 a shapeCasts_S1x1x2048x512_S2048x512 : FVec Ideal S2048x512 .bf16)
      (constant S512x512 .f32 0x00000000#32) (ix2 r l) = ∑ k : Fin 2048, h (ix2 r k) * a (ix4 0 0 k l) := by
  pointwise

theorem back_half (g : FVec Ideal S256x512 .bf16) (c : Vec Ideal S1x1x512x2048 .bf16) (r : Fin 256) (q : Fin 2048) :
    matmul dot_S256x512_S512x2048_S256x2048_1_0_0_1_n_n none g (shapeCast S512x2048 c shapeCasts_S1x1x512x2048_S512x2048 : FVec Ideal S512x2048 .bf16)
      (constant S256x2048 .f32 0x00000000#32) (ix2 r q) = ∑ l : Fin 512, g (ix2 r l) * c (ix4 0 0 l q) := by
  pointwise

theorem back_whole (g : FVec Ideal S512x512 .bf16) (c : Vec Ideal S1x1x512x2048 .bf16) (r : Fin 512) (q : Fin 2048) :
    matmul dot_S512x512_S512x2048_S512x2048_1_0_0_1_n_n none g (shapeCast S512x2048 c shapeCasts_S1x1x512x2048_S512x2048 : FVec Ideal S512x2048 .bf16)
      (constant S512x2048 .f32 0x00000000#32) (ix2 r q) = ∑ l : Fin 512, g (ix2 r l) * c (ix4 0 0 l q) := by
  pointwise

theorem gate_eq (a b : EReal) :
    a * Ideal.div one (one + FloatOps.exp (F := Ideal) (φ := .f32) (Ideal.ofBits .f32 0x00000000#32 - a)) * b = gated a b := by
  rw [Ideal.ofBits_zero_f32, zero_sub]
  rfl

theorem gate_half (a b : FVec Ideal S256x512 .f32) (r : Fin 256) (l : Fin 512) :
    truncf .bf16 (mulf (mulf a (divf (broadcast S256x512 (Scalar.ofBits (F := Ideal) .f32 0x3F800000#32))
      (addf (broadcast S256x512 (Scalar.ofBits (F := Ideal) .f32 0x3F800000#32)) (exp (subf (broadcast S256x512 (Scalar.ofBits (F := Ideal) .f32 0x00000000#32)) a))))) b)
      bitsLt_bf16_f32 (ix2 r l) = gated (a (ix2 r l)) (b (ix2 r l)) := by
  rw [← gate_eq]
  rfl

theorem gate_whole (a b : FVec Ideal S512x512 .f32) (r : Fin 512) (l : Fin 512) :
    truncf .bf16 (mulf (mulf a (divf (broadcast S512x512 (Scalar.ofBits (F := Ideal) .f32 0x3F800000#32))
      (addf (broadcast S512x512 (Scalar.ofBits (F := Ideal) .f32 0x3F800000#32)) (exp (subf (broadcast S512x512 (Scalar.ofBits (F := Ideal) .f32 0x00000000#32)) a))))) b)
      bitsLt_bf16_f32 (ix2 r l) = gated (a (ix2 r l)) (b (ix2 r l)) := by
  rw [← gate_eq]
  rfl

/-- What the first point of a run adds for its second half. -/
theorem pay11_apply (u : FVec Ideal S256x2048 .f32) (s : FVec Ideal S1x2048 .f32) (d : Vec Ideal S1x1x1x2048 .f32)
    (a b : Vec Ideal S1x1x2048x512 .bf16) (c : Vec Ideal S1x1x512x2048 .bf16) (r : Fin 256) (q : Fin 2048) :
    k0_pay11 u s d a b c (ix2 r q)
      = chunk (fun k => k0_pay9 u s d (ix2 r k)) (fun k l => a (ix4 0 0 k l)) (fun k l => b (ix4 0 0 k l)) (fun l q => c (ix4 0 0 l q)) q := by
  unfold k0_pay11 chunk
  generalize k0_pay9 u s d = h
  dsimp only
  rw [back_half]
  refine Finset.sum_congr rfl fun l _ => ?_
  rw [gate_half, prod_half, prod_half]

/-- What it adds for its first half. -/
theorem pay6_apply (v : Vec Ideal S256x2048 .f32) (w : Vec Ideal S1x2048 .f32) (s d : Vec Ideal S1x1x1x2048 .f32)
    (a b : Vec Ideal S1x1x2048x512 .bf16) (c : Vec Ideal S1x1x512x2048 .bf16) (r : Fin 256) (q : Fin 2048) :
    k0_pay6 (k0_pay3 v w s d) (k0_pay5 v w s d a) b c (ix2 r q)
      = chunk (fun k => k0_pay3 v w s d (ix2 r k)) (fun k l => a (ix4 0 0 k l)) (fun k l => b (ix4 0 0 k l)) (fun l q => c (ix4 0 0 l q)) q := by
  unfold k0_pay5 k0_pay6 chunk
  generalize k0_pay3 v w s d = h
  dsimp only
  rw [back_half]
  refine Finset.sum_congr rfl fun l _ => ?_
  rw [gate_half, prod_half, prod_half]

theorem add_same (o : Vec Ideal S512x2048 .f32) (y : FVec Ideal S512x2048 .f32) (r : Fin 512) (q : Fin 2048) :
    addf (shapeCast S512x2048 o shapeCasts_S512x2048_S512x2048) y (ix2 r q) = o (ix2 r q) + y (ix2 r q) := by
  pointwise

/-- What a later point adds. -/
theorem pay1_apply (o : Vec Ideal S512x2048 .f32) (h : Vec Ideal S512x2048 .bf16)
    (a b : Vec Ideal S1x1x2048x512 .bf16) (c : Vec Ideal S1x1x512x2048 .bf16) (r : Fin 512) (q : Fin 2048) :
    k0_pay1 o h a b c (ix2 r q)
      = o (ix2 r q) + chunk (fun k => h (ix2 r k)) (fun k l => a (ix4 0 0 k l)) (fun k l => b (ix4 0 0 k l)) (fun l q => c (ix4 0 0 l q)) q := by
  unfold k0_pay1 chunk
  dsimp only
  rw [add_same, back_whole]
  refine congrArg (_ + ·) (Finset.sum_congr rfl fun l _ => ?_)
  rw [gate_whole, prod_whole, prod_whole]

theorem rate_whole (v : FVec Ideal S512x2048 .f32) (r : Fin 512) :
    rsqrt (addf (divf (shapeCast S512x1 (multiReduction .add [1] S512 (mulf v v) 0x00000000#32 reduces_S512x2048_S512 (.inl rfl) rfl) shapeCasts_S512_S512x1)
      (broadcast S512x1 (Scalar.ofBits (F := Ideal) .f32 0x45000000#32))) (broadcast S512x1 (Scalar.ofBits (F := Ideal) .f32 0x358637BD#32))) (ix2 r 0)
      = FloatOps.rsqrt (F := Ideal) (φ := .f32)
      (Ideal.div (∑ j : Fin 2048, v (ix2 r j) * v (ix2 r j)) (Ideal.ofBits .f32 0x45000000#32) + Ideal.ofBits .f32 0x358637BD#32) := by
  pointwise

theorem scaled_whole (v : FVec Ideal S512x2048 .f32) (w : FVec Ideal S1x2048 .f32) (R : FVec Ideal S512x1 .f32) (r : Fin 512) (k : Fin 2048) :
    mulf (mulf v (broadcastTo S512x2048 R broadcasts_S512x1_S512x2048)) (broadcastTo S512x2048 (shapeCast S1x2048 w shapeCasts_S1x2048_S1x2048) broadcasts_S1x2048_S512x2048) (ix2 r k)
      = v (ix2 r k) * R (ix2 r 0) * w (ix2 0 k) := by
  pointwise

theorem summed (x : Vec Ideal S512x2048 .f32) (g : Vec Ideal S1x1x1x2048 .f32) (o : Vec Ideal S512x2048 .f32) (r : Fin 512) (q : Fin 2048) :
    addf x (mulf (broadcastTo S512x2048 (mulf (broadcast S1x2048 (Scalar.ofBits (F := Ideal) .f32 0x3F000000#32))
      (shapeCast S1x2048 g shapeCasts_S1x1x1x2048_S1x2048 : FVec Ideal S1x2048 .f32)) broadcasts_S1x2048_S512x2048)
      (shapeCast S512x2048 o shapeCasts_S512x2048_S512x2048 : FVec Ideal S512x2048 .f32)) (ix2 r q)
      = x (ix2 r q) + Ideal.ofBits .f32 0x3F000000#32 * g (ix4 0 0 0 q) * o (ix2 r q) := by
  pointwise

/-- What the last point makes of the sum. -/
theorem pay2_apply (x : Vec Ideal S512x2048 .f32) (g : Vec Ideal S1x1x1x2048 .f32) (o : Vec Ideal S512x2048 .f32) (w : Vec Ideal S1x2048 .f32) (r : Fin 512) (q : Fin 2048) :
    k0_pay2 x g o w (ix2 r q)
      = rmsRow (fun j => x (ix2 r j) + Ideal.ofBits .f32 0x3F000000#32 * g (ix4 0 0 0 j) * o (ix2 r j)) (fun j => w (ix2 0 j)) q := by
  unfold k0_pay2 rmsRow
  dsimp only
  rw [scaled_whole, rate_whole]
  simp only [summed]

end Cert.Kernel3Ideal.Half

end
-- ==== Proof.G.Blocks.lean ====
module

public import proofs.«01_k».proof.Proof.G.Pay
public import Idealize.ShloMosaic.Lib.Pipeline.ValueKit.Partial

/-! Which elements of the arguments a point of the feed-forward's grid sees: point `t` is chunk `t % 11` of the hidden columns
    for block `t / 11` of the tokens. -/

@[expose] public section

set_option maxRecDepth 16384

noncomputable section

namespace Cert.Kernel3Ideal.Half

open Idealize.ShloMosaic Idealize.ShloMosaic.TcCoe Idealize.ShloMosaic.Tactic Cert.Kernel3Ideal Cert.Kernel3Ideal.Gen
open Cert.Ffn
open scoped BigOperators

variable (m : (ℓ : Loc nD τ sig) → Buf (Elt Ideal) ℓ)

/-- The modulation's row for a block of tokens. -/
def segB (b : ℕ) : ℕ := if b < 32 then 0 else if b < 64 then 1 else 2

theorem idx0 : ∀ t : Fin cfg0.N, win0_0.index t = ![t.val / 11, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![segB (t.val / 11), 6, 0, 0] := (by decide +kernel : ∀ t : Fin grid0.N, _)
theorem idx3 : ∀ t : Fin cfg0.N, win0_3.index t = ![segB (t.val / 11), 7, 0, 0] := (by decide +kernel : ∀ t : Fin grid0.N, _)
theorem idx4 : ∀ t : Fin cfg0.N, win0_4.index t = ![segB (t.val / 11), 8, 0, 0] := (by decide +kernel : ∀ t : Fin grid0.N, _)
theorem idx5 : ∀ t : Fin cfg0.N, win0_5.index t = ![3, 1, 0, t.val % 11] := (by decide +kernel : ∀ t : Fin grid0.N, _)
theorem idx6 : ∀ t : Fin cfg0.N, win0_6.index t = ![3, 1, 0, t.val % 11] := (by decide +kernel : ∀ t : Fin grid0.N, _)
theorem idx7 : ∀ t : Fin cfg0.N, win0_7.index t = ![3, 1, t.val % 11, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 11, 0] := (by decide +kernel : ∀ t : Fin grid0.N, _)

theorem N_eq : cfg0.N = 704 := N_0

/-- Token `r` of the point's block. -/
def row (t : Fin cfg0.N) (r : Fin 512) : Fin 33280 := ⟨t.val / 11 * 512 + r, by have := t.isLt; have := N_eq; omega⟩
/-- Column `l` of the point's chunk. -/
def col (t : Fin cfg0.N) (l : Fin 512) : Fin 5632 := ⟨t.val % 11 * 512 + l, by omega⟩

theorem seg_row (t : Fin cfg0.N) (r : Fin 512) : ((seg (row t r)) : ℕ) = segB (t.val / 11) := by
  unfold seg segB row
  dsimp only
  by_cases h : t.val / 11 < 32
  · rw [if_pos (by omega), if_pos h]; rfl
  · rw [if_neg (by omega), if_neg h]
    by_cases h' : t.val / 11 < 64
    · rw [if_pos (by omega), if_pos h']; rfl
    · rw [if_neg (by omega), if_neg h']; rfl

theorem blk0 (c : Dev nD) (t : Fin cfg0.N) (r : Fin 512) (k : Fin 2048) :
    iblk m c 0 t (ix2 r k) = m ((c : Thread nD τ).loc main_arg0) (ix2 (row t r) k) := by
  unfold row
  blk_ext! [iblk, V, idx0 t]

/-- The norm's weights as the region finds them: one row of them. -/
theorem V_main_v0 (c : Dev nD) : V m c main_v0 = shapeCast S1x2048 (m ((c : Thread nD τ).loc main_arg1)) shapeCasts_S2048_S1x2048 := by
  show StableHlo.after hostOps0 _ (Proc.devRef .tc main_v0) = _
  after_results
  rfl

theorem blk1 (c : Dev nD) (t : Fin cfg0.N) (k : Fin 2048) :
    iblk m c 1 t (ix2 0 k) = m ((c : Thread nD τ).loc main_arg1) (ix1 k) := by
  have h : iblk m c 1 t (ix2 0 k) = V m c main_v0 (ix2 0 k) := by
    blk_ext! [iblk, idx1 t]
  rw [h, V_main_v0]
  exact shapeCast_apply _ shapeCasts_S2048_S1x2048 (ix2 0 k) (ix1 k)
    (by rw [Shape.rowMajor_val_two, Shape.rowMajor_val_one]; show k.val = 0 * 2048 + k.val; omega)

/-- The final norm's weights as the region finds them: one row of them. -/
theorem V_main_v1 (c : Dev nD) : V m c main_v1 = shapeCast S1x2048 (m ((c : Thread nD τ).loc main_arg6)) shapeCasts_S2048_S1x2048 := by
  show StableHlo.after hostOps0 _ (Proc.devRef .tc main_v1) = _
  after_results
  rfl

theorem blk8 (c : Dev nD) (t : Fin cfg0.N) (k : Fin 2048) :
    iblk m c 8 t (ix2 0 k) = m ((c : Thread nD τ).loc main_arg6) (ix1 k) := by
  have h : iblk m c 8 t (ix2 0 k) = V m c main_v1 (ix2 0 k) := by
    blk_ext! [iblk, idx8 t]
  rw [h, V_main_v1]
  exact shapeCast_apply _ shapeCasts_S2048_S1x2048 (ix2 0 k) (ix1 k)
    (by rw [Shape.rowMajor_val_two, Shape.rowMajor_val_one]; show k.val = 0 * 2048 + k.val; omega)

theorem blk2 (c : Dev nD) (t : Fin cfg0.N) (r : Fin 512) (k : Fin 2048) :
    iblk m c 2 t (ix4 0 0 0 k) = m ((c : Thread nD τ).loc main_arg2) (ix4 (seg (row t r)) 6 0 k) := by
  have h := seg_row t r
  blk_ext! [iblk, V, idx2 t, h]

theorem blk3 (c : Dev nD) (t : Fin cfg0.N) (r : Fin 512) (k : Fin 2048) :
    iblk m c 3 t (ix4 0 0 0 k) = m ((c : Thread nD τ).loc main_arg2) (ix4 (seg (row t r)) 7 0 k) := by
  have h := seg_row t r
  blk_ext! [iblk, V, idx3 t, h]

theorem blk4 (c : Dev nD) (t : Fin cfg0.N) (r : Fin 512) (k : Fin 2048) :
    iblk m c 4 t (ix4 0 0 0 k) = m ((c : Thread nD τ).loc main_arg2) (ix4 (seg (row t r)) 8 0 k) := by
  have h := seg_row t r
  blk_ext! [iblk, V, idx4 t, h]

theorem blk5 (c : Dev nD) (t : Fin cfg0.N) (k : Fin 2048) (l : Fin 512) :
    iblk m c 5 t (ix4 0 0 k l) = m ((c : Thread nD τ).loc main_arg3) (ix4 3 1 k (col t l)) := by
  unfold col
  blk_ext! [iblk, V, idx5 t]

theorem blk6 (c : Dev nD) (t : Fin cfg0.N) (k : Fin 2048) (l : Fin 512) :
    iblk m c 6 t (ix4 0 0 k l) = m ((c : Thread nD τ).loc main_arg4) (ix4 3 1 k (col t l)) := by
  unfold col
  blk_ext! [iblk, V, idx6 t]

theorem blk7 (c : Dev nD) (t : Fin cfg0.N) (l : Fin 512) (o : Fin 2048) :
    iblk m c 7 t (ix4 0 0 l o) = m ((c : Thread nD τ).loc main_arg5) (ix4 3 1 (col t l) o) := by
  unfold col
  blk_ext! [iblk, V, idx7 t]

end Cert.Kernel3Ideal.Half

end
-- ==== Proof.G.First.lean ====
module

public import proofs.«01_k».proof.Proof.G.Pay
public import Idealize.ShloMosaic.Lib.Pipeline.ValueKit

/-! What each kind of point leaves: the first of a run computes the tokens and stores two halves, the later ones add, and the
    last adds and finishes. -/

@[expose] public section

set_option maxRecDepth 16384

noncomputable section

namespace Cert.Kernel3Ideal.Half

open Idealize.ShloMosaic Idealize.ShloMosaic.TcCoe Idealize.ShloMosaic.Tactic Cert.Kernel3Ideal Cert.Kernel3Ideal.Gen
open Cert.Ffn
open scoped BigOperators

/-- Two halves of a block, read at a row of the second. -/
theorem hi_half {e : EltTy} (a b : Vec Ideal S256x2048 e) (r : Fin 256) (i : S512x2048.Idx) (k : Fin 2048) (h0 : (i 0 : ℕ) = 256 + r) (h1 : (i 1 : ℕ) = k) :
    View.canon (Val := Elt Ideal) [⟨Rect.unit ![256, 0] ![256, 2048] inb_S512x2048_S256x2048_256_0, b⟩,
      ⟨Rect.unit ![0, 0] ![256, 2048] inb_S512x2048_S256x2048_0_0, a⟩] i = b (ix2 r k) := by
  have e : i = (Rect.unit (s := S512x2048) ![256, 0] ![256, 2048] inb_S512x2048_S256x2048_256_0).emb (ix2 r k) :=
    funext fun a => Fin.ext (by
      rw [ValueKit.rect_emb_unit_val]
      match a with
      | ⟨0, _⟩ => show (i 0 : ℕ) = 256 + r; omega
      | ⟨1, _⟩ => show (i 1 : ℕ) = 0 + k; omega)
  rw [e]
  exact View.canon_cons_emb _ _ _ _

/-- Read at a row of the first. -/
theorem lo_half {e : EltTy} (a b : Vec Ideal S256x2048 e) (r : Fin 256) (i : S512x2048.Idx) (k : Fin 2048) (h0 : (i 0 : ℕ) = r) (h1 : (i 1 : ℕ) = k) :
    View.canon (Val := Elt Ideal) [⟨Rect.unit ![256, 0] ![256, 2048] inb_S512x2048_S256x2048_256_0, b⟩,
      ⟨Rect.unit ![0, 0] ![256, 2048] inb_S512x2048_S256x2048_0_0, a⟩] i = a (ix2 r k) := by
  rw [View.canon_cons_of_not_mem _ _ (by
    rw [Rect.mem_set_unit]
    intro h
    have := (h 0).1
    change 256 ≤ (i 0 : ℕ) at this
    omega)]
  have e : i = (Rect.unit (s := S512x2048) ![0, 0] ![256, 2048] inb_S512x2048_S256x2048_0_0).emb (ix2 r k) :=
    funext fun a => Fin.ext (by
      rw [ValueKit.rect_emb_unit_val]
      match a with
      | ⟨0, _⟩ => show (i 0 : ℕ) = 0 + r; omega
      | ⟨1, _⟩ => show (i 1 : ℕ) = 0 + k; omega)
  rw [e]
  exact View.canon_cons_emb _ _ _ _

theorem ld_hi (x : Vec Ideal S512x2048 .f32) (r : Fin 256) (k : Fin 2048) (s : Fin 512) (hs : (s : ℕ) = 256 + r) :
    View.ld x (Rect.unit ![256, 0] ![256, 2048] inb_S512x2048_S256x2048_256_0) (ix2 r k) = x (ix2 s k) := by
  refine congrArg x (funext fun b => Fin.ext ?_)
  rw [Rect.idx_unit_val]
  match b with
  | ⟨0, _⟩ => exact hs.symm
  | ⟨1, _⟩ => exact Nat.zero_add _

theorem ld_lo (x : Vec Ideal S512x2048 .f32) (r : Fin 256) (k : Fin 2048) (s : Fin 512) (hs : (s : ℕ) = r) :
    View.ld x (Rect.unit ![0, 0] ![256, 2048] inb_S512x2048_S256x2048_0_0) (ix2 r k) = x (ix2 s k) := by
  refine congrArg x (funext fun b => Fin.ext ?_)
  rw [Rect.idx_unit_val]
  match b with
  | ⟨0, _⟩ => exact (Nat.zero_add _).trans hs.symm
  | ⟨1, _⟩ => exact Nat.zero_add _

variable (m : (ℓ : Loc nD τ sig) → Buf (Elt Ideal) ℓ)

/-- Token `r` of a point's block, from its input blocks. -/
def tok (c : Dev nD) (t : Fin cfg0.N) (r : Fin 512) : Fin 2048 → EReal :=
  normed (fun j => iblk m c 0 t (ix2 r j)) (fun j => iblk m c 1 t (ix2 0 j)) (fun j => iblk m c 2 t (ix4 0 0 0 j)) (fun j => iblk m c 3 t (ix4 0 0 0 j))

theorem tok_hi (c : Dev nD) (t : Fin cfg0.N) (r : Fin 256) (s : Fin 512) (hs : (s : ℕ) = 256 + r) (k : Fin 2048) :
    k0_pay9 (k0_pay7 (View.ld (iblk m c 0 t : Vec Ideal S512x2048 .f32) (Rect.unit ![256, 0] ![256, 2048] inb_S512x2048_S256x2048_256_0)) (iblk m c 1 t)) (k0_pay8 (iblk m c 3 t)) (iblk m c 2 t) (ix2 r k)
      = tok m c t s k := by
  rw [pay9_apply]
  unfold tok
  exact congrArg (fun f => normed f _ _ _ k) (funext fun j => ld_hi _ r j s hs)

theorem tok_lo (c : Dev nD) (t : Fin cfg0.N) (r : Fin 256) (s : Fin 512) (hs : (s : ℕ) = r) (k : Fin 2048) :
    k0_pay3 (View.ld (iblk m c 0 t : Vec Ideal S512x2048 .f32) (Rect.unit ![0, 0] ![256, 2048] inb_S512x2048_S256x2048_0_0)) (iblk m c 1 t) (iblk m c 3 t) (iblk m c 2 t) (ix2 r k)
      = tok m c t s k := by
  rw [pay3_eq, pay9_apply]
  unfold tok
  exact congrArg (fun f => normed f _ _ _ k) (funext fun j => ld_lo _ r j s hs)

/-- What a point's chunk of the hidden columns gives for a token. -/
def give (c : Dev nD) (t : Fin cfg0.N) (h : Fin 2048 → EReal) (q : Fin 2048) : EReal :=
  chunk h (fun k l => iblk m c 5 t (ix4 0 0 k l)) (fun k l => iblk m c 6 t (ix4 0 0 k l)) (fun l q => iblk m c 7 t (ix4 0 0 l q)) q

theorem first_out (c : Dev nD) (t : Fin cfg0.N) (h0 : t.val % 11 = 0) (r : Fin 512) (q : Fin 2048) :
    (outsAt0 m c t.val t.isLt).1 (ix2 r q) = give m c t (tok m c t r) q := by
  rw [outsAt0_A m c t h0 (by omega) (by omega)]
  frame_out
  by_cases hr : (r : ℕ) < 256
  · rw [lo_half _ _ ⟨r, hr⟩ (ix2 r q) q rfl rfl, pay6_apply]
    unfold give
    exact congrArg (fun f => chunk f _ _ _ q) (funext fun k => tok_lo m c t ⟨r, hr⟩ r rfl k)
  · rw [hi_half _ _ ⟨r - 256, by omega⟩ (ix2 r q) q (by show (r : ℕ) = 256 + (r - 256); omega) rfl, pay11_apply]
    unfold give
    exact congrArg (fun f => chunk f _ _ _ q) (funext fun k => tok_hi m c t ⟨r - 256, by omega⟩ r (by show (r : ℕ) = 256 + (r - 256); omega) k)

theorem first_tok (c : Dev nD) (t : Fin cfg0.N) (h0 : t.val % 11 = 0) (r : Fin 512) (k : Fin 2048) :
    (outsAt0 m c t.val t.isLt).2 (ix2 r k) = tok m c t r k := by
  rw [outsAt0_A m c t h0 (by omega) (by omega)]
  frame_out
  by_cases hr : (r : ℕ) < 256
  · rw [lo_half _ _ ⟨r, hr⟩ (ix2 r k) k rfl rfl]
    unfold k0_pay4
    rw [same_apply]
    exact tok_lo m c t ⟨r, hr⟩ r rfl k
  · rw [hi_half _ _ ⟨r - 256, by omega⟩ (ix2 r k) k (by show (r : ℕ) = 256 + (r - 256); omega) rfl]
    unfold k0_pay10
    rw [same_apply]
    exact tok_hi m c t ⟨r - 256, by omega⟩ r (by show (r : ℕ) = 256 + (r - 256); omega) k

theorem later_tok (c : Dev nD) (t : Fin cfg0.N) (h0 : ¬t.val % 11 = 0) (h2 : ¬t.val % 11 = 10) :
    (outsAt0 m c t.val t.isLt).2 = (outsAt0 m c (t.val - 1) (Nat.lt_of_le_of_lt (Nat.sub_le _ _) t.isLt)).2 := by
  rw [outsAt0_B m c t h0 (by omega) h2]
  unfold sout0_B_0
  rfl

theorem later_out (c : Dev nD) (t : Fin cfg0.N) (h0 : ¬t.val % 11 = 0) (h2 : ¬t.val % 11 = 10) (r : Fin 512) (q : Fin 2048) :
    (outsAt0 m c t.val t.isLt).1 (ix2 r q) = (outsAt0 m c (t.val - 1) (Nat.lt_of_le_of_lt (Nat.sub_le _ _) t.isLt)).1 (ix2 r q)
      + give m c t (fun k => (outsAt0 m c (t.val - 1) (Nat.lt_of_le_of_lt (Nat.sub_le _ _) t.isLt)).2 (ix2 r k)) q := by
  rw [outsAt0_B m c t h0 (by omega) h2]
  frame_out
  refine (congrArg (fun h => k0_pay1 _ h _ _ _ (ix2 r q)) (Memref.IsWhole.read_unread (Memref.isWhole_whole _) _)).trans ?_
  rw [pay1_apply]
  rfl

theorem last_out (c : Dev nD) (t : Fin cfg0.N) (h2 : t.val % 11 = 10) (r : Fin 512) (q : Fin 2048)
    (x g w : Fin 2048 → EReal) (hx : ∀ q, iblk m c 0 t (ix2 r q) = x q) (hg : ∀ q, iblk m c 4 t (ix4 0 0 0 q) = g q) (hw : ∀ q, iblk m c 8 t (ix2 0 q) = w q) :
    (outsAt0 m c t.val t.isLt).1 (ix2 r q) = rmsRow (fun q => x q + Ideal.ofBits .f32 0x3F000000#32 * g q *
      ((outsAt0 m c (t.val - 1) (Nat.lt_of_le_of_lt (Nat.sub_le _ _) t.isLt)).1 (ix2 r q)
      + give m c t (fun k => (outsAt0 m c (t.val - 1) (Nat.lt_of_le_of_lt (Nat.sub_le _ _) t.isLt)).2 (ix2 r k)) q)) w q := by
  rw [outsAt0_C m c t (by omega) (by omega) h2]
  frame_out
  refine (congrArg (fun h => k0_pay2 _ _ (k0_pay1 _ h _ _ _) _ (ix2 r q)) (Memref.IsWhole.read_unread (Memref.isWhole_whole _) _)).trans ?_
  rw [pay2_apply]
  refine congrArg₂ (fun y w => rmsRow y w q) (funext fun j => ?_) (funext hw)
  rw [pay1_apply, hx j, hg j]
  rfl

end Cert.Kernel3Ideal.Half

end
-- ==== Proof.G.Acc.lean ====
module

public import proofs.«01_k».proof.Proof.G.Blocks
public import proofs.«01_k».proof.Proof.G.First
public import Idealize.ShloMosaic.Lib.Pipeline.ValueKit.Acc

/-! The points of one block of tokens, in order: the tokens stay as the first point left them, and the output gathers one chunk
    of the hidden columns after the other. -/

@[expose] public section

set_option maxRecDepth 16384

noncomputable section

namespace Cert.Kernel3Ideal.Half

open Idealize.ShloMosaic Idealize.ShloMosaic.TcCoe Idealize.ShloMosaic.Tactic Cert.Kernel3Ideal Cert.Kernel3Ideal.Gen
open Cert.Ffn
open scoped BigOperators

variable (m : (ℓ : Loc nD τ sig) → Buf (Elt Ideal) ℓ)

/-! The arguments by their own coordinates. -/

def aX (c : Dev nD) : Fin 33280 → Fin 2048 → EReal := fun n k => m ((c : Thread nD τ).loc main_arg0) (ix2 n k)
def aw (c : Dev nD) : Fin 2048 → EReal := fun k => m ((c : Thread nD τ).loc main_arg1) (ix1 k)
def aM (c : Dev nD) : Fin 8 → Fin 9 → Fin 2048 → EReal := fun b p k => m ((c : Thread nD τ).loc main_arg2) (ix4 b (p + 6) 0 k)
def aF (c : Dev nD) : Fin 2048 → EReal := fun k => m ((c : Thread nD τ).loc main_arg6) (ix1 k)
def aW1 (c : Dev nD) : Fin 2048 → Fin 5632 → EReal := fun k l => m ((c : Thread nD τ).loc main_arg3) (ix4 3 1 k l)
def aW3 (c : Dev nD) : Fin 2048 → Fin 5632 → EReal := fun k l => m ((c : Thread nD τ).loc main_arg4) (ix4 3 1 k l)
def aW2 (c : Dev nD) : Fin 5632 → Fin 2048 → EReal := fun l o => m ((c : Thread nD τ).loc main_arg5) (ix4 3 1 l o)

theorem tok_eq (c : Dev nD) (t : Fin cfg0.N) (r : Fin 512) (k : Fin 2048) : tok m c t r k = hid (aX m c) (aw m c) (aM m c) (row t r) k := by
  unfold tok hid
  have e0 : (fun j => iblk m c 0 t (ix2 r j)) = aX m c (row t r) := funext fun j => blk0 m c t r j
  have e1 : (fun j => iblk m c 1 t (ix2 0 j)) = aw m c := funext fun j => blk1 m c t j
  have e2 : (fun j => iblk m c 2 t (ix4 0 0 0 j)) = aM m c (seg (row t r)) 0 := funext fun j => blk2 m c t r j
  have e3 : (fun j => iblk m c 3 t (ix4 0 0 0 j)) = aM m c (seg (row t r)) 1 := funext fun j => blk3 m c t r j
  exact congrFun (congr (congr (congr (congrArg normed e0) e1) e2) e3) k

/-- Column `l` of chunk `j`. -/
def colN (j : ℕ) (l : Fin 512) : Fin 5632 := ⟨(j * 512 + l) % 5632, by omega⟩

/-- One chunk's share of a token's output. -/
def part (c : Dev nD) (n : Fin 33280) (j : ℕ) (q : Fin 2048) : EReal :=
  chunk (hid (aX m c) (aw m c) (aM m c) n) (fun k l => aW1 m c k (colN j l)) (fun k l => aW3 m c k (colN j l)) (fun l q => aW2 m c (colN j l) q) q

theorem give_eq (c : Dev nD) (t : Fin cfg0.N) (n : Fin 33280) (h : Fin 2048 → EReal) (hh : ∀ k, h k = hid (aX m c) (aw m c) (aM m c) n k) (q : Fin 2048) :
    give m c t h q = part m c n (t.val % 11) q := by
  have ec : ∀ l, colN (t.val % 11) l = col t l := fun l => Fin.ext (by show (t.val % 11 * 512 + l) % 5632 = t.val % 11 * 512 + l; omega)
  unfold give part
  have e0 : h = hid (aX m c) (aw m c) (aM m c) n := funext hh
  have e1 : (fun (k : Fin 2048) (l : Fin 512) => iblk m c 5 t (ix4 0 0 k l)) = fun k l => aW1 m c k (colN (t.val % 11) l) :=
    funext fun k => funext fun l => (blk5 m c t k l).trans (congrArg (aW1 m c k) (ec l).symm)
  have e2 : (fun (k : Fin 2048) (l : Fin 512) => iblk m c 6 t (ix4 0 0 k l)) = fun k l => aW3 m c k (colN (t.val % 11) l) :=
    funext fun k => funext fun l => (blk6 m c t k l).trans (congrArg (aW3 m c k) (ec l).symm)
  have e3 : (fun (l : Fin 512) (q : Fin 2048) => iblk m c 7 t (ix4 0 0 l q)) = fun l q => aW2 m c (colN (t.val % 11) l) q :=
    funext fun l => funext fun q => (blk7 m c t l q).trans (congrArg (fun j => aW2 m c j q) (ec l).symm)
  exact congrFun (congr (congr (congr (congrArg chunk e0) e1) e2) e3) q

/-- Until the last point: the tokens, and the chunks so far. -/
theorem upto (c : Dev nD) : ∀ s : ℕ, s ≤ 9 → ∀ t : Fin cfg0.N, t.val % 11 = s →
    (∀ r k, (outsAt0 m c t.val t.isLt).2 (ix2 r k) = hid (aX m c) (aw m c) (aM m c) (row t r) k) ∧
    ∀ r q, (outsAt0 m c t.val t.isLt).1 (ix2 r q) = ∑ j ∈ Finset.range (s + 1), part m c (row t r) j q
  | 0, _, t, ht => by
    refine ⟨fun r k => (first_tok m c t ht r k).trans (tok_eq m c t r k), fun r q => ?_⟩
    rw [first_out m c t ht r q, give_eq m c t (row t r) _ (tok_eq m c t r), ht, Finset.sum_range_one]
  | s + 1, hs, t, ht => by
    have ih := upto c s (by omega) ⟨t.val - 1, Nat.lt_of_le_of_lt (Nat.sub_le _ _) t.isLt⟩ (by show (t.val - 1) % 11 = s; omega)
    have er : ∀ r, row ⟨t.val - 1, Nat.lt_of_le_of_lt (Nat.sub_le _ _) t.isLt⟩ r = row t r := fun r =>
      Fin.ext (by show (t.val - 1) / 11 * 512 + r = t.val / 11 * 512 + r; omega)
    have i1 : ∀ r k, (outsAt0 m c (t.val - 1) (Nat.lt_of_le_of_lt (Nat.sub_le _ _) t.isLt)).2 (ix2 r k) = hid (aX m c) (aw m c) (aM m c) (row t r) k :=
      fun r k => (ih.1 r k).trans (congrArg (fun n => hid (aX m c) (aw m c) (aM m c) n k) (er r))
    have i2 : ∀ r q, (outsAt0 m c (t.val - 1) (Nat.lt_of_le_of_lt (Nat.sub_le _ _) t.isLt)).1 (ix2 r q) = ∑ j ∈ Finset.range (s + 1), part m c (row t r) j q :=
      fun r q => (ih.2 r q).trans (congrArg (fun n => ∑ j ∈ Finset.range (s + 1), part m c n j q) (er r))
    refine ⟨fun r k => ?_, fun r q => ?_⟩
    · rw [later_tok m c t (by omega) (by omega)]
      exact i1 r k
    · rw [later_out m c t (by omega) (by omega), i2, give_eq m c t (row t r) _ (i1 r), ht, Finset.sum_range_succ _ (s + 1)]

/-- All chunks together. -/
theorem parts (c : Dev nD) (n : Fin 33280) (q : Fin 2048) :
    ∑ j ∈ Finset.range 11, part m c n j q = ∑ l : Fin 5632, act (aX m c) (aw m c) (aM m c) (aW1 m c) (aW3 m c) n l * aW2 m c l q := by
  rw [Finset.sum_range]
  refine Eq.trans ?_ (Fin.sum_mul_add_fin 11 512 (fun l : Fin 5632 => act (aX m c) (aw m c) (aM m c) (aW1 m c) (aW3 m c) n l * aW2 m c l q))
  refine Finset.sum_congr rfl fun j _ => ?_
  unfold part chunk act
  refine Finset.sum_congr rfl fun l _ => ?_
  have e : colN j l = ⟨j * 512 + l, by omega⟩ := Fin.ext (by show ((j : ℕ) * 512 + l) % 5632 = j * 512 + l; omega)
  dsimp only
  rw [e]

/-- The last point finishes its block of tokens. -/
theorem done (c : Dev nD) (t : Fin cfg0.N) (ht : t.val % 11 = 10) (r : Fin 512) (q : Fin 2048) :
    (outsAt0 m c t.val t.isLt).1 (ix2 r q) = rmsRow (out (aX m c) (aw m c) (aM m c) (aW1 m c) (aW3 m c) (aW2 m c) (row t r)) (aF m c) q := by
  have ih := upto m c 9 (le_refl _) ⟨t.val - 1, Nat.lt_of_le_of_lt (Nat.sub_le _ _) t.isLt⟩ (by show (t.val - 1) % 11 = 9; omega)
  have er : ∀ r, row ⟨t.val - 1, Nat.lt_of_le_of_lt (Nat.sub_le _ _) t.isLt⟩ r = row t r := fun r =>
    Fin.ext (by show (t.val - 1) / 11 * 512 + r = t.val / 11 * 512 + r; omega)
  have i1 : ∀ r k, (outsAt0 m c (t.val - 1) (Nat.lt_of_le_of_lt (Nat.sub_le _ _) t.isLt)).2 (ix2 r k) = hid (aX m c) (aw m c) (aM m c) (row t r) k :=
    fun r k => (ih.1 r k).trans (congrArg (fun n => hid (aX m c) (aw m c) (aM m c) n k) (er r))
  have i2 : ∀ q, (outsAt0 m c (t.val - 1) (Nat.lt_of_le_of_lt (Nat.sub_le _ _) t.isLt)).1 (ix2 r q) = ∑ j ∈ Finset.range 10, part m c (row t r) j q :=
    fun q => (ih.2 r q).trans (congrArg (fun n => ∑ j ∈ Finset.range 10, part m c n j q) (er r))
  rw [last_out m c t ht r q _ _ _ (fun q => blk0 m c t r q) (fun q => blk4 m c t r q) (fun q => blk8 m c t q)]
  refine congrArg (fun y => rmsRow y (aF m c) q) (funext fun q => ?_)
  rw [i2, give_eq m c t (row t r) _ (i1 r), ht, ← Finset.sum_range_succ, parts]
  rfl

end Cert.Kernel3Ideal.Half

end
-- ==== Proof.G.Ref.lean ====
module

public import proofs.«01_k».proof.Proof.Gen.Reference3Ideal.Read
public import proofs.«01_k».proof.Proof.G.Math
public import Idealize.ShloMosaic.Lib.Pipeline.ValueKit
public import Idealize.ShloMosaic.Lib.KernelVsHost

/-! The feed-forward reference, one element at a time. -/

@[expose] public section

set_option maxRecDepth 16384

noncomputable section

namespace Cert.Reference3Ideal.Half

open Idealize.ShloMosaic Idealize.ShloMosaic.TcCoe Idealize.ShloMosaic.Tactic Cert.Reference3Ideal Cert.Reference3Ideal.Gen Cert.Reference3Ideal.Read
open Cert.Ffn
open scoped BigOperators

variable (x0 : (⟨S33280x2048, .f32⟩ : BufTy).Contents (Elt Ideal)) (x1 : (⟨S2048, .f32⟩ : BufTy).Contents (Elt Ideal))
  (x2 : (⟨S8x9x1x2048, .f32⟩ : BufTy).Contents (Elt Ideal)) (x3 x4 : (⟨S4x2x2048x5632, .bf16⟩ : BufTy).Contents (Elt Ideal))
  (x5 : (⟨S4x2x5632x2048, .bf16⟩ : BufTy).Contents (Elt Ideal))

/-- Two runs of rows laid end to end. -/
theorem two (y0 y1 : (⟨S16384x2048, .f32⟩ : BufTy).Contents (Elt Ideal))
    (g : Fin 8 → Fin 2048 → EReal)
    (h0 : ∀ i : S16384x2048.Idx, y0 i = g 0 (i 1)) (h1 : ∀ i : S16384x2048.Idx, y1 i = g 1 (i 1))
    (i : S32768x2048.Idx) :
    concatenate S32768x2048 0 [⟨S16384x2048, y0⟩, ⟨S16384x2048, y1⟩]
      concatenates_S16384x2048_S16384x2048_S32768x2048_d0 i = g (seg (i 0)) (i 1) := by
  have hi : (i 0 : ℕ) < 32768 := (i 0).isLt
  unfold seg
  by_cases c0 : (i 0 : ℕ) < 16384
  · rw [if_pos c0]
    rw [concatenate_apply_piece (α := EReal) (t := S32768x2048) 0 [⟨S16384x2048, y0⟩, ⟨S16384x2048, y1⟩] concatenates_S16384x2048_S16384x2048_S32768x2048_d0 i 0 (by show _ < 2; omega) S16384x2048 y0 rfl rfl 0 rfl
      (ix2 (⟨i 0, c0⟩ : Fin 16384) (i 1)) (fun b hb => match b with
        | ⟨0, _⟩ => absurd rfl hb
        | ⟨1, _⟩ => rfl) (Nat.zero_add _), h0]
    rfl
  · rw [if_neg c0, if_pos hi]
    rw [concatenate_apply_piece (α := EReal) (t := S32768x2048) 0 [⟨S16384x2048, y0⟩, ⟨S16384x2048, y1⟩] concatenates_S16384x2048_S16384x2048_S32768x2048_d0 i 1 (by show _ < 2; omega) S16384x2048 y1 rfl rfl 16384 rfl
      (ix2 (⟨i 0 - 16384, by omega⟩ : Fin 16384) (i 1)) (fun b hb => match b with
        | ⟨0, _⟩ => absurd rfl hb
        | ⟨1, _⟩ => rfl) (by show 16384 + ((i 0 : ℕ) - 16384) = _; omega), h1]
    rfl

/-- A latent token. -/
theorem x0At (i : S32768x2048.Idx) : val_main_v0 (F := Ideal) x0 i = x0 (ix2 (up (i 0)) (i 1)) := by
  rw [val_main_v0_apply]
  refine congrArg x0 (funext fun a => Fin.ext ?_)
  match a with
  | ⟨0, _⟩ => rfl
  | ⟨1, _⟩ => rfl

/-- The shift of a token. -/
theorem shift (i : S32768x2048.Idx) : val_main_v9 (F := Ideal) x2 i = x2 (ix4 (seg (i 0)) 6 0 (i 1)) := by
  unfold val_main_v9
  refine two _ _ (fun b k => x2 (ix4 b 6 0 k)) (fun i => ?_) (fun i => ?_) i
  · rw [val_main_v5_apply, val_main_v4_apply, val_main_v3_apply, val_main_v2_apply, val_main_v1_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v8_apply, val_main_v7_apply, val_main_v6_apply, val_main_v2_apply, val_main_v1_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega

/-- The scale of a token. -/
theorem scale (i : S32768x2048.Idx) : val_main_v18 (F := Ideal) x2 i = x2 (ix4 (seg (i 0)) 7 0 (i 1)) := by
  unfold val_main_v18
  refine two _ _ (fun b k => x2 (ix4 b 7 0 k)) (fun i => ?_) (fun i => ?_) i
  · rw [val_main_v14_apply, val_main_v13_apply, val_main_v12_apply, val_main_v11_apply, val_main_v10_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v17_apply, val_main_v16_apply, val_main_v15_apply, val_main_v11_apply, val_main_v10_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega
/-- The gate of a token. -/
theorem gate (i : S32768x2048.Idx) : val_main_v27 (F := Ideal) x2 i = x2 (ix4 (seg (i 0)) 8 0 (i 1)) := by
  unfold val_main_v27
  refine two _ _ (fun b k => x2 (ix4 b 8 0 k)) (fun i => ?_) (fun i => ?_) i
  · rw [val_main_v23_apply, val_main_v22_apply, val_main_v21_apply, val_main_v20_apply, val_main_v19_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v26_apply, val_main_v25_apply, val_main_v24_apply, val_main_v20_apply, val_main_v19_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega

/-- The token the products take. -/
theorem hidAt (i : S32768x2048.Idx) :
    val_main_v44 (F := Ideal) x0 x1 x2 i
      = hid (fun n k => x0 (ix2 n k)) (fun k => x1 (ix1 k)) (fun b p k => x2 (ix4 b (p + 6) 0 k)) (up (i 0)) (i 1) := by
  rw [val_main_v44_apply, shift, val_main_v43_apply, val_main_v42_apply, scale, val_main_v41_apply, val_main_cst_2_apply,
    val_main_v40_apply, val_main_v39_apply, val_main_v38_apply, val_main_v37_apply, val_main_v36_apply, val_main_v35_apply,
    val_main_v34_apply, val_main_v33_apply, val_main_cst_1_apply, val_main_v32_apply, val_main_v31_apply, val_main_cst_0_apply,
    val_main_v30_apply, val_main_v29_apply]
  rw [show val_main_cst (F := Ideal) (Shape.Idx.first h_S_) = 0 from Ideal.ofBits_zero_f32, zero_add]
  unfold hid normed
  have e1 : idx_main_v38 (idx_main_v39 i) = ix1 (i 1) := by
    funext a
    match a with
    | ⟨0, _⟩ => rfl
  have e2 : ∀ k, val_main_v28 (F := Ideal) x0 (idx_main_v29 (idx_main_v30 (idx_main_v36 i)) k) = x0 (ix2 (up (i 0)) k) * x0 (ix2 (up (i 0)) k) := fun k => by
    rw [val_main_v28_apply, x0At]
    rfl
  rw [e1, x0At]
  simp only [e2]
  generalize (∑ k : Fin 2048, x0 (ix2 (up (i 0)) k) * x0 (ix2 (up (i 0)) k)) = S
  rfl

/-- A weight of the first product. -/
theorem w1At (i : S2048x5632.Idx) : val_main_v47 (F := Ideal) x3 i = x3 (ix4 3 1 (i 0) (i 1)) := by
  rw [val_main_v47_apply]
  show val_main_v46 (F := Ideal) x3 i = _
  rw [val_main_v46_apply, val_main_v45_apply]
  have : (i 0 : ℕ) < 2048 := (i 0).isLt
  have : (i 1 : ℕ) < 5632 := (i 1).isLt
  refine congrArg x3 (funext fun a => Fin.ext ?_)
  match a with
  | ⟨0, _⟩ => rfl
  | ⟨1, _⟩ => rfl
  | ⟨2, _⟩ => show ((i 0).val * 5632 + (i 1).val) / 5632 % 2048 = (i 0).val; omega
  | ⟨3, _⟩ => show ((i 0).val * 5632 + (i 1).val) % 5632 = (i 1).val; omega

/-- A weight of the second. -/
theorem w3At (i : S2048x5632.Idx) : val_main_v50 (F := Ideal) x4 i = x4 (ix4 3 1 (i 0) (i 1)) := by
  rw [val_main_v50_apply]
  show val_main_v49 (F := Ideal) x4 i = _
  rw [val_main_v49_apply, val_main_v48_apply]
  have : (i 0 : ℕ) < 2048 := (i 0).isLt
  have : (i 1 : ℕ) < 5632 := (i 1).isLt
  refine congrArg x4 (funext fun a => Fin.ext ?_)
  match a with
  | ⟨0, _⟩ => rfl
  | ⟨1, _⟩ => rfl
  | ⟨2, _⟩ => show ((i 0).val * 5632 + (i 1).val) / 5632 % 2048 = (i 0).val; omega
  | ⟨3, _⟩ => show ((i 0).val * 5632 + (i 1).val) % 5632 = (i 1).val; omega

/-- A weight of the last. -/
theorem w2At (i : S5632x2048.Idx) : val_main_v53 (F := Ideal) x5 i = x5 (ix4 3 1 (i 0) (i 1)) := by
  rw [val_main_v53_apply]
  show val_main_v52 (F := Ideal) x5 i = _
  rw [val_main_v52_apply, val_main_v51_apply]
  have : (i 0 : ℕ) < 5632 := (i 0).isLt
  have : (i 1 : ℕ) < 2048 := (i 1).isLt
  refine congrArg x5 (funext fun a => Fin.ext ?_)
  match a with
  | ⟨0, _⟩ => rfl
  | ⟨1, _⟩ => rfl
  | ⟨2, _⟩ => show ((i 0).val * 2048 + (i 1).val) / 2048 % 5632 = (i 0).val; omega
  | ⟨3, _⟩ => show ((i 0).val * 2048 + (i 1).val) % 2048 = (i 1).val; omega

/-- A gated product. -/
theorem actAt (i : S32768x5632.Idx) :
    val_main_v59 (F := Ideal) x0 x1 x2 x3 x4 i
      = act (fun n k => x0 (ix2 n k)) (fun k => x1 (ix1 k)) (fun b p k => x2 (ix4 b (p + 6) 0 k))
          (fun k l => x3 (ix4 3 1 k l)) (fun k l => x4 (ix4 3 1 k l)) (up (i 0)) (i 1) := by
  have ea : val_main_v56 (F := Ideal) x0 x1 x2 x3 i
      = ∑ k, hid (fun n k => x0 (ix2 n k)) (fun k => x1 (ix1 k)) (fun b p k => x2 (ix4 b (p + 6) 0 k)) (up (i 0)) k * x3 (ix4 3 1 k (i 1)) := by
    rw [val_main_v56_apply]
    refine Finset.sum_congr rfl fun k _ => ?_
    rw [hidAt, w1At]
    rfl
  have eb : val_main_v58 (F := Ideal) x0 x1 x2 x4 i
      = ∑ k, hid (fun n k => x0 (ix2 n k)) (fun k => x1 (ix1 k)) (fun b p k => x2 (ix4 b (p + 6) 0 k)) (up (i 0)) k * x4 (ix4 3 1 k (i 1)) := by
    rw [val_main_v58_apply]
    refine Finset.sum_congr rfl fun k _ => ?_
    rw [hidAt, w3At]
    rfl
  rw [val_main_v59_apply, val_main_v57_apply, val_main_call0_v5_apply, val_main_call0_v4_apply, val_main_call0_cst_0_apply,
    val_main_call0_v3_apply, val_main_call0_v2_apply, val_main_call0_cst_apply, val_main_call0_v1_apply, val_main_call0_v0_apply, ea, eb]
  unfold act
  generalize (∑ k, hid (fun n k => x0 (ix2 n k)) (fun k => x1 (ix1 k)) (fun b p k => x2 (ix4 b (p + 6) 0 k)) (up (i 0)) k * x3 (ix4 3 1 k (i 1))) = a
  generalize (∑ k, hid (fun n k => x0 (ix2 n k)) (fun k => x1 (ix1 k)) (fun b p k => x2 (ix4 b (p + 6) 0 k)) (up (i 0)) k * x4 (ix4 3 1 k (i 1))) = b
  rfl

/-- The token after the half feed-forward. -/
theorem stepAt (i : S32768x2048.Idx) :
    val_main_v62 (F := Ideal) x0 x1 x2 x3 x4 x5 i
      = out (fun n k => x0 (ix2 n k)) (fun k => x1 (ix1 k)) (fun b p k => x2 (ix4 b (p + 6) 0 k))
          (fun k l => x3 (ix4 3 1 k l)) (fun k l => x4 (ix4 3 1 k l)) (fun l o => x5 (ix4 3 1 l o)) (up (i 0)) (i 1) := by
  rw [val_main_v62_apply, val_main_v61_apply, val_main_v55_apply, val_main_v54_apply, val_main_cst_3_apply, gate, val_main_v60_apply, x0At]
  unfold out
  have e : ∀ k, val_main_v59 (F := Ideal) x0 x1 x2 x3 x4 (lidx_main_v60 i k) * val_main_v53 (F := Ideal) x5 (ridx_main_v60 i k)
      = act (fun n k => x0 (ix2 n k)) (fun k => x1 (ix1 k)) (fun b p k => x2 (ix4 b (p + 6) 0 k))
          (fun k l => x3 (ix4 3 1 k l)) (fun k l => x4 (ix4 3 1 k l)) (up (i 0)) k * x5 (ix4 3 1 k (i 1)) := fun k => by
    rw [actAt, w2At]
    rfl
  simp only [e]
  rfl

/-- The result. -/
theorem result (x6 : (⟨S2048, .f32⟩ : BufTy).Contents (Elt Ideal)) (i : S32768x2048.Idx) :
    val_main_v75 (F := Ideal) x0 x1 x2 x3 x4 x5 x6 i
      = rmsRow (out (fun n k => x0 (ix2 n k)) (fun k => x1 (ix1 k)) (fun b p k => x2 (ix4 b (p + 6) 0 k))
          (fun k l => x3 (ix4 3 1 k l)) (fun k l => x4 (ix4 3 1 k l)) (fun l o => x5 (ix4 3 1 l o)) (up (i 0))) (fun k => x6 (ix1 k)) (i 1) := by
  rw [val_main_v75_apply, val_main_v74_apply, val_main_v73_apply, val_main_v72_apply, val_main_v71_apply, val_main_v70_apply, val_main_v69_apply,
    val_main_v68_apply, val_main_cst_6_apply, val_main_v67_apply, val_main_v66_apply, val_main_cst_5_apply, val_main_v65_apply, val_main_v64_apply]
  rw [show val_main_cst_4 (F := Ideal) (Shape.Idx.first h_S_) = 0 from Ideal.ofBits_zero_f32, zero_add]
  unfold rmsRow
  have e1 : idx_main_v73 (idx_main_v74 i) = ix1 (i 1) := by
    funext a
    match a with
    | ⟨0, _⟩ => rfl
  have e2 : ∀ k, val_main_v63 (F := Ideal) x0 x1 x2 x3 x4 x5 (idx_main_v64 (idx_main_v65 (idx_main_v71 i)) k)
      = out (fun n k => x0 (ix2 n k)) (fun k => x1 (ix1 k)) (fun b p k => x2 (ix4 b (p + 6) 0 k))
          (fun k l => x3 (ix4 3 1 k l)) (fun k l => x4 (ix4 3 1 k l)) (fun l o => x5 (ix4 3 1 l o)) (up (i 0)) k
        * out (fun n k => x0 (ix2 n k)) (fun k => x1 (ix1 k)) (fun b p k => x2 (ix4 b (p + 6) 0 k))
          (fun k l => x3 (ix4 3 1 k l)) (fun k l => x4 (ix4 3 1 k l)) (fun l o => x5 (ix4 3 1 l o)) (up (i 0)) k := fun k => by
    rw [val_main_v63_apply, stepAt]
    rfl
  rw [e1, stepAt]
  simp only [e2]
  generalize out (fun n k => x0 (ix2 n k)) (fun k => x1 (ix1 k)) (fun b p k => x2 (ix4 b (p + 6) 0 k))
          (fun k l => x3 (ix4 3 1 k l)) (fun k l => x4 (ix4 3 1 k l)) (fun l o => x5 (ix4 3 1 l o)) (up (i 0)) = y
  rfl

end Cert.Reference3Ideal.Half

end
-- ==== Proof.G.Value.lean ====
module

public import proofs.«01_k».proof.Proof.G.Acc
public import proofs.«01_k».proof.Proof.G.Ref
public import proofs.«01_k».proof.Proof.Gen.Kernel3Ideal.Frame

/-! The array the feed-forward leaves is the reference's. -/

@[expose] public section

set_option maxRecDepth 16384

noncomputable section

namespace Cert.Kernel3Ideal.Half

open Idealize.ShloMosaic Idealize.ShloMosaic.TcCoe Idealize.ShloMosaic.Tactic Idealize.SL.Sem Cert.Kernel3Ideal Cert.Kernel3Ideal.Gen
open Cert.Ffn
open scoped BigOperators

variable (m : (ℓ : Loc nD τ sig) → Buf (Elt Ideal) ℓ)

/-- What device `c`'s result is shown to hold. -/
abbrev want (c : Dev nD) : Buf (Elt Ideal) ((c : Thread nD τ).loc main_v2) :=
  Cert.Reference3Ideal.Read.val_main_v75 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6))

/-- One element the last point of a block writes. -/
theorem point (c : Dev nD) (t : Fin cfg0.N) (ht : t.val % 11 = 10) (y : S512x2048.Idx) (i : S32768x2048.Idx)
    (e0 : (i 0 : ℕ) = t.val / 11 * 512 + (y 0 : ℕ)) (e1 : (i 1 : ℕ) = (y 1 : ℕ)) :
    (outsAt0 m c t.val t.isLt).1 y = want m c i := by
  have ey : y = ix2 (y 0) (y 1) := funext fun a => match a with
    | ⟨0, _⟩ => rfl
    | ⟨1, _⟩ => rfl
  have r0 : row t (y 0) = up (i 0) := Fin.ext e0.symm
  have r1 : y 1 = i 1 := Fin.ext e1.symm
  rw [ey]
  refine (done m c t ht (y 0) (y 1)).trans ?_
  refine Eq.trans ?_ (Cert.Reference3Ideal.Half.result _ _ _ _ _ _ _ i).symm
  exact congr (congrArg (fun n => rmsRow (out (aX m c) (aw m c) (aM m c) (aW1 m c) (aW3 m c) (aW2 m c) n) (aF m c)) r0) r1

theorem final (c : Dev nD) : (dats m 0 c).arrAt 9 cfg0.N = want m c := by
  refine (dats m 0 c).arrAt_eq_of_covers 9 (want m c) (by decide +kernel) fun t hf y => ?_
  blk_simp
  rw [after0_9]
  have h : ∀ t : Fin cfg0.N, win0_9.index t = ![t.val / 11, 0] := idx9
  refine point m c t ((flush0_9 t).mp hf) _ _ ?_ ?_ <;> blk_simp [h t] <;> rfl

/-- The result array after the launch. -/
theorem result (ρ : Dev nD → PrngReg) : θ_run defs (onTc (τ := τ) (main (F := Ideal))) ⟨m, fun _ => 0, ρ⟩ (fun r => ∀ c : Dev nD,
      r.2.mem ((c.tc : Thread nD τ).loc main_v2) = want m c) := by
  refine (θ_run defs _ _).mono (fun r h c => ?_) (run_main m ρ)
  exact (h.out_eq c 9).trans (final m c)

end Cert.Kernel3Ideal.Half

end
-- ==== Proof.L.Frame.lean ====
module

public import proofs.«01_k».proof.Proof.L.Run

/-! The attention kernel as compiled: every launch ends, the three arguments as they were and every counter at zero. What the
    kernel leaves in its output is not named here. -/

@[expose] public section

set_option maxRecDepth 16384
set_option maxHeartbeats 2000000

noncomputable section

namespace Cert.Kernel4.Att

open Idealize.ShloMosaic Idealize.ShloMosaic.TcCoe Idealize.ShloMosaic.Tactic Cert.Kernel4 Cert.Kernel4.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the output's window is forgotten. -/
def forgotten : Fin 4 → Bool := fun w => w.val == 3

/-- The proof data on core `c`: the arrays as launched, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem arrays (c : Dev nD) (w : Fin cfg0.W) : (dats m 0 c).A w = V m c (Pipeline.arrRef spec0 w) := by dsimp only [dats]
theorem left_0 (c : Dev nD) (t : Fin cfg0.N) : (dats m 0 c).after 0 t = X0_0 m c t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]

theorem found_0 (c : Dev nD) (t : Fin cfg0.N) (d) : (dats m 0 c).before 0 t d = X0_0 m c t :=
  before0_0_of m (dats m 0 c) (arrays m c 0) (left_0 m c) t d
theorem found_1 (c : Dev nD) (t : Fin cfg0.N) (d) : (dats m 0 c).before 1 t d = iblk m c 1 t :=
  before0_1_of m (dats m 0 c) (arrays m c 1) (left_1 m c) t d
theorem found_2 (c : Dev nD) (t : Fin cfg0.N) (d) : (dats m 0 c).before 2 t d = iblk m c 2 t :=
  before0_2_of m (dats m 0 c) (arrays m c 2) (left_2 m c) t d

/-- The three scratch buffers. -/
abbrev scr0 : Memref sig .tc .vmem S2x1x512 .f32 := Memref.whole cc0_scratch0
abbrev scr1 : Memref sig .tc .vmem S2x144x512 .f32 := Memref.whole cc0_scratch1
abbrev scr2 : Memref sig .tc .vmem S2x2x1664x512 .f32 := Memref.whole cc0_scratch2

/-- Between points the scratch buffers hold something, and so does the generator's register. -/
theorem between_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- What the body is called with at point `t`, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (∃ d, owns (c : Thread nD τ) (st0_3 t) fullShare d))

theorem live_0 : ∀ t : Fin cfg0.N, cfg0.idle 0 (grid0.coords t) = false := by intro t; rfl
theorem live_1 : ∀ t : Fin cfg0.N, cfg0.idle 1 (grid0.coords t) = false := by intro t; rfl
theorem live_2 : ∀ t : Fin cfg0.N, cfg0.idle 2 (grid0.coords t) = false := by intro t; rfl

/-- One point's body: the run of the module before, at the point's blocks. -/
theorem body_sound (c : Dev nD) (t : Fin cfg0.N) :
    pre m c t ⊢ wp frame (wpE (defs₀ (F := F)) Variants.none c none) Set.univ (bodyAt0 t) (fun _ => post m c t) := by
  unfold pre post bodyAt0
  simp only [found_0, found_1, found_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, between_eq]
  rw [show (dats m 0 c).leavesExact 0 t = owns (c : Thread nD τ) (st0_0 t) fullShare ((dats m 0 c).after 0 t) from by
    unfold Dat.leavesExact; rw [live_0 t], left_0]
  rw [show (dats m 0 c).leavesExact 1 t = owns (c : Thread nD τ) (st0_1 t) fullShare ((dats m 0 c).after 1 t) from by
    unfold Dat.leavesExact; rw [live_1 t], left_1]
  rw [show (dats m 0 c).leavesExact 2 t = owns (c : Thread nD τ) (st0_2 t) fullShare ((dats m 0 c).after 2 t) from by
    unfold Dat.leavesExact; rw [live_2 t], left_2]
  iintro ⟨⟨⟨⟨%d7, H7⟩, ⟨%d8, H8⟩, ⟨%d9, H9⟩⟩, Hg⟩, Ho, ⟨%d0, H0⟩, ⟨%d1, H1⟩, ⟨%d2, H2⟩, ⟨%d3, H3⟩⟩
  iapply ((bodyRun c (grid0.coords t) _ _ _ _ _ _ _ _ _ _ _ _ _ _ (X0_0 m c t) (iblk m c 1 t) (iblk m c 2 t)).2 Set.univ _ d7 d8 d9)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  iintro ⟨H0, H1, H2, ⟨%e, H3⟩, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H0]; · iexact H0
  isplitl [H1]; · iexact H1
  isplitl [H2]; · iexact H2
  iexists _; unfold owns; iexists _; isplitr; swap; · iexact H3
  ipureintro; rfl

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgotten := fun t => by
  rw [bigSep_W0, bigSep_W0, row]
  exact triple_restated (body_sound m c t) rfl .rfl fun _ => .rfl

set_option backward.isDefEq.respectTransparency.types false in
theorem launched : θ_run defs (onTc (τ := τ) (main (F := F))) (s₀ m ρ)
    (fun r => (Pipeline.RDat.FramePost (cfgs 0) (fun c => (dats m 0 c).toRForget forgotten) (V m)) r ∧ r.2.sem = fun _ => 0) :=
  Pipeline.θ_run_frame_forget (Q' := _) cfgs (dats m) (0 : Fin 1) launch0 defs₀ Variants.none forgotten m ρ main
    (hbody := fun c => (obligation m c).loose) (hshare := fun c => (dats m 0 c).share_full fun _ => rfl) (howed := fun _ _ => rfl) (V := V m)
    (hmain := hmain m Variants.none) (hA := arrays m) (hΦ := fun _ _ => rfl)

/-- The launch's claim: arguments unchanged, counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (launched m ρ)
  exact ⟨(Pipeline.RDat.FramePost.arr_in h.1 c 0 rfl).trans ((arrays m c 0).trans (V_main_arg0 m c)),
    (Pipeline.RDat.FramePost.arr_in h.1 c 1 rfl).trans ((arrays m c 1).trans (V_main_arg1 m c)),
    (Pipeline.RDat.FramePost.arr_in h.1 c 2 rfl).trans ((arrays m c 2).trans (V_main_arg2 m c))⟩

end Cert.Kernel4.Att

end
-- ==== Proof.B.Reads.lean ====
module

public import Idealize.ShloMosaic.Lib.Pipeline.ReadBack
public import Idealize.ShloMosaic.Lib.WritesUnit

/-! What a load of a piece of a buffer gives after stores of pieces: the store of that very piece, or what lay under a store
    of a piece apart from it. -/

@[expose] public section

noncomputable section

namespace Cert.Kernel4Ideal.Att

open Idealize.ShloMosaic

variable {sig : RefSig} {κ : Kind} {sp : Space} {s : Shape} {e : EltTy} {Val : EltTy → Type}

/-- Reading the piece just stored. -/
theorem at_same (v : View sig κ sp s e) (f : v.ty.Contents Val) (r : Rect s) (w : r.shape.Idx → Val e) (L : List (View.Piece Val s e)) :
    v.readAt Val r.toLoadRect (v.writes Val f (⟨r, w⟩ :: L)) = w := by
  funext x
  rw [View.readAt_apply]
  exact View.read_writes_cons_emb v f r w L x

/-- Reading a piece apart from the one just stored. -/
theorem at_skip (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext x
  rw [View.readAt_apply, View.readAt_apply]
  rw [View.writes_cons]
  exact View.read_slice_write_of_not_mem _ _ _ _ (by rw [Rect.map_emb_univ]; exact LoadRect.idx_not_mem_of_disj h x)

theorem cov_same [∀ e, Nonempty (Val e)] (v : View sig κ sp s e) (r : Rect s) (w : r.shape.Idx → Val e) (L : List (View.Piece Val s e)) :
    v.readCov (⟨r, w⟩ :: L) r.toLoadRect = w := at_same v v.junk r w L

end Cert.Kernel4Ideal.Att

end
-- ==== Proof.B.Run.lean ====
module

public import proofs.«01_k».proof.Proof.Gen.Kernel4Ideal.Frame
public import proofs.«01_k».proof.Proof.Gen.Kernel4Ideal.Loops

/-! One call of the attention kernel's body, run once from any contents of its three scratch buffers. The run finds the two
    stores into the output block; what they hold is read elsewhere. -/

@[expose] public section

set_option maxRecDepth 16384
set_option maxHeartbeats 4000000

noncomputable section

namespace Cert.Kernel4Ideal.Att

open Idealize.ShloMosaic Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's stores into the output block, as a function of the three input blocks and of what the scratch buffers hold when
    it starts, with the run that makes them: the inputs come back as they were, the scratch buffers at some contents. -/
def bodyRun (c : Dev nD) (i : grid0.Coords)
    (arg3 : Memref sig .tc .vmem S1024x256 .bf16) (harg3 : arg3.IsWhole)
    (arg4 : Memref sig .tc .vmem S16640x256 .bf16) (harg4 : arg4.IsWhole)
    (arg5 : Memref sig .tc .vmem S144x16640 .bf16) (harg5 : arg5.IsWhole)
    (arg6 : Memref sig .tc .vmem S1024x128 .bf16) (harg6 : arg6.IsWhole)
    (arg7 : Memref sig .tc .vmem S2x1x512 .f32) (harg7 : arg7.IsWhole)
    (arg8 : Memref sig .tc .vmem S2x144x512 .f32) (harg8 : arg8.IsWhole)
    (arg9 : Memref sig .tc .vmem S2x2x1664x512 .f32) (harg9 : arg9.IsWhole)
    (x0 : Vec F S1024x256 .bf16) (x1 : Vec F S16640x256 .bf16) (x2 : Vec F S144x16640 .bf16) :
    { L : Vec F S2x1x512 .f32 → Vec F S2x144x512 .f32 → Vec F S2x2x1664x512 .f32
        → List (View.Piece (Elt F) S1024x128 .bf16) //
      ∀ (E : Set ℕ) (K : PUnit → sProp 𝕄) (d7 : Vec F S2x1x512 .f32) (d8 : Vec F S2x144x512 .f32) (d9 : Vec F S2x2x1664x512 .f32),
        iprop(owns (c : Thread nD τ) arg3 fullShare x0 ∗ owns (c : Thread nD τ) arg4 fullShare x1
            ∗ owns (c : Thread nD τ) arg5 fullShare x2 ∗ (∃ d, owns (c : Thread nD τ) arg6 fullShare d)
            ∗ owns (c : Thread nD τ) arg7 fullShare d7
            ∗ owns (c : Thread nD τ) arg8 fullShare d8
            ∗ owns (c : Thread nD τ) arg9 fullShare d9
            ∗ (iprop(owns (c : Thread nD τ) arg3 fullShare x0 ∗ owns (c : Thread nD τ) arg4 fullShare x1
                ∗ owns (c : Thread nD τ) arg5 fullShare x2
                ∗ (∃ f, arg6.view.loc (c : Thread nD τ) ↦[arg6.view.set]{fullShare} arg6.view.writes (Elt F) f (L d7 d8 d9))
                ∗ (∃ d, owns (c : Thread nD τ) arg7 fullShare d) ∗ (∃ d, owns (c : Thread nD τ) arg8 fullShare d)
                ∗ (∃ d, owns (c : Thread nD τ) arg9 fullShare d)) -∗ K ⟨⟩))
          ⊢ wp frame (wpE (defs₀ (F := F)) Variants.none c none) E
              (cc0_attention_latent i arg3 harg3 arg4 harg4 arg5 harg5 arg6 harg6 arg7 harg7 arg8 harg8 arg9 harg9) K } := by
  refine ⟨?_, fun E K d7 d8 d9 => ?run⟩
  case run =>
    simp only [cc0_attention_latent_eq_skeleton]; unfold cc0_attention_latent_skel
    simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H7]
    · iexists _; iexists _; isplitr; swap; · iexact H7
      ipureintro; rfl
    isplitl [H8]
    · iexists _; iexists _; isplitr; swap; · iexact H8
      ipureintro; rfl
    iexists _; iexists _; isplitr; swap; · iexact H9
    ipureintro; rfl

end Cert.Kernel4Ideal.Att

end
-- ==== Proof.B.Trip.lean ====
module

public import proofs.«01_k».proof.Proof.B.Reads
public import proofs.«01_k».proof.Proof.B.Run

/-! One trip of the key loop, and the loop, in terms of what the scratch buffers hold: per query head the running maxima, the
    running sums and the scores of the chunk about to be summed. -/

@[expose] public section

set_option maxRecDepth 16384
set_option maxHeartbeats 4000000

noncomputable section

namespace Cert.Kernel4Ideal.Att

open Idealize.ShloMosaic Idealize.ShloMosaic.TcCoe Idealize.ShloMosaic.Tactic Cert.Kernel4Ideal Cert.Kernel4Ideal.Gen
open Idealize.SL Idealize.SL.RA Idealize.SL.BI

variable {F : FTy → Type} [FloatOps F]

/-- The scores of a chunk of keys against a block of queries. -/
abbrev SC (q : Vec F S512x256 .bf16) (kc : Vec F S1664x256 .bf16) : FVec F S1x1x1664x512 .f32 := k0_pay3 q kc
/-- The maxima once a chunk's scores are taken in. -/
abbrev MX (s : Vec F S1x1x1664x512 .f32) (mm : Vec F S1x1x512 .f32) : FVec F S1x1x512 .f32 := k0_pay9 s mm
/-- The sums once a chunk's scores and values are taken in. -/
abbrev AC (s : Vec F S1x1x1664x512 .f32) (vc : Vec F S144x1664 .bf16) (mm : Vec F S1x1x512 .f32) (a : Vec F S1x144x512 .f32) :
    FVec F S1x144x512 .f32 := k0_pay37 s vc mm a

abbrev rm0 := Rect.unit (s := S2x1x512) ![0, 0, 0] S1x1x512.size inb_S2x1x512_S1x1x512_0_0_0
abbrev rm1 := Rect.unit (s := S2x1x512) ![1, 0, 0] S1x1x512.size inb_S2x1x512_S1x1x512_1_0_0
abbrev ra0 := Rect.unit (s := S2x144x512) ![0, 0, 0] S1x144x512.size inb_S2x144x512_S1x144x512_0_0_0
abbrev ra1 := Rect.unit (s := S2x144x512) ![1, 0, 0] S1x144x512.size inb_S2x144x512_S1x144x512_1_0_0
abbrev rs0 := Rect.unit (s := S2x2x1664x512) ![0, 0, 0, 0] S1x1x1664x512.size inb_S2x2x1664x512_S1x1x1664x512_0_0_0_0
abbrev rs1 := Rect.unit (s := S2x2x1664x512) ![1, 0, 0, 0] S1x1x1664x512.size inb_S2x2x1664x512_S1x1x1664x512_1_0_0_0

theorem trip_reads (𝒱 : Variants) (c : Dev nD) (bd : Option 𝒱.V) (i : grid0.Coords) (arg3 : Memref sig .tc .vmem S1024x256 .bf16) (harg3 : arg3.IsWhole) (arg4 : Memref sig .tc .vmem S16640x256 .bf16) (harg4 : arg4.IsWhole) (arg5 : Memref sig .tc .vmem S144x16640 .bf16) (harg5 : arg5.IsWhole) (arg6 : Memref sig .tc .vmem S1024x128 .bf16) (harg6 : arg6.IsWhole) (arg7 : Memref sig .tc .vmem S2x1x512 .f32) (harg7 : arg7.IsWhole) (arg8 : Memref sig .tc .vmem S2x144x512 .f32) (harg8 : arg8.IsWhole) (arg9 : Memref sig .tc .vmem S2x2x1664x512 .f32) (harg9 : arg9.IsWhole) (v0 : Vec F S512x256 .bf16) (v1 : Vec F S512x256 .bf16) (X4 : BufTy.Contents (Elt F) arg4.view.ty) (X5 : BufTy.Contents (Elt F) arg5.view.ty) (k : Fin k0_t1_loop.trips)
  (f7 : BufTy.Contents (Elt F) arg7.view.ty) (f8 : BufTy.Contents (Elt F) arg8.view.ty) (f9 b9 : BufTy.Contents (Elt F) arg9.view.ty) :
  let T := trip_k0_t1 (F := F) 𝒱 c bd i arg3 harg3 arg4 harg4 arg5 harg5 arg6 harg6 arg7 harg7 arg8 harg8 arg9 harg9 v0 v1 X4 X5 k
  let K1 := arg4.view.readAt (Elt F) (Rect.unit (s := S16640x256) (k0_off1 k) S1664x256.size (k0_off1_inb k)).toLoadRect X4
  let K2 := arg4.view.readAt (Elt F) (Rect.unit (s := S16640x256) (k0_off3 k) S1664x256.size (k0_off3_inb k)).toLoadRect X4
  let V1 := arg5.view.readAt (Elt F) (Rect.unit (s := S144x16640) (k0_off2 k) S144x1664.size (k0_off2_inb k)).toLoadRect X5
  let V2 := arg5.view.readAt (Elt F) (Rect.unit (s := S144x16640) (k0_off4 k) S144x1664.size (k0_off4_inb k)).toLoadRect X5
  let m0 := arg7.view.readAt (Elt F) rm0.toLoadRect f7
  let m1 := arg7.view.readAt (Elt F) rm1.toLoadRect f7
  let a0 := arg8.view.readAt (Elt F) ra0.toLoadRect f8
  let a1 := arg8.view.readAt (Elt F) ra1.toLoadRect f8
  let s0 := arg9.view.readAt (Elt F) rs0.toLoadRect f9
  let s1 := arg9.view.readAt (Elt F) rs1.toLoadRect f9
  let g7 := arg7.view.writes (Elt F) f7 (T.1 f7 f8 f9)
  let g8 := arg8.view.writes (Elt F) f8 (T.2.1 f7 f8 f9)
  let g9 := arg9.view.writes (Elt F) b9 (T.2.2.1 f7 f8 f9)
  arg7.view.readAt (Elt F) rm0.toLoadRect g7 = MX (SC v0 K1) (MX s0 m0)
  ∧ arg7.view.readAt (Elt F) rm1.toLoadRect g7 = MX (SC v1 K1) (MX s1 m1)
  ∧ arg8.view.readAt (Elt F) ra0.toLoadRect g8 = AC (SC v0 K1) V2 (MX s0 m0) (AC s0 V1 m0 a0)
  ∧ arg8.view.readAt (Elt F) ra1.toLoadRect g8 = AC (SC v1 K1) V2 (MX s1 m1) (AC s1 V1 m1 a1)
  ∧ arg9.view.readAt (Elt F) rs0.toLoadRect g9 = SC v0 K2
  ∧ arg9.view.readAt (Elt F) rs1.toLoadRect g9 = SC v1 K2 := by
  intro T K1 K2 V1 V2 m0 m1 a0 a1 s0 s1 g7 g8 g9
  subst g7 g8 g9 T
  unfold trip_k0_t1
  dsimp only
  sl_unfold_words
  dsimp only
  refine ⟨?_, ?_, ?_, ?_, ?_, ?_⟩
  all_goals
    simp (discharger := decide) only [at_same, at_skip, cov_same, View.readCov_skip]
  · rfl
  · rfl
  · rfl
  · rfl
  · rfl
  · rfl

end Cert.Kernel4Ideal.Att

end
-- ==== Proof.B.Loop.lean ====
module

public import proofs.«01_k».proof.Proof.B.Trip

/-! The key loop by induction on its trips: before trip `n` the scratch buffers hold the running maxima and sums of the first
    `2n` chunks and the scores of chunk `2n`. -/

@[expose] public section

set_option maxRecDepth 16384
set_option maxHeartbeats 4000000

noncomputable section

namespace Cert.Kernel4Ideal.Att

open Idealize.ShloMosaic Idealize.ShloMosaic.TcCoe Idealize.ShloMosaic.Tactic Cert.Kernel4Ideal Cert.Kernel4Ideal.Gen
open Idealize.SL Idealize.SL.RA Idealize.SL.BI

variable {F : FTy → Type} [FloatOps F]

theorem kinb (j : ℕ) : ∀ a, (![1664 * (j % 10), 0] : Fin 2 → ℕ) a + S1664x256.size a ≤ S16640x256.size a := by
  have h : j % 10 < 10 := Nat.mod_lt _ (by decide)
  intro a
  match a with
  | ⟨0, _⟩ => show 1664 * (j % 10) + 1664 ≤ 16640; omega
  | ⟨1, _⟩ => show 0 + 256 ≤ 256; omega

theorem vinb (j : ℕ) : ∀ a, (![0, 1664 * (j % 10)] : Fin 2 → ℕ) a + S144x1664.size a ≤ S144x16640.size a := by
  have h : j % 10 < 10 := Nat.mod_lt _ (by decide)
  intro a
  match a with
  | ⟨0, _⟩ => show 0 + 144 ≤ 144; omega
  | ⟨1, _⟩ => show 1664 * (j % 10) + 1664 ≤ 16640; omega

/-- Chunk `j` of a block of keys (1664 of its 16640 rows). -/
def kch (x1 : Vec F S16640x256 .bf16) (j : ℕ) : Vec F S1664x256 .bf16 :=
  View.ld x1 (Rect.unit (s := S16640x256) ![1664 * (j % 10), 0] S1664x256.size (kinb j))
/-- Chunk `j` of a block of values (1664 of its 16640 columns). -/
def vch (x2 : Vec F S144x16640 .bf16) (j : ℕ) : Vec F S144x1664 .bf16 :=
  View.ld x2 (Rect.unit (s := S144x16640) ![0, 1664 * (j % 10)] S144x1664.size (vinb j))
/-- The maxima before any chunk. -/
def mIni : Vec F S1x1x512 .f32 := View.ld (k0_pay28 (F := F)) rm0
/-- The sums before any chunk. -/
def aIni : Vec F S1x144x512 .f32 := View.ld (k0_pay29 (F := F)) ra0
/-- The running maxima after `n` chunks. -/
def mSt (q : Vec F S512x256 .bf16) (x1 : Vec F S16640x256 .bf16) : ℕ → Vec F S1x1x512 .f32
  | 0 => mIni
  | n + 1 => MX (SC q (kch x1 n)) (mSt q x1 n)
/-- The running sums after `n` chunks. -/
def aSt (q : Vec F S512x256 .bf16) (x1 : Vec F S16640x256 .bf16) (x2 : Vec F S144x16640 .bf16) : ℕ → Vec F S1x144x512 .f32
  | 0 => aIni
  | n + 1 => AC (SC q (kch x1 n)) (vch x2 n) (mSt q x1 n) (aSt q x1 x2 n)

theorem kload {sig : RefSig} {κ : Kind} {sp : Space} (v : View sig κ sp S16640x256 .bf16) (X : v.ty.Contents (Elt F)) (x1 : Vec F S16640x256 .bf16) (hX : v.read (Elt F) X = x1) (j : ℕ) (o : Fin 2 → ℕ)
    (h) (ho : o = ![1664 * (j % 10), 0]) :
    v.readAt (Elt F) (Rect.unit (s := S16640x256) o S1664x256.size h).toLoadRect X = kch x1 j := by
  subst ho
  rw [View.readAt_eq_ld, hX]
  rfl

theorem vload {sig : RefSig} {κ : Kind} {sp : Space} (v : View sig κ sp S144x16640 .bf16) (X : v.ty.Contents (Elt F)) (x2 : Vec F S144x16640 .bf16) (hX : v.read (Elt F) X = x2) (j : ℕ) (o : Fin 2 → ℕ)
    (h) (ho : o = ![0, 1664 * (j % 10)]) :
    v.readAt (Elt F) (Rect.unit (s := S144x16640) o S144x1664.size h).toLoadRect X = vch x2 j := by
  subst ho
  rw [View.readAt_eq_ld, hX]
  rfl

theorem off1_eq : ∀ k : Fin k0_t1_loop.trips, k0_off1 k = ![1664 * ((2 * k.val + 1) % 10), 0] := by decide +kernel
theorem off2_eq : ∀ k : Fin k0_t1_loop.trips, k0_off2 k = ![0, 1664 * ((2 * k.val) % 10)] := by decide +kernel
theorem off3_eq : ∀ k : Fin k0_t1_loop.trips, k0_off3 k = ![1664 * ((2 * k.val + 2) % 10), 0] := by decide +kernel
theorem off4_eq : ∀ k : Fin k0_t1_loop.trips, k0_off4 k = ![0, 1664 * ((2 * k.val + 1) % 10)] := by decide +kernel

theorem loop_reads (𝒱 : Variants) (c : Dev nD) (bd : Option 𝒱.V) (i : grid0.Coords) (arg3 : Memref sig .tc .vmem S1024x256 .bf16) (harg3 : arg3.IsWhole) (arg4 : Memref sig .tc .vmem S16640x256 .bf16) (harg4 : arg4.IsWhole) (arg5 : Memref sig .tc .vmem S144x16640 .bf16) (harg5 : arg5.IsWhole) (arg6 : Memref sig .tc .vmem S1024x128 .bf16) (harg6 : arg6.IsWhole) (arg7 : Memref sig .tc .vmem S2x1x512 .f32) (harg7 : arg7.IsWhole) (arg8 : Memref sig .tc .vmem S2x144x512 .f32) (harg8 : arg8.IsWhole) (arg9 : Memref sig .tc .vmem S2x2x1664x512 .f32) (harg9 : arg9.IsWhole) (v0 v1 : Vec F S512x256 .bf16)
  (X4 : BufTy.Contents (Elt F) arg4.view.ty) (X5 : BufTy.Contents (Elt F) arg5.view.ty)
  (x1 : Vec F S16640x256 .bf16) (x2 : Vec F S144x16640 .bf16) (h4 : arg4.view.read (Elt F) X4 = x1) (h5 : arg5.view.read (Elt F) X5 = x2)
  (G7 : BufTy.Contents (Elt F) arg7.view.ty) (G8 : BufTy.Contents (Elt F) arg8.view.ty) (G9 : BufTy.Contents (Elt F) arg9.view.ty)
  (h70 : arg7.view.readAt (Elt F) rm0.toLoadRect G7 = mIni) (h71 : arg7.view.readAt (Elt F) rm1.toLoadRect G7 = mIni)
  (h80 : arg8.view.readAt (Elt F) ra0.toLoadRect G8 = aIni) (h81 : arg8.view.readAt (Elt F) ra1.toLoadRect G8 = aIni)
  (h90 : arg9.view.readAt (Elt F) rs0.toLoadRect G9 = SC v0 (kch x1 0)) (h91 : arg9.view.readAt (Elt F) rs1.toLoadRect G9 = SC v1 (kch x1 0)) :
  ∀ n : ℕ, n ≤ k0_t1_loop.trips →
  let P := pb_k0_t1 (F := F) 𝒱 c bd i arg3 harg3 arg4 harg4 arg5 harg5 arg6 harg6 arg7 harg7 arg8 harg8 arg9 harg9 v0 v1 X4 X5 G7 G8 G9 n
  arg7.view.readAt (Elt F) rm0.toLoadRect (arg7.view.writes (Elt F) G7 P.1) = mSt v0 x1 (2 * n)
  ∧ arg7.view.readAt (Elt F) rm1.toLoadRect (arg7.view.writes (Elt F) G7 P.1) = mSt v1 x1 (2 * n)
  ∧ arg8.view.readAt (Elt F) ra0.toLoadRect (arg8.view.writes (Elt F) G8 P.2.1) = aSt v0 x1 x2 (2 * n)
  ∧ arg8.view.readAt (Elt F) ra1.toLoadRect (arg8.view.writes (Elt F) G8 P.2.1) = aSt v1 x1 x2 (2 * n)
  ∧ ∀ B9 : BufTy.Contents (Elt F) arg9.view.ty, arg9.view.readAt (Elt F) rs0.toLoadRect B9 = SC v0 (kch x1 0) →
    arg9.view.readAt (Elt F) rs1.toLoadRect B9 = SC v1 (kch x1 0) →
    arg9.view.readAt (Elt F) rs0.toLoadRect (arg9.view.writes (Elt F) B9 P.2.2) = SC v0 (kch x1 (2 * n))
    ∧ arg9.view.readAt (Elt F) rs1.toLoadRect (arg9.view.writes (Elt F) B9 P.2.2) = SC v1 (kch x1 (2 * n)) := by
  intro n
  induction n with
  | zero =>
    intro _
    exact ⟨h70, h71, h80, h81, fun B9 hb0 hb1 => ⟨hb0, hb1⟩⟩
  | succ n ih =>
    intro hn
    obtain ⟨i70, i71, i80, i81, i9⟩ := ih (by omega)
    obtain ⟨i90, i91⟩ := i9 G9 h90 h91
    have hs := pb_k0_t1_succ (F := F) 𝒱 c bd i arg3 harg3 arg4 harg4 arg5 harg5 arg6 harg6 arg7 harg7 arg8 harg8 arg9 harg9 v0 v1 X4 X5 G7 G8 G9 ⟨n, hn⟩
    dsimp only at hs
    dsimp only
    rw [hs]
    clear hs
    generalize pb_k0_t1 (F := F) 𝒱 c bd i arg3 harg3 arg4 harg4 arg5 harg5 arg6 harg6 arg7 harg7 arg8 harg8 arg9 harg9 v0 v1 X4 X5 G7 G8 G9 n = P at *
    have key := fun b9 => trip_reads (F := F) 𝒱 c bd i arg3 harg3 arg4 harg4 arg5 harg5 arg6 harg6 arg7 harg7 arg8 harg8 arg9 harg9 v0 v1 X4 X5 ⟨n, hn⟩
      (arg7.view.writes (Elt F) G7 P.1) (arg8.view.writes (Elt F) G8 P.2.1) (arg9.view.writes (Elt F) G9 P.2.2) b9
    dsimp only at key
    simp only [i70, i71, i80, i81, i90, i91, kload arg4.view X4 x1 h4 (2 * n + 1) _ _ (off1_eq ⟨n, hn⟩), kload arg4.view X4 x1 h4 (2 * n + 2) _ _ (off3_eq ⟨n, hn⟩),
      vload arg5.view X5 x2 h5 (2 * n) _ _ (off2_eq ⟨n, hn⟩), vload arg5.view X5 x2 h5 (2 * n + 1) _ _ (off4_eq ⟨n, hn⟩)] at key
    simp only [View.writes_append]
    refine ⟨(key (arg9.view.writes (Elt F) G9 P.2.2)).1, (key (arg9.view.writes (Elt F) G9 P.2.2)).2.1,
      (key (arg9.view.writes (Elt F) G9 P.2.2)).2.2.1, (key (arg9.view.writes (Elt F) G9 P.2.2)).2.2.2.1, fun B9 _ _ => ?_⟩
    exact (key (arg9.view.writes (Elt F) B9 P.2.2)).2.2.2.2

end Cert.Kernel4Ideal.Att

end
-- ==== Proof.B.Body.lean ====
module

public import proofs.«01_k».proof.Proof.B.Loop
public import Idealize.ShloMosaic.Lib.Pipeline.ValueKit

/-! What one call of the body leaves in its output block: per query head, the quotient of the sums over all ten chunks by the
    row of ones among them, whatever the scratch buffers held. -/

@[expose] public section

set_option maxRecDepth 16384
set_option maxHeartbeats 4000000

noncomputable section

namespace Cert.Kernel4Ideal.Att

open Idealize.ShloMosaic Idealize.ShloMosaic.TcCoe Idealize.ShloMosaic.Tactic Cert.Kernel4Ideal Cert.Kernel4Ideal.Gen
open Idealize.SL Idealize.SL.RA Idealize.SL.BI

variable {F : FTy → Type} [FloatOps F]

/-- The first head's queries of a block. -/
def qh0 (x0 : Vec F S1024x256 .bf16) : Vec F S512x256 .bf16 := View.ld x0 (Rect.unit (s := S1024x256) ![0, 0] S512x256.size inb_S1024x256_S512x256_0_0)
/-- The second head's queries of a block. -/
def qh1 (x0 : Vec F S1024x256 .bf16) : Vec F S512x256 .bf16 := View.ld x0 (Rect.unit (s := S1024x256) ![512, 0] S512x256.size inb_S1024x256_S512x256_512_0)

abbrev rv0 := Rect.unit (s := S2x144x512) ![0, 0, 0] S1x128x512.size inb_S2x144x512_S1x128x512_0_0_0
abbrev rl0 := Rect.unit (s := S2x144x512) ![0, 128, 0] S1x1x512.size inb_S2x144x512_S1x1x512_0_128_0
abbrev rv1 := Rect.unit (s := S2x144x512) ![1, 0, 0] S1x128x512.size inb_S2x144x512_S1x128x512_1_0_0
abbrev rl1 := Rect.unit (s := S2x144x512) ![1, 128, 0] S1x1x512.size inb_S2x144x512_S1x1x512_1_128_0

abbrev rvh := Rect.unit (s := S1x144x512) ![0, 0, 0] S1x128x512.size (by decide)
abbrev rlh := Rect.unit (s := S1x144x512) ![0, 128, 0] S1x1x512.size (by decide)

/-- The rows of a head's output: sums over keys of weighted values, over the sum of the weights. -/
def oh0 (a : Vec F S1x144x512 .f32) : FVec F S512x128 .bf16 := k0_pay1 (k0_pay68 (View.ld a rvh)) (View.ld a rlh)
def oh1 (a : Vec F S1x144x512 .f32) : FVec F S512x128 .bf16 := k0_pay2 (View.ld a rvh) (View.ld a rlh)

def outPieces (x0 : Vec F S1024x256 .bf16) (x1 : Vec F S16640x256 .bf16) (x2 : Vec F S144x16640 .bf16) : List (View.Piece (Elt F) S1024x128 .bf16) :=
  [⟨Rect.unit (s := S1024x128) ![512, 0] S512x128.size inb_S1024x128_S512x128_512_0, oh1 (aSt (qh1 x0) x1 x2 10)⟩,
   ⟨Rect.unit (s := S1024x128) ![0, 0] S512x128.size inb_S1024x128_S512x128_0_0, oh0 (aSt (qh0 x0) x1 x2 10)⟩]

/-- Reading part of the piece just stored. -/
theorem cov_sub {sig : RefSig} {κ : Kind} {sp : Space} (v : View sig κ sp S2x144x512 .f32) {o o1 : Fin 3 → ℕ} {sz sz1 : Fin 3 → ℕ} (h h1) (o2 : Fin 3 → ℕ) (h2)
    (ho : ∀ a, o1 a = o a + o2 a) (w : (Rect.unit (s := S2x144x512) o sz h).shape.Idx → Elt F .f32) (L : List (View.Piece (Elt F) S2x144x512 .f32)) :
    v.readCov (⟨Rect.unit (s := S2x144x512) o sz h, w⟩ :: L) (Rect.unit (s := S2x144x512) o1 sz1 h1).toLoadRect
      = View.ld w (Rect.unit (s := (Rect.unit (s := S2x144x512) o sz h).shape) o2 sz1 h2) := by
  funext x
  show v.read (Elt F) (v.writes (Elt F) v.junk (⟨Rect.unit (s := S2x144x512) o sz h, w⟩ :: L)) ((Rect.unit (s := S2x144x512) o1 sz1 h1).idx x)
    = w ((Rect.unit (s := (Rect.unit (s := S2x144x512) o sz h).shape) o2 sz1 h2).idx x)
  have e : (Rect.unit (s := S2x144x512) o1 sz1 h1).idx x
      = (Rect.unit (s := S2x144x512) o sz h).emb ((Rect.unit (s := (Rect.unit (s := S2x144x512) o sz h).shape) o2 sz1 h2).idx x) := by
    funext a
    apply Fin.ext
    show ((Rect.unit (s := S2x144x512) o1 sz1 h1).idx x a : ℕ)
      = ((Rect.unit (s := S2x144x512) o sz h).idx ((Rect.unit (s := (Rect.unit (s := S2x144x512) o sz h).shape) o2 sz1 h2).idx x) a : ℕ)
    rw [Rect.idx_unit_val, Rect.idx_unit_val, Rect.idx_unit_val, ho a]
    exact Nat.add_assoc _ _ _
  rw [e]
  exact View.read_writes_cons_emb v _ _ w L _

theorem sub_v0 {sig : RefSig} {κ : Kind} {sp : Space} (v : View sig κ sp S2x144x512 .f32) (w : Vec F S1x144x512 .f32) (L : List (View.Piece (Elt F) S2x144x512 .f32)) :
    v.readCov (⟨ra0, w⟩ :: L) rv0.toLoadRect = View.ld w rvh := cov_sub v _ _ ![0, 0, 0] (by decide) (by decide) w L

theorem sub_l0 {sig : RefSig} {κ : Kind} {sp : Space} (v : View sig κ sp S2x144x512 .f32) (w : Vec F S1x144x512 .f32) (L : List (View.Piece (Elt F) S2x144x512 .f32)) :
    v.readCov (⟨ra0, w⟩ :: L) rl0.toLoadRect = View.ld w rlh := cov_sub v _ _ ![0, 128, 0] (by decide) (by decide) w L

theorem sub_v1 {sig : RefSig} {κ : Kind} {sp : Space} (v : View sig κ sp S2x144x512 .f32) (w : Vec F S1x144x512 .f32) (L : List (View.Piece (Elt F) S2x144x512 .f32)) :
    v.readCov (⟨ra1, w⟩ :: L) rv1.toLoadRect = View.ld w rvh := cov_sub v _ _ ![0, 0, 0] (by decide) (by decide) w L

theorem sub_l1 {sig : RefSig} {κ : Kind} {sp : Space} (v : View sig κ sp S2x144x512 .f32) (w : Vec F S1x144x512 .f32) (L : List (View.Piece (Elt F) S2x144x512 .f32)) :
    v.readCov (⟨ra1, w⟩ :: L) rl1.toLoadRect = View.ld w rlh := cov_sub v _ _ ![0, 128, 0] (by decide) (by decide) w L

/-- The two stores into the output block, with the two heads' sums in the scratch buffer. -/
theorem two {sig : RefSig} {κ : Kind} {sp : Space} (v : View sig κ sp S2x144x512 .f32) (w1 w0 A1 A0 : Vec F S1x144x512 .f32) (L L' : List (View.Piece (Elt F) S2x144x512 .f32)) (h1 : w1 = A1) (h0 : w0 = A0) :
      ([⟨Rect.unit (s := S1024x128) ![512, 0] S512x128.size inb_S1024x128_S512x128_512_0,
        k0_pay2 (v.readCov (⟨ra1, w1⟩ :: L) rv1.toLoadRect) (v.readCov (⟨ra1, w1⟩ :: L) rl1.toLoadRect)⟩,
       ⟨Rect.unit (s := S1024x128) ![0, 0] S512x128.size inb_S1024x128_S512x128_0_0,
        k0_pay1 (k0_pay68 (v.readCov (⟨ra0, w0⟩ :: L') rv0.toLoadRect)) (v.readCov (⟨ra0, w0⟩ :: L') rl0.toLoadRect)⟩] : List (View.Piece (Elt F) S1024x128 .bf16))
      = [⟨Rect.unit (s := S1024x128) ![512, 0] S512x128.size inb_S1024x128_S512x128_512_0, oh1 A1⟩,
   ⟨Rect.unit (s := S1024x128) ![0, 0] S512x128.size inb_S1024x128_S512x128_0_0, oh0 A0⟩] := by
  subst h1 h0
  rw [sub_v1, sub_l1, sub_v0, sub_l0]
  rfl

theorem aSt_ten (q : Vec F S512x256 .bf16) (x1 : Vec F S16640x256 .bf16) (x2 : Vec F S144x16640 .bf16) :
    aSt q x1 x2 10 = AC (SC q (kch x1 9)) (vch x2 9) (MX (SC q (kch x1 8)) (mSt q x1 8)) (AC (SC q (kch x1 8)) (vch x2 8) (mSt q x1 8) (aSt q x1 x2 8)) := rfl

theorem cov_append {sig : RefSig} {κ : Kind} {sp : Space} {s : Shape} {e : EltTy} (v : View sig κ sp s e) (L L' : List (View.Piece (Elt F) s e)) (B : LoadRect s) :
    v.readCov (L ++ L') B = v.readAt (Elt F) B (v.writes (Elt F) (v.writes (Elt F) v.junk L') L) := by
  rw [← View.writes_append]; rfl

theorem two_trips : 2 * k0_t1_loop.trips = 8 := by decide +kernel

theorem body_list (c : Dev nD) (i : grid0.Coords) (arg3 : Memref sig .tc .vmem S1024x256 .bf16) (harg3 : arg3.IsWhole) (arg4 : Memref sig .tc .vmem S16640x256 .bf16) (harg4 : arg4.IsWhole) (arg5 : Memref sig .tc .vmem S144x16640 .bf16) (harg5 : arg5.IsWhole) (arg6 : Memref sig .tc .vmem S1024x128 .bf16) (harg6 : arg6.IsWhole) (arg7 : Memref sig .tc .vmem S2x1x512 .f32) (harg7 : arg7.IsWhole) (arg8 : Memref sig .tc .vmem S2x144x512 .f32) (harg8 : arg8.IsWhole) (arg9 : Memref sig .tc .vmem S2x2x1664x512 .f32) (harg9 : arg9.IsWhole)
  (x0 : Vec F S1024x256 .bf16) (x1 : Vec F S16640x256 .bf16) (x2 : Vec F S144x16640 .bf16) (d7 : Vec F S2x1x512 .f32) (d8 : Vec F S2x144x512 .f32) (d9 : Vec F S2x2x1664x512 .f32) :
  (bodyRun (F := F) c i arg3 harg3 arg4 harg4 arg5 harg5 arg6 harg6 arg7 harg7 arg8 harg8 arg9 harg9 x0 x1 x2).1 d7 d8 d9 = outPieces x0 x1 x2 := by
  unfold bodyRun
  dsimp only
  sl_unfold_words
  dsimp only
  have q0 : View.readAt (Elt F) arg3.view (Rect.unit (s := S1024x256) ![0, 0] S512x256.size inb_S1024x256_S512x256_0_0).toLoadRect (harg3.unread x0) = qh0 x0 := by
    rw [View.readAt_eq_ld, harg3.read_unread]; rfl
  have q1 : View.readAt (Elt F) arg3.view (Rect.unit (s := S1024x256) ![512, 0] S512x256.size inb_S1024x256_S512x256_512_0).toLoadRect (harg3.unread x0) = qh1 x0 := by
    rw [View.readAt_eq_ld, harg3.read_unread]; rfl
  have k0 : View.readAt (Elt F) arg4.view (Rect.unit (s := S16640x256) ![0, 0] S1664x256.size inb_S16640x256_S1664x256_0_0).toLoadRect (harg4.unread x1) = kch x1 0 :=
    kload arg4.view _ x1 (harg4.read_unread _) 0 _ _ rfl
  have k9 : View.readAt (Elt F) arg4.view (Rect.unit (s := S16640x256) ![14976, 0] S1664x256.size inb_S16640x256_S1664x256_14976_0).toLoadRect (harg4.unread x1) = kch x1 9 :=
    kload arg4.view _ x1 (harg4.read_unread _) 9 _ _ rfl
  have w8 : View.readAt (Elt F) arg5.view (Rect.unit (s := S144x16640) ![0, 13312] S144x1664.size inb_S144x16640_S144x1664_0_13312).toLoadRect (harg5.unread x2) = vch x2 8 :=
    vload arg5.view _ x2 (harg5.read_unread _) 8 _ _ rfl
  have w9 : View.readAt (Elt F) arg5.view (Rect.unit (s := S144x16640) ![0, 14976] S144x1664.size inb_S144x16640_S144x1664_0_14976).toLoadRect (harg5.unread x2) = vch x2 9 :=
    vload arg5.view _ x2 (harg5.read_unread _) 9 _ _ rfl
  simp (discharger := decide) only [at_same, at_skip, cov_same, View.readCov_skip, q0, q1, k0, k9, w8, w9]
  have e9 := loop_reads (F := F) Variants.none c none i arg3 harg3 arg4 harg4 arg5 harg5 arg6 harg6 arg7 harg7 arg8 harg8 arg9 harg9 (qh0 x0) (qh1 x0)
    (harg4.unread x1) (harg5.unread x2) x1 x2 (harg4.read_unread _) (harg5.read_unread _)
    (arg7.view.writes (Elt F) arg7.view.junk [⟨Rect.unit (s := S2x1x512) ![0, 0, 0] S2x1x512.size inb_S2x1x512_S2x1x512_0_0_0, k0_pay28⟩])
    (arg8.view.writes (Elt F) arg8.view.junk [⟨Rect.unit (s := S2x144x512) ![0, 0, 0] S2x144x512.size inb_S2x144x512_S2x144x512_0_0_0, k0_pay29⟩])
    (arg9.view.writes (Elt F) (harg9.unread d9) [⟨rs1, k0_pay31 (qh1 x0) (kch x1 0)⟩, ⟨rs0, k0_pay30 (qh0 x0) (kch x1 0)⟩])
    (View.readCov_fill _ _ _ _ _ (by decide)) (View.readCov_fill _ _ _ _ _ (by decide)) (View.readCov_fill _ _ _ _ _ (by decide)) (View.readCov_fill _ _ _ _ _ (by decide))
    (by simp (discharger := decide) only [at_same, at_skip]; rfl) (by simp (discharger := decide) only [at_same]; rfl)
    (Scf.trips (0#32) (Scalar.addi 0#32 4#32) 1#32) le_rfl
  dsimp only at e9
  rw [show 2 * Scf.trips (0#32) (Scalar.addi 0#32 4#32) 1#32 = 8 from two_trips] at e9
  obtain ⟨e70, e71, e80, e81, e9⟩ := e9
  obtain ⟨e90, e91⟩ := e9 (arg9.view.writes (Elt F) arg9.view.junk [⟨rs1, k0_pay31 (qh1 x0) (kch x1 0)⟩, ⟨rs0, k0_pay30 (qh0 x0) (kch x1 0)⟩])
    (by simp (discharger := decide) only [at_same, at_skip]; rfl) (by simp (discharger := decide) only [at_same]; rfl)
  clear e9 q0 q1 k0 k9 w8 w9
  simp only [cov_append, e70, e71, e80, e81, e90, e91]
  clear e70 e71 e80 e81 e90 e91
  unfold outPieces
  rw [aSt_ten, aSt_ten]
  generalize mSt (qh1 x0) x1 8 = m1
  generalize mSt (qh0 x0) x1 8 = m0
  generalize aSt (qh1 x0) x1 x2 8 = a1
  generalize aSt (qh0 x0) x1 x2 8 = a0
  refine two arg8.view _ _ _ _ _ _ ?_ ?_
  · rfl
  · rfl

end Cert.Kernel4Ideal.Att

end
-- ==== Proof.B.Point.lean ====
module

public import proofs.«01_k».proof.Proof.B.Body
public import Idealize.ShloMosaic.Lib.Pipeline.ValueKit

/-! The body's values over the extended reals, one element at a time: scores, running maxima, running sums. -/

@[expose] public section

set_option maxRecDepth 16384

noncomputable section

namespace Cert.Kernel4Ideal.Att

open Idealize.ShloMosaic Idealize.ShloMosaic.TcCoe Idealize.ShloMosaic.Tactic Cert.Kernel4Ideal Cert.Kernel4Ideal.Gen
open scoped BigOperators

theorem SC_apply (q : Vec Ideal S512x256 .bf16) (kc : Vec Ideal S1664x256 .bf16) (i : Fin 1664) (c : Fin 512) :
    SC q kc (ix4 0 0 i c) = ∑ d : Fin 256, kc (ix2 i d) * q (ix2 c d) := by
  unfold SC k0_pay3
  pointwise

/-- The largest score of a chunk in a column. -/
def top (s : Vec Ideal S1x1x1664x512 .f32) (c : Fin 512) : EReal :=
  (Finset.univ : Finset (Fin 1664)).fold max ⊥ fun i => s (ix4 0 0 i c)

/-- Two to a power. -/
abbrev e2 (x : EReal) : EReal := FloatOps.exp2 (F := Ideal) (φ := .f32) x

theorem pay32_apply (s : Vec Ideal S1x1x1664x512 .f32) (i : Fin 1664) (c : Fin 512) : k0_pay32 s (ix2 i c) = s (ix4 0 0 i c) := by
  unfold k0_pay32
  pointwise

theorem ninf : Ideal.ofBits .f32 0xFF800000#32 = ⊥ := by
  simp [Ideal.ofBits, Ideal.ieee]

theorem pay33_apply (s : Vec Ideal S1x1x1664x512 .f32) (c : Fin 512) : k0_pay33 s (ix2 0 c) = top s c := by
  unfold k0_pay33 k0_pay32 top
  pointwise
  rw [← ninf]

theorem pay5_apply (s : Vec Ideal S1x1x1664x512 .f32) (c : Fin 512) : k0_pay5 s (ix2 0 c) = top s c := by
  unfold k0_pay5 k0_pay4 top
  pointwise
  rw [← ninf]

theorem MX_apply (s : Vec Ideal S1x1x1664x512 .f32) (mm : Vec Ideal S1x1x512 .f32) (c : Fin 512) :
    MX s mm (ix3 0 0 c) = max (mm (ix3 0 0 c)) (top s c) := by
  unfold MX k0_pay9 k0_pay8 k0_pay7
  rw [← pay5_apply]
  generalize k0_pay5 s = T
  pointwise

theorem ac1 (A B : FVec Ideal S1x512 .f32) (C : FVec Ideal S144x512 .f32) (a : Vec Ideal S1x144x512 .f32) (d : Fin 144) (c : Fin 512) :
    shapeCast S1x144x512 (addf (mulf (broadcastTo S144x512 A broadcasts_S1x512_S144x512) (shapeCast S144x512 a shapeCasts_S1x144x512_S144x512))
      (mulf (broadcastTo S144x512 B broadcasts_S1x512_S144x512) C)) shapeCasts_S144x512_S1x144x512 (ix3 0 d c)
      = A (ix2 0 c) * a (ix3 0 d c) + B (ix2 0 c) * C (ix2 d c) := by
  pointwise

theorem ac2 (vc : FVec Ideal S144x1664 .bf16) (E : FVec Ideal S1664x512 .f32) (d : Fin 144) (c : Fin 512) :
    matmul dot_S144x1664_S1664x512_S144x512_1_0_0_1_n_n none vc (truncf .bf16 E bitsLt_bf16_f32) (constant S144x512 .f32 0x00000000#32) (ix2 d c)
      = ∑ i : Fin 1664, vc (ix2 d i) * E (ix2 i c) := by
  pointwise

theorem ac3 (U : FVec Ideal S1664x512 .f32) (T : FVec Ideal S1x512 .f32) (i : Fin 1664) (c : Fin 512) :
    exp2 (subf U (broadcastTo S1664x512 T broadcasts_S1x512_S1664x512)) (ix2 i c) = e2 (U (ix2 i c) - T (ix2 0 c)) := by
  pointwise

theorem ac4 (m : Vec Ideal S1x1x512 .f32) (T : FVec Ideal S1x512 .f32) (c : Fin 512) :
    exp2 (subf (shapeCast S1x512 m shapeCasts_S1x1x512_S1x512) (maximumf (shapeCast S1x512 m shapeCasts_S1x1x512_S1x512) T)) (ix2 0 c)
      = e2 (m (ix3 0 0 c) - max (m (ix3 0 0 c)) (T (ix2 0 c))) := by
  pointwise

theorem ac5 (m : Vec Ideal S1x1x512 .f32) (T : FVec Ideal S1x512 .f32) (c : Fin 512) :
    exp2 (subf T (maximumf (shapeCast S1x512 m shapeCasts_S1x1x512_S1x512) T)) (ix2 0 c)
      = e2 (T (ix2 0 c) - max (m (ix3 0 0 c)) (T (ix2 0 c))) := by
  pointwise

theorem AC_apply (s : Vec Ideal S1x1x1664x512 .f32) (vc : Vec Ideal S144x1664 .bf16) (mm : Vec Ideal S1x1x512 .f32) (a : Vec Ideal S1x144x512 .f32)
    (d : Fin 144) (c : Fin 512) :
    AC s vc mm a (ix3 0 d c) = e2 (mm (ix3 0 0 c) - max (mm (ix3 0 0 c)) (top s c)) * a (ix3 0 d c)
      + e2 (top s c - max (mm (ix3 0 0 c)) (top s c))
        * ∑ i : Fin 1664, vc (ix2 d i) * e2 (s (ix4 0 0 i c) - top s c) := by
  unfold AC k0_pay37 k0_pay35 k0_pay34
  dsimp only
  rw [ac1, ac2, ac4, ac5, pay33_apply]
  simp only [ac3, pay33_apply, pay32_apply]

theorem mIni_apply (c : Fin 512) : mIni (F := Ideal) (ix3 0 0 c) = Ideal.ofBits .f32 0xF149F2CA#32 := rfl

theorem aIni_apply (d : Fin 144) (c : Fin 512) : aIni (F := Ideal) (ix3 0 d c) = 0 := by
  rw [show aIni (F := Ideal) (ix3 0 d c) = Ideal.ofBits .f32 0x00000000#32 from rfl]
  exact Ideal.ofBits_zero_f32

theorem kch_apply (x1 : Vec Ideal S16640x256 .bf16) (j : ℕ) (i : Fin 1664) (d : Fin 256) (k : Fin 16640) (hk : (k : ℕ) = 1664 * (j % 10) + i) :
    kch x1 j (ix2 i d) = x1 (ix2 k d) := by
  unfold kch
  refine congrArg x1 (funext fun a => Fin.ext ?_)
  rw [Rect.idx_unit_val]
  match a with
  | ⟨0, _⟩ => exact hk.symm
  | ⟨1, _⟩ => exact Nat.zero_add _

theorem vch_apply (x2 : Vec Ideal S144x16640 .bf16) (j : ℕ) (d : Fin 144) (i : Fin 1664) (k : Fin 16640) (hk : (k : ℕ) = 1664 * (j % 10) + i) :
    vch x2 j (ix2 d i) = x2 (ix2 d k) := by
  unfold vch
  refine congrArg x2 (funext fun a => Fin.ext ?_)
  rw [Rect.idx_unit_val]
  match a with
  | ⟨0, _⟩ => exact Nat.zero_add _
  | ⟨1, _⟩ => exact hk.symm

theorem qh0_apply (x0 : Vec Ideal S1024x256 .bf16) (c : Fin 512) (d : Fin 256) (e : Fin 1024) (he : (e : ℕ) = c) : qh0 x0 (ix2 c d) = x0 (ix2 e d) := by
  unfold qh0
  refine congrArg x0 (funext fun a => Fin.ext ?_)
  rw [Rect.idx_unit_val]
  match a with
  | ⟨0, _⟩ => exact (Nat.zero_add _).trans he.symm
  | ⟨1, _⟩ => exact Nat.zero_add _

theorem qh1_apply (x0 : Vec Ideal S1024x256 .bf16) (c : Fin 512) (d : Fin 256) (e : Fin 1024) (he : (e : ℕ) = 512 + c) : qh1 x0 (ix2 c d) = x0 (ix2 e d) := by
  unfold qh1
  refine congrArg x0 (funext fun a => Fin.ext ?_)
  rw [Rect.idx_unit_val]
  match a with
  | ⟨0, _⟩ => exact he.symm
  | ⟨1, _⟩ => exact Nat.zero_add _

theorem rvh_apply (a : Vec Ideal S1x144x512 .f32) (d : Fin 128) (c : Fin 512) (e : Fin 144) (he : (e : ℕ) = d) :
    View.ld a rvh (ix3 0 d c) = a (ix3 0 e c) := by
  refine congrArg a (funext fun b => Fin.ext ?_)
  rw [Rect.idx_unit_val]
  match b with
  | ⟨0, _⟩ => rfl
  | ⟨1, _⟩ => exact (Nat.zero_add _).trans he.symm
  | ⟨2, _⟩ => exact Nat.zero_add _

theorem rlh_apply (a : Vec Ideal S1x144x512 .f32) (c : Fin 512) :
    View.ld a rlh (ix3 0 0 c) = a (ix3 0 128 c) := by
  refine congrArg a (funext fun b => Fin.ext ?_)
  rw [Rect.idx_unit_val]
  match b with
  | ⟨0, _⟩ => rfl
  | ⟨1, _⟩ => rfl
  | ⟨2, _⟩ => exact Nat.zero_add _

theorem pay2_apply (n : Vec Ideal S1x128x512 .f32) (l : Vec Ideal S1x1x512 .f32) (c : Fin 512) (d : Fin 128) :
    k0_pay2 n l (ix2 c d) = Ideal.div (n (ix3 0 d c)) (l (ix3 0 0 c)) := by
  unfold k0_pay2
  pointwise

theorem pay1_apply (n : Vec Ideal S1x128x512 .f32) (l : Vec Ideal S1x1x512 .f32) (c : Fin 512) (d : Fin 128) :
    k0_pay1 (k0_pay68 n) l (ix2 c d) = Ideal.div (n (ix3 0 d c)) (l (ix3 0 0 c)) := by
  unfold k0_pay1 k0_pay68
  pointwise

theorem oh0_apply (a : Vec Ideal S1x144x512 .f32) (c : Fin 512) (d : Fin 128) (e : Fin 144) (he : (e : ℕ) = d) :
    oh0 a (ix2 c d) = Ideal.div (a (ix3 0 e c)) (a (ix3 0 128 c)) := by
  unfold oh0
  rw [pay1_apply, rvh_apply a d c e he, rlh_apply]

theorem oh1_apply (a : Vec Ideal S1x144x512 .f32) (c : Fin 512) (d : Fin 128) (e : Fin 144) (he : (e : ℕ) = d) :
    oh1 a (ix2 c d) = Ideal.div (a (ix3 0 e c)) (a (ix3 0 128 c)) := by
  unfold oh1
  rw [pay2_apply, rvh_apply a d c e he, rlh_apply]

end Cert.Kernel4Ideal.Att

end
-- ==== Proof.B.Online.lean ====
module

public import proofs.«01_k».proof.Proof.B.Point
public import proofs.«01_k».proof.Proof.M.Softmax

/-! The body's sums over all ten chunks in closed form, and the output block: softmax of a query's scores over all keys, applied
    to the values. -/

@[expose] public section

set_option maxRecDepth 16384

noncomputable section

namespace Cert.Kernel4Ideal.Att

open Idealize.ShloMosaic Idealize.ShloMosaic.TcCoe Idealize.ShloMosaic.Tactic Cert.Kernel4Ideal Cert.Kernel4Ideal.Gen
open Cert.Softmax
open scoped BigOperators

/-- Key `i` of chunk `j`. -/
def key (j : ℕ) (i : Fin 1664) : Fin 16640 := ⟨1664 * (j % 10) + i, by have := i.isLt; have := Nat.mod_lt j (show 10 > 0 by decide); omega⟩

theorem init_real : ∃ r : ℝ, Ideal.ofBits .f32 0xF149F2CA#32 = (r : EReal) := by
  rw [show Ideal.ofBits .f32 0xF149F2CA#32 = Ideal.ieee 8 23 0xF149F2CA#32 from rfl]
  unfold Ideal.ieee
  dsimp only
  rw [if_neg (by decide), if_neg (by decide)]
  exact ⟨_, rfl⟩

variable (q : Vec Ideal S512x256 .bf16) (x1 : Vec Ideal S16640x256 .bf16) (x2 : Vec Ideal S144x16640 .bf16) (c : Fin 512)

theorem score_chunk (f : Fin 16640 → ℝ) (hf : ∀ k, ∑ d : Fin 256, x1 (ix2 k d) * q (ix2 c d) = (f k : EReal)) (j : ℕ) (i : Fin 1664) :
    SC q (kch x1 j) (ix4 0 0 i c) = (f (key j i) : EReal) := by
  rw [SC_apply, ← hf]
  exact Finset.sum_congr rfl fun d _ => by rw [kch_apply x1 j i d (key j i) rfl]

/-- What the two accumulators hold after `n` chunks. -/
theorem closed (f : Fin 16640 → ℝ) (hf : ∀ k, ∑ d : Fin 256, x1 (ix2 k d) * q (ix2 c d) = (f k : EReal)) :
    ∀ n : ℕ, ∃ M : ℝ, mSt q x1 n (ix3 0 0 c) = (M : EReal)
      ∧ ∀ d : Fin 144, aSt q x1 x2 n (ix3 0 d c) = ∑ p : Fin n × Fin 1664, x2 (ix2 d (key p.1 p.2)) * P (f (key p.1 p.2) - M)
  | 0 => by
    obtain ⟨r, hr⟩ := init_real
    refine ⟨r, (mIni_apply c).trans hr, fun d => ?_⟩
    rw [show aSt q x1 x2 0 = aIni from rfl, aIni_apply, Fintype.sum_prod_type]
    exact (Finset.sum_of_isEmpty _).symm
  | n + 1 => by
    obtain ⟨M, hM, hA⟩ := closed f hf n
    obtain ⟨T, hT⟩ := fold_real (by decide) (fun i : Fin 1664 => f (key n i))
    have hs := score_chunk q x1 c f hf n
    have ht : top (SC q (kch x1 n)) c = (T : EReal) := by
      unfold top; simp only [hs]; exact hT
    have hmax : max (M : EReal) (T : EReal) = ((max M T : ℝ) : EReal) := (EReal.coe_strictMono.monotone.map_max).symm
    refine ⟨max M T, ?_, fun d => ?_⟩
    · rw [show mSt q x1 (n + 1) = MX (SC q (kch x1 n)) (mSt q x1 n) from rfl, MX_apply, hM, ht, hmax]
    · rw [show aSt q x1 x2 (n + 1) = AC (SC q (kch x1 n)) (vch x2 n) (mSt q x1 n) (aSt q x1 x2 n) from rfl, AC_apply, hM, ht, hmax]
      simp only [hs, coe_sub]
      have hv : ∀ i, vch x2 n (ix2 d i) = x2 (ix2 d (key n i)) := fun i => vch_apply x2 n d i _ rfl
      simp only [hv]
      have e : ∀ r : ℝ, e2 (r : EReal) = P r := fun r => exp2_coe r
      simp only [e]
      rw [step (fun p : Fin n × Fin 1664 => x2 (ix2 d (key p.1 p.2))) (fun p => f (key p.1 p.2)) (fun i : Fin 1664 => x2 (ix2 d (key n i)))
        (fun i => f (key n i)) _ M (max M T) T (hA d)]
      rw [Fintype.sum_prod_type, Fintype.sum_prod_type, Fin.sum_univ_castSucc (n := n)]
      rfl

theorem flat (g : Fin 16640 → EReal) : ∑ p : Fin 10 × Fin 1664, g (key p.1 p.2) = ∑ k, g k := by
  refine Fintype.sum_equiv finProdFinEquiv _ _ fun p => congrArg g (Fin.ext ?_)
  show 1664 * ((p.1 : ℕ) % 10) + (p.2 : ℕ) = (p.2 : ℕ) + 1664 * (p.1 : ℕ)
  rw [Nat.mod_eq_of_lt p.1.isLt, Nat.add_comm]

/-- A quotient of the sums after the last chunk is the softmax of the scores applied to the values, whatever the base `m`. -/
theorem softmax (f : Fin 16640 → ℝ) (hf : ∀ k, ∑ d : Fin 256, x1 (ix2 k d) * q (ix2 c d) = (f k : EReal))
    (h1 : ∀ k, x2 (ix2 128 k) = 1) (m : ℝ) (d : Fin 144) :
    Ideal.div (aSt q x1 x2 10 (ix3 0 d c)) (aSt q x1 x2 10 (ix3 0 128 c))
      = ∑ k, x2 (ix2 d k) * Ideal.div (P (f k - m)) (∑ j, P (f j - m)) := by
  obtain ⟨M, -, hA⟩ := closed q x1 x2 c f hf 10
  rw [hA, hA, flat (fun k => x2 (ix2 d k) * P (f k - M)), flat (fun k => x2 (ix2 128 k) * P (f k - M))]
  simp only [h1]
  exact quotient (by decide) (fun k => x2 (ix2 d k)) f M m

end Cert.Kernel4Ideal.Att

end
-- ==== Proof.B.Frame.lean ====
module

public import proofs.«01_k».proof.Proof.B.Body

/-! The attention kernel over the reals: every launch ends, the arguments as they were, every counter at zero, and the result
    array overwritten block by block with what the body leaves at each point. -/

@[expose] public section

set_option maxRecDepth 16384
set_option maxHeartbeats 2000000

noncomputable section

namespace Cert.Kernel4Ideal.Att

open Idealize.ShloMosaic Idealize.ShloMosaic.TcCoe Idealize.ShloMosaic.Tactic Cert.Kernel4Ideal Cert.Kernel4Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in its output block. -/
def OUT (x0 : Vec F S1024x256 .bf16) (x1 : Vec F S16640x256 .bf16) (x2 : Vec F S144x16640 .bf16) : Vec F S1024x128 .bf16 :=
  View.canon (outPieces x0 x1 x2)

theorem out_cover (x0 : Vec F S1024x256 .bf16) (x1 : Vec F S16640x256 .bf16) (x2 : Vec F S144x16640 .bf16) :
    ∀ y : S1024x128.Idx, ∃ p ∈ outPieces x0 x1 x2, y ∈ p.1.set := by
  intro y
  unfold outPieces
  by_cases h : (y 0 : ℕ) < 512
  · refine ⟨_, List.mem_cons_of_mem _ (List.mem_cons_self), ?_⟩
    rw [Rect.mem_set_unit]
    intro a
    match a with
    | ⟨0, _⟩ => exact ⟨Nat.zero_le _, by show (y 0 : ℕ) < 0 + 512; omega⟩
    | ⟨1, _⟩ => exact ⟨Nat.zero_le _, by show (y 1 : ℕ) < 0 + 128; have : (y 1 : ℕ) < 128 := (y 1).isLt; omega⟩
  · refine ⟨_, List.mem_cons_self, ?_⟩
    rw [Rect.mem_set_unit]
    intro a
    match a with
    | ⟨0, _⟩ => exact ⟨by show 512 ≤ (y 0 : ℕ); omega, by show (y 0 : ℕ) < 512 + 512; have : (y 0 : ℕ) < 1024 := (y 0).isLt; omega⟩
    | ⟨1, _⟩ => exact ⟨Nat.zero_le _, by show (y 1 : ℕ) < 0 + 128; have : (y 1 : ℕ) < 128 := (y 1).isLt; omega⟩

/-- The proof data on core `c`: the arrays as launched, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => OUT (X0_0 m c t) (iblk m c 1 t) (iblk m c 2 t)
  Φ _ := Pipeline.ΦA spec0 c
  q _ := fullShare
  owed _ := 0

theorem arrays (c : Dev nD) (w : Fin cfg0.W) : (dats m 0 c).A w = V m c (Pipeline.arrRef spec0 w) := by dsimp only [dats]
theorem left_0 (c : Dev nD) (t : Fin cfg0.N) : (dats m 0 c).after 0 t = X0_0 m c t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = OUT (X0_0 m c t) (iblk m c 1 t) (iblk m c 2 t) := by dsimp only [dats]

theorem found_0 (c : Dev nD) (t : Fin cfg0.N) (d) : (dats m 0 c).before 0 t d = X0_0 m c t :=
  before0_0_of m (dats m 0 c) (arrays m c 0) (left_0 m c) t d
theorem found_1 (c : Dev nD) (t : Fin cfg0.N) (d) : (dats m 0 c).before 1 t d = iblk m c 1 t :=
  before0_1_of m (dats m 0 c) (arrays m c 1) (left_1 m c) t d
theorem found_2 (c : Dev nD) (t : Fin cfg0.N) (d) : (dats m 0 c).before 2 t d = iblk m c 2 t :=
  before0_2_of m (dats m 0 c) (arrays m c 2) (left_2 m c) t d

/-- The three scratch buffers. -/
abbrev scr0 : Memref sig .tc .vmem S2x1x512 .f32 := Memref.whole cc0_scratch0
abbrev scr1 : Memref sig .tc .vmem S2x144x512 .f32 := Memref.whole cc0_scratch1
abbrev scr2 : Memref sig .tc .vmem S2x2x1664x512 .f32 := Memref.whole cc0_scratch2

/-- Between points the scratch buffers hold something, and so does the generator's register. -/
theorem between_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

/-- What the body is called with at point `t`, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t)

theorem live_0 : ∀ t : Fin cfg0.N, cfg0.idle 0 (grid0.coords t) = false := by intro t; rfl
theorem live_1 : ∀ t : Fin cfg0.N, cfg0.idle 1 (grid0.coords t) = false := by intro t; rfl
theorem live_2 : ∀ t : Fin cfg0.N, cfg0.idle 2 (grid0.coords t) = false := by intro t; rfl
theorem live_3 : ∀ t : Fin cfg0.N, cfg0.idle 3 (grid0.coords t) = false := by intro t; rfl

/-- One point's body: the run of the module before, at the point's blocks. -/
theorem body_sound (c : Dev nD) (t : Fin cfg0.N) :
    pre m c t ⊢ wp frame (wpE (defs₀ (F := F)) Variants.none c none) Set.univ (bodyAt0 t) (fun _ => post m c t) := by
  unfold pre post bodyAt0
  simp only [found_0, found_1, found_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, between_eq]
  rw [show (dats m 0 c).leavesExact 0 t = owns (c : Thread nD τ) (st0_0 t) fullShare ((dats m 0 c).after 0 t) from by
    unfold Dat.leavesExact; rw [live_0 t], left_0]
  rw [show (dats m 0 c).leavesExact 1 t = owns (c : Thread nD τ) (st0_1 t) fullShare ((dats m 0 c).after 1 t) from by
    unfold Dat.leavesExact; rw [live_1 t], left_1]
  rw [show (dats m 0 c).leavesExact 2 t = owns (c : Thread nD τ) (st0_2 t) fullShare ((dats m 0 c).after 2 t) from by
    unfold Dat.leavesExact; rw [live_2 t], left_2]
  rw [show (dats m 0 c).leavesExact 3 t = owns (c : Thread nD τ) (st0_3 t) fullShare ((dats m 0 c).after 3 t) from by
    unfold Dat.leavesExact; rw [live_3 t], left_3]
  iintro ⟨⟨⟨⟨%d7, H7⟩, ⟨%d8, H8⟩, ⟨%d9, H9⟩⟩, Hg⟩, Ho, ⟨%d0, H0⟩, ⟨%d1, H1⟩, ⟨%d2, H2⟩, ⟨%d3, H3⟩⟩
  iapply ((bodyRun c (grid0.coords t) _ _ _ _ _ _ _ _ _ _ _ _ _ _ (X0_0 m c t) (iblk m c 1 t) (iblk m c 2 t)).2 Set.univ _ d7 d8 d9)
  isplitl [H0]; · iexact H0
  isplitl [H1]; · iexact H1
  isplitl [H2]; · iexact H2
  isplitl [H3]; · iexists _; iexact H3
  isplitl [H7]; · iexact H7
  isplitl [H8]; · iexact H8
  isplitl [H9]; · iexact H9
  iintro ⟨H0, H1, H2, ⟨%e, H3⟩, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H0]; · iexact H0
  isplitl [H1]; · iexact H1
  isplitl [H2]; · iexact H2
  unfold owns; iexists _; isplitr; swap; · iexact H3
  ipureintro
  rw [body_list]
  exact View.read_writes_eq_canon _ _ _ (out_cover _ _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

set_option backward.isDefEq.respectTransparency.types false in
theorem launched : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl) (howed := fun _ _ => rfl) (V := V m)
    (hmain := hmain m Variants.none) (hA := arrays m) (hΦ := fun _ _ => rfl)

/-- The launch's claim: arguments unchanged, counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (launched m ρ)
  exact ⟨(h.1.in_eq c 0 rfl).trans ((arrays m c 0).trans (V_main_arg0 m c)),
    (h.1.in_eq c 1 rfl).trans ((arrays m c 1).trans (V_main_arg1 m c)),
    (h.1.in_eq c 2 rfl).trans ((arrays m c 2).trans (V_main_arg2 m c))⟩

/-- The result array after the launch. -/
theorem result : θ_run defs (onTc (τ := τ) (main (F := F))) ⟨m, fun _ => 0, ρ⟩ (fun r => ∀ c : Dev nD,
      r.2.mem ((c.tc : Thread nD τ).loc main_v0) = (dats m 0 c).arrAt 3 cfg0.N) := by
  refine (θ_run defs _ _).mono (fun r h c => ?_) (launched m ρ)
  exact h.1.out_eq c 3

end Cert.Kernel4Ideal.Att

end
-- ==== Proof.B.Out.lean ====
module

public import proofs.«01_k».proof.Proof.B.Online
public import proofs.«01_k».proof.Proof.B.Frame

/-! What one point leaves in its output block: for each of its two runs of queries, the softmax of the scores against the values. -/

@[expose] public section

set_option maxRecDepth 16384

noncomputable section

namespace Cert.Kernel4Ideal.Att

open Idealize.ShloMosaic Idealize.ShloMosaic.TcCoe Idealize.ShloMosaic.Tactic Cert.Kernel4Ideal Cert.Kernel4Ideal.Gen
open Cert.Softmax
open scoped BigOperators

variable (x0 : Vec Ideal S1024x256 .bf16) (x1 : Vec Ideal S16640x256 .bf16) (x2 : Vec Ideal S144x16640 .bf16)

/-- The second run of queries. -/
theorem out_hi (c : Fin 512) (d : Fin 128) (i : S1024x128.Idx) (h0 : (i 0 : ℕ) = 512 + c) (h1 : (i 1 : ℕ) = d) :
    OUT x0 x1 x2 i = oh1 (aSt (qh1 x0) x1 x2 10) (ix2 c d) := by
  unfold OUT outPieces
  have e : i = (Rect.unit (s := S1024x128) ![512, 0] S512x128.size inb_S1024x128_S512x128_512_0).emb (ix2 c d) :=
    funext fun a => Fin.ext (by
      rw [ValueKit.rect_emb_unit_val]
      match a with
      | ⟨0, _⟩ => show (i 0 : ℕ) = 512 + c; omega
      | ⟨1, _⟩ => show (i 1 : ℕ) = 0 + d; omega)
  rw [e]
  exact View.canon_cons_emb _ _ _ _

/-- The first run of queries. -/
theorem out_lo (c : Fin 512) (d : Fin 128) (i : S1024x128.Idx) (h0 : (i 0 : ℕ) = c) (h1 : (i 1 : ℕ) = d) :
    OUT x0 x1 x2 i = oh0 (aSt (qh0 x0) x1 x2 10) (ix2 c d) := by
  unfold OUT outPieces
  rw [View.canon_cons_of_not_mem _ _ (by
    rw [Rect.mem_set_unit]
    intro h
    have := (h 0).1
    change 512 ≤ (i 0 : ℕ) at this
    omega)]
  have e : i = (Rect.unit (s := S1024x128) ![0, 0] S512x128.size inb_S1024x128_S512x128_0_0).emb (ix2 c d) :=
    funext fun a => Fin.ext (by
      rw [ValueKit.rect_emb_unit_val]
      match a with
      | ⟨0, _⟩ => show (i 0 : ℕ) = 0 + c; omega
      | ⟨1, _⟩ => show (i 1 : ℕ) = 0 + d; omega)
  rw [e]
  exact View.canon_cons_emb _ _ _ _

/-- One element of the output block. -/
theorem out_apply (a : Fin 1024) (d : Fin 128) (i : S1024x128.Idx) (h0 : (i 0 : ℕ) = a) (h1 : (i 1 : ℕ) = d)
    (f : Fin 16640 → ℝ)
    (hf : ∀ k, ∑ e : Fin 256, x1 (ix2 k e) * x0 (ix2 a e) = (f k : EReal))
    (hone : ∀ k, x2 (ix2 128 k) = 1) (m : ℝ) :
    OUT x0 x1 x2 i = ∑ k, x2 (ix2 ⟨d, by omega⟩ k) * Ideal.div (P (f k - m)) (∑ j, P (f j - m)) := by
  by_cases ha : (a : ℕ) < 512
  · rw [out_lo x0 x1 x2 ⟨a, ha⟩ d i h0 h1, oh0_apply _ ⟨a, ha⟩ d ⟨d, by omega⟩ rfl]
    exact softmax (qh0 x0) x1 x2 ⟨a, ha⟩ f (fun k => by
      rw [← hf]
      exact Finset.sum_congr rfl fun e _ => congrArg (_ * ·) (qh0_apply x0 ⟨a, ha⟩ e a rfl)) hone m _
  · have ha2 : (a : ℕ) - 512 < 512 := by omega
    have ea : (a : ℕ) = 512 + ((a : ℕ) - 512) := by omega
    rw [out_hi x0 x1 x2 ⟨(a : ℕ) - 512, ha2⟩ d i (h0.trans ea) h1, oh1_apply _ ⟨(a : ℕ) - 512, ha2⟩ d ⟨d, by omega⟩ rfl]
    exact softmax (qh1 x0) x1 x2 ⟨(a : ℕ) - 512, ha2⟩ f (fun k => by
      rw [← hf]
      exact Finset.sum_congr rfl fun e _ => congrArg (_ * ·) (qh1_apply x0 ⟨(a : ℕ) - 512, ha2⟩ e a ea)) hone m _

end Cert.Kernel4Ideal.Att

end
-- ==== Proof.S.Ref.lean ====
module

public import proofs.«01_k».proof.Proof.Gen.Reference4Ideal.Read
public import proofs.«01_k».proof.Proof.M.Softmax
public import Idealize.ShloMosaic.Lib.Pipeline.ValueKit
public import Idealize.ShloMosaic.Lib.KernelVsHost

/-! The attention reference, one element at a time: batch `b`, query `q` of 16384, head `g`, channel `d`. -/

@[expose] public section

set_option maxRecDepth 16384

noncomputable section

namespace Cert.Reference4Ideal.Att

open Idealize.ShloMosaic Idealize.ShloMosaic.TcCoe Idealize.ShloMosaic.Tactic Cert.Reference4Ideal Cert.Reference4Ideal.Gen Cert.Reference4Ideal.Read
open Cert.Softmax
open scoped BigOperators

/-- The token of query `q` of batch `b`. -/
def rowQ (b : Fin 2) (q : Fin 16384) : Fin 33280 := ⟨b * 16384 + q, by omega⟩
/-- The column of channel `d` of head `g`'s queries. -/
def colQ (g : Fin 4) (d : Fin 256) : Fin 1024 := ⟨g * 256 + d, by omega⟩
/-- The row of key `k` of batch `b`. -/
def rowK (b : Fin 2) (k : Fin 16640) : Fin 33280 := ⟨b * 16640 + k, by omega⟩
/-- The column of channel `d` of head `g`'s keys. -/
def colK (g : Fin 4) (d : Fin 256) : Fin 1024 := ⟨g * 256 + d, by omega⟩
/-- The row of channel `d` of value head `g`, each of which takes 144 rows. -/
def rowV (g : Fin 4) (d : Fin 144) : Fin 576 := ⟨g * 144 + d, by omega⟩

variable (x0 : (⟨S33280x1024, .bf16⟩ : BufTy).Contents (Elt Ideal)) (x1 : (⟨S33280x1024, .bf16⟩ : BufTy).Contents (Elt Ideal)) (x2 : (⟨S576x33280, .bf16⟩ : BufTy).Contents (Elt Ideal))

theorem query (i : S2x16384x4x256.Idx) (b : Fin 2) (q : Fin 16384) (g : Fin 4) (d : Fin 256)
    (h0 : (i 0 : ℕ) = b) (h1 : (i 1 : ℕ) = q) (h2 : (i 2 : ℕ) = g) (h3 : (i 3 : ℕ) = d) :
    val_main_v2 (F := Ideal) x0 i = x0 (ix2 (rowQ b q) (colQ g d)) := by
  rw [val_main_v2_apply, val_main_v1_apply, val_main_v0_apply]
  refine congrArg x0 (funext fun a => Fin.ext ?_)
  match a with
  | ⟨0, _⟩ =>
    show ((((i 0).val * 16384 + (i 1).val) * 4 + (i 2).val) * 256 + (i 3).val) / 1024 = b * 16384 + q
    omega
  | ⟨1, _⟩ =>
    show ((((i 0).val * 16384 + (i 1).val) * 4 + (i 2).val) * 256 + (i 3).val) % 1024 = g * 256 + d
    omega

theorem keyAt (i : S2x16640x4x256.Idx) (b : Fin 2) (k : Fin 16640) (g : Fin 4) (d : Fin 256)
    (h0 : (i 0 : ℕ) = b) (h1 : (i 1 : ℕ) = k) (h2 : (i 2 : ℕ) = g) (h3 : (i 3 : ℕ) = d) :
    val_main_v4 (F := Ideal) x1 i = x1 (ix2 (rowK b k) (colK g d)) := by
  rw [val_main_v4_apply, val_main_v3_apply]
  refine congrArg x1 (funext fun a => Fin.ext ?_)
  match a with
  | ⟨0, _⟩ =>
    show ((((i 0).val * 16640 + (i 1).val) * 4 + (i 2).val) * 256 + (i 3).val) / 1024 = b * 16640 + k
    omega
  | ⟨1, _⟩ =>
    show ((((i 0).val * 16640 + (i 1).val) * 4 + (i 2).val) * 256 + (i 3).val) % 1024 = g * 256 + d
    omega

theorem value (i : S4x128x2x16640.Idx) (g : Fin 4) (d : Fin 144) (b : Fin 2) (k : Fin 16640)
    (h0 : (i 0 : ℕ) = g) (h1 : (i 1 : ℕ) = d) (h2 : (i 2 : ℕ) = b) (h3 : (i 3 : ℕ) = k) :
    val_main_v7 (F := Ideal) x2 i = x2 (ix2 (rowV g d) (rowK b k)) := by
  rw [val_main_v7_apply, val_main_v6_apply, val_main_v5_apply]
  refine congrArg x2 (funext fun a => Fin.ext ?_)
  match a with
  | ⟨0, _⟩ =>
    show ((((i 0).val * 144 + (i 1).val) * 2 + (i 2).val) * 16640 + (i 3).val) / 33280 = g * 144 + d
    omega
  | ⟨1, _⟩ =>
    show ((((i 0).val * 144 + (i 1).val) * 2 + (i 2).val) * 16640 + (i 3).val) % 33280 = b * 16640 + k
    omega

/-- A score. -/
theorem score (b : Fin 2) (g : Fin 4) (q : Fin 16384) (k : Fin 16640) (i : S2x4x16384x16640.Idx)
    (h0 : (i 0 : ℕ) = b) (h1 : (i 1 : ℕ) = g) (h3 : (i 2 : ℕ) = q) (h4 : (i 3 : ℕ) = k) :
    val_main_v8 (F := Ideal) x0 x1 i
      = ∑ d : Fin 256, x1 (ix2 (rowK b k) (colK g d)) * x0 (ix2 (rowQ b q) (colQ g d)) := by
  rw [val_main_v8_apply]
  refine Finset.sum_congr rfl fun d _ => ?_
  rw [keyAt x1 (ridx_main_v8 i d) b k g d h0 h4 h1 rfl, query x0 (lidx_main_v8 i d) b q g d h0 h3 h1 rfl, EReal.mul_comm]

theorem two_real : Ideal.ofBits .f32 0x40000000#32 = ((2 : ℝ) : EReal) := by
  rw [show Ideal.ofBits .f32 0x40000000#32 = Ideal.ieee 8 23 0x40000000#32 from rfl]
  unfold Ideal.ieee
  dsimp only
  rw [if_neg (by decide), if_neg (by decide)]
  refine congrArg _ ?_
  rw [if_neg (by decide)]
  rw [show (BitVec.extractLsb' 0 23 1073741824#32).toNat = 0 by decide, show (BitVec.extractLsb' 23 8 1073741824#32).toNat = 128 by decide]
  norm_num

theorem ninf : Ideal.ofBits .f32 0xFF800000#32 = ⊥ := by
  simp [Ideal.ofBits, Ideal.ieee]

/-- The largest score of a query is a real. -/
theorem largest (b : Fin 2) (g : Fin 4) (q : Fin 16384) (f : Fin 16640 → ℝ)
    (hf : ∀ k, ∑ d : Fin 256, x1 (ix2 (rowK b k) (colK g d)) * x0 (ix2 (rowQ b q) (colQ g d)) = (f k : EReal))  :
    ∃ M : ℝ, ∀ i : S2x4x16384.Idx, (i 0 : ℕ) = b → (i 1 : ℕ) = g → (i 2 : ℕ) = q → val_main_v10 (F := Ideal) x0 x1 i = (M : EReal) := by
  obtain ⟨M, hM⟩ := fold_real (by decide) f
  refine ⟨M, fun i h0 h1 h3 => ?_⟩
  rw [← hM]
  unfold val_main_v10
  have e : ∀ y : S2x4x16384x16640.Idx → EReal, (∀ j : S2x4x16384x16640.Idx, ∀ k : Fin 16640, (j 0 : ℕ) = b → (j 1 : ℕ) = g → (j 2 : ℕ) = q → (j 3 : ℕ) = k → y j = (f k : EReal)) →
      Host.reduce (max : EReal → EReal → EReal) y (val_main_cst_0 (F := Ideal)) reducesTo_S2x4x16384x16640_S2x4x16384_d3 h_S_ i
        = (Finset.univ : Finset (Fin 16640)).fold max ⊥ fun k => (f k : EReal) := fun y hy => by
    rw [Host.reduce_eq_fold_single (max : EReal → EReal → EReal) y _ reducesTo_S2x4x16384x16640_S2x4x16384_d3 (by decide) h_S_ i]
    rw [show val_main_cst_0 (F := Ideal) (Shape.Idx.first h_S_) = (⊥ : EReal) from ninf]
    exact Finset.fold_congr fun k _ => hy _ k h0 h1 h3 rfl
  exact e _ fun j k j0 j1 j3 j4 => by rw [score x0 x1 b g q k j j0 j1 j3 j4, hf]

/-- A power of two of a score less the largest. -/
theorem powAt (b : Fin 2) (g : Fin 4) (q : Fin 16384) (f : Fin 16640 → ℝ) (M : ℝ)
    (hf : ∀ k, ∑ d : Fin 256, x1 (ix2 (rowK b k) (colK g d)) * x0 (ix2 (rowQ b q) (colQ g d)) = (f k : EReal))
    (hM : ∀ i : S2x4x16384.Idx, (i 0 : ℕ) = b → (i 1 : ℕ) = g → (i 2 : ℕ) = q → val_main_v10 (F := Ideal) x0 x1 i = (M : EReal))
    (k : Fin 16640) (i : S2x4x16384x16640.Idx)
    (h0 : (i 0 : ℕ) = b) (h1 : (i 1 : ℕ) = g) (h3 : (i 2 : ℕ) = q) (h4 : (i 3 : ℕ) = k) :
    val_main_v14 (F := Ideal) x0 x1 i = P (f k - M) := by
  rw [val_main_v14_apply, val_main_v13_apply, score x0 x1 b g q k i h0 h1 h3 h4, hf, val_main_v12_apply, val_main_v11_apply,
    hM _ h0 h1 h3, val_main_v9_apply]
  show Ideal.pow (Ideal.ofBits .f32 0x40000000#32) ((f k : EReal) - (M : EReal)) = P (f k - M)
  rw [two_real, coe_sub]
  rfl

/-- The attention of one head on one channel. -/
theorem attend (b : Fin 2) (g : Fin 4) (q : Fin 16384) (d : Fin 128) (f : Fin 16640 → ℝ)
    (hf : ∀ k, ∑ d : Fin 256, x1 (ix2 (rowK b k) (colK g d)) * x0 (ix2 (rowQ b q) (colQ g d)) = (f k : EReal)) :
    ∃ M : ℝ, ∀ i : S33280x512.Idx, (i 0 : ℕ) = b * 16384 + q → (i 1 : ℕ) = g * 128 + d →
      val_main_v23 (F := Ideal) x0 x1 x2 i
        = ∑ k : Fin 16640, x2 (ix2 (rowV g ⟨d, by omega⟩) (rowK b k)) * Ideal.div (P (f k - M)) (∑ j, P (f j - M)) := by
  obtain ⟨M, hM⟩ := largest x0 x1 b g q f hf
  refine ⟨M, fun i h0 h1 => ?_⟩
  have hr : (i 0 : ℕ) < 32768 := by omega
  rw [val_main_v23_apply]
  show val_main_v22 (F := Ideal) x0 x1 x2 i = _
  unfold val_main_v22
  rw [pad_apply_of_inside _ _ _ _ _ _ _ i (ix2 (⟨i 0, hr⟩ : Fin 32768) (⟨i 1, by omega⟩ : Fin 512)) (fun a => match a with
    | ⟨0, _⟩ => by show (i 0).val = 0 + (i 0).val * 1; omega
    | ⟨1, _⟩ => by show (i 1).val = 0 + (i 1).val * 1; omega)]
  rw [val_main_v21_apply, val_main_v20_apply, val_main_v19_apply]
  refine Finset.sum_congr rfl fun k _ => ?_
  have e0 : ((i 0).val * 512 + (i 1).val) / 8388608 = b := by omega
  have e1 : ((i 0).val * 512 + (i 1).val) / 512 % 16384 = q := by omega
  have e2 : ((i 0).val * 512 + (i 1).val) / 128 % 4 = g := by omega
  have e4 : ((i 0).val * 512 + (i 1).val) % 128 = d := by omega
  rw [value x2 (lidx_main_v19 _ k) g ⟨d, by omega⟩ b k e2 e4 e0 rfl, val_main_v18_apply,
    powAt x0 x1 b g q f M hf hM k (ridx_main_v19 _ k) e0 e2 e1 rfl, val_main_v17_apply, val_main_v16_apply, val_main_v15_apply]
  rw [show val_main_cst_1 (F := Ideal) (Shape.Idx.first h_S_) = 0 from Ideal.ofBits_zero_f32, zero_add]
  show _ * Ideal.div _ _ = _
  refine congrArg (fun z => _ * Ideal.div _ z) (Finset.sum_congr rfl fun j _ => ?_)
  exact powAt x0 x1 b g q f M hf hM j _ e0 e2 e1 rfl

end Cert.Reference4Ideal.Att

end
-- ==== Proof.S.Pre.lean ====
module

public import proofs.«01_k».proof.Pre_finite_scores4
public import proofs.«01_k».proof.On_latent_rows4
public import proofs.«01_k».proof.Proof.S.Ref
public import Idealize.ShloMosaic.Lib.ReduceAll
public import Idealize.ShloMosaic.Lib.Affine

/-! What the precondition and the mask say of an index. -/

@[expose] public section

set_option maxRecDepth 16384

noncomputable section

namespace Cert.Reference4Ideal.Att

open Idealize.ShloMosaic Idealize.ShloMosaic.TcCoe Idealize.ShloMosaic.Tactic
open Cert.Softmax

theorem preFacts : Cert.Pre_finite_scores4.Facts := by constructor <;> decide
theorem onFacts : Cert.On_latent_rows4.Facts := by constructor <;> decide

instance : Cert.Pre_finite_scores4.Facts := preFacts
instance : Cert.On_latent_rows4.Facts := onFacts

theorem inf_top : Ideal.ofBits .f32 0x7F800000#32 = ⊤ := by
  simp [Ideal.ofBits, Ideal.ieee]

/-- Below infinity in size is a real. -/
theorem real_of_lt (x : EReal) (h : Ideal.cmp .olt (max x (-x)) (Ideal.ofBits .f32 0x7F800000#32) = 1#1) : ∃ r : ℝ, x = (r : EReal) := by
  rw [inf_top] at h
  induction x with
  | bot => exact absurd h (by simp [Ideal.cmp])
  | top => exact absurd h (by simp [Ideal.cmp])
  | coe r => exact ⟨r, rfl⟩

theorem one_of_eq (x : EReal) (h : Ideal.cmp .oeq x (Ideal.ofBits .f32 0x3F800000#32) = 1#1) : x = 1 := by
  rw [Ideal.ofBits_one_f32] at h
  by_contra hx
  exact absurd h (by simp [Ideal.cmp, hx])

variable (x0 x1 : FVec Ideal ⟨2, ![33280, 1024]⟩ .bf16) (x2 : FVec Ideal ⟨2, ![576, 33280]⟩ .bf16)

instance : Subsingleton Cert.Pre_finite_scores4.S_.Idx := ⟨fun a b => funext fun x => x.elim0⟩

open Cert.Pre_finite_scores4 in
/-- The row of ones, read out of the reshaped values. -/
theorem ones_read (g : Fin 4) (k : Fin 33280) :
    (shapeCast S4x33280 (extractStridedSlice S4x1x33280 ![0, 128, 0] (shapeCast S4x144x33280 (extf (F := Ideal) .f32 x2 Facts.bitsLt_bf16_f32) Facts.shapeCasts_S576x33280_S4x144x33280) Facts.slices_S4x144x33280_S4x1x33280_0_128_0) Facts.shapeCasts_S4x1x33280_S4x33280) (ix2 g k)
      = x2 (ix2 (rowV g 128) k) := by
  pointwise
  rfl

open Cert.Pre_finite_scores4 in
theorem decode (h : Cert.Pre_finite_scores4.fn (F := Ideal) x0 x1 x2 = fun _ => 1#1) :
    (∀ i, ∃ r : ℝ, x0 i = (r : EReal)) ∧ (∀ i, ∃ r : ℝ, x1 i = (r : EReal)) ∧ ∀ g k, x2 (ix2 (rowV g 128) k) = 1 := by
  have h0 := congrFun h (fun a => a.elim0)
  unfold Cert.Pre_finite_scores4.fn fn_part1 at h0
  dsimp only at h0
  obtain ⟨h1, h2⟩ := IntOp.andi_eq_one.1 h0
  obtain ⟨h3, h4⟩ := IntOp.andi_eq_one.1 h1
  refine ⟨fun i => ?_, fun i => ?_, fun g k => ?_⟩
  · exact real_of_lt _ (Host.reduce_andi_all _ _ _ _ _ h3 i)
  · exact real_of_lt _ (Host.reduce_andi_all _ _ _ _ _ h4 i)
  · rw [← ones_read x2 g k]
    exact one_of_eq _ (Host.reduce_andi_all _ _ _ _ _ h2 (ix2 g k))

theorem masked (i : (⟨2, ![33280, 512]⟩ : Shape).Idx) (h : Cert.On_latent_rows4.fn (F := Ideal) x0 x1 x2 i = 1#1) : (i 0 : ℕ) < 32768 := by
  have h' : IntOp.cmpi .slt (BitVec.ofNat 32 (i 0 : ℕ)) 32768#32 = 1#1 := h
  rw [IntOp.cmpi_slt] at h'
  have hi : (i 0 : ℕ) < 33280 := (i 0).isLt
  rw [BitVec.toInt_eq_toNat_of_lt (by rw [BitVec.toNat_ofNat]; omega), BitVec.toNat_ofNat] at h'
  have : (32768#32 : BitVec 32).toInt = 32768 := by decide
  omega

/-- The scores are reals. -/
theorem scores (h0 : ∀ i, ∃ r : ℝ, x0 i = (r : EReal)) (h1 : ∀ i, ∃ r : ℝ, x1 i = (r : EReal)) (b : Fin 2) (g : Fin 4) (q : Fin 16384) :
    ∃ f : Fin 16640 → ℝ, ∀ k, ∑ d : Fin 256, x1 (ix2 (rowK b k) (colK g d)) * x0 (ix2 (rowQ b q) (colQ g d)) = (f k : EReal) := by
  choose r0 e0 using h0
  choose r1 e1 using h1
  refine ⟨fun k => ∑ d : Fin 256, r1 (ix2 (rowK b k) (colK g d)) * r0 (ix2 (rowQ b q) (colQ g d)), fun k => ?_⟩
  simp only [e0, e1, ← EReal.coe_mul]
  exact sum_real _ _

end Cert.Reference4Ideal.Att

end
-- ==== Proof.B.Value.lean ====
module

public import proofs.«01_k».proof.Proof.B.Out
public import proofs.«01_k».proof.Proof.S.Pre
public import Idealize.ShloMosaic.Lib.Pipeline.ValueKit.Partial

/-! The attention call's result array, on the rows it writes, is the reference. -/

@[expose] public section

set_option maxRecDepth 16384

noncomputable section

namespace Cert.Kernel4Ideal.Att

open Idealize.ShloMosaic Idealize.ShloMosaic.TcCoe Idealize.ShloMosaic.Tactic Cert.Kernel4Ideal Cert.Kernel4Ideal.Gen
open Cert.Softmax
open Cert.Reference4Ideal.Att (rowQ colQ rowK colK rowV)
open scoped BigOperators

variable (m : (ℓ : Loc nD τ sig) → Buf (Elt Ideal) ℓ)

theorem idx0 : ∀ t : Fin cfg0.N, win0_0.index t = ![(grid0.coords t 0).val * 16 + (grid0.coords t 2).val, (grid0.coords t 1).val] :=
  (by decide +kernel : ∀ t : Fin grid0.N, _)
theorem idx1 : ∀ t : Fin cfg0.N, win0_1.index t = ![(grid0.coords t 0).val, (grid0.coords t 1).val] :=
  (by decide +kernel : ∀ t : Fin grid0.N, _)
theorem idx2 : ∀ t : Fin cfg0.N, win0_2.index t = ![(grid0.coords t 1).val, (grid0.coords t 0).val] :=
  (by decide +kernel : ∀ t : Fin grid0.N, _)
theorem idx3 : ∀ t : Fin cfg0.N, win0_3.index t = ![(grid0.coords t 0).val * 16 + (grid0.coords t 2).val, (grid0.coords t 1).val] :=
  (by decide +kernel : ∀ t : Fin grid0.N, _)

/-- The batch of a point. -/
def bOf (t : Fin cfg0.N) : Fin 2 := grid0.coords t 0
/-- The head of a point. -/
def gOf (t : Fin cfg0.N) : Fin 4 := grid0.coords t 1
/-- The block of queries of a point. -/
def nOf (t : Fin cfg0.N) : Fin 16 := grid0.coords t 2
/-- Query `c` of the point's block. -/
def qOf (t : Fin cfg0.N) (c : Fin 1024) : Fin 16384 := ⟨nOf t * 1024 + c, by omega⟩

theorem blk0 (c : Dev nD) (t : Fin cfg0.N) (a : Fin 1024) (e : Fin 256) :
    X0_0 m c t (ix2 a e) = m ((c : Thread nD τ).loc main_arg0) (ix2 (rowQ (bOf t) (qOf t a)) (colQ (gOf t) e)) := by
  have h : ∀ t : Fin cfg0.N, win0_0.index t = ![(bOf t).val * 16 + (nOf t).val, (gOf t).val] := idx0
  unfold rowQ colQ qOf X0_0 Pipeline.Window.fill
  rw [dif_pos (moved0_0 t _)]
  blk_ext! [iblk, V, h t]

theorem blk1 (c : Dev nD) (t : Fin cfg0.N) (k : Fin 16640) (e : Fin 256) :
    iblk m c 1 t (ix2 k e) = m ((c : Thread nD τ).loc main_arg1) (ix2 (rowK (bOf t) k) (colK (gOf t) e)) := by
  have h : ∀ t : Fin cfg0.N, win0_1.index t = ![(bOf t).val, (gOf t).val] := idx1
  unfold rowK colK
  blk_ext! [iblk, V, h t]

theorem blk2 (c : Dev nD) (t : Fin cfg0.N) (d : Fin 144) (k : Fin 16640) :
    iblk m c 2 t (ix2 d k) = m ((c : Thread nD τ).loc main_arg2) (ix2 (rowV (gOf t) d) (rowK (bOf t) k)) := by
  have h : ∀ t : Fin cfg0.N, win0_2.index t = ![(gOf t).val, (bOf t).val] := idx2
  unfold rowK rowV
  blk_ext! [iblk, V, h t]

/-- What device `c`'s result is shown to hold. -/
abbrev want (c : Dev nD) : Buf (Elt Ideal) ((c : Thread nD τ).loc main_v0) :=
  Cert.Reference4Ideal.Read.val_main_v23 (F := Ideal) (m ((c : Thread nD τ).loc main_arg0)) (m ((c : Thread nD τ).loc main_arg1)) (m ((c : Thread nD τ).loc main_arg2))

/-- One element a point writes. -/
theorem point (c : Dev nD) (h0 : ∀ i, ∃ r : ℝ, m ((c : Thread nD τ).loc main_arg0) i = (r : EReal))
    (h1 : ∀ i, ∃ r : ℝ, m ((c : Thread nD τ).loc main_arg1) i = (r : EReal))
    (h2 : ∀ g k, m ((c : Thread nD τ).loc main_arg2) (ix2 (rowV g 128) k) = (1 : EReal))
    (t : Fin cfg0.N) (y : S1024x128.Idx) (i : S33280x512.Idx)
    (e0 : (i 0 : ℕ) = ((bOf t).val * 16 + (nOf t).val) * 1024 + (y 0 : ℕ)) (e1 : (i 1 : ℕ) = (gOf t).val * 128 + (y 1 : ℕ)) :
    OUT (X0_0 m c t) (iblk m c 1 t) (iblk m c 2 t) y = want m c i := by
  obtain ⟨d, hd⟩ : ∃ d : Fin 128, (d : ℕ) = (y 1 : ℕ) := ⟨y 1, rfl⟩
  obtain ⟨a, ha⟩ : ∃ a : Fin 1024, (a : ℕ) = (y 0 : ℕ) := ⟨y 0, rfl⟩
  obtain ⟨f, hf⟩ := Cert.Reference4Ideal.Att.scores _ _ h0 h1 (bOf t) (gOf t) (qOf t a)
  obtain ⟨M, hM⟩ := Cert.Reference4Ideal.Att.attend (m ((c : Thread nD τ).loc main_arg0)) (m ((c : Thread nD τ).loc main_arg1)) (m ((c : Thread nD τ).loc main_arg2)) (bOf t) (gOf t) (qOf t a) d f hf
  refine (out_apply _ _ _ a d y ha.symm hd.symm f (fun k => ?_) (fun k => ?_) M).trans ?_
  · rw [← hf]
    exact Finset.sum_congr rfl fun e _ => congrArg₂ (· * ·) (blk1 m c t k e) (blk0 m c t a e)
  · exact (blk2 m c t 128 k).trans (h2 _ _)
  · have ev : ((qOf t a : Fin 16384) : ℕ) = (nOf t).val * 1024 + (a : ℕ) := rfl
    refine Eq.trans ?_ (hM i (by omega) (by omega)).symm
    refine Finset.sum_congr rfl fun k _ => ?_
    rw [blk2 m c t ⟨d, by omega⟩ k]

theorem final (c : Dev nD) (h0 : ∀ i, ∃ r : ℝ, m ((c : Thread nD τ).loc main_arg0) i = (r : EReal))
    (h1 : ∀ i, ∃ r : ℝ, m ((c : Thread nD τ).loc main_arg1) i = (r : EReal))
    (h2 : ∀ g k, m ((c : Thread nD τ).loc main_arg2) (ix2 (rowV g 128) k) = (1 : EReal)) (i : S33280x512.Idx) (hi : (i 0 : ℕ) < 32768) :
    (dats m 0 c).arrAt 3 cfg0.N i = want m c i := by
  refine ((dats m 0 c).arrAt_apply_of_coversWhere 3 (want m c) (P := fun i : S33280x512.Idx => (i 0 : ℕ) / 1024 < 32) (fun β => β (0 : Fin 2) < 32) (by decide +kernel)
    (fun t hf y => ?_) (fun j => Iff.rfl) i).trans (if_pos (by omega))
  blk_simp
  rw [left_3]
  have h : ∀ t : Fin cfg0.N, win0_3.index t = ![(bOf t).val * 16 + (nOf t).val, (gOf t).val] := idx3
  refine point m c h0 h1 h2 t _ _ ?_ ?_ <;> blk_simp [h t] <;> rfl

end Cert.Kernel4Ideal.Att

end
-- ==== Proof.I.Math.lean ====
module

public import proofs.«01_k».proof.Proof.F.Math

/-! The in projection in plain words: normalise a token, scale and shift it, multiply by the weights. -/

@[expose] public section

noncomputable section

namespace Cert.Inp

open Idealize.ShloMosaic Cert.Ffn
open scoped BigOperators

variable (X : Fin 33280 → Fin 2048 → EReal) (w : Fin 2048 → EReal) (M : Fin 8 → Fin 9 → Fin 2048 → EReal)
  (W : Fin 2048 → Fin 3840 → EReal)

/-- The token the product takes. -/
def fed (n : Fin 33280) (k : Fin 2048) : EReal := normed (X n) w (M (seg n) 3) (M (seg n) 4) k

/-- The result. -/
def proj (n : Fin 33280) (o : Fin 3840) : EReal := ∑ k, fed X w M n k * W k o

end Cert.Inp

end
-- ==== Proof.I.Pay.lean ====
module

public import proofs.«01_k».proof.Proof.Gen.Kernel5Ideal.Frame
public import proofs.«01_k».proof.Proof.I.Math
public import Idealize.ShloMosaic.Lib.Pipeline.ValueKit

/-! The in projection body's values over the extended reals, one element at a time. -/

@[expose] public section

set_option maxRecDepth 16384

noncomputable section

namespace Cert.Kernel5Ideal.Inp

open Idealize.ShloMosaic Idealize.ShloMosaic.TcCoe Idealize.ShloMosaic.Tactic Cert.Kernel5Ideal Cert.Kernel5Ideal.Gen
open Cert.Ffn Cert.Inp
open scoped BigOperators

theorem rate (v : FVec Ideal S256x2048 .f32) (r : Fin 256) :
    rsqrt (addf (divf (shapeCast S256x1 (multiReduction .add [1] S256 (mulf v v) 0x00000000#32 reduces_S256x2048_S256 (.inl rfl) rfl) shapeCasts_S256_S256x1)
      (broadcast S256x1 (Scalar.ofBits (F := Ideal) .f32 0x45000000#32))) (broadcast S256x1 (Scalar.ofBits (F := Ideal) .f32 0x358637BD#32))) (ix2 r 0)
      = FloatOps.rsqrt (F := Ideal) (φ := .f32)
      (Ideal.div (∑ j : Fin 2048, v (ix2 r j) * v (ix2 r j)) (Ideal.ofBits .f32 0x45000000#32) + Ideal.ofBits .f32 0x358637BD#32) := by
  pointwise

theorem scaled (v : FVec Ideal S256x2048 .f32) (w : FVec Ideal S1x2048 .f32) (R : FVec Ideal S256x1 .f32) (r : Fin 256) (k : Fin 2048) :
    mulf (mulf v (broadcastTo S256x2048 R broadcasts_S256x1_S256x2048)) (broadcastTo S256x2048 (shapeCast S1x2048 w shapeCasts_S1x2048_S1x2048) broadcasts_S1x2048_S256x2048) (ix2 r k)
      = v (ix2 r k) * R (ix2 r 0) * w (ix2 0 k) := by
  pointwise

theorem shifted (u : FVec Ideal S256x2048 .f32) (s b : Vec Ideal S1x1x1x2048 .f32) (r : Fin 256) (k : Fin 2048) :
    truncf .bf16 (addf (mulf u (broadcastTo S256x2048 (addf (broadcast S1x2048 (Scalar.ofBits (F := Ideal) .f32 0x3F800000#32))
      (shapeCast S1x2048 s shapeCasts_S1x1x1x2048_S1x2048 : FVec Ideal S1x2048 .f32)) broadcasts_S1x2048_S256x2048))
      (broadcastTo S256x2048 (shapeCast S1x2048 b shapeCasts_S1x1x1x2048_S1x2048 : FVec Ideal S1x2048 .f32) broadcasts_S1x2048_S256x2048)) bitsLt_bf16_f32 (ix2 r k)
      = u (ix2 r k) * (one + s (ix4 0 0 0 k)) + b (ix4 0 0 0 k) := by
  pointwise

/-- A half's tokens. -/
theorem pay1_apply (v : Vec Ideal S256x2048 .f32) (w : Vec Ideal S1x2048 .f32) (s b : Vec Ideal S1x1x1x2048 .f32) (r : Fin 256) (k : Fin 2048) :
    k0_pay1 v w s b (ix2 r k)
      = normed (fun j => v (ix2 r j)) (fun j => w (ix2 0 j)) (fun j => b (ix4 0 0 0 j)) (fun j => s (ix4 0 0 0 j)) k := by
  unfold k0_pay1
  dsimp only
  rw [shifted, scaled, rate]
  rfl

theorem pay5_eq (v : Vec Ideal S256x2048 .f32) (w : Vec Ideal S1x2048 .f32) (s b : Vec Ideal S1x1x1x2048 .f32) :
    k0_pay5 v w s b = k0_pay1 v w s b := rfl

theorem same_apply (y : FVec Ideal S256x2048 .bf16) (r : Fin 256) (k : Fin 2048) :
    shapeCast S256x2048 y shapeCasts_S256x2048_S256x2048 (ix2 r k) = y (ix2 r k) := by
  pointwise

theorem prod_half (h : FVec Ideal S256x2048 .bf16) (a : FVec Ideal S2048x1280 .bf16) (r : Fin 256) (l : Fin 1280) :
    matmul dot_S256x2048_S2048x1280_S256x1280_1_0_0_1_n_n none h a
      (constant S256x1280 .f32 0x00000000#32) (ix2 r l) = ∑ k : Fin 2048, h (ix2 r k) * a (ix2 k l) := by
  pointwise

/-- The products of a half. -/
theorem pay3_apply (v : Vec Ideal S256x2048 .f32) (w : Vec Ideal S1x2048 .f32) (s b : Vec Ideal S1x1x1x2048 .f32) (a : Vec Ideal S2048x1280 .bf16)
    (r : Fin 256) (l : Fin 1280) : k0_pay3 v w s b a (ix2 r l) = ∑ k : Fin 2048, k0_pay1 v w s b (ix2 r k) * a (ix2 k l) := by
  unfold k0_pay3
  generalize k0_pay1 v w s b = h
  exact prod_half h a r l

theorem pay7_apply (v : Vec Ideal S256x2048 .f32) (w : Vec Ideal S1x2048 .f32) (s b : Vec Ideal S1x1x1x2048 .f32) (a : Vec Ideal S2048x1280 .bf16)
    (r : Fin 256) (l : Fin 1280) : k0_pay7 v w s b a (ix2 r l) = ∑ k : Fin 2048, k0_pay1 v w s b (ix2 r k) * a (ix2 k l) := by
  unfold k0_pay7
  rw [pay5_eq]
  generalize k0_pay1 v w s b = h
  exact prod_half h a r l

/-- The products of a whole block. -/
theorem pay4_apply (h : Vec Ideal S512x2048 .bf16) (a : Vec Ideal S2048x1280 .bf16) (r : Fin 512) (l : Fin 1280) :
    k0_pay4 h a (ix2 r l) = ∑ k : Fin 2048, h (ix2 r k) * a (ix2 k l) := by
  unfold k0_pay4
  pointwise

end Cert.Kernel5Ideal.Inp

end
-- ==== Proof.I.First.lean ====
module

public import proofs.«01_k».proof.Proof.I.Pay
public import Idealize.ShloMosaic.Lib.Pipeline.ValueKit

/-! What each kind of point leaves: the first of a run computes the tokens and stores two halves, the later ones take the
    tokens as the first left them. -/

@[expose] public section

set_option maxRecDepth 16384

noncomputable section

namespace Cert.Kernel5Ideal.Inp

open Idealize.ShloMosaic Idealize.ShloMosaic.TcCoe Idealize.ShloMosaic.Tactic Cert.Kernel5Ideal Cert.Kernel5Ideal.Gen
open Cert.Ffn Cert.Inp
open scoped BigOperators

/-- Two halves of a block, read at a row of the second. -/
theorem hi_half {e : EltTy} (a b : Vec Ideal S256x2048 e) (r : Fin 256) (i : S512x2048.Idx) (k : Fin 2048) (h0 : (i 0 : ℕ) = 256 + r) (h1 : (i 1 : ℕ) = k) :
    View.canon (Val := Elt Ideal) [⟨Rect.unit ![256, 0] ![256, 2048] inb_S512x2048_S256x2048_256_0, b⟩,
      ⟨Rect.unit ![0, 0] ![256, 2048] inb_S512x2048_S256x2048_0_0, a⟩] i = b (ix2 r k) := by
  have e : i = (Rect.unit (s := S512x2048) ![256, 0] ![256, 2048] inb_S512x2048_S256x2048_256_0).emb (ix2 r k) :=
    funext fun a => Fin.ext (by
      rw [ValueKit.rect_emb_unit_val]
      match a with
      | ⟨0, _⟩ => show (i 0 : ℕ) = 256 + r; omega
      | ⟨1, _⟩ => show (i 1 : ℕ) = 0 + k; omega)
  rw [e]
  exact View.canon_cons_emb _ _ _ _

/-- Read at a row of the first. -/
theorem lo_half {e : EltTy} (a b : Vec Ideal S256x2048 e) (r : Fin 256) (i : S512x2048.Idx) (k : Fin 2048) (h0 : (i 0 : ℕ) = r) (h1 : (i 1 : ℕ) = k) :
    View.canon (Val := Elt Ideal) [⟨Rect.unit ![256, 0] ![256, 2048] inb_S512x2048_S256x2048_256_0, b⟩,
      ⟨Rect.unit ![0, 0] ![256, 2048] inb_S512x2048_S256x2048_0_0, a⟩] i = a (ix2 r k) := by
  rw [View.canon_cons_of_not_mem _ _ (by
    rw [Rect.mem_set_unit]
    intro h
    have := (h 0).1
    change 256 ≤ (i 0 : ℕ) at this
    omega)]
  have e : i = (Rect.unit (s := S512x2048) ![0, 0] ![256, 2048] inb_S512x2048_S256x2048_0_0).emb (ix2 r k) :=
    funext fun a => Fin.ext (by
      rw [ValueKit.rect_emb_unit_val]
      match a with
      | ⟨0, _⟩ => show (i 0 : ℕ) = 0 + r; omega
      | ⟨1, _⟩ => show (i 1 : ℕ) = 0 + k; omega)
  rw [e]
  exact View.canon_cons_emb _ _ _ _

/-- Two halves of a result block, read at a row of the second. -/
theorem hi_out {e : EltTy} (a b : Vec Ideal S256x1280 e) (r : Fin 256) (i : S512x1280.Idx) (k : Fin 1280) (h0 : (i 0 : ℕ) = 256 + r) (h1 : (i 1 : ℕ) = k) :
    View.canon (Val := Elt Ideal) [⟨Rect.unit ![256, 0] ![256, 1280] inb_S512x1280_S256x1280_256_0, b⟩,
      ⟨Rect.unit ![0, 0] ![256, 1280] inb_S512x1280_S256x1280_0_0, a⟩] i = b (ix2 r k) := by
  have e : i = (Rect.unit (s := S512x1280) ![256, 0] ![256, 1280] inb_S512x1280_S256x1280_256_0).emb (ix2 r k) :=
    funext fun a => Fin.ext (by
      rw [ValueKit.rect_emb_unit_val]
      match a with
      | ⟨0, _⟩ => show (i 0 : ℕ) = 256 + r; omega
      | ⟨1, _⟩ => show (i 1 : ℕ) = 0 + k; omega)
  rw [e]
  exact View.canon_cons_emb _ _ _ _

/-- Read at a row of the first. -/
theorem lo_out {e : EltTy} (a b : Vec Ideal S256x1280 e) (r : Fin 256) (i : S512x1280.Idx) (k : Fin 1280) (h0 : (i 0 : ℕ) = r) (h1 : (i 1 : ℕ) = k) :
    View.canon (Val := Elt Ideal) [⟨Rect.unit ![256, 0] ![256, 1280] inb_S512x1280_S256x1280_256_0, b⟩,
      ⟨Rect.unit ![0, 0] ![256, 1280] inb_S512x1280_S256x1280_0_0, a⟩] i = a (ix2 r k) := by
  rw [View.canon_cons_of_not_mem _ _ (by
    rw [Rect.mem_set_unit]
    intro h
    have := (h 0).1
    change 256 ≤ (i 0 : ℕ) at this
    omega)]
  have e : i = (Rect.unit (s := S512x1280) ![0, 0] ![256, 1280] inb_S512x1280_S256x1280_0_0).emb (ix2 r k) :=
    funext fun a => Fin.ext (by
      rw [ValueKit.rect_emb_unit_val]
      match a with
      | ⟨0, _⟩ => show (i 0 : ℕ) = 0 + r; omega
      | ⟨1, _⟩ => show (i 1 : ℕ) = 0 + k; omega)
  rw [e]
  exact View.canon_cons_emb _ _ _ _

theorem ld_hi (x : Vec Ideal S512x2048 .f32) (r : Fin 256) (k : Fin 2048) (s : Fin 512) (hs : (s : ℕ) = 256 + r) :
    View.ld x (Rect.unit ![256, 0] ![256, 2048] inb_S512x2048_S256x2048_256_0) (ix2 r k) = x (ix2 s k) := by
  refine congrArg x (funext fun b => Fin.ext ?_)
  rw [Rect.idx_unit_val]
  match b with
  | ⟨0, _⟩ => exact hs.symm
  | ⟨1, _⟩ => exact Nat.zero_add _

theorem ld_lo (x : Vec Ideal S512x2048 .f32) (r : Fin 256) (k : Fin 2048) (s : Fin 512) (hs : (s : ℕ) = r) :
    View.ld x (Rect.unit ![0, 0] ![256, 2048] inb_S512x2048_S256x2048_0_0) (ix2 r k) = x (ix2 s k) := by
  refine congrArg x (funext fun b => Fin.ext ?_)
  rw [Rect.idx_unit_val]
  match b with
  | ⟨0, _⟩ => exact (Nat.zero_add _).trans hs.symm
  | ⟨1, _⟩ => exact Nat.zero_add _

variable (m : (ℓ : Loc nD τ sig) → Buf (Elt Ideal) ℓ)

/-- Token `r` of a point's block, from its input blocks. -/
def tok (c : Dev nD) (t : Fin cfg0.N) (r : Fin 512) : Fin 2048 → EReal :=
  normed (fun j => iblk m c 0 t (ix2 r j)) (fun j => iblk m c 1 t (ix2 0 j)) (fun j => iblk m c 2 t (ix4 0 0 0 j)) (fun j => iblk m c 3 t (ix4 0 0 0 j))

theorem tok_hi (c : Dev nD) (t : Fin cfg0.N) (r : Fin 256) (s : Fin 512) (hs : (s : ℕ) = 256 + r) (k : Fin 2048) :
    k0_pay1 (View.ld (iblk m c 0 t : Vec Ideal S512x2048 .f32) (Rect.unit ![256, 0] ![256, 2048] inb_S512x2048_S256x2048_256_0)) (iblk m c 1 t) (iblk m c 3 t) (iblk m c 2 t) (ix2 r k)
      = tok m c t s k := by
  rw [pay1_apply]
  unfold tok
  exact congrArg (fun f => normed f _ _ _ k) (funext fun j => ld_hi _ r j s hs)

theorem tok_lo (c : Dev nD) (t : Fin cfg0.N) (r : Fin 256) (s : Fin 512) (hs : (s : ℕ) = r) (k : Fin 2048) :
    k0_pay1 (View.ld (iblk m c 0 t : Vec Ideal S512x2048 .f32) (Rect.unit ![0, 0] ![256, 2048] inb_S512x2048_S256x2048_0_0)) (iblk m c 1 t) (iblk m c 3 t) (iblk m c 2 t) (ix2 r k)
      = tok m c t s k := by
  rw [pay1_apply]
  unfold tok
  exact congrArg (fun f => normed f _ _ _ k) (funext fun j => ld_lo _ r j s hs)

/-- What a point's columns of the weights give for a token. -/
def give (c : Dev nD) (t : Fin cfg0.N) (h : Fin 2048 → EReal) (q : Fin 1280) : EReal := ∑ k, h k * iblk m c 4 t (ix2 k q)

theorem give_congr (c : Dev nD) (t : Fin cfg0.N) (f h : Fin 2048 → EReal) (q : Fin 1280) (e : ∀ k, f k = h k) :
    (∑ k, f k * (iblk m c 4 t : Vec Ideal S2048x1280 .bf16) (ix2 k q)) = give m c t h q :=
  congrArg (fun f => give m c t f q) (funext e)

theorem first_out (c : Dev nD) (t : Fin cfg0.N) (h0 : t.val % 3 = 0) (r : Fin 512) (q : Fin 1280) :
    (outsAt0 m c t.val t.isLt).1 (ix2 r q) = give m c t (tok m c t r) q := by
  rw [outsAt0_A m c t h0 (by omega)]
  frame_out
  by_cases hr : (r : ℕ) < 256
  · rw [lo_out _ _ ⟨r, hr⟩ (ix2 r q) q rfl rfl, pay7_apply]
    exact give_congr m c t _ _ q fun k => tok_lo m c t ⟨r, hr⟩ r rfl k
  · rw [hi_out _ _ ⟨r - 256, by omega⟩ (ix2 r q) q (by show (r : ℕ) = 256 + (r - 256); omega) rfl, pay3_apply]
    exact give_congr m c t _ _ q fun k => tok_hi m c t ⟨r - 256, by omega⟩ r (by show (r : ℕ) = 256 + (r - 256); omega) k

theorem first_tok (c : Dev nD) (t : Fin cfg0.N) (h0 : t.val % 3 = 0) (r : Fin 512) (k : Fin 2048) :
    (outsAt0 m c t.val t.isLt).2 (ix2 r k) = tok m c t r k := by
  rw [outsAt0_A m c t h0 (by omega)]
  frame_out
  by_cases hr : (r : ℕ) < 256
  · rw [lo_half _ _ ⟨r, hr⟩ (ix2 r k) k rfl rfl]
    unfold k0_pay6
    rw [same_apply, pay5_eq]
    exact tok_lo m c t ⟨r, hr⟩ r rfl k
  · rw [hi_half _ _ ⟨r - 256, by omega⟩ (ix2 r k) k (by show (r : ℕ) = 256 + (r - 256); omega) rfl]
    unfold k0_pay2
    rw [same_apply]
    exact tok_hi m c t ⟨r - 256, by omega⟩ r (by show (r : ℕ) = 256 + (r - 256); omega) k

theorem later_tok (c : Dev nD) (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0 (by omega)]
  unfold sout0_B_0
  rfl

theorem later_out (c : Dev nD) (t : Fin cfg0.N) (h0 : ¬t.val % 3 = 0) (r : Fin 512) (q : Fin 1280) :
    (outsAt0 m c t.val t.isLt).1 (ix2 r q)
      = give m c t (fun k => (outsAt0 m c (t.val - 1) (Nat.lt_of_le_of_lt (Nat.sub_le _ _) t.isLt)).2 (ix2 r k)) q := by
  rw [outsAt0_B m c t h0 (by omega)]
  frame_out
  refine (congrArg (fun h => k0_pay4 h _ (ix2 r q)) (Memref.IsWhole.read_unread (Memref.isWhole_whole _) _)).trans ?_
  rw [pay4_apply]
  rfl

end Cert.Kernel5Ideal.Inp

end
-- ==== Proof.I.Blocks.lean ====
module

public import proofs.«01_k».proof.Proof.I.Pay
public import Idealize.ShloMosaic.Lib.Pipeline.ValueKit.Partial

/-! Which elements of the arguments a point of the in projection's grid sees: point `t` is chunk `t % 3` of the weights' columns
    for block `t / 3` of the tokens. -/

@[expose] public section

set_option maxRecDepth 16384

noncomputable section

namespace Cert.Kernel5Ideal.Inp

open Idealize.ShloMosaic Idealize.ShloMosaic.TcCoe Idealize.ShloMosaic.Tactic Cert.Kernel5Ideal Cert.Kernel5Ideal.Gen
open Cert.Ffn Cert.Inp
open scoped BigOperators

variable (m : (ℓ : Loc nD τ sig) → Buf (Elt Ideal) ℓ)

/-- The modulation's row for a block of tokens. -/
def segB (b : ℕ) : ℕ := if b < 32 then 0 else if b < 64 then 1 else 2

theorem idx0 : ∀ t : Fin cfg0.N, win0_0.index t = ![t.val / 3, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![segB (t.val / 3), 3, 0, 0] := (by decide +kernel : ∀ t : Fin grid0.N, _)
theorem idx3 : ∀ t : Fin cfg0.N, win0_3.index t = ![segB (t.val / 3), 4, 0, 0] := (by decide +kernel : ∀ t : Fin grid0.N, _)
theorem idx4 : ∀ t : Fin cfg0.N, win0_4.index t = ![0, t.val % 3] := (by decide +kernel : ∀ t : Fin grid0.N, _)
theorem idx5 : ∀ t : Fin cfg0.N, win0_5.index t = ![t.val / 3, t.val % 3] := (by decide +kernel : ∀ t : Fin grid0.N, _)

theorem N_eq : cfg0.N = 195 := N_0

/-- Token `r` of the point's block. -/
def row (t : Fin cfg0.N) (r : Fin 512) : Fin 33280 := ⟨t.val / 3 * 512 + r, by have := t.isLt; have := N_eq; omega⟩
/-- Column `l` of the point's chunk. -/
def col (t : Fin cfg0.N) (l : Fin 1280) : Fin 3840 := ⟨t.val % 3 * 1280 + l, by omega⟩

theorem seg_row (t : Fin cfg0.N) (r : Fin 512) : ((seg (row t r)) : ℕ) = segB (t.val / 3) := by
  unfold seg segB row
  dsimp only
  by_cases h : t.val / 3 < 32
  · rw [if_pos (by omega), if_pos h]; rfl
  · rw [if_neg (by omega), if_neg h]
    by_cases h' : t.val / 3 < 64
    · rw [if_pos (by omega), if_pos h']; rfl
    · rw [if_neg (by omega), if_neg h']; rfl

theorem blk0 (c : Dev nD) (t : Fin cfg0.N) (r : Fin 512) (k : Fin 2048) :
    iblk m c 0 t (ix2 r k) = m ((c : Thread nD τ).loc main_arg0) (ix2 (row t r) k) := by
  unfold row
  blk_ext! [iblk, V, idx0 t]

/-- The norm's weights as the region finds them: one row of them. -/
theorem V_main_v0 (c : Dev nD) : V m c main_v0 = shapeCast S1x2048 (m ((c : Thread nD τ).loc main_arg1)) shapeCasts_S2048_S1x2048 := by
  show StableHlo.after hostOps0 _ (Proc.devRef .tc main_v0) = _
  after_results
  rfl

theorem blk1 (c : Dev nD) (t : Fin cfg0.N) (k : Fin 2048) :
    iblk m c 1 t (ix2 0 k) = m ((c : Thread nD τ).loc main_arg1) (ix1 k) := by
  have h : iblk m c 1 t (ix2 0 k) = V m c main_v0 (ix2 0 k) := by
    blk_ext! [iblk, idx1 t]
  rw [h, V_main_v0]
  exact shapeCast_apply _ shapeCasts_S2048_S1x2048 (ix2 0 k) (ix1 k)
    (by rw [Shape.rowMajor_val_two, Shape.rowMajor_val_one]; show k.val = 0 * 2048 + k.val; omega)

theorem blk2 (c : Dev nD) (t : Fin cfg0.N) (r : Fin 512) (k : Fin 2048) :
    iblk m c 2 t (ix4 0 0 0 k) = m ((c : Thread nD τ).loc main_arg2) (ix4 (seg (row t r)) 3 0 k) := by
  have h := seg_row t r
  blk_ext! [iblk, V, idx2 t, h]

theorem blk3 (c : Dev nD) (t : Fin cfg0.N) (r : Fin 512) (k : Fin 2048) :
    iblk m c 3 t (ix4 0 0 0 k) = m ((c : Thread nD τ).loc main_arg2) (ix4 (seg (row t r)) 4 0 k) := by
  have h := seg_row t r
  blk_ext! [iblk, V, idx3 t, h]

theorem blk4 (c : Dev nD) (t : Fin cfg0.N) (k : Fin 2048) (l : Fin 1280) :
    iblk m c 4 t (ix2 k l) = m ((c : Thread nD τ).loc main_arg3) (ix2 k (col t l)) := by
  unfold col
  blk_ext! [iblk, V, idx4 t]

end Cert.Kernel5Ideal.Inp

end
-- ==== Proof.I.Ref.lean ====
module

public import proofs.«01_k».proof.Proof.Gen.Reference5Ideal.Read
public import proofs.«01_k».proof.Proof.I.Math
public import Idealize.ShloMosaic.Lib.Pipeline.ValueKit
public import Idealize.ShloMosaic.Lib.KernelVsHost

/-! The in projection's reference, one element at a time. -/

@[expose] public section

set_option maxRecDepth 16384

noncomputable section

namespace Cert.Reference5Ideal.Inp

open Idealize.ShloMosaic Idealize.ShloMosaic.TcCoe Idealize.ShloMosaic.Tactic Cert.Reference5Ideal Cert.Reference5Ideal.Gen Cert.Reference5Ideal.Read
open Cert.Ffn Cert.Inp
open scoped BigOperators

variable (x0 : (⟨S33280x2048, .f32⟩ : BufTy).Contents (Elt Ideal)) (x1 : (⟨S2048, .f32⟩ : BufTy).Contents (Elt Ideal))
  (x2 : (⟨S8x9x1x2048, .f32⟩ : BufTy).Contents (Elt Ideal)) (x3 : (⟨S2048x3840, .bf16⟩ : BufTy).Contents (Elt Ideal))

/-- Three runs of rows laid end to end. -/
theorem three (y0 y1 : (⟨S16384x2048, .f32⟩ : BufTy).Contents (Elt Ideal)) (y2 : (⟨S512x2048, .f32⟩ : BufTy).Contents (Elt Ideal))
    (g : Fin 8 → Fin 2048 → EReal)
    (h0 : ∀ i : S16384x2048.Idx, y0 i = g 0 (i 1)) (h1 : ∀ i : S16384x2048.Idx, y1 i = g 1 (i 1)) (h2 : ∀ i : S512x2048.Idx, y2 i = g 2 (i 1))
    (i : S33280x2048.Idx) :
    concatenate S33280x2048 0 [⟨S16384x2048, y0⟩, ⟨S16384x2048, y1⟩, ⟨S512x2048, y2⟩]
      concatenates_S16384x2048_S16384x2048_S512x2048_S33280x2048_d0 i = g (seg (i 0)) (i 1) := by
  have hi : (i 0 : ℕ) < 33280 := (i 0).isLt
  unfold seg
  by_cases c0 : (i 0 : ℕ) < 16384
  · rw [if_pos c0]
    rw [concatenate_apply_piece (α := EReal) (t := S33280x2048) 0 [⟨S16384x2048, y0⟩, ⟨S16384x2048, y1⟩, ⟨S512x2048, y2⟩] concatenates_S16384x2048_S16384x2048_S512x2048_S33280x2048_d0 i 0 (by show _ < 3; omega) S16384x2048 y0 rfl rfl 0 rfl
      (ix2 (⟨i 0, c0⟩ : Fin 16384) (i 1)) (fun b hb => match b with
        | ⟨0, _⟩ => absurd rfl hb
        | ⟨1, _⟩ => rfl) (Nat.zero_add _), h0]
    rfl
  · rw [if_neg c0]
    by_cases c1 : (i 0 : ℕ) < 32768
    · rw [if_pos c1]
      rw [concatenate_apply_piece (α := EReal) (t := S33280x2048) 0 [⟨S16384x2048, y0⟩, ⟨S16384x2048, y1⟩, ⟨S512x2048, y2⟩] concatenates_S16384x2048_S16384x2048_S512x2048_S33280x2048_d0 i 1 (by show _ < 3; omega) S16384x2048 y1 rfl rfl 16384 rfl
        (ix2 (⟨i 0 - 16384, by omega⟩ : Fin 16384) (i 1)) (fun b hb => match b with
          | ⟨0, _⟩ => absurd rfl hb
          | ⟨1, _⟩ => rfl) (by show 16384 + ((i 0 : ℕ) - 16384) = _; omega), h1]
      rfl
    · rw [if_neg c1]
      rw [concatenate_apply_piece (α := EReal) (t := S33280x2048) 0 [⟨S16384x2048, y0⟩, ⟨S16384x2048, y1⟩, ⟨S512x2048, y2⟩] concatenates_S16384x2048_S16384x2048_S512x2048_S33280x2048_d0 i 2 (by show _ < 3; omega) S512x2048 y2 rfl rfl 32768 rfl
        (ix2 (⟨i 0 - 32768, by omega⟩ : Fin 512) (i 1)) (fun b hb => match b with
          | ⟨0, _⟩ => absurd rfl hb
          | ⟨1, _⟩ => rfl) (by show 32768 + ((i 0 : ℕ) - 32768) = _; omega), h2]
      rfl

/-- The shift of a token. -/
theorem shift (i : S33280x2048.Idx) : val_main_v11 (F := Ideal) x2 i = x2 (ix4 (seg (i 0)) 3 0 (i 1)) := by
  unfold val_main_v11
  refine three _ _ _ (fun b k => x2 (ix4 b 3 0 k)) (fun i => ?_) (fun i => ?_) (fun i => ?_) i
  · rw [val_main_v4_apply, val_main_v3_apply, val_main_v2_apply, val_main_v1_apply, val_main_v0_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v7_apply, val_main_v6_apply, val_main_v5_apply, val_main_v1_apply, val_main_v0_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega
  · rw [val_main_v10_apply, val_main_v9_apply, val_main_v8_apply, val_main_v1_apply, val_main_v0_apply]
    have : (i 1 : ℕ) < 2048 := (i 1).isLt
    refine congrArg x2 (funext fun a => Fin.ext ?_)
    match a with
    | ⟨0, _⟩ => show (((2 + 0) * 1 + 0) * 2048 + (0 * 2048 + (i 1).val) % 2048) / 2048 = 2; omega
    | ⟨1, _⟩ => rfl
    | ⟨2, _⟩ => rfl
    | ⟨3, _⟩ => show (((2 + 0) * 1 + 0) * 2048 + (0 * 2048 + (i 1).val) % 2048) % 2048 = (i 1).val; omega

/-- The scale of a token. -/
theorem scale (i : S33280x2048.Idx) : val_main_v23 (F := Ideal) x2 i = x2 (ix4 (seg (i 0)) 4 0 (i 1)) := by
  unfold val_main_v23
  refine three _ _ _ (fun b k => x2 (ix4 b 4 0 k)) (fun i => ?_) (fun i => ?_) (fun i => ?_) i
  · rw [val_main_v16_apply, val_main_v15_apply, val_main_v14_apply, val_main_v13_apply, val_main_v12_apply]
    have : (i 1 : ℕ) < 2048 := (i 1).isLt
    refine congrArg x2 (funext fun a => Fin.ext ?_)
    match a with
    | ⟨0, _⟩ => show ((0 * 1 + 0) * 2048 + (0 * 2048 + (i 1).val) % 2048) / 2048 = 0; omega
    | ⟨1, _⟩ => rfl
    | ⟨2, _⟩ => rfl
    | ⟨3, _⟩ => show ((0 * 1 + 0) * 2048 + (0 * 2048 + (i 1).val) % 2048) % 2048 = (i 1).val; omega
  · rw [val_main_v19_apply, val_main_v18_apply, val_main_v17_apply, val_main_v13_apply, val_main_v12_apply]
    have : (i 1 : ℕ) < 2048 := (i 1).isLt
    refine congrArg x2 (funext fun a => Fin.ext ?_)
    match a with
    | ⟨0, _⟩ => show (((1 + 0) * 1 + 0) * 2048 + (0 * 2048 + (i 1).val) % 2048) / 2048 = 1; omega
    | ⟨1, _⟩ => rfl
    | ⟨2, _⟩ => rfl
    | ⟨3, _⟩ => show (((1 + 0) * 1 + 0) * 2048 + (0 * 2048 + (i 1).val) % 2048) % 2048 = (i 1).val; omega
  · rw [val_main_v22_apply, val_main_v21_apply, val_main_v20_apply, val_main_v13_apply, val_main_v12_apply]
    have : (i 1 : ℕ) < 2048 := (i 1).isLt
    refine congrArg x2 (funext fun a => Fin.ext ?_)
    match a with
    | ⟨0, _⟩ => show (((2 + 0) * 1 + 0) * 2048 + (0 * 2048 + (i 1).val) % 2048) / 2048 = 2; omega
    | ⟨1, _⟩ => rfl
    | ⟨2, _⟩ => rfl
    | ⟨3, _⟩ => show (((2 + 0) * 1 + 0) * 2048 + (0 * 2048 + (i 1).val) % 2048) % 2048 = (i 1).val; omega
/-- The token the products take. -/
theorem hidAt (i : S33280x2048.Idx) :
    val_main_v40 (F := Ideal) x0 x1 x2 i
      = fed (fun n k => x0 (ix2 n k)) (fun k => x1 (ix1 k)) (fun b p k => x2 (ix4 b p 0 k)) (i 0) (i 1) := by
  rw [val_main_v40_apply, shift, val_main_v39_apply, val_main_v38_apply, scale, val_main_v37_apply, val_main_cst_2_apply,
    val_main_v36_apply, val_main_v35_apply, val_main_v34_apply, val_main_v33_apply, val_main_v32_apply, val_main_v31_apply,
    val_main_v30_apply, val_main_v29_apply, val_main_cst_1_apply, val_main_v28_apply, val_main_v27_apply, val_main_cst_0_apply,
    val_main_v26_apply, val_main_v25_apply]
  rw [show val_main_cst (F := Ideal) (Shape.Idx.first h_S_) = 0 from Ideal.ofBits_zero_f32, zero_add]
  unfold fed normed
  have ei : i = ix2 (i 0) (i 1) := by
    funext a
    match a with
    | ⟨0, _⟩ => rfl
    | ⟨1, _⟩ => rfl
  have e1 : idx_main_v34 (idx_main_v35 i) = ix1 (i 1) := by
    funext a
    match a with
    | ⟨0, _⟩ => rfl
  have e2 : ∀ k, val_main_v24 (F := Ideal) x0 (idx_main_v25 (idx_main_v26 (idx_main_v32 i)) k) = x0 (ix2 (i 0) k) * x0 (ix2 (i 0) k) := fun k => by
    rw [val_main_v24_apply]
    have : idx_main_v25 (idx_main_v26 (idx_main_v32 i)) k = ix2 (i 0) k := by
      funext a
      match a with
      | ⟨0, _⟩ => rfl
      | ⟨1, _⟩ => rfl
    rw [this]
    rfl
  rw [e1]
  simp only [e2]
  generalize (∑ k : Fin 2048, x0 (ix2 (i 0) k) * x0 (ix2 (i 0) k)) = S
  rw [show x0 i = x0 (ix2 (i 0) (i 1)) from congrArg x0 ei]
  rfl

/-- The result. -/
theorem result (i : S33280x3840.Idx) :
    val_main_v42 (F := Ideal) x0 x1 x2 x3 i
      = proj (fun n k => x0 (ix2 n k)) (fun k => x1 (ix1 k)) (fun b p k => x2 (ix4 b p 0 k)) (fun k l => x3 (ix2 k l)) (i 0) (i 1) := by
  rw [val_main_v42_apply]
  unfold proj
  refine Finset.sum_congr rfl fun k _ => ?_
  rw [hidAt, val_main_v41_apply]
  refine congr (congrArg _ rfl) (congrArg x3 (funext fun a => ?_))
  match a with
  | ⟨0, _⟩ => rfl
  | ⟨1, _⟩ => rfl

end Cert.Reference5Ideal.Inp

end
-- ==== Proof.I.Value.lean ====
module

public import proofs.«01_k».proof.Proof.I.First
public import proofs.«01_k».proof.Proof.I.Blocks
public import proofs.«01_k».proof.Proof.I.Ref
public import proofs.«01_k».proof.Proof.Gen.Kernel5Ideal.Frame

/-! The array the in projection leaves is the reference's. -/

@[expose] public section

set_option maxRecDepth 16384

noncomputable section

namespace Cert.Kernel5Ideal.Inp

open Idealize.ShloMosaic Idealize.ShloMosaic.TcCoe Idealize.ShloMosaic.Tactic Idealize.SL.Sem Cert.Kernel5Ideal Cert.Kernel5Ideal.Gen
open Cert.Ffn Cert.Inp
open scoped BigOperators

variable (m : (ℓ : Loc nD τ sig) → Buf (Elt Ideal) ℓ)

abbrev aX (c : Dev nD) (n : Fin 33280) (k : Fin 2048) : EReal := m ((c : Thread nD τ).loc main_arg0) (ix2 n k)
abbrev aw (c : Dev nD) (k : Fin 2048) : EReal := m ((c : Thread nD τ).loc main_arg1) (ix1 k)
abbrev aM (c : Dev nD) (b : Fin 8) (p : Fin 9) (k : Fin 2048) : EReal := m ((c : Thread nD τ).loc main_arg2) (ix4 b p 0 k)
abbrev aW (c : Dev nD) (k : Fin 2048) (l : Fin 3840) : EReal := m ((c : Thread nD τ).loc main_arg3) (ix2 k l)

/-- A point's token is the argument's. -/
theorem tok_eq (c : Dev nD) (t : Fin cfg0.N) (r : Fin 512) : tok m c t r = fed (aX m c) (aw m c) (aM m c) (row t r) := by
  funext k
  unfold tok fed
  simp only [blk0, blk1, blk2 m c t r, blk3 m c t r]

/-- The tokens the first point of a run left, at any of its points. -/
theorem kept (c : Dev nD) (t : Fin cfg0.N) (r : Fin 512) (k : Fin 2048) :
    (outsAt0 m c t.val t.isLt).2 (ix2 r k) = fed (aX m c) (aw m c) (aM m c) (row t r) k := by
  obtain ⟨n, hn⟩ := t
  induction n with
  | zero => rw [first_tok m c ⟨0, hn⟩ rfl, tok_eq]
  | succ n ih =>
    by_cases h0 : (n + 1) % 3 = 0
    · rw [first_tok m c ⟨n + 1, hn⟩ h0, tok_eq]
    · rw [later_tok m c ⟨n + 1, hn⟩ h0]
      refine (ih (by omega)).trans ?_
      refine congrArg (fun n => fed (aX m c) (aw m c) (aM m c) n k) (Fin.ext ?_)
      show n / 3 * 512 + r.val = (n + 1) / 3 * 512 + r.val
      omega

/-- One element a point writes. -/
theorem done (c : Dev nD) (t : Fin cfg0.N) (r : Fin 512) (q : Fin 1280) :
    (outsAt0 m c t.val t.isLt).1 (ix2 r q) = proj (aX m c) (aw m c) (aM m c) (aW m c) (row t r) (col t q) := by
  have e : ∀ h : Fin 2048 → EReal, (∀ k, h k = fed (aX m c) (aw m c) (aM m c) (row t r) k) →
      give m c t h q = proj (aX m c) (aw m c) (aM m c) (aW m c) (row t r) (col t q) := fun h eh => by
    unfold give proj
    refine Finset.sum_congr rfl fun k _ => ?_
    rw [eh k, blk4]
  by_cases h0 : t.val % 3 = 0
  · rw [first_out m c t h0]
    exact e _ fun k => congrFun (tok_eq m c t r) k
  · rw [later_out m c t h0]
    exact e _ fun k => by rw [← later_tok m c t h0]; exact kept m c t r k

/-- What device `c`'s result is shown to hold. -/
abbrev want (c : Dev nD) : Buf (Elt Ideal) ((c : Thread nD τ).loc main_v1) :=
  Cert.Reference5Ideal.Read.val_main_v42 (F := Ideal) (m ((c : Thread nD τ).loc main_arg0)) (m ((c : Thread nD τ).loc main_arg1))
    (m ((c : Thread nD τ).loc main_arg2)) (m ((c : Thread nD τ).loc main_arg3))

theorem point (c : Dev nD) (t : Fin cfg0.N) (y : S512x1280.Idx) (i : S33280x3840.Idx)
    (e0 : (i 0 : ℕ) = t.val / 3 * 512 + (y 0 : ℕ)) (e1 : (i 1 : ℕ) = t.val % 3 * 1280 + (y 1 : ℕ)) :
    (outsAt0 m c t.val t.isLt).1 y = want m c i := by
  have ey : y = ix2 (y 0) (y 1) := funext fun a => match a with
    | ⟨0, _⟩ => rfl
    | ⟨1, _⟩ => rfl
  have r0 : row t (y 0) = i 0 := Fin.ext e0.symm
  have r1 : col t (y 1) = i 1 := Fin.ext e1.symm
  rw [ey]
  refine (done m c t (y 0) (y 1)).trans ?_
  refine Eq.trans ?_ (Cert.Reference5Ideal.Inp.result _ _ _ _ i).symm
  exact congr (congrArg (proj (aX m c) (aw m c) (aM m c) (aW m c)) r0) r1

theorem final (c : Dev nD) : (dats m 0 c).arrAt 5 cfg0.N = want m c := by
  refine (dats m 0 c).arrAt_eq_of_covers 5 (want m c) (by decide +kernel) fun t hf y => ?_
  blk_simp
  rw [after0_5]
  have h : ∀ t : Fin cfg0.N, win0_5.index t = ![t.val / 3, t.val % 3] := idx5
  refine point m c t _ _ ?_ ?_ <;> blk_simp [h t] <;> rfl

/-- The result array after the launch. -/
theorem result (ρ : Dev nD → PrngReg) : θ_run defs (onTc (τ := τ) (main (F := Ideal))) ⟨m, fun _ => 0, ρ⟩ (fun r => ∀ c : Dev nD,
      r.2.mem ((c.tc : Thread nD τ).loc main_v1) = want m c) := by
  refine (θ_run defs _ _).mono (fun r h c => ?_) (run_main m ρ)
  exact (h.out_eq c 5).trans (final m c)

end Cert.Kernel5Ideal.Inp

end
-- ==== Proof.O.Math.lean ====
module

public import proofs.«01_k».proof.Proof.F.Math

/-! The out projection in plain words: the state-space results through a gelu and a gated linear unit, the scan's results
    gated and normalised, and both with the two attentions' results multiplied out, gated and added to the token. -/

@[expose] public section

noncomputable section

namespace Cert.Outp

open Idealize.ShloMosaic Cert.Ffn
open scoped BigOperators

/-- One half, as both programs write it. -/
abbrev half : EReal := Ideal.ofBits .f32 0x3F000000#32

/-- `1 / (1 + exp (-t))`. -/
def sg (t : EReal) : EReal := Ideal.div one (one + FloatOps.exp (F := Ideal) (φ := .f32) (-t))

/-- The gelu, by its tanh. -/
def gel (a : EReal) : EReal :=
  half * a * (one + FloatOps.tanh (F := Ideal) (φ := .f32) (Ideal.ofBits .f32 0x3F4C422A#32 * (a + Ideal.ofBits .f32 0x3D372713#32 * (a * a * a))))

/-- The gated linear unit of a row's gelus. -/
def glu (a : Fin 512 → EReal) (G : Fin 512 → Fin 512 → EReal) (b : Fin 512 → EReal) (l : Fin 512) : EReal :=
  gel (a l) * sg (∑ k, gel (a k) * G k l + b l)

/-- A scan's two directions and its skip, through the gate `z`. -/
def gatedSum (yf yb d xs z : EReal) : EReal := (yf + yb + d * xs) * (z * sg z)

/-- A row, normalised and weighted. -/
def nrm (y w : Fin 512 → EReal) (l : Fin 512) : EReal :=
  y l * FloatOps.rsqrt (F := Ideal) (φ := .f32)
      (Ideal.div (∑ j, y j * y j) (Ideal.ofBits .f32 0x44000000#32) + Ideal.ofBits .f32 0x358637BD#32) * w l

/-- Entry `l` of quarter `q`. -/
def quarter (q : Fin 4) (l : Fin 512) : Fin 2048 := ⟨q.val * 512 + l.val, by omega⟩

/-- Four quarters of a row, multiplied out one after another. -/
def four (a b c e : Fin 512 → EReal) (W : Fin 2048 → EReal) : EReal :=
  ∑ l, a l * W (quarter 0 l) + ∑ l, b l * W (quarter 1 l) + ∑ l, c l * W (quarter 2 l) + ∑ l, e l * W (quarter 3 l)

/-- The row multiplied out at once gives the same. -/
theorem four_eq (f W : Fin 2048 → EReal) : ∑ k, f k * W k
    = four (fun l => f (quarter 0 l)) (fun l => f (quarter 1 l)) (fun l => f (quarter 2 l)) (fun l => f (quarter 3 l)) W := by
  refine (Fin.sum_mul_add_fin 4 512 (fun k : Fin 2048 => f k * W k)).symm.trans ?_
  rw [Fin.sum_univ_four]
  rfl

/-- Columns of the in projection's result and of the scan's inputs. -/
def cu (l : Fin 512) : Fin 3840 := ⟨4 * 512 + l.val, by omega⟩
def cz (l : Fin 512) : Fin 3840 := ⟨5 * 512 + l.val, by omega⟩
def cx (l : Fin 512) : Fin 1024 := ⟨0 * 512 + l.val, by omega⟩
/-- The head of a column. -/
def hd (l : Fin 512) : Fin 8 := ⟨l.val / 64, by omega⟩

variable (X : Fin 33280 → Fin 2048 → EReal) (M : Fin 8 → Fin 9 → Fin 2048 → EReal) (Y : Fin 33280 → Fin 512 → EReal)
  (P : Fin 33280 → Fin 3840 → EReal) (ds : Fin 512 → EReal) (G : Fin 512 → Fin 512 → EReal) (gb : Fin 512 → EReal)
  (Yf Yb : Fin 33280 → Fin 512 → EReal) (XS : Fin 33280 → Fin 1024 → EReal) (dd : Fin 8 → EReal) (nw : Fin 512 → EReal)
  (Ym Yg : Fin 33280 → Fin 512 → EReal) (W : Fin 2048 → Fin 2048 → EReal)

/-- The state-space result with its skip. -/
def skipped (n : Fin 33280) (l : Fin 512) : EReal := Y n l + ds l * P n (cu l)

/-- The scan's result with its skip and gate. -/
def scanned (n : Fin 33280) (l : Fin 512) : EReal := gatedSum (Yf n l) (Yb n l) (dd (hd l)) (XS n (cx l)) (P n (cz l))

/-- The result. -/
def out (n : Fin 33280) (o : Fin 2048) : EReal :=
  X n o + M (seg n) 5 o * four (glu (skipped Y P ds n) G gb) (nrm (scanned P Yf Yb XS dd n) nw) (Ym n) (Yg n) (fun k => W k o)

end Cert.Outp

end
-- ==== Proof.O.Pay.lean ====
module

public import proofs.«01_k».proof.Proof.Gen.Kernel6Ideal.Frame
public import proofs.«01_k».proof.Proof.O.Math
public import Idealize.ShloMosaic.Lib.Pipeline.ValueKit

/-! The out projection body's values over the extended reals, one element at a time. -/

@[expose] public section

set_option maxRecDepth 16384

noncomputable section

namespace Cert.Kernel6Ideal.Outp

open Idealize.ShloMosaic Idealize.ShloMosaic.TcCoe Idealize.ShloMosaic.Tactic Cert.Kernel6Ideal Cert.Kernel6Ideal.Gen
open Cert.Ffn hiding out
open Cert.Outp
open scoped BigOperators

/-- A block's state-space results with their skips. -/
def skipV (y : FVec Ideal S512x512 .bf16) (d : FVec Ideal S1x512 .f32) (u : FVec Ideal S512x512 .f32) : FVec Ideal S512x512 .f32 :=
  addf (extf .f32 y bitsLt_bf16_f32) (mulf (broadcastTo S512x512 (shapeCast S1x512 d shapeCasts_S1x512_S1x512) broadcasts_S1x512_S512x512) u)

theorem skipV_apply (y : FVec Ideal S512x512 .bf16) (d : FVec Ideal S1x512 .f32) (u : FVec Ideal S512x512 .f32) (r l : Fin 512) :
    skipV y d u (ix2 r l) = y (ix2 r l) + d (ix2 0 l) * u (ix2 r l) := by
  unfold skipV
  pointwise

/-- Their gelus. -/
def gelV (a : FVec Ideal S512x512 .f32) : FVec Ideal S512x512 .f32 :=
  mulf (mulf (broadcast S512x512 (Scalar.ofBits (F := Ideal) .f32 0x3F000000#32)) a) (addf (broadcast S512x512 (Scalar.ofBits (F := Ideal) .f32 0x3F800000#32))
    (tanh (mulf (broadcast S512x512 (Scalar.ofBits (F := Ideal) .f32 0x3F4C422A#32)) (addf a (mulf (broadcast S512x512 (Scalar.ofBits (F := Ideal) .f32 0x3D372713#32)) (mulf (mulf a a) a))))))

theorem gelV_apply (a : FVec Ideal S512x512 .f32) (r l : Fin 512) : gelV a (ix2 r l) = gel (a (ix2 r l)) := rfl

/-- A block through its gate. -/
def sgV (g t : FVec Ideal S512x512 .f32) : FVec Ideal S512x512 .f32 :=
  mulf g (divf (broadcast S512x512 (Scalar.ofBits (F := Ideal) .f32 0x3F800000#32)) (addf (broadcast S512x512 (Scalar.ofBits (F := Ideal) .f32 0x3F800000#32)) (exp (subf (broadcast S512x512 (Scalar.ofBits (F := Ideal) .f32 0x00000000#32)) t))))

theorem sgV_apply (g t : FVec Ideal S512x512 .f32) (r l : Fin 512) : sgV g t (ix2 r l) = g (ix2 r l) * sg (t (ix2 r l)) := by
  have e : sgV g t (ix2 r l) = g (ix2 r l) * Ideal.div one (one + FloatOps.exp (F := Ideal) (φ := .f32) (Ideal.ofBits .f32 0x00000000#32 - t (ix2 r l))) := rfl
  rw [e, Ideal.ofBits_zero_f32, zero_sub]
  rfl

/-- The gate's argument. -/
def linV (h : FVec Ideal S512x512 .bf16) (G : FVec Ideal S512x512 .bf16) (b : FVec Ideal S1x512 .f32) : FVec Ideal S512x512 .f32 :=
  addf (matmul dot_S512x512_S512x512_S512x512_1_0_0_1_n_n none h (shapeCast S512x512 G shapeCasts_S512x512_S512x512)
    (constant S512x512 .f32 0x00000000#32)) (broadcastTo S512x512 (shapeCast S1x512 b shapeCasts_S1x512_S1x512) broadcasts_S1x512_S512x512)

theorem linV_apply (h : FVec Ideal S512x512 .bf16) (G : FVec Ideal S512x512 .bf16) (b : FVec Ideal S1x512 .f32) (r l : Fin 512) :
    linV h G b (ix2 r l) = ∑ k : Fin 512, h (ix2 r k) * G (ix2 k l) + b (ix2 0 l) := by
  unfold linV
  pointwise

theorem pay2_eq (y : Vec Ideal S512x512 .bf16) (d : Vec Ideal S1x512 .f32) (u : Vec Ideal S512x512 .f32) (G : Vec Ideal S512x512 .bf16) (b : Vec Ideal S1x512 .f32) :
    k0_pay2 y d u G b = sgV (gelV (skipV y d u)) (linV (truncf .bf16 (gelV (skipV y d u)) bitsLt_bf16_f32) G b) := rfl

/-- The gated linear unit's results. -/
theorem pay2_apply (y : Vec Ideal S512x512 .bf16) (d : Vec Ideal S1x512 .f32) (u : Vec Ideal S512x512 .f32) (G : Vec Ideal S512x512 .bf16) (b : Vec Ideal S1x512 .f32)
    (r l : Fin 512) : k0_pay2 y d u G b (ix2 r l)
      = glu (fun l => y (ix2 r l) + d (ix2 0 l) * u (ix2 r l)) (fun k l => G (ix2 k l)) (fun l => b (ix2 0 l)) l := by
  rw [pay2_eq, sgV_apply, linV_apply, gelV_apply, skipV_apply]
  unfold glu
  refine congrArg (fun s => _ * sg (s + _)) (Finset.sum_congr rfl fun k _ => ?_)
  refine congrArg (· * _) ?_
  show gelV (skipV y d u) (ix2 r k) = _
  rw [gelV_apply, skipV_apply]

/-- The scan's results with their skips. -/
def sumV (f b : FVec Ideal S512x512 .f32) (d : FVec Ideal S1x512 .f32) (x : FVec Ideal S512x512 .f32) : FVec Ideal S512x512 .f32 :=
  addf (addf f b) (mulf (broadcastTo S512x512 (shapeCast S1x512 d shapeCasts_S1x512_S1x512) broadcasts_S1x512_S512x512) x)

theorem sumV_apply (f b : FVec Ideal S512x512 .f32) (d : FVec Ideal S1x512 .f32) (x : FVec Ideal S512x512 .f32) (r l : Fin 512) :
    sumV f b d x (ix2 r l) = f (ix2 r l) + b (ix2 r l) + d (ix2 0 l) * x (ix2 r l) := by
  unfold sumV
  pointwise

/-- Rows normalised and weighted. -/
def nrmV (y : FVec Ideal S512x512 .f32) (w : FVec Ideal S1x512 .f32) : FVec Ideal S512x512 .f32 :=
  mulf (mulf y (broadcastTo S512x512 (rsqrt (addf (divf (shapeCast S512x1 (multiReduction .add [1] S512 (mulf y y) 0x00000000#32 reduces_S512x512_S512 (.inl rfl) rfl) shapeCasts_S512_S512x1)
      (broadcast S512x1 (Scalar.ofBits (F := Ideal) .f32 0x44000000#32))) (broadcast S512x1 (Scalar.ofBits (F := Ideal) .f32 0x358637BD#32)))) broadcasts_S512x1_S512x512))
    (broadcastTo S512x512 (shapeCast S1x512 w shapeCasts_S1x512_S1x512) broadcasts_S1x512_S512x512)

theorem rate (y : FVec Ideal S512x512 .f32) (r : Fin 512) :
    rsqrt (addf (divf (shapeCast S512x1 (multiReduction .add [1] S512 (mulf y y) 0x00000000#32 reduces_S512x512_S512 (.inl rfl) rfl) shapeCasts_S512_S512x1)
      (broadcast S512x1 (Scalar.ofBits (F := Ideal) .f32 0x44000000#32))) (broadcast S512x1 (Scalar.ofBits (F := Ideal) .f32 0x358637BD#32))) (ix2 r 0)
      = FloatOps.rsqrt (F := Ideal) (φ := .f32)
      (Ideal.div (∑ j : Fin 512, y (ix2 r j) * y (ix2 r j)) (Ideal.ofBits .f32 0x44000000#32) + Ideal.ofBits .f32 0x358637BD#32) := by
  pointwise

theorem scaled (y : FVec Ideal S512x512 .f32) (w : FVec Ideal S1x512 .f32) (R : FVec Ideal S512x1 .f32) (r l : Fin 512) :
    mulf (mulf y (broadcastTo S512x512 R broadcasts_S512x1_S512x512)) (broadcastTo S512x512 (shapeCast S1x512 w shapeCasts_S1x512_S1x512) broadcasts_S1x512_S512x512) (ix2 r l)
      = y (ix2 r l) * R (ix2 r 0) * w (ix2 0 l) := by
  pointwise

theorem nrmV_apply (y : FVec Ideal S512x512 .f32) (w : FVec Ideal S1x512 .f32) (r l : Fin 512) :
    nrmV y w (ix2 r l) = nrm (fun l => y (ix2 r l)) (fun l => w (ix2 0 l)) l := by
  unfold nrmV
  rw [scaled, rate]
  rfl

theorem pay4_eq (f b : Vec Ideal S512x512 .f32) (d : Vec Ideal S1x512 .f32) (x z : Vec Ideal S512x512 .f32) (w : Vec Ideal S1x512 .f32) :
    k0_pay4 f b d x z w = truncf .bf16 (nrmV (mulf (sumV f b d x) (sgV z z)) w) bitsLt_bf16_f32 := rfl

theorem gated_apply (f b : FVec Ideal S512x512 .f32) (d : FVec Ideal S1x512 .f32) (x z : FVec Ideal S512x512 .f32) (r l : Fin 512) :
    mulf (sumV f b d x) (sgV z z) (ix2 r l) = gatedSum (f (ix2 r l)) (b (ix2 r l)) (d (ix2 0 l)) (x (ix2 r l)) (z (ix2 r l)) := by
  show sumV f b d x (ix2 r l) * sgV z z (ix2 r l) = _
  rw [sumV_apply, sgV_apply]
  rfl

/-- The scan's results, gated and normalised. -/
theorem pay4_apply (f b : Vec Ideal S512x512 .f32) (d : Vec Ideal S1x512 .f32) (x z : Vec Ideal S512x512 .f32) (w : Vec Ideal S1x512 .f32) (r l : Fin 512) :
    k0_pay4 f b d x z w (ix2 r l)
      = nrm (fun l => gatedSum (f (ix2 r l)) (b (ix2 r l)) (d (ix2 0 l)) (x (ix2 r l)) (z (ix2 r l))) (fun l => w (ix2 0 l)) l := by
  rw [pay4_eq]
  show nrmV _ w (ix2 r l) = _
  rw [nrmV_apply]
  exact congrArg (fun y => nrm y _ l) (funext fun j => gated_apply f b d x z r j)

theorem prod_apply (h : FVec Ideal S512x512 .bf16) (a : Vec Ideal S1x512x2048 .bf16) (r : Fin 512) (o : Fin 2048) :
    matmul dot_S512x512_S512x2048_S512x2048_1_0_0_1_n_n none h (shapeCast S512x2048 a shapeCasts_S1x512x2048_S512x2048 : FVec Ideal S512x2048 .bf16)
      (constant S512x2048 .f32 0x00000000#32) (ix2 r o) = ∑ k : Fin 512, h (ix2 r k) * a (ix3 0 k o) := by
  pointwise

theorem ends (x s a b c : FVec Ideal S512x2048 .f32) (g : Vec Ideal S1x1x1x2048 .f32) (r : Fin 512) (o : Fin 2048) :
    addf x (mulf (broadcastTo S512x2048 (shapeCast S1x2048 g shapeCasts_S1x1x1x2048_S1x2048 : FVec Ideal S1x2048 .f32) broadcasts_S1x2048_S512x2048)
      (addf (addf (addf s a) b) c)) (ix2 r o)
      = x (ix2 r o) + g (ix4 0 0 0 o) * (s (ix2 r o) + a (ix2 r o) + b (ix2 r o) + c (ix2 r o)) := by
  pointwise

/-- The four products, gated and added to the token. -/
theorem pay1_apply (h0 : FVec Ideal S512x512 .f32) (h1 : FVec Ideal S512x512 .bf16) (h2 h3 : Vec Ideal S512x512 .bf16) (w0 w1 w2 w3 : Vec Ideal S1x512x2048 .bf16)
    (x : Vec Ideal S512x2048 .f32) (g : Vec Ideal S1x1x1x2048 .f32) (r : Fin 512) (o : Fin 2048) :
    k0_pay1 (k0_pay3 h0 w0) h1 w1 h2 w2 h3 w3 x g (ix2 r o)
      = x (ix2 r o) + g (ix4 0 0 0 o) * (∑ k : Fin 512, h0 (ix2 r k) * w0 (ix3 0 k o) + ∑ k : Fin 512, h1 (ix2 r k) * w1 (ix3 0 k o)
        + ∑ k : Fin 512, h2 (ix2 r k) * w2 (ix3 0 k o) + ∑ k : Fin 512, h3 (ix2 r k) * w3 (ix3 0 k o)) := by
  unfold k0_pay1 k0_pay3
  dsimp only
  rw [ends, prod_apply, prod_apply, prod_apply, prod_apply]
  rfl

end Cert.Kernel6Ideal.Outp

end
-- ==== Proof.O.Blocks.lean ====
module

public import proofs.«01_k».proof.Proof.O.Pay
public import Idealize.ShloMosaic.Lib.Pipeline.ValueKit.Partial

/-! Which elements of the arguments a point of the out projection's grid sees: point `t` is block `t` of the tokens. -/

@[expose] public section

set_option maxRecDepth 16384

noncomputable section

namespace Cert.Kernel6Ideal.Outp

open Idealize.ShloMosaic Idealize.ShloMosaic.TcCoe Idealize.ShloMosaic.Tactic Cert.Kernel6Ideal Cert.Kernel6Ideal.Gen
open Cert.Ffn hiding out
open Cert.Outp
open scoped BigOperators

variable (m : (ℓ : Loc nD τ sig) → Buf (Elt Ideal) ℓ)

/-- The modulation's row for a block of tokens. -/
def segB (b : ℕ) : ℕ := if b < 32 then 0 else if b < 64 then 1 else 2

theorem idx0 : ∀ t : Fin cfg0.N, win0_0.index t = ![t.val, 0] := (by decide +kernel : ∀ t : Fin grid0.N, _)
theorem idx1 : ∀ t : Fin cfg0.N, win0_1.index t = ![segB t.val, 5, 0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 4] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 5] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![0, 0, 0] := (by decide +kernel : ∀ t : Fin grid0.N, _)
theorem idx16 : ∀ t : Fin cfg0.N, win0_16.index t = ![t.val, 0] := (by decide +kernel : ∀ t : Fin grid0.N, _)

theorem N_eq : cfg0.N = 65 := N_0

/-- Token `r` of the point's block. -/
def row (t : Fin cfg0.N) (r : Fin 512) : Fin 33280 := ⟨t.val * 512 + r, by have := t.isLt; have := N_eq; omega⟩

theorem seg_row (t : Fin cfg0.N) (r : Fin 512) : ((seg (row t r)) : ℕ) = segB t.val := by
  unfold seg segB row
  dsimp only
  by_cases h : t.val < 32
  · rw [if_pos (by omega), if_pos h]; rfl
  · rw [if_neg (by omega), if_neg h]
    by_cases h' : t.val < 64
    · rw [if_pos (by omega), if_pos h']; rfl
    · rw [if_neg (by omega), if_neg h']; rfl

theorem blk0 (c : Dev nD) (t : Fin cfg0.N) (r : Fin 512) (k : Fin 2048) :
    iblk m c 0 t (ix2 r k) = m ((c : Thread nD τ).loc main_arg0) (ix2 (row t r) k) := by
  unfold row
  blk_ext! [iblk, V, idx0 t]

theorem blk1 (c : Dev nD) (t : Fin cfg0.N) (r : Fin 512) (k : Fin 2048) :
    iblk m c 1 t (ix4 0 0 0 k) = m ((c : Thread nD τ).loc main_arg1) (ix4 (seg (row t r)) 5 0 k) := by
  have h := seg_row t r
  blk_ext! [iblk, V, idx1 t, h]

theorem blk2 (c : Dev nD) (t : Fin cfg0.N) (r l : Fin 512) :
    iblk m c 2 t (ix2 r l) = m ((c : Thread nD τ).loc main_arg2) (ix2 (row t r) l) := by
  unfold row
  blk_ext! [iblk, V, idx2 t]

theorem blk3 (c : Dev nD) (t : Fin cfg0.N) (r l : Fin 512) :
    X0_3 m c t (ix2 r l) = m ((c : Thread nD τ).loc main_arg3) (ix2 (row t r) (cu l)) := by
  unfold row cu X0_3 Pipeline.Window.fill
  rw [dif_pos (moved0_3 t _)]
  blk_ext! [iblk, V, idx3 t]

theorem blk7 (c : Dev nD) (t : Fin cfg0.N) (r l : Fin 512) :
    iblk m c 7 t (ix2 r l) = m ((c : Thread nD τ).loc main_arg7) (ix2 (row t r) l) := by
  unfold row
  blk_ext! [iblk, V, idx7 t]

theorem blk8 (c : Dev nD) (t : Fin cfg0.N) (r l : Fin 512) :
    iblk m c 8 t (ix2 r l) = m ((c : Thread nD τ).loc main_arg8) (ix2 (row t r) l) := by
  unfold row
  blk_ext! [iblk, V, idx8 t]

theorem blk9 (c : Dev nD) (t : Fin cfg0.N) (r l : Fin 512) :
    iblk m c 9 t (ix2 r l) = m ((c : Thread nD τ).loc main_arg9) (ix2 (row t r) (cx l)) := by
  unfold row cx
  blk_ext! [iblk, V, idx9 t]

theorem blk10 (c : Dev nD) (t : Fin cfg0.N) (r l : Fin 512) :
    X0_10 m c t (ix2 r l) = m ((c : Thread nD τ).loc main_arg3) (ix2 (row t r) (cz l)) := by
  unfold row cz X0_10 Pipeline.Window.fill
  rw [dif_pos (moved0_10 t _)]
  blk_ext! [iblk, V, idx10 t]

theorem blk13 (c : Dev nD) (t : Fin cfg0.N) (r l : Fin 512) :
    iblk m c 13 t (ix2 r l) = m ((c : Thread nD τ).loc main_arg12) (ix2 (row t r) l) := by
  unfold row
  blk_ext! [iblk, V, idx13 t]

theorem blk14 (c : Dev nD) (t : Fin cfg0.N) (r l : Fin 512) :
    iblk m c 14 t (ix2 r l) = m ((c : Thread nD τ).loc main_arg13) (ix2 (row t r) l) := by
  unfold row
  blk_ext! [iblk, V, idx14 t]

theorem blk15 (c : Dev nD) (t : Fin cfg0.N) (k o : Fin 2048) :
    iblk m c 15 t (ix3 0 k o) = m ((c : Thread nD τ).loc main_arg14) (ix3 0 k o) := by
  blk_ext! [iblk, V, idx15 t]

theorem V_main_v0 (c : Dev nD) : V m c main_v0 = shapeCast S1x512 (m ((c : Thread nD τ).loc main_arg4)) shapeCasts_S512_S1x512 := by
  show StableHlo.after hostOps0 _ (Proc.devRef .tc main_v0) = _
  after_results
  rfl

theorem blk4 (c : Dev nD) (t : Fin cfg0.N) (l : Fin 512) :
    iblk m c 4 t (ix2 0 l) = m ((c : Thread nD τ).loc main_arg4) (ix1 l) := by
  have h : iblk m c 4 t (ix2 0 l) = V m c main_v0 (ix2 0 l) := by
    blk_ext! [iblk, idx4 t]
  rw [h, V_main_v0]
  exact shapeCast_apply _ shapeCasts_S512_S1x512 (ix2 0 l) (ix1 l)
    (by rw [Shape.rowMajor_val_two, Shape.rowMajor_val_one]; show l.val = 0 * 512 + l.val; omega)

theorem V_main_v2 (c : Dev nD) : V m c main_v2 = shapeCast S1x512 (m ((c : Thread nD τ).loc main_arg6)) shapeCasts_S512_S1x512 := by
  show StableHlo.after hostOps0 _ (Proc.devRef .tc main_v2) = _
  after_results
  rfl

theorem blk6 (c : Dev nD) (t : Fin cfg0.N) (l : Fin 512) :
    iblk m c 6 t (ix2 0 l) = m ((c : Thread nD τ).loc main_arg6) (ix1 l) := by
  have h : iblk m c 6 t (ix2 0 l) = V m c main_v2 (ix2 0 l) := by
    blk_ext! [iblk, idx6 t]
  rw [h, V_main_v2]
  exact shapeCast_apply _ shapeCasts_S512_S1x512 (ix2 0 l) (ix1 l)
    (by rw [Shape.rowMajor_val_two, Shape.rowMajor_val_one]; show l.val = 0 * 512 + l.val; omega)

theorem V_main_v6 (c : Dev nD) : V m c main_v6 = shapeCast S1x512 (m ((c : Thread nD τ).loc main_arg11)) shapeCasts_S512_S1x512 := by
  show StableHlo.after hostOps0 _ (Proc.devRef .tc main_v6) = _
  after_results
  rfl

theorem blk12 (c : Dev nD) (t : Fin cfg0.N) (l : Fin 512) :
    iblk m c 12 t (ix2 0 l) = m ((c : Thread nD τ).loc main_arg11) (ix1 l) := by
  have h : iblk m c 12 t (ix2 0 l) = V m c main_v6 (ix2 0 l) := by
    blk_ext! [iblk, idx12 t]
  rw [h, V_main_v6]
  exact shapeCast_apply _ shapeCasts_S512_S1x512 (ix2 0 l) (ix1 l)
    (by rw [Shape.rowMajor_val_two, Shape.rowMajor_val_one]; show l.val = 0 * 512 + l.val; omega)

theorem V_main_v1 (c : Dev nD) : V m c main_v1 = truncf (F := Ideal) .bf16 (m ((c : Thread nD τ).loc main_arg5)) bitsLt_bf16_f32 := by
  show StableHlo.after hostOps0 _ (Proc.devRef .tc main_v1) = _
  after_results

theorem blk5 (c : Dev nD) (t : Fin cfg0.N) (k l : Fin 512) :
    iblk m c 5 t (ix2 k l) = m ((c : Thread nD τ).loc main_arg5) (ix2 k l) := by
  have h : iblk m c 5 t (ix2 k l) = V m c main_v1 (ix2 k l) := by
    blk_ext! [iblk, idx5 t]
  rw [h, V_main_v1]
  rfl

/-- The scan's skip weights, each head's repeated over its columns. -/
theorem V_main_v5 (c : Dev nD) : V m c main_v5 = shapeCast S1x512 (shapeCast S512 (broadcastInDim S8x64 ![0] bcast_S8_S8x64_0
    (m ((c : Thread nD τ).loc main_arg10))) shapeCasts_S8x64_S512) shapeCasts_S512_S1x512 := by
  show StableHlo.after hostOps0 _ (Proc.devRef .tc main_v5) = _
  after_results
  rfl

theorem blk11 (c : Dev nD) (t : Fin cfg0.N) (l : Fin 512) :
    iblk m c 11 t (ix2 0 l) = m ((c : Thread nD τ).loc main_arg10) (ix1 (hd l)) := by
  have h : iblk m c 11 t (ix2 0 l) = V m c main_v5 (ix2 0 l) := by
    blk_ext! [iblk, idx11 t]
  rw [h, V_main_v5]
  refine (shapeCast_apply _ shapeCasts_S512_S1x512 (ix2 0 l) (ix1 l)
    (by rw [Shape.rowMajor_val_two, Shape.rowMajor_val_one]; show l.val = 0 * 512 + l.val; omega)).trans ?_
  refine (shapeCast_apply _ shapeCasts_S8x64_S512 (ix1 l) (ix2 (hd l) (⟨l.val % 64, by omega⟩ : Fin 64))
    (by rw [Shape.rowMajor_val_two, Shape.rowMajor_val_one]; show l.val / 64 * 64 + l.val % 64 = l.val; omega)).trans ?_
  exact broadcastInDim_apply _ bcast_S8_S8x64_0 _ _ (ix1 (hd l)) (fun a => match a with
    | ⟨0, _⟩ => rfl)

end Cert.Kernel6Ideal.Outp

end
-- ==== Proof.O.Ref.lean ====
module

public import proofs.«01_k».proof.Proof.Gen.Reference6Ideal.Read
public import proofs.«01_k».proof.Proof.O.Math
public import Idealize.ShloMosaic.Lib.Pipeline.ValueKit
public import Idealize.ShloMosaic.Lib.KernelVsHost

/-! The out projection's reference, one element at a time. -/

@[expose] public section

set_option maxRecDepth 16384

noncomputable section

namespace Cert.Reference6Ideal.Outp

open Idealize.ShloMosaic Idealize.ShloMosaic.TcCoe Idealize.ShloMosaic.Tactic Cert.Reference6Ideal Cert.Reference6Ideal.Gen Cert.Reference6Ideal.Read
open Cert.Ffn hiding out
open Cert.Outp
open scoped BigOperators

variable (x0 : (⟨S33280x2048, .f32⟩ : BufTy).Contents (Elt Ideal)) (x1 : (⟨S8x9x1x2048, .f32⟩ : BufTy).Contents (Elt Ideal))
  (x2 : (⟨S33280x512, .bf16⟩ : BufTy).Contents (Elt Ideal)) (x3 : (⟨S33280x3840, .f32⟩ : BufTy).Contents (Elt Ideal))
  (x4 : (⟨S512, .f32⟩ : BufTy).Contents (Elt Ideal)) (x5 : (⟨S512x512, .f32⟩ : BufTy).Contents (Elt Ideal))
  (x6 : (⟨S512, .f32⟩ : BufTy).Contents (Elt Ideal)) (x7 x8 : (⟨S33280x512, .f32⟩ : BufTy).Contents (Elt Ideal))
  (x9 : (⟨S33280x1024, .f32⟩ : BufTy).Contents (Elt Ideal)) (x10 : (⟨S8, .f32⟩ : BufTy).Contents (Elt Ideal))
  (x11 : (⟨S512, .f32⟩ : BufTy).Contents (Elt Ideal)) (x12 x13 : (⟨S33280x512, .bf16⟩ : BufTy).Contents (Elt Ideal))
  (x14 : (⟨S4x2048x2048, .bf16⟩ : BufTy).Contents (Elt Ideal))

/-- Three runs of rows laid end to end. -/
theorem three (y0 y1 : (⟨S16384x2048, .f32⟩ : BufTy).Contents (Elt Ideal)) (y2 : (⟨S512x2048, .f32⟩ : BufTy).Contents (Elt Ideal))
    (g : Fin 8 → Fin 2048 → EReal)
    (h0 : ∀ i : S16384x2048.Idx, y0 i = g 0 (i 1)) (h1 : ∀ i : S16384x2048.Idx, y1 i = g 1 (i 1)) (h2 : ∀ i : S512x2048.Idx, y2 i = g 2 (i 1))
    (i : S33280x2048.Idx) :
    concatenate S33280x2048 0 [⟨S16384x2048, y0⟩, ⟨S16384x2048, y1⟩, ⟨S512x2048, y2⟩]
      concatenates_S16384x2048_S16384x2048_S512x2048_S33280x2048_d0 i = g (seg (i 0)) (i 1) := by
  have hi : (i 0 : ℕ) < 33280 := (i 0).isLt
  unfold seg
  by_cases c0 : (i 0 : ℕ) < 16384
  · rw [if_pos c0]
    rw [concatenate_apply_piece (α := EReal) (t := S33280x2048) 0 [⟨S16384x2048, y0⟩, ⟨S16384x2048, y1⟩, ⟨S512x2048, y2⟩] concatenates_S16384x2048_S16384x2048_S512x2048_S33280x2048_d0 i 0 (by show _ < 3; omega) S16384x2048 y0 rfl rfl 0 rfl
      (ix2 (⟨i 0, c0⟩ : Fin 16384) (i 1)) (fun b hb => match b with
        | ⟨0, _⟩ => absurd rfl hb
        | ⟨1, _⟩ => rfl) (Nat.zero_add _), h0]
    rfl
  · rw [if_neg c0]
    by_cases c1 : (i 0 : ℕ) < 32768
    · rw [if_pos c1]
      rw [concatenate_apply_piece (α := EReal) (t := S33280x2048) 0 [⟨S16384x2048, y0⟩, ⟨S16384x2048, y1⟩, ⟨S512x2048, y2⟩] concatenates_S16384x2048_S16384x2048_S512x2048_S33280x2048_d0 i 1 (by show _ < 3; omega) S16384x2048 y1 rfl rfl 16384 rfl
        (ix2 (⟨i 0 - 16384, by omega⟩ : Fin 16384) (i 1)) (fun b hb => match b with
          | ⟨0, _⟩ => absurd rfl hb
          | ⟨1, _⟩ => rfl) (by show 16384 + ((i 0 : ℕ) - 16384) = _; omega), h1]
      rfl
    · rw [if_neg c1]
      rw [concatenate_apply_piece (α := EReal) (t := S33280x2048) 0 [⟨S16384x2048, y0⟩, ⟨S16384x2048, y1⟩, ⟨S512x2048, y2⟩] concatenates_S16384x2048_S16384x2048_S512x2048_S33280x2048_d0 i 2 (by show _ < 3; omega) S512x2048 y2 rfl rfl 32768 rfl
        (ix2 (⟨i 0 - 32768, by omega⟩ : Fin 512) (i 1)) (fun b hb => match b with
          | ⟨0, _⟩ => absurd rfl hb
          | ⟨1, _⟩ => rfl) (by show 32768 + ((i 0 : ℕ) - 32768) = _; omega), h2]
      rfl

/-- The gate of a token. -/
theorem gate (i : S33280x2048.Idx) : val_main_v9 (F := Ideal) x1 i = x1 (ix4 (seg (i 0)) 5 0 (i 1)) := by
  unfold val_main_v9
  refine three _ _ _ (fun b k => x1 (ix4 b 5 0 k)) (fun i => ?_) (fun i => ?_) (fun i => ?_) i
  · rw [val_main_v2_apply, val_main_v1_apply, val_main_v0_apply]
    have : (i 1 : ℕ) < 2048 := (i 1).isLt
    refine congrArg x1 (funext fun a => Fin.ext ?_)
    match a with
    | ⟨0, _⟩ => rfl
    | ⟨1, _⟩ => rfl
    | ⟨2, _⟩ => rfl
    | ⟨3, _⟩ => show (0 * 2048 + (i 1).val) % 2048 = (i 1).val; omega
  · rw [val_main_v5_apply, val_main_v4_apply, val_main_v3_apply]
    have : (i 1 : ℕ) < 2048 := (i 1).isLt
    refine congrArg x1 (funext fun a => Fin.ext ?_)
    match a with
    | ⟨0, _⟩ => rfl
    | ⟨1, _⟩ => rfl
    | ⟨2, _⟩ => rfl
    | ⟨3, _⟩ => show (0 * 2048 + (i 1).val) % 2048 = (i 1).val; omega
  · rw [val_main_v8_apply, val_main_v7_apply, val_main_v6_apply]
    have : (i 1 : ℕ) < 2048 := (i 1).isLt
    refine congrArg x1 (funext fun a => Fin.ext ?_)
    match a with
    | ⟨0, _⟩ => rfl
    | ⟨1, _⟩ => rfl
    | ⟨2, _⟩ => rfl
    | ⟨3, _⟩ => show (0 * 2048 + (i 1).val) % 2048 = (i 1).val; omega

/-- The state-space result with its skip. -/
theorem skipAt (i : S33280x512.Idx) : val_main_v17 (F := Ideal) x2 x3 x4 i
    = skipped (fun n l => x2 (ix2 n l)) (fun n l => x3 (ix2 n l)) (fun l => x4 (ix1 l)) (i 0) (i 1) := by
  rw [val_main_v17_apply, val_main_v16_apply, val_main_v15_apply, val_main_v14_apply, val_main_v13_apply, val_main_v10_apply]
  unfold skipped
  have e0 : i = ix2 (i 0) (i 1) := by
    funext a
    match a with
    | ⟨0, _⟩ => rfl
    | ⟨1, _⟩ => rfl
  have e1 : idx_main_v14 (idx_main_v15 i) = ix1 (i 1) := by
    funext a
    match a with
    | ⟨0, _⟩ => rfl
  have e2 : idx_main_v10 i = ix2 (i 0) (cu (i 1)) := by
    funext a
    match a with
    | ⟨0, _⟩ => rfl
    | ⟨1, _⟩ => rfl
  rw [e1, e2, show x2 i = x2 (ix2 (i 0) (i 1)) from congrArg x2 e0]
  rfl

theorem gel_comm (a : EReal) :
    a * (half * (one + FloatOps.tanh (F := Ideal) (φ := .f32) (Ideal.ofBits .f32 0x3F4C422A#32 * (a + Ideal.ofBits .f32 0x3D372713#32 * (a * a * a))))) = gel a := by
  unfold gel
  rw [← mul_assoc, mul_comm a]

/-- Its gelu. -/
theorem gelAt (i : S33280x512.Idx) : val_main_v30 (F := Ideal) x2 x3 x4 i
    = gel (skipped (fun n l => x2 (ix2 n l)) (fun n l => x3 (ix2 n l)) (fun l => x4 (ix1 l)) (i 0) (i 1)) := by
  rw [val_main_v30_apply, val_main_v29_apply, val_main_v28_apply, val_main_cst_2_apply, val_main_v27_apply, val_main_v26_apply,
    val_main_cst_1_apply, val_main_v25_apply, val_main_v24_apply, val_main_v23_apply, val_main_cst_0_apply, val_main_v22_apply,
    val_main_v21_apply, val_main_v20_apply, val_main_cst_apply, val_main_v19_apply, val_main_v18_apply, skipAt, ← gel_comm]
  rfl

/-- The gated linear unit. -/
theorem gluAt (i : S33280x512.Idx) : val_main_v41 (F := Ideal) x2 x3 x4 x5 x6 i
    = glu (skipped (fun n l => x2 (ix2 n l)) (fun n l => x3 (ix2 n l)) (fun l => x4 (ix1 l)) (i 0)) (fun k l => x5 (ix2 k l)) (fun l => x6 (ix1 l)) (i 1) := by
  rw [val_main_v41_apply, val_main_v40_apply, val_main_v39_apply, val_main_cst_4_apply, val_main_v38_apply, val_main_v37_apply,
    val_main_cst_3_apply, val_main_v36_apply, val_main_v35_apply, val_main_v34_apply, val_main_v33_apply, val_main_v32_apply,
    val_main_v31_apply]
  unfold glu
  have e1 : idx_main_v32 (idx_main_v33 i) = ix1 (i 1) := by
    funext a
    match a with
    | ⟨0, _⟩ => rfl
  have e2 : ∀ k, val_main_v30 (F := Ideal) x2 x3 x4 (lidx_main_v31 i k) * x5 (ridx_main_v31 i k)
      = gel (skipped (fun n l => x2 (ix2 n l)) (fun n l => x3 (ix2 n l)) (fun l => x4 (ix1 l)) (i 0) k) * x5 (ix2 k (i 1)) := fun k => by
    rw [gelAt]
    refine congr (congrArg _ rfl) (congrArg x5 (funext fun a => ?_))
    match a with
    | ⟨0, _⟩ => rfl
    | ⟨1, _⟩ => rfl
  rw [e1, gelAt]
  simp only [e2]
  rfl

/-- The scan's result with its skip and gate. -/
theorem scanAt (i : S33280x512.Idx) : val_main_v50 (F := Ideal) x3 x7 x8 x9 x10 i
    = scanned (fun n l => x3 (ix2 n l)) (fun n l => x7 (ix2 n l)) (fun n l => x8 (ix2 n l)) (fun n l => x9 (ix2 n l)) (fun h => x10 (ix1 h)) (i 0) (i 1) := by
  rw [val_main_v50_apply, val_main_v49_apply, val_main_call0_v5_apply, val_main_call0_v4_apply, val_main_call0_cst_0_apply,
    val_main_call0_v3_apply, val_main_call0_v2_apply, val_main_call0_cst_apply, val_main_call0_v1_apply, val_main_call0_v0_apply,
    val_main_v48_apply, val_main_v47_apply, val_main_v46_apply, val_main_v45_apply, val_main_v44_apply, val_main_v43_apply,
    val_main_v42_apply, val_main_v12_apply, val_main_v11_apply]
  unfold scanned gatedSum sg
  have h1 : (i 1 : ℕ) < 512 := (i 1).isLt
  have e0 : i = ix2 (i 0) (i 1) := by
    funext a
    match a with
    | ⟨0, _⟩ => rfl
    | ⟨1, _⟩ => rfl
  have e1 : idx_main_v42 (idx_main_v44 (idx_main_v46 i)) = ix1 (hd (i 1)) := by
    funext a
    refine Fin.ext ?_
    match a with
    | ⟨0, _⟩ => show ((i 0).val * 512 + (i 1).val) / 64 % 8 = (i 1).val / 64; omega
  have e2 : idx_main_v12 (idx_main_v43 (idx_main_v46 i)) = ix2 (i 0) (cx (i 1)) := by
    funext a
    refine Fin.ext ?_
    match a with
    | ⟨0, _⟩ =>
      show ((((i 0).val * 512 + (i 1).val) / 512 * 8 + ((i 0).val * 512 + (i 1).val) / 64 % 8) * 64 + ((i 0).val * 512 + (i 1).val) % 64) / 512 = (i 0).val
      omega
    | ⟨1, _⟩ =>
      show ((((i 0).val * 512 + (i 1).val) / 512 * 8 + ((i 0).val * 512 + (i 1).val) / 64 % 8) * 64 + ((i 0).val * 512 + (i 1).val) % 64) % 512 = 0 * 512 + (i 1).val
      omega
  have e3 : idx_main_v11 i = ix2 (i 0) (cz (i 1)) := by
    funext a
    match a with
    | ⟨0, _⟩ => rfl
    | ⟨1, _⟩ => rfl
  rw [e1, e2, e3, show x7 i = x7 (ix2 (i 0) (i 1)) from congrArg x7 e0, show x8 i = x8 (ix2 (i 0) (i 1)) from congrArg x8 e0]
  rfl

/-- It normalised. -/
theorem nrmAt (i : S33280x512.Idx) : val_main_v63 (F := Ideal) x3 x7 x8 x9 x10 x11 i
    = nrm (scanned (fun n l => x3 (ix2 n l)) (fun n l => x7 (ix2 n l)) (fun n l => x8 (ix2 n l)) (fun n l => x9 (ix2 n l)) (fun h => x10 (ix1 h)) (i 0))
        (fun l => x11 (ix1 l)) (i 1) := by
  rw [val_main_v63_apply, val_main_v62_apply, val_main_v61_apply, val_main_v60_apply, val_main_v59_apply, val_main_v58_apply,
    val_main_v57_apply, val_main_v56_apply, val_main_cst_7_apply, val_main_v55_apply, val_main_v54_apply, val_main_cst_6_apply,
    val_main_v53_apply, val_main_v52_apply, scanAt]
  rw [show val_main_cst_5 (F := Ideal) (Shape.Idx.first h_S_) = 0 from Ideal.ofBits_zero_f32, zero_add]
  unfold nrm
  have e1 : idx_main_v61 (idx_main_v62 i) = ix1 (i 1) := by
    funext a
    match a with
    | ⟨0, _⟩ => rfl
  have e2 : ∀ k, val_main_v51 (F := Ideal) x3 x7 x8 x9 x10 (idx_main_v52 (idx_main_v53 (idx_main_v59 i)) k)
      = scanned (fun n l => x3 (ix2 n l)) (fun n l => x7 (ix2 n l)) (fun n l => x8 (ix2 n l)) (fun n l => x9 (ix2 n l)) (fun h => x10 (ix1 h)) (i 0) k
        * scanned (fun n l => x3 (ix2 n l)) (fun n l => x7 (ix2 n l)) (fun n l => x8 (ix2 n l)) (fun n l => x9 (ix2 n l)) (fun h => x10 (ix1 h)) (i 0) k := fun k => by
    rw [val_main_v51_apply, scanAt]
    rfl
  rw [e1]
  simp only [e2]
  rfl

/-- Four arrays side by side, read in quarter `q`. -/
theorem side (y0 y1 y2 y3 : (⟨S33280x512, .f32⟩ : BufTy).Contents (Elt Ideal)) (n : Fin 33280) (l : Fin 512) (i : S33280x2048.Idx) (h0 : (i 0 : ℕ) = n) :
    ((i 1 : ℕ) = 0 + l → concatenate S33280x2048 1 [⟨S33280x512, y0⟩, ⟨S33280x512, y1⟩, ⟨S33280x512, y2⟩, ⟨S33280x512, y3⟩]
      concatenates_S33280x512_S33280x512_S33280x512_S33280x512_S33280x2048_d1 i = y0 (ix2 n l))
    ∧ ((i 1 : ℕ) = 512 + l → concatenate S33280x2048 1 [⟨S33280x512, y0⟩, ⟨S33280x512, y1⟩, ⟨S33280x512, y2⟩, ⟨S33280x512, y3⟩]
      concatenates_S33280x512_S33280x512_S33280x512_S33280x512_S33280x2048_d1 i = y1 (ix2 n l))
    ∧ ((i 1 : ℕ) = 1024 + l → concatenate S33280x2048 1 [⟨S33280x512, y0⟩, ⟨S33280x512, y1⟩, ⟨S33280x512, y2⟩, ⟨S33280x512, y3⟩]
      concatenates_S33280x512_S33280x512_S33280x512_S33280x512_S33280x2048_d1 i = y2 (ix2 n l))
    ∧ ((i 1 : ℕ) = 1536 + l → concatenate S33280x2048 1 [⟨S33280x512, y0⟩, ⟨S33280x512, y1⟩, ⟨S33280x512, y2⟩, ⟨S33280x512, y3⟩]
      concatenates_S33280x512_S33280x512_S33280x512_S33280x512_S33280x2048_d1 i = y3 (ix2 n l)) := by
  refine ⟨fun h => ?_, fun h => ?_, fun h => ?_, fun h => ?_⟩
  · exact concatenate_apply_piece (α := EReal) (t := S33280x2048) 1 [⟨S33280x512, y0⟩, ⟨S33280x512, y1⟩, ⟨S33280x512, y2⟩, ⟨S33280x512, y3⟩]
      concatenates_S33280x512_S33280x512_S33280x512_S33280x512_S33280x2048_d1 i 0 (by show _ < 4; omega) S33280x512 y0 rfl rfl 0 rfl
      (ix2 n l) (fun b hb => match b with
        | ⟨0, _⟩ => h0.symm
        | ⟨1, _⟩ => absurd rfl hb) h.symm
  · exact concatenate_apply_piece (α := EReal) (t := S33280x2048) 1 [⟨S33280x512, y0⟩, ⟨S33280x512, y1⟩, ⟨S33280x512, y2⟩, ⟨S33280x512, y3⟩]
      concatenates_S33280x512_S33280x512_S33280x512_S33280x512_S33280x2048_d1 i 1 (by show _ < 4; omega) S33280x512 y1 rfl rfl 512 rfl
      (ix2 n l) (fun b hb => match b with
        | ⟨0, _⟩ => h0.symm
        | ⟨1, _⟩ => absurd rfl hb) h.symm
  · exact concatenate_apply_piece (α := EReal) (t := S33280x2048) 1 [⟨S33280x512, y0⟩, ⟨S33280x512, y1⟩, ⟨S33280x512, y2⟩, ⟨S33280x512, y3⟩]
      concatenates_S33280x512_S33280x512_S33280x512_S33280x512_S33280x2048_d1 i 2 (by show _ < 4; omega) S33280x512 y2 rfl rfl 1024 rfl
      (ix2 n l) (fun b hb => match b with
        | ⟨0, _⟩ => h0.symm
        | ⟨1, _⟩ => absurd rfl hb) h.symm
  · exact concatenate_apply_piece (α := EReal) (t := S33280x2048) 1 [⟨S33280x512, y0⟩, ⟨S33280x512, y1⟩, ⟨S33280x512, y2⟩, ⟨S33280x512, y3⟩]
      concatenates_S33280x512_S33280x512_S33280x512_S33280x512_S33280x2048_d1 i 3 (by show _ < 4; omega) S33280x512 y3 rfl rfl 1536 rfl
      (ix2 n l) (fun b hb => match b with
        | ⟨0, _⟩ => h0.symm
        | ⟨1, _⟩ => absurd rfl hb) h.symm

/-- A weight. -/
theorem wAt (i : S2048x2048.Idx) : val_main_v69 (F := Ideal) x14 i = x14 (ix3 0 (i 0) (i 1)) := by
  rw [val_main_v69_apply]
  show val_main_v68 (F := Ideal) x14 i = _
  rw [val_main_v68_apply, val_main_v67_apply]
  have : (i 0 : ℕ) < 2048 := (i 0).isLt
  have : (i 1 : ℕ) < 2048 := (i 1).isLt
  refine congrArg x14 (funext fun a => Fin.ext ?_)
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

/-- The result. -/
theorem result (i : S33280x2048.Idx) : val_main_v72 (F := Ideal) x0 x1 x2 x3 x4 x5 x6 x7 x8 x9 x10 x11 x12 x13 x14 i
    = out (fun n k => x0 (ix2 n k)) (fun b p k => x1 (ix4 b p 0 k)) (fun n l => x2 (ix2 n l)) (fun n l => x3 (ix2 n l)) (fun l => x4 (ix1 l))
        (fun k l => x5 (ix2 k l)) (fun l => x6 (ix1 l)) (fun n l => x7 (ix2 n l)) (fun n l => x8 (ix2 n l)) (fun n l => x9 (ix2 n l))
        (fun h => x10 (ix1 h)) (fun l => x11 (ix1 l)) (fun n l => x12 (ix2 n l)) (fun n l => x13 (ix2 n l)) (fun k o => x14 (ix3 0 k o)) (i 0) (i 1) := by
  rw [val_main_v72_apply, val_main_v71_apply, gate, val_main_v70_apply]
  have ei : i = ix2 (i 0) (i 1) := by
    funext a
    match a with
    | ⟨0, _⟩ => rfl
    | ⟨1, _⟩ => rfl
  have ew : ∀ k, val_main_v69 (F := Ideal) x14 (ridx_main_v70 i k) = x14 (ix3 0 k (i 1)) := fun k => wAt x14 _
  simp only [ew]
  rw [four_eq (fun k => val_main_v66 (F := Ideal) x2 x3 x4 x5 x6 x7 x8 x9 x10 x11 x12 x13 (lidx_main_v70 i k)) (fun k => x14 (ix3 0 k (i 1)))]
  unfold out
  have f0 : ∀ l, val_main_v66 (F := Ideal) x2 x3 x4 x5 x6 x7 x8 x9 x10 x11 x12 x13 (lidx_main_v70 i (quarter 0 l)) = val_main_v41 (F := Ideal) x2 x3 x4 x5 x6 (ix2 (i 0) l) :=
    fun l => (side _ _ _ _ (i 0) l (lidx_main_v70 i (quarter 0 l)) rfl).1 (by show 0 * 512 + l.val = 0 + l.val; omega)
  have f1 : ∀ l, val_main_v66 (F := Ideal) x2 x3 x4 x5 x6 x7 x8 x9 x10 x11 x12 x13 (lidx_main_v70 i (quarter 1 l)) = val_main_v63 (F := Ideal) x3 x7 x8 x9 x10 x11 (ix2 (i 0) l) :=
    fun l => (side _ _ _ _ (i 0) l (lidx_main_v70 i (quarter 1 l)) rfl).2.1 (by show 1 * 512 + l.val = 512 + l.val; omega)
  have f2 : ∀ l, val_main_v66 (F := Ideal) x2 x3 x4 x5 x6 x7 x8 x9 x10 x11 x12 x13 (lidx_main_v70 i (quarter 2 l)) = val_main_v64 (F := Ideal) x12 (ix2 (i 0) l) :=
    fun l => (side _ _ _ _ (i 0) l (lidx_main_v70 i (quarter 2 l)) rfl).2.2.1 (by show 2 * 512 + l.val = 1024 + l.val; omega)
  have f3 : ∀ l, val_main_v66 (F := Ideal) x2 x3 x4 x5 x6 x7 x8 x9 x10 x11 x12 x13 (lidx_main_v70 i (quarter 3 l)) = val_main_v65 (F := Ideal) x13 (ix2 (i 0) l) :=
    fun l => (side _ _ _ _ (i 0) l (lidx_main_v70 i (quarter 3 l)) rfl).2.2.2 (by show 3 * 512 + l.val = 1536 + l.val; omega)
  simp only [f0, f1, f2, f3, gluAt, nrmAt]
  rw [show x0 i = x0 (ix2 (i 0) (i 1)) from congrArg x0 ei]
  rfl

end Cert.Reference6Ideal.Outp

end
-- ==== Proof.O.Value.lean ====
module

public import proofs.«01_k».proof.Proof.O.Blocks
public import proofs.«01_k».proof.Proof.O.Ref
public import proofs.«01_k».proof.Proof.Gen.Kernel6Ideal.Frame

/-! The array the out projection leaves is the reference's. -/

@[expose] public section

set_option maxRecDepth 16384

noncomputable section

namespace Cert.Kernel6Ideal.Outp

open Idealize.ShloMosaic Idealize.ShloMosaic.TcCoe Idealize.ShloMosaic.Tactic Idealize.SL.Sem Cert.Kernel6Ideal Cert.Kernel6Ideal.Gen
open Cert.Ffn hiding out
open Cert.Outp
open scoped BigOperators

variable (m : (ℓ : Loc nD τ sig) → Buf (Elt Ideal) ℓ)

abbrev aX (c : Dev nD) (n : Fin 33280) (k : Fin 2048) : EReal := m ((c : Thread nD τ).loc main_arg0) (ix2 n k)
abbrev aM (c : Dev nD) (b : Fin 8) (p : Fin 9) (k : Fin 2048) : EReal := m ((c : Thread nD τ).loc main_arg1) (ix4 b p 0 k)
abbrev aY (c : Dev nD) (n : Fin 33280) (l : Fin 512) : EReal := m ((c : Thread nD τ).loc main_arg2) (ix2 n l)
abbrev aP (c : Dev nD) (n : Fin 33280) (l : Fin 3840) : EReal := m ((c : Thread nD τ).loc main_arg3) (ix2 n l)
abbrev ads (c : Dev nD) (l : Fin 512) : EReal := m ((c : Thread nD τ).loc main_arg4) (ix1 l)
abbrev aG (c : Dev nD) (k l : Fin 512) : EReal := m ((c : Thread nD τ).loc main_arg5) (ix2 k l)
abbrev agb (c : Dev nD) (l : Fin 512) : EReal := m ((c : Thread nD τ).loc main_arg6) (ix1 l)
abbrev aYf (c : Dev nD) (n : Fin 33280) (l : Fin 512) : EReal := m ((c : Thread nD τ).loc main_arg7) (ix2 n l)
abbrev aYb (c : Dev nD) (n : Fin 33280) (l : Fin 512) : EReal := m ((c : Thread nD τ).loc main_arg8) (ix2 n l)
abbrev aXS (c : Dev nD) (n : Fin 33280) (l : Fin 1024) : EReal := m ((c : Thread nD τ).loc main_arg9) (ix2 n l)
abbrev add (c : Dev nD) (h : Fin 8) : EReal := m ((c : Thread nD τ).loc main_arg10) (ix1 h)
abbrev anw (c : Dev nD) (l : Fin 512) : EReal := m ((c : Thread nD τ).loc main_arg11) (ix1 l)
abbrev aYm (c : Dev nD) (n : Fin 33280) (l : Fin 512) : EReal := m ((c : Thread nD τ).loc main_arg12) (ix2 n l)
abbrev aYg (c : Dev nD) (n : Fin 33280) (l : Fin 512) : EReal := m ((c : Thread nD τ).loc main_arg13) (ix2 n l)
abbrev aW (c : Dev nD) (k o : Fin 2048) : EReal := m ((c : Thread nD τ).loc main_arg14) (ix3 0 k o)

theorem ld_w0 (x : Vec Ideal S1x2048x2048 .bf16) (l : Fin 512) (o : Fin 2048) :
    View.ld x (Rect.unit ![0, 0, 0] ![1, 512, 2048] inb_S1x2048x2048_S1x512x2048_0_0_0) (ix3 0 l o) = x (ix3 0 (quarter 0 l) o) := by
  refine congrArg x (funext fun b => Fin.ext ?_)
  rw [Rect.idx_unit_val]
  match b with
  | ⟨0, _⟩ => rfl
  | ⟨1, _⟩ => rfl
  | ⟨2, _⟩ => exact Nat.zero_add _

theorem ld_w1 (x : Vec Ideal S1x2048x2048 .bf16) (l : Fin 512) (o : Fin 2048) :
    View.ld x (Rect.unit ![0, 512, 0] ![1, 512, 2048] inb_S1x2048x2048_S1x512x2048_0_512_0) (ix3 0 l o) = x (ix3 0 (quarter 1 l) o) := by
  refine congrArg x (funext fun b => Fin.ext ?_)
  rw [Rect.idx_unit_val]
  match b with
  | ⟨0, _⟩ => rfl
  | ⟨1, _⟩ => rfl
  | ⟨2, _⟩ => exact Nat.zero_add _

theorem ld_w2 (x : Vec Ideal S1x2048x2048 .bf16) (l : Fin 512) (o : Fin 2048) :
    View.ld x (Rect.unit ![0, 1024, 0] ![1, 512, 2048] inb_S1x2048x2048_S1x512x2048_0_1024_0) (ix3 0 l o) = x (ix3 0 (quarter 2 l) o) := by
  refine congrArg x (funext fun b => Fin.ext ?_)
  rw [Rect.idx_unit_val]
  match b with
  | ⟨0, _⟩ => rfl
  | ⟨1, _⟩ => rfl
  | ⟨2, _⟩ => exact Nat.zero_add _

theorem ld_w3 (x : Vec Ideal S1x2048x2048 .bf16) (l : Fin 512) (o : Fin 2048) :
    View.ld x (Rect.unit ![0, 1536, 0] ![1, 512, 2048] inb_S1x2048x2048_S1x512x2048_0_1536_0) (ix3 0 l o) = x (ix3 0 (quarter 3 l) o) := by
  refine congrArg x (funext fun b => Fin.ext ?_)
  rw [Rect.idx_unit_val]
  match b with
  | ⟨0, _⟩ => rfl
  | ⟨1, _⟩ => rfl
  | ⟨2, _⟩ => exact Nat.zero_add _

theorem dots (f g h : Fin 512 → EReal) (e : ∀ l, g l = h l) : ∑ l, f l * g l = ∑ l, f l * h l :=
  Finset.sum_congr rfl fun l _ => by rw [e l]

theorem sums (x g : EReal) {a b c d a' b' c' d' : EReal} (ha : a = a') (hb : b = b') (hc : c = c') (hd : d = d') :
    x + g * (a + b + c + d) = x + g * (a' + b' + c' + d') := by
  rw [ha, hb, hc, hd]

/-- One element a point writes. -/
theorem done (c : Dev nD) (t : Fin cfg0.N) (r : Fin 512) (o : Fin 2048) :
    outsAt0 m c t (ix2 r o) = out (aX m c) (aM m c) (aY m c) (aP m c) (ads m c) (aG m c) (agb m c) (aYf m c) (aYb m c) (aXS m c) (add m c) (anw m c) (aYm m c) (aYg m c) (aW m c) (row t r) o := by
  unfold outsAt0
  frame_out
  rw [pay1_apply]
  unfold out four
  simp only [pay2_apply, pay4_apply]
  simp only [blk0, blk1 m c t r, blk2, blk3, blk4, blk5, blk6, blk7, blk8, blk9, blk10, blk11, blk12, blk13, blk14]
  exact sums _ _ (dots _ _ _ fun l => (ld_w0 _ l o).trans (blk15 m c t (quarter 0 l) o))
    (dots _ _ _ fun l => (ld_w1 _ l o).trans (blk15 m c t (quarter 1 l) o))
    (dots _ _ _ fun l => (ld_w2 _ l o).trans (blk15 m c t (quarter 2 l) o))
    (dots _ _ _ fun l => (ld_w3 _ l o).trans (blk15 m c t (quarter 3 l) o))

/-- What device `c`'s result is shown to hold. -/
abbrev want (c : Dev nD) : Buf (Elt Ideal) ((c : Thread nD τ).loc main_v7) :=
  Cert.Reference6Ideal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem point (c : Dev nD) (t : Fin cfg0.N) (y : S512x2048.Idx) (i : S33280x2048.Idx)
    (e0 : (i 0 : ℕ) = t.val * 512 + (y 0 : ℕ)) (e1 : (i 1 : ℕ) = (y 1 : ℕ)) :
    outsAt0 m c t y = want m c i := by
  have ey : y = ix2 (y 0) (y 1) := funext fun a => match a with
    | ⟨0, _⟩ => rfl
    | ⟨1, _⟩ => rfl
  have r0 : row t (y 0) = i 0 := Fin.ext e0.symm
  have r1 : y 1 = i 1 := Fin.ext e1.symm
  rw [ey]
  refine (done m c t (y 0) (y 1)).trans ?_
  refine Eq.trans ?_ (Cert.Reference6Ideal.Outp.result _ _ _ _ _ _ _ _ _ _ _ _ _ _ _ i).symm
  exact congr (congrArg (out (aX m c) (aM m c) (aY m c) (aP m c) (ads m c) (aG m c) (agb m c) (aYf m c) (aYb m c) (aXS m c) (add m c) (anw m c) (aYm m c) (aYg m c) (aW m c)) r0) r1

theorem final (c : Dev nD) : (dats m 0 c).arrAt 16 cfg0.N = want m c := by
  refine (dats m 0 c).arrAt_eq_of_covers 16 (want m c) (by decide +kernel) fun t hf y => ?_
  blk_simp
  rw [after0_16]
  have h : ∀ t : Fin cfg0.N, win0_16.index t = ![t.val, 0] := idx16
  refine point m c t _ _ ?_ ?_ <;> blk_simp [h t] <;> rfl

/-- The result array after the launch. -/
theorem result (ρ : Dev nD → PrngReg) : θ_run defs (onTc (τ := τ) (main (F := Ideal))) ⟨m, fun _ => 0, ρ⟩ (fun r => ∀ c : Dev nD,
      r.2.mem ((c.tc : Thread nD τ).loc main_v7) = want m c) := by
  refine (θ_run defs _ _).mono (fun r h c => ?_) (run_main m ρ)
  exact (h.out_eq c 16).trans (final m c)

end Cert.Kernel6Ideal.Outp

end
-- ==== Proof.D.Ref.lean ====
module

public import proofs.«01_k».proof.Proof.Gen.Reference7Ideal.Read
public import proofs.«01_k».proof.Proof.O.Math
public import Idealize.ShloMosaic.Lib.Pipeline.ValueKit
public import Idealize.ShloMosaic.Lib.KernelVsHost

/-! The modulation's reference, one element at a time: a condition through a silu, multiplied out and shifted. -/

@[expose] public section

set_option maxRecDepth 16384

noncomputable section

namespace Cert.Reference7Ideal.Mod

open Idealize.ShloMosaic Idealize.ShloMosaic.TcCoe Idealize.ShloMosaic.Tactic Cert.Reference7Ideal Cert.Reference7Ideal.Gen Cert.Reference7Ideal.Read
open Cert.Outp (sg)
open scoped BigOperators

variable (x0 : (⟨S2x2048, .f32⟩ : BufTy).Contents (Elt Ideal)) (x1 : (⟨S2048, .f32⟩ : BufTy).Contents (Elt Ideal))
  (x2 : (⟨S4x2048x18432, .f32⟩ : BufTy).Contents (Elt Ideal)) (x3 : (⟨S4x18432, .f32⟩ : BufTy).Contents (Elt Ideal))

/-- A condition's silu. -/
theorem act (i : S8x2048.Idx) : val_main_v3 (F := Ideal) x0 x1 i = val_main_v2 (F := Ideal) x0 x1 i * sg (val_main_v2 (F := Ideal) x0 x1 i) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply]
  rfl

/-- The result. -/
theorem result (i : S4x8x18432.Idx) : val_main_v8 (F := Ideal) x0 x1 x2 x3 i
    = ∑ k : Fin 2048, (fun r k => val_main_v2 (F := Ideal) x0 x1 (ix2 r k) * sg (val_main_v2 (F := Ideal) x0 x1 (ix2 r k))) (i 1) k * x2 (ix3 (i 0) k (i 2)) + x3 (ix2 (i 0) (i 2)) := by
  rw [val_main_v8_apply, val_main_v7_apply, val_main_v6_apply, val_main_v5_apply, val_main_v4_apply]
  show (∑ k : Fin 2048, x2 (lidx_main_v4 (idx_main_v5 i) k) * val_main_v3 (F := Ideal) x0 x1 (ridx_main_v4 (idx_main_v5 i) k)) + x3 (idx_main_v6 (idx_main_v7 i)) = _
  refine congr (congrArg HAdd.hAdd (Finset.sum_congr rfl fun k _ => ?_)) (congrArg x3 (funext fun a => ?_))
  · rw [act]
    have e1 : ridx_main_v4 (idx_main_v5 i) k = ix2 (i 1) k := by
      funext a
      match a with
      | ⟨0, _⟩ => rfl
      | ⟨1, _⟩ => rfl
    have e2 : lidx_main_v4 (idx_main_v5 i) k = ix3 (i 0) k (i 2) := by
      funext a
      match a with
      | ⟨0, _⟩ => rfl
      | ⟨1, _⟩ => rfl
      | ⟨2, _⟩ => rfl
    rw [e1, e2]
    exact mul_comm _ _
  · match a with
    | ⟨0, _⟩ => rfl
    | ⟨1, _⟩ => rfl

end Cert.Reference7Ideal.Mod

end
-- ==== Proof.D.Value.lean ====
module

public import proofs.«01_k».proof.Proof.Gen.Kernel7Ideal.Frame
public import proofs.«01_k».proof.Proof.D.Ref
public import Idealize.ShloMosaic.Lib.Pipeline.ValueKit

/-! The array the modulation leaves is the reference's: point `t` is block `t % 18` of layer `t / 18`'s columns. -/

@[expose] public section

set_option maxRecDepth 16384

noncomputable section

namespace Cert.Kernel7Ideal.Mod

open Idealize.ShloMosaic Idealize.ShloMosaic.TcCoe Idealize.ShloMosaic.Tactic Idealize.SL.Sem Cert.Kernel7Ideal Cert.Kernel7Ideal.Gen
open Cert.Outp (sg)
open Cert.Ffn (one)
open scoped BigOperators

variable (m : (ℓ : Loc nD τ sig) → Buf (Elt Ideal) ℓ)

/-- The conditions through their silus. -/
def siluV (a : FVec Ideal S8x2048 .f32) : FVec Ideal S8x2048 .f32 :=
  mulf a (divf (broadcast S8x2048 (Scalar.ofBits (F := Ideal) .f32 0x3F800000#32)) (addf (broadcast S8x2048 (Scalar.ofBits (F := Ideal) .f32 0x3F800000#32)) (exp (subf (broadcast S8x2048 (Scalar.ofBits (F := Ideal) .f32 0x00000000#32)) a))))

theorem siluV_apply (a : FVec Ideal S8x2048 .f32) (r : Fin 8) (k : Fin 2048) : siluV a (ix2 r k) = a (ix2 r k) * sg (a (ix2 r k)) := by
  have e : siluV a (ix2 r k) = a (ix2 r k) * Ideal.div one (one + FloatOps.exp (F := Ideal) (φ := .f32) (Ideal.ofBits .f32 0x00000000#32 - a (ix2 r k))) := rfl
  rw [e, Ideal.ofBits_zero_f32, zero_sub]
  rfl

theorem lin_apply (h : FVec Ideal S8x2048 .bf16) (w : Vec Ideal S1x2048x1024 .f32) (b : Vec Ideal S1x1x1024 .f32) (r : Fin 8) (o : Fin 1024) :
    (shapeCast S1x8x1024 (addf (matmul dot_S8x2048_S2048x1024_S8x1024_1_0_0_1_n_n none h
        (truncf .bf16 (shapeCast S2048x1024 w shapeCasts_S1x2048x1024_S2048x1024 : FVec Ideal S2048x1024 .f32) bitsLt_bf16_f32) (constant S8x1024 .f32 0x00000000#32))
      (broadcastTo S8x1024 (shapeCast S1x1024 b shapeCasts_S1x1x1024_S1x1024 : FVec Ideal S1x1024 .f32) broadcasts_S1x1024_S8x1024)) shapeCasts_S8x1024_S1x8x1024 : FVec Ideal S1x8x1024 .f32) (ix3 0 r o)
      = ∑ k : Fin 2048, h (ix2 r k) * w (ix3 0 k o) + b (ix3 0 0 o) := by
  pointwise

theorem pay_eq (a : Vec Ideal S8x2048 .f32) (w : Vec Ideal S1x2048x1024 .f32) (b : Vec Ideal S1x1x1024 .f32) :
    k0_pay1 a w b = shapeCast S1x8x1024 (addf (matmul dot_S8x2048_S2048x1024_S8x1024_1_0_0_1_n_n none (truncf .bf16 (siluV (shapeCast S8x2048 a shapeCasts_S8x2048_S8x2048)) bitsLt_bf16_f32)
        (truncf .bf16 (shapeCast S2048x1024 w shapeCasts_S1x2048x1024_S2048x1024 : FVec Ideal S2048x1024 .f32) bitsLt_bf16_f32) (constant S8x1024 .f32 0x00000000#32))
      (broadcastTo S8x1024 (shapeCast S1x1024 b shapeCasts_S1x1x1024_S1x1024 : FVec Ideal S1x1024 .f32) broadcasts_S1x1024_S8x1024)) shapeCasts_S8x1024_S1x8x1024 := rfl

/-- One element the body computes. -/
theorem pay_apply (a : Vec Ideal S8x2048 .f32) (w : Vec Ideal S1x2048x1024 .f32) (b : Vec Ideal S1x1x1024 .f32) (r : Fin 8) (o : Fin 1024) :
    k0_pay1 a w b (ix3 0 r o) = ∑ k : Fin 2048, a (ix2 r k) * sg (a (ix2 r k)) * w (ix3 0 k o) + b (ix3 0 0 o) := by
  rw [pay_eq, lin_apply]
  refine congrArg (· + _) (Finset.sum_congr rfl fun k _ => congrArg (· * _) ?_)
  show siluV _ (ix2 r k) = _
  rw [siluV_apply]
  have e : (shapeCast S8x2048 a shapeCasts_S8x2048_S8x2048 : FVec Ideal S8x2048 .f32) (ix2 r k) = a (ix2 r k) := by
    pointwise
  rw [e]

theorem idx0 : ∀ t : Fin cfg0.N, win0_0.index t = ![0, 0] := (by decide +kernel : ∀ t : Fin grid0.N, _)
theorem idx1 : ∀ t : Fin cfg0.N, win0_1.index t = ![t.val / 18, 0, t.val % 18] := (by decide +kernel : ∀ t : Fin grid0.N, _)
theorem idx2 : ∀ t : Fin cfg0.N, win0_2.index t = ![t.val / 18, 0, t.val % 18] := (by decide +kernel : ∀ t : Fin grid0.N, _)
theorem idx3 : ∀ t : Fin cfg0.N, win0_3.index t = ![t.val / 18, 0, t.val % 18] := (by decide +kernel : ∀ t : Fin grid0.N, _)

theorem N_eq : cfg0.N = 72 := N_0

/-- The point's layer, and a column of its block. -/
def lay (t : Fin cfg0.N) : Fin 4 := ⟨t.val / 18, by have := t.isLt; have := N_eq; omega⟩
def col (t : Fin cfg0.N) (o : Fin 1024) : Fin 18432 := ⟨t.val % 18 * 1024 + o, by omega⟩

/-- The conditions and the context's, one under the other. -/
abbrev conds (c : Dev nD) := Cert.Reference7Ideal.Read.val_main_v2 (F := Ideal) (m ((c : Thread nD τ).loc main_arg0)) (m ((c : Thread nD τ).loc main_arg1))

theorem V_main_v2 (c : Dev nD) : V m c main_v2 = conds m c := by
  show StableHlo.after hostOps0 _ (Proc.devRef .tc main_v2) = _
  after_results
  rfl

theorem V_main_v3 (c : Dev nD) : V m c main_v3 = shapeCast S4x1x18432 (m ((c : Thread nD τ).loc main_arg3)) shapeCasts_S4x18432_S4x1x18432 := by
  show StableHlo.after hostOps0 _ (Proc.devRef .tc main_v3) = _
  after_results
  rfl

theorem blk0 (c : Dev nD) (t : Fin cfg0.N) (r : Fin 8) (k : Fin 2048) : iblk m c 0 t (ix2 r k) = conds m c (ix2 r k) := by
  have h : iblk m c 0 t (ix2 r k) = V m c main_v2 (ix2 r k) := by
    blk_ext! [iblk, idx0 t]
  rw [h, V_main_v2]

theorem blk1 (c : Dev nD) (t : Fin cfg0.N) (k : Fin 2048) (o : Fin 1024) :
    iblk m c 1 t (ix3 0 k o) = m ((c : Thread nD τ).loc main_arg2) (ix3 (lay t) k (col t o)) := by
  unfold lay col
  blk_ext! [iblk, V, idx1 t]

theorem blk2 (c : Dev nD) (t : Fin cfg0.N) (o : Fin 1024) :
    iblk m c 2 t (ix3 0 0 o) = m ((c : Thread nD τ).loc main_arg3) (ix2 (lay t) (col t o)) := by
  have h : iblk m c 2 t (ix3 0 0 o) = V m c main_v3 (ix3 (lay t) 0 (col t o)) := by
    unfold lay col
    blk_ext! [iblk, idx2 t]
  rw [h, V_main_v3]
  exact shapeCast_apply _ shapeCasts_S4x18432_S4x1x18432 (ix3 (lay t) 0 (col t o)) (ix2 (lay t) (col t o))
    (by rw [Shape.rowMajor_val_three, Shape.rowMajor_val_two]
        show (lay t).val * 18432 + (col t o).val = ((lay t).val * 1 + 0) * 18432 + (col t o).val
        omega)

/-- What device `c`'s result is shown to hold. -/
abbrev want (c : Dev nD) : Buf (Elt Ideal) ((c : Thread nD τ).loc main_v4) :=
  Cert.Reference7Ideal.Read.val_main_v8 (F := Ideal) (m ((c : Thread nD τ).loc main_arg0)) (m ((c : Thread nD τ).loc main_arg1)) (m ((c : Thread nD τ).loc main_arg2)) (m ((c : Thread nD τ).loc main_arg3))

/-- One element a point writes. -/
theorem done (c : Dev nD) (t : Fin cfg0.N) (r : Fin 8) (o : Fin 1024) :
    out0_3 (iblk m c 0 t) (iblk m c 1 t) (iblk m c 2 t) (ix3 0 r o)
      = ∑ k : Fin 2048, conds m c (ix2 r k) * sg (conds m c (ix2 r k)) * m ((c : Thread nD τ).loc main_arg2) (ix3 (lay t) k (col t o))
        + m ((c : Thread nD τ).loc main_arg3) (ix2 (lay t) (col t o)) := by
  frame_out
  rw [pay_apply, blk2]
  simp only [blk0, blk1]

theorem point (c : Dev nD) (t : Fin cfg0.N) (y : S1x8x1024.Idx) (i : S4x8x18432.Idx)
    (e0 : (i 0 : ℕ) = t.val / 18) (e1 : (i 1 : ℕ) = (y 1 : ℕ)) (e2 : (i 2 : ℕ) = t.val % 18 * 1024 + (y 2 : ℕ)) :
    out0_3 (iblk m c 0 t) (iblk m c 1 t) (iblk m c 2 t) y = want m c i := by
  have ey : y = ix3 0 (y 1) (y 2) := funext fun a => match a with
    | ⟨0, _⟩ => Fin.ext (by have h := (y 0).isLt; show (y 0 : ℕ) = 0; have h' : (y 0 : ℕ) < 1 := h; omega)
    | ⟨1, _⟩ => rfl
    | ⟨2, _⟩ => rfl
  have r0 : lay t = i 0 := Fin.ext e0.symm
  have r1 : y 1 = i 1 := Fin.ext e1.symm
  have r2 : col t (y 2) = i 2 := Fin.ext e2.symm
  rw [ey]
  refine (done m c t (y 1) (y 2)).trans ?_
  rw [r0, r2, show (y 1 : Fin 8) = i 1 from r1]
  exact (Cert.Reference7Ideal.Mod.result _ _ _ _ i).symm

theorem final (c : Dev nD) : (dats m 0 c).arrAt 3 cfg0.N = want m c := by
  refine (dats m 0 c).arrAt_eq_of_covers 3 (want m c) (by decide +kernel) fun t hf y => ?_
  blk_simp
  rw [after0_3]
  have h : ∀ t : Fin cfg0.N, win0_3.index t = ![t.val / 18, 0, t.val % 18] := idx3
  refine point m c t _ _ ?_ ?_ ?_ <;> blk_simp [h t] <;> first | rfl | omega

/-- The result array after the launch. -/
theorem result (ρ : Dev nD → PrngReg) : θ_run defs (onTc (τ := τ) (main (F := Ideal))) ⟨m, fun _ => 0, ρ⟩ (fun r => ∀ c : Dev nD,
      r.2.mem ((c.tc : Thread nD τ).loc main_v4) = want m c) := by
  refine (θ_run defs _ _).mono (fun r h c => ?_) (run_main m ρ)
  exact (h.out_eq c 3).trans (final m c)

end Cert.Kernel7Ideal.Mod

end
-- ==== Proof.M.Math.lean ====
module

public import Idealize.ShloMosaic.Lib.Pipeline.ValueKit

/-! The latent attention's queries, keys and values in plain words: a slice of a row normalised, weighted and multiplied
    out, 64 of its columns turned by the token's angles. -/

@[expose] public section

noncomputable section

namespace Cert.Prep

open Idealize.ShloMosaic
open scoped BigOperators

/-- The queries' scale, as both programs write it. -/
abbrev scale : EReal := Ideal.ofBits .f32 0x3DD53B95#32

/-- A row over its root mean square, weighted; `d` is the row's length. -/
def nrm {N : ℕ} (d : EReal) (y w : Fin N → EReal) (l : Fin N) : EReal :=
  y l * FloatOps.rsqrt (F := Ideal) (φ := .f32) (Ideal.div (∑ j, y j * y j) d + Ideal.ofBits .f32 0x358637BD#32) * w l

/-- Sixty-four columns turned: the first half paired with the second. -/
def rot (v : Fin 64 → EReal) (C S : Fin 32 → EReal) (l : Fin 64) : EReal :=
  if h : l.val < 32 then v l * C ⟨l.val, h⟩ - v ⟨32 + l.val, by omega⟩ * S ⟨l.val, h⟩
  else v ⟨l.val - 32, by omega⟩ * S ⟨l.val - 32, by omega⟩ + v l * C ⟨l.val - 32, by omega⟩

/-- The three tables that turn a row of 128 columns by its rotations. -/
def tc (C : Fin 32 → EReal) (l : Fin 128) : EReal :=
  if h : l.val < 32 then C ⟨l.val, h⟩ else if h : l.val < 64 then C ⟨l.val - 32, by omega⟩ else 1
def ts1 (S : Fin 32 → EReal) (l : Fin 128) : EReal := if h : l.val < 32 then -(S ⟨l.val, h⟩) else 0
def ts2 (S : Fin 32 → EReal) (l : Fin 128) : EReal :=
  if l.val < 32 then 0 else if h : l.val < 64 then S ⟨l.val - 32, by omega⟩ else 0

/-- Columns of a row moved around its end. -/
def fwd (l : Fin 128) : Fin 128 := ⟨(l.val + 32) % 128, by omega⟩
def bwd (l : Fin 128) : Fin 128 := ⟨(l.val + 96) % 128, by omega⟩

/-- The row turned by the tables. -/
def turned (v : Fin 128 → EReal) (C S : Fin 32 → EReal) (l : Fin 128) : EReal :=
  v l * tc C l + v (fwd l) * ts1 S l + v (bwd l) * ts2 S l

theorem turned_lo (v : Fin 128 → EReal) (C S : Fin 32 → EReal) (l : Fin 128) (h : l.val < 64) :
    turned v C S l = rot (fun l => v ⟨l.val, by omega⟩) C S ⟨l.val, h⟩ := by
  unfold turned rot tc ts1 ts2
  by_cases h1 : l.val < 32
  · rw [dif_pos h1, dif_pos h1, if_pos h1, dif_pos h1, mul_zero, add_zero, mul_neg, ← sub_eq_add_neg]
    exact congrArg (fun x : Fin 128 => v l * C ⟨l.val, h1⟩ - v x * S ⟨l.val, h1⟩) (Fin.ext (by show (l.val + 32) % 128 = 32 + l.val; omega))
  · rw [dif_neg h1, dif_pos h, dif_neg h1, if_neg h1, dif_pos h, dif_neg h1, mul_zero, add_zero, add_comm]
    exact congrArg (fun x : Fin 128 => v x * S ⟨l.val - 32, by omega⟩ + v l * C ⟨l.val - 32, by omega⟩) (Fin.ext (by show (l.val + 96) % 128 = l.val - 32; omega))

theorem turned_hi (v : Fin 128 → EReal) (C S : Fin 32 → EReal) (l : Fin 128) (h : ¬l.val < 64) : turned v C S l = v l := by
  unfold turned tc ts1 ts2
  rw [dif_neg (by omega), dif_neg h, dif_neg (by omega), if_neg (by omega), dif_neg h, mul_zero, mul_zero, mul_one, add_zero, add_zero]

/-- The in projection's columns for the queries, the keys and values, and the key's turned part. -/
def cq (k : Fin 384) : Fin 3840 := ⟨3072 + k.val, by omega⟩
def ck (k : Fin 128) : Fin 3840 := ⟨3456 + k.val, by omega⟩
def cr (l : Fin 128) : Fin 3840 := ⟨3584 + l.val, by omega⟩
/-- Column `l` of a head. -/
def hq (h : Fin 4) (l : Fin 192) : Fin 768 := ⟨h.val * 192 + l.val, by omega⟩
def hk (h : Fin 4) (l : Fin 256) : Fin 1024 := ⟨h.val * 256 + l.val, by omega⟩

variable (P : Fin 33280 → Fin 3840 → EReal) (qw : Fin 384 → EReal) (kw : Fin 128 → EReal) (Wq : Fin 384 → Fin 768 → EReal)
  (Wk : Fin 128 → Fin 1024 → EReal) (C S : Fin 33280 → Fin 32 → EReal)

/-- A token's queries, and its keys and values, before they are turned. -/
def qrow (n : Fin 33280) (j : Fin 768) : EReal := ∑ k, nrm (Ideal.ofBits .f32 0x43C00000#32) (fun k => P n (cq k)) qw k * Wq k j
def kvrow (n : Fin 33280) (j : Fin 1024) : EReal := ∑ k, nrm (Ideal.ofBits .f32 0x43000000#32) (fun k => P n (ck k)) kw k * Wk k j

/-- A head's query. -/
def query (n : Fin 33280) (h : Fin 4) (d : Fin 256) : EReal :=
  (if h1 : d.val < 128 then qrow P qw Wq n (hq h ⟨d.val, by omega⟩)
    else if h2 : d.val < 192 then rot (fun l => qrow P qw Wq n (hq h ⟨128 + l.val, by omega⟩)) (C n) (S n) ⟨d.val - 128, by omega⟩
    else 0) * scale

/-- The part of the key every head shares. -/
def shared (n : Fin 33280) (l : Fin 128) : EReal :=
  if h : l.val < 64 then rot (fun l => P n (cr ⟨l.val, by omega⟩)) (C n) (S n) ⟨l.val, h⟩ else P n (cr l)

/-- A head's key. -/
def key (n : Fin 33280) (h : Fin 4) (d : Fin 256) : EReal :=
  if h1 : d.val < 128 then kvrow P kw Wk n (hk h d) else shared P C S n ⟨d.val - 128, by omega⟩

/-- A head's value, with a one and zeros after it. -/
def value (n : Fin 33280) (h : Fin 4) (d : Fin 144) : EReal :=
  if h1 : d.val < 128 then kvrow P kw Wk n (hk h ⟨128 + d.val, by omega⟩) else if d.val = 128 then 1 else 0

/-- The token at a place of the two sequences. -/
def tok (s : ℕ) : ℕ := if s < 256 then 32768 + s else if s < 16640 then s - 256 else if s < 16896 then 16384 + s else s - 512

theorem tok_lt (s : Fin 33280) : tok s.val < 33280 := by
  unfold tok
  split
  · omega
  · split
    · omega
    · split <;> omega

/-- The same, as a token. -/
def tokF (s : Fin 33280) : Fin 33280 := ⟨tok s.val, tok_lt s⟩

end Cert.Prep

end
-- ==== Proof.M.Pay.lean ====
module

public import proofs.«01_k».proof.Proof.Gen.Kernel8Ideal.Frame
public import proofs.«01_k».proof.Proof.M.Math
public import Idealize.ShloMosaic.Lib.Pipeline.ValueKit
public import Idealize.ShloMosaic.Lib.KernelVsHost

/-! The values the body computes over the extended reals, one element at a time. -/

@[expose] public section

set_option maxRecDepth 32768

noncomputable section

namespace Cert.Kernel8Ideal.Prep

open Idealize.ShloMosaic Idealize.ShloMosaic.TcCoe Idealize.ShloMosaic.Tactic Cert.Kernel8Ideal Cert.Kernel8Ideal.Gen
open Cert.Prep
open scoped BigOperators

/-- Rows of 384 normalised and weighted. -/
def nrm384 (y : FVec Ideal S256x384 .f32) (w : FVec Ideal S1x384 .f32) : FVec Ideal S256x384 .f32 :=
  mulf (mulf y (broadcastTo S256x384 (rsqrt (addf (divf (shapeCast S256x1 (multiReduction .add [1] S256 (mulf y y) 0x00000000#32 reduces_S256x384_S256 (.inl rfl) rfl) shapeCasts_S256_S256x1)
      (broadcast S256x1 (Scalar.ofBits (F := Ideal) .f32 0x43C00000#32))) (broadcast S256x1 (Scalar.ofBits (F := Ideal) .f32 0x358637BD#32)))) broadcasts_S256x1_S256x384))
    (broadcastTo S256x384 (shapeCast S1x384 w shapeCasts_S1x384_S1x384) broadcasts_S1x384_S256x384)

theorem rate384 (y : FVec Ideal S256x384 .f32) (r : Fin 256) :
    rsqrt (addf (divf (shapeCast S256x1 (multiReduction .add [1] S256 (mulf y y) 0x00000000#32 reduces_S256x384_S256 (.inl rfl) rfl) shapeCasts_S256_S256x1)
      (broadcast S256x1 (Scalar.ofBits (F := Ideal) .f32 0x43C00000#32))) (broadcast S256x1 (Scalar.ofBits (F := Ideal) .f32 0x358637BD#32))) (ix2 r 0)
      = FloatOps.rsqrt (F := Ideal) (φ := .f32)
      (Ideal.div (∑ j : Fin 384, y (ix2 r j) * y (ix2 r j)) (Ideal.ofBits .f32 0x43C00000#32) + Ideal.ofBits .f32 0x358637BD#32) := by
  pointwise

theorem scaled384 (y : FVec Ideal S256x384 .f32) (w : FVec Ideal S1x384 .f32) (R : FVec Ideal S256x1 .f32) (r : Fin 256) (l : Fin 384) :
    mulf (mulf y (broadcastTo S256x384 R broadcasts_S256x1_S256x384)) (broadcastTo S256x384 (shapeCast S1x384 w shapeCasts_S1x384_S1x384) broadcasts_S1x384_S256x384) (ix2 r l)
      = y (ix2 r l) * R (ix2 r 0) * w (ix2 0 l) := by
  pointwise

theorem nrm384_apply (y : FVec Ideal S256x384 .f32) (w : FVec Ideal S1x384 .f32) (r : Fin 256) (l : Fin 384) :
    nrm384 y w (ix2 r l) = nrm (Ideal.ofBits .f32 0x43C00000#32) (fun l => y (ix2 r l)) (fun l => w (ix2 0 l)) l := by
  unfold nrm384
  rw [scaled384, rate384]
  rfl

/-- Rows of 128 normalised and weighted. -/
def nrm128 (y : FVec Ideal S256x128 .f32) (w : FVec Ideal S1x128 .f32) : FVec Ideal S256x128 .f32 :=
  mulf (mulf y (broadcastTo S256x128 (rsqrt (addf (divf (shapeCast S256x1 (multiReduction .add [1] S256 (mulf y y) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 (shapeCast S1x128 w shapeCasts_S1x128_S1x128) broadcasts_S1x128_S256x128)

theorem rate128 (y : FVec Ideal S256x128 .f32) (r : Fin 256) :
    rsqrt (addf (divf (shapeCast S256x1 (multiReduction .add [1] S256 (mulf y y) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32))) (ix2 r 0)
      = FloatOps.rsqrt (F := Ideal) (φ := .f32)
      (Ideal.div (∑ j : Fin 128, y (ix2 r j) * y (ix2 r j)) (Ideal.ofBits .f32 0x43000000#32) + Ideal.ofBits .f32 0x358637BD#32) := by
  pointwise

theorem scaled128 (y : FVec Ideal S256x128 .f32) (w : FVec Ideal S1x128 .f32) (R : FVec Ideal S256x1 .f32) (r : Fin 256) (l : Fin 128) :
    mulf (mulf y (broadcastTo S256x128 R broadcasts_S256x1_S256x128)) (broadcastTo S256x128 (shapeCast S1x128 w shapeCasts_S1x128_S1x128) broadcasts_S1x128_S256x128) (ix2 r l)
      = y (ix2 r l) * R (ix2 r 0) * w (ix2 0 l) := by
  pointwise

theorem nrm128_apply (y : FVec Ideal S256x128 .f32) (w : FVec Ideal S1x128 .f32) (r : Fin 256) (l : Fin 128) :
    nrm128 y w (ix2 r l) = nrm (Ideal.ofBits .f32 0x43000000#32) (fun l => y (ix2 r l)) (fun l => w (ix2 0 l)) l := by
  unfold nrm128
  rw [scaled128, rate128]
  rfl

theorem prod4 (h : FVec Ideal S256x384 .bf16) (W : FVec Ideal S384x1024 .bf16) (r : Fin 256) (j : Fin 1024) :
    matmul dot_S256x384_S384x1024_S256x1024_1_0_0_1_n_n none h (shapeCast S384x1024 W shapeCasts_S384x1024_S384x1024)
      (constant S256x1024 .f32 0x00000000#32) (ix2 r j) = ∑ k : Fin 384, h (ix2 r k) * W (ix2 k j) := by
  pointwise

theorem prod6 (h : FVec Ideal S256x128 .bf16) (W : FVec Ideal S128x512 .bf16) (r : Fin 256) (j : Fin 512) :
    matmul dot_S256x128_S128x512_S256x512_1_0_0_1_n_n none h (shapeCast S128x512 W shapeCasts_S128x512_S128x512)
      (constant S256x512 .f32 0x00000000#32) (ix2 r j) = ∑ k : Fin 128, h (ix2 r k) * W (ix2 k j) := by
  pointwise

theorem prod7 (h : FVec Ideal S256x128 .bf16) (W : FVec Ideal S512x128 .bf16) (j : Fin 512) (r : Fin 256) :
    k0_pay7 h W (ix2 j r) = ∑ k : Fin 128, W (ix2 j k) * h (ix2 r k) := by
  unfold k0_pay7
  pointwise

/-- The queries' product. -/
theorem pay4_apply (a : Vec Ideal S256x384 .f32) (w : Vec Ideal S1x384 .f32) (W : Vec Ideal S384x1024 .bf16) (r : Fin 256) (j : Fin 1024) :
    k0_pay4 a w W (ix2 r j) = ∑ k : Fin 384, nrm (Ideal.ofBits .f32 0x43C00000#32) (fun l => a (ix2 r l)) (fun l => w (ix2 0 l)) k * W (ix2 k j) := by
  have e : k0_pay4 a w W = matmul dot_S256x384_S384x1024_S256x1024_1_0_0_1_n_n none (truncf .bf16 (nrm384 a w) bitsLt_bf16_f32)
      (shapeCast S384x1024 W shapeCasts_S384x1024_S384x1024) (constant S256x1024 .f32 0x00000000#32) := rfl
  rw [e, prod4]
  exact Finset.sum_congr rfl fun k _ => congrArg (fun s : EReal => s * W (ix2 k j)) (nrm384_apply a w r k)

/-- The normalised row the keys and values take. -/
theorem pay5_apply (a : Vec Ideal S256x128 .f32) (w : Vec Ideal S1x128 .f32) (r : Fin 256) (k : Fin 128) :
    k0_pay5 a w (ix2 r k) = nrm (Ideal.ofBits .f32 0x43000000#32) (fun l => a (ix2 r l)) (fun l => w (ix2 0 l)) k := nrm128_apply a w r k

/-- The keys' product. -/
theorem pay6_apply (a : Vec Ideal S256x128 .f32) (w : Vec Ideal S1x128 .f32) (W : Vec Ideal S128x512 .bf16) (r : Fin 256) (j : Fin 512) :
    k0_pay6 a w W (ix2 r j) = ∑ k : Fin 128, nrm (Ideal.ofBits .f32 0x43000000#32) (fun l => a (ix2 r l)) (fun l => w (ix2 0 l)) k * W (ix2 k j) := by
  have e : k0_pay6 a w W = matmul dot_S256x128_S128x512_S256x512_1_0_0_1_n_n none (k0_pay5 a w)
      (shapeCast S128x512 W shapeCasts_S128x512_S128x512) (constant S256x512 .f32 0x00000000#32) := rfl
  rw [e, prod6]
  exact Finset.sum_congr rfl fun k _ => congrArg (fun s : EReal => s * W (ix2 k j)) (pay5_apply a w r k)

/-- The values' product, a column per token. -/
theorem pay7_apply (a : Vec Ideal S256x128 .f32) (w : Vec Ideal S1x128 .f32) (W : Vec Ideal S512x128 .bf16) (j : Fin 512) (r : Fin 256) :
    k0_pay7 (k0_pay5 a w) W (ix2 j r) = ∑ k : Fin 128, nrm (Ideal.ofBits .f32 0x43000000#32) (fun l => a (ix2 r l)) (fun l => w (ix2 0 l)) k * W (ix2 j k) := by
  rw [prod7]
  exact Finset.sum_congr rfl fun k _ => (mul_comm _ _).trans (congrArg (fun s : EReal => s * W (ix2 j k)) (pay5_apply a w r k))

/-- The one and the zeros after a head's values. -/
theorem pay8_apply (d : Fin 16) (r : Fin 256) : (k0_pay8 (F := Ideal)) (ix2 d r) = if d.val = 0 then 1 else 0 := by
  unfold k0_pay8
  pointwise
  have h : ∀ d : Fin 16, BitVec.setWidth 32 (IntOp.cmpi CmpIPredicate.eq (BitVec.ofNat 32 d.val) 0#32) = if d.val = 0 then 1#32 else 0#32 := by
    decide
  rw [h d]
  by_cases hd : d.val = 0
  · rw [if_pos hd, if_pos hd]
    show ((((1#32 : BitVec 32).toInt : ℤ) : ℝ) : EReal) = 1
    rw [show (1#32 : BitVec 32).toInt = 1 by decide]
    norm_num
  · rw [if_neg hd, if_neg hd]
    show ((((0#32 : BitVec 32).toInt : ℤ) : ℝ) : EReal) = 0
    rw [show (0#32 : BitVec 32).toInt = 0 by decide]
    norm_num

theorem pay13_apply (v : Vec Ideal S256x128 .f32) : k0_pay13 v = v := by
  funext i
  unfold k0_pay13
  exact congrFun (shapeCast_self v _) i

theorem pay14_apply (v : Vec Ideal S256x128 .f32) : k0_pay14 v = v := pay13_apply v
theorem pay15_apply (v : Vec Ideal S256x128 .f32) : k0_pay15 v = v := pay13_apply v

/-- Rows turned by three tables. -/
def turnV (v c a b : FVec Ideal S256x128 .f32) : FVec Ideal S256x128 .f32 :=
  addf (addf (mulf v c) (mulf (dynamicRotate 1 96#32 none v rotates_S256x128_d1) a)) (mulf (dynamicRotate 1 32#32 none v rotates_S256x128_d1) b)

theorem turnV_apply (v c a b : FVec Ideal S256x128 .f32) (r : Fin 256) (l : Fin 128) :
    turnV v c a b (ix2 r l) = v (ix2 r l) * c (ix2 r l) + v (ix2 r (fwd l)) * a (ix2 r l) + v (ix2 r (bwd l)) * b (ix2 r l) := by
  have e1 : dynamicRotate 1 96#32 none v rotates_S256x128_d1 (ix2 r l) = v (ix2 r (fwd l)) :=
    dynamicRotate_apply 1 96#32 v rotates_S256x128_d1 (ix2 r l) (ix2 r (fwd l)) (fun b => match b with
      | ⟨0, _⟩ => rfl
      | ⟨1, _⟩ => by show (l.val + 32) % 128 = (l.val + 128 - 96) % 128; omega)
  have e2 : dynamicRotate 1 32#32 none v rotates_S256x128_d1 (ix2 r l) = v (ix2 r (bwd l)) :=
    dynamicRotate_apply 1 32#32 v rotates_S256x128_d1 (ix2 r l) (ix2 r (bwd l)) (fun b => match b with
      | ⟨0, _⟩ => rfl
      | ⟨1, _⟩ => by show (l.val + 96) % 128 = (l.val + 128 - 32) % 128; omega)
  show v (ix2 r l) * c (ix2 r l) + dynamicRotate 1 96#32 none v rotates_S256x128_d1 (ix2 r l) * a (ix2 r l)
    + dynamicRotate 1 32#32 none v rotates_S256x128_d1 (ix2 r l) * b (ix2 r l) = _
  rw [e1, e2]

/-- The shared part of the key. -/
theorem pay16_apply (c a b v : Vec Ideal S256x128 .f32) (r : Fin 256) (l : Fin 128) :
    k0_pay16 c a b v (ix2 r l) = v (ix2 r l) * c (ix2 r l) + v (ix2 r (fwd l)) * a (ix2 r l) + v (ix2 r (bwd l)) * b (ix2 r l) := by
  have e : k0_pay16 c a b v = truncf .bf16 (turnV v c a (k0_pay15 b)) bitsLt_bf16_f32 := rfl
  rw [e, pay15_apply]
  exact turnV_apply v c a b r l

theorem cut0 (v : FVec Ideal S256x1024 .f32) (r : Fin 256) (l : Fin 128) :
    extractStridedSlice S256x128 ![0, 0] v slices_S256x1024_o0_0_S256x128 (ix2 r l) = v (ix2 r ⟨0 + l.val, by omega⟩) :=
  extractStridedSlice_apply ![0, 0] v slices_S256x1024_o0_0_S256x128 (ix2 r l) (ix2 r ⟨0 + l.val, by omega⟩) (fun a => match a with
    | ⟨0, _⟩ => by show r.val = 0 + r.val; omega
    | ⟨1, _⟩ => rfl)

theorem cut128 (v : FVec Ideal S256x1024 .f32) (r : Fin 256) (l : Fin 128) :
    extractStridedSlice S256x128 ![0, 128] v slices_S256x1024_o0_128_S256x128 (ix2 r l) = v (ix2 r ⟨128 + l.val, by omega⟩) :=
  extractStridedSlice_apply ![0, 128] v slices_S256x1024_o0_128_S256x128 (ix2 r l) (ix2 r ⟨128 + l.val, by omega⟩) (fun a => match a with
    | ⟨0, _⟩ => by show r.val = 0 + r.val; omega
    | ⟨1, _⟩ => rfl)

theorem cut256 (v : FVec Ideal S256x1024 .f32) (r : Fin 256) (l : Fin 128) :
    extractStridedSlice S256x128 ![0, 256] v slices_S256x1024_o0_256_S256x128 (ix2 r l) = v (ix2 r ⟨256 + l.val, by omega⟩) :=
  extractStridedSlice_apply ![0, 256] v slices_S256x1024_o0_256_S256x128 (ix2 r l) (ix2 r ⟨256 + l.val, by omega⟩) (fun a => match a with
    | ⟨0, _⟩ => by show r.val = 0 + r.val; omega
    | ⟨1, _⟩ => rfl)

theorem cut384 (v : FVec Ideal S256x1024 .f32) (r : Fin 256) (l : Fin 128) :
    extractStridedSlice S256x128 ![0, 384] v slices_S256x1024_o0_384_S256x128 (ix2 r l) = v (ix2 r ⟨384 + l.val, by omega⟩) :=
  extractStridedSlice_apply ![0, 384] v slices_S256x1024_o0_384_S256x128 (ix2 r l) (ix2 r ⟨384 + l.val, by omega⟩) (fun a => match a with
    | ⟨0, _⟩ => by show r.val = 0 + r.val; omega
    | ⟨1, _⟩ => rfl)

theorem cut512 (v : FVec Ideal S256x1024 .f32) (r : Fin 256) (l : Fin 128) :
    extractStridedSlice S256x128 ![0, 512] v slices_S256x1024_o0_512_S256x128 (ix2 r l) = v (ix2 r ⟨512 + l.val, by omega⟩) :=
  extractStridedSlice_apply ![0, 512] v slices_S256x1024_o0_512_S256x128 (ix2 r l) (ix2 r ⟨512 + l.val, by omega⟩) (fun a => match a with
    | ⟨0, _⟩ => by show r.val = 0 + r.val; omega
    | ⟨1, _⟩ => rfl)

theorem cut640 (v : FVec Ideal S256x1024 .f32) (r : Fin 256) (l : Fin 128) :
    extractStridedSlice S256x128 ![0, 640] v slices_S256x1024_o0_640_S256x128 (ix2 r l) = v (ix2 r ⟨640 + l.val, by omega⟩) :=
  extractStridedSlice_apply ![0, 640] v slices_S256x1024_o0_640_S256x128 (ix2 r l) (ix2 r ⟨640 + l.val, by omega⟩) (fun a => match a with
    | ⟨0, _⟩ => by show r.val = 0 + r.val; omega
    | ⟨1, _⟩ => rfl)

theorem cut768 (v : FVec Ideal S256x1024 .f32) (r : Fin 256) (l : Fin 128) :
    extractStridedSlice S256x128 ![0, 768] v slices_S256x1024_o0_768_S256x128 (ix2 r l) = v (ix2 r ⟨768 + l.val, by omega⟩) :=
  extractStridedSlice_apply ![0, 768] v slices_S256x1024_o0_768_S256x128 (ix2 r l) (ix2 r ⟨768 + l.val, by omega⟩) (fun a => match a with
    | ⟨0, _⟩ => by show r.val = 0 + r.val; omega
    | ⟨1, _⟩ => rfl)

theorem cut896 (v : FVec Ideal S256x1024 .f32) (r : Fin 256) (l : Fin 128) :
    extractStridedSlice S256x128 ![0, 896] v slices_S256x1024_o0_896_S256x128 (ix2 r l) = v (ix2 r ⟨896 + l.val, by omega⟩) :=
  extractStridedSlice_apply ![0, 896] v slices_S256x1024_o0_896_S256x128 (ix2 r l) (ix2 r ⟨896 + l.val, by omega⟩) (fun a => match a with
    | ⟨0, _⟩ => by show r.val = 0 + r.val; omega
    | ⟨1, _⟩ => rfl)

theorem kcut0 (v : FVec Ideal S256x512 .f32) (r : Fin 256) (l : Fin 128) :
    extractStridedSlice S256x128 ![0, 0] v slices_S256x512_o0_0_S256x128 (ix2 r l) = v (ix2 r ⟨0 + l.val, by omega⟩) :=
  extractStridedSlice_apply ![0, 0] v slices_S256x512_o0_0_S256x128 (ix2 r l) (ix2 r ⟨0 + l.val, by omega⟩) (fun a => match a with
    | ⟨0, _⟩ => by show r.val = 0 + r.val; omega
    | ⟨1, _⟩ => rfl)

theorem vcut0 (v : FVec Ideal S512x256 .f32) (l : Fin 128) (r : Fin 256) :
    extractStridedSlice S128x256 ![0, 0] v slices_S512x256_o0_0_S128x256 (ix2 l r) = v (ix2 ⟨0 + l.val, by omega⟩ r) :=
  extractStridedSlice_apply ![0, 0] v slices_S512x256_o0_0_S128x256 (ix2 l r) (ix2 ⟨0 + l.val, by omega⟩ r) (fun a => match a with
    | ⟨0, _⟩ => rfl
    | ⟨1, _⟩ => by show r.val = 0 + r.val; omega)

theorem kcut128 (v : FVec Ideal S256x512 .f32) (r : Fin 256) (l : Fin 128) :
    extractStridedSlice S256x128 ![0, 128] v slices_S256x512_o0_128_S256x128 (ix2 r l) = v (ix2 r ⟨128 + l.val, by omega⟩) :=
  extractStridedSlice_apply ![0, 128] v slices_S256x512_o0_128_S256x128 (ix2 r l) (ix2 r ⟨128 + l.val, by omega⟩) (fun a => match a with
    | ⟨0, _⟩ => by show r.val = 0 + r.val; omega
    | ⟨1, _⟩ => rfl)

theorem vcut128 (v : FVec Ideal S512x256 .f32) (l : Fin 128) (r : Fin 256) :
    extractStridedSlice S128x256 ![128, 0] v slices_S512x256_o128_0_S128x256 (ix2 l r) = v (ix2 ⟨128 + l.val, by omega⟩ r) :=
  extractStridedSlice_apply ![128, 0] v slices_S512x256_o128_0_S128x256 (ix2 l r) (ix2 ⟨128 + l.val, by omega⟩ r) (fun a => match a with
    | ⟨0, _⟩ => rfl
    | ⟨1, _⟩ => by show r.val = 0 + r.val; omega)

theorem kcut256 (v : FVec Ideal S256x512 .f32) (r : Fin 256) (l : Fin 128) :
    extractStridedSlice S256x128 ![0, 256] v slices_S256x512_o0_256_S256x128 (ix2 r l) = v (ix2 r ⟨256 + l.val, by omega⟩) :=
  extractStridedSlice_apply ![0, 256] v slices_S256x512_o0_256_S256x128 (ix2 r l) (ix2 r ⟨256 + l.val, by omega⟩) (fun a => match a with
    | ⟨0, _⟩ => by show r.val = 0 + r.val; omega
    | ⟨1, _⟩ => rfl)

theorem vcut256 (v : FVec Ideal S512x256 .f32) (l : Fin 128) (r : Fin 256) :
    extractStridedSlice S128x256 ![256, 0] v slices_S512x256_o256_0_S128x256 (ix2 l r) = v (ix2 ⟨256 + l.val, by omega⟩ r) :=
  extractStridedSlice_apply ![256, 0] v slices_S512x256_o256_0_S128x256 (ix2 l r) (ix2 ⟨256 + l.val, by omega⟩ r) (fun a => match a with
    | ⟨0, _⟩ => rfl
    | ⟨1, _⟩ => by show r.val = 0 + r.val; omega)

theorem kcut384 (v : FVec Ideal S256x512 .f32) (r : Fin 256) (l : Fin 128) :
    extractStridedSlice S256x128 ![0, 384] v slices_S256x512_o0_384_S256x128 (ix2 r l) = v (ix2 r ⟨384 + l.val, by omega⟩) :=
  extractStridedSlice_apply ![0, 384] v slices_S256x512_o0_384_S256x128 (ix2 r l) (ix2 r ⟨384 + l.val, by omega⟩) (fun a => match a with
    | ⟨0, _⟩ => by show r.val = 0 + r.val; omega
    | ⟨1, _⟩ => rfl)

theorem vcut384 (v : FVec Ideal S512x256 .f32) (l : Fin 128) (r : Fin 256) :
    extractStridedSlice S128x256 ![384, 0] v slices_S512x256_o384_0_S128x256 (ix2 l r) = v (ix2 ⟨384 + l.val, by omega⟩ r) :=
  extractStridedSlice_apply ![384, 0] v slices_S512x256_o384_0_S128x256 (ix2 l r) (ix2 ⟨384 + l.val, by omega⟩ r) (fun a => match a with
    | ⟨0, _⟩ => rfl
    | ⟨1, _⟩ => by show r.val = 0 + r.val; omega)

theorem pay17_apply (v : FVec Ideal S256x1024 .f32) (r : Fin 256) (l : Fin 128) :
    k0_pay17 v (ix2 r l) = v (ix2 r ⟨0 + l.val, by omega⟩) * scale :=
  congrArg (fun s : EReal => s * scale) (cut0 v r l)

theorem pay20_apply (v : FVec Ideal S256x1024 .f32) (r : Fin 256) (l : Fin 128) :
    k0_pay20 v (ix2 r l) = v (ix2 r ⟨256 + l.val, by omega⟩) * scale :=
  congrArg (fun s : EReal => s * scale) (cut256 v r l)

theorem pay23_apply (v : FVec Ideal S256x1024 .f32) (r : Fin 256) (l : Fin 128) :
    k0_pay23 v (ix2 r l) = v (ix2 r ⟨512 + l.val, by omega⟩) * scale :=
  congrArg (fun s : EReal => s * scale) (cut512 v r l)

theorem pay1_apply (v : FVec Ideal S256x1024 .f32) (r : Fin 256) (l : Fin 128) :
    k0_pay1 v (ix2 r l) = v (ix2 r ⟨768 + l.val, by omega⟩) * scale :=
  congrArg (fun s : EReal => s * scale) (cut768 v r l)

theorem pay18_apply (v : FVec Ideal S256x1024 .f32) (c a b : Vec Ideal S256x128 .f32) (r : Fin 256) (l : Fin 128) :
    k0_pay18 v c a b (ix2 r l) = (v (ix2 r ⟨128 + l.val, by omega⟩) * c (ix2 r l) + v (ix2 r ⟨128 + (fwd l).val, by omega⟩) * a (ix2 r l)
      + v (ix2 r ⟨128 + (bwd l).val, by omega⟩) * b (ix2 r l)) * scale := by
  have e : k0_pay18 v c a b (ix2 r l) = turnV (extractStridedSlice S256x128 ![0, 128] v slices_S256x1024_o0_128_S256x128) c a (k0_pay15 b) (ix2 r l) * scale := rfl
  rw [e, pay15_apply, turnV_apply, cut128, cut128, cut128]

theorem pay21_apply (v : FVec Ideal S256x1024 .f32) (c a b : Vec Ideal S256x128 .f32) (r : Fin 256) (l : Fin 128) :
    k0_pay21 v c a b (ix2 r l) = (v (ix2 r ⟨384 + l.val, by omega⟩) * c (ix2 r l) + v (ix2 r ⟨384 + (fwd l).val, by omega⟩) * a (ix2 r l)
      + v (ix2 r ⟨384 + (bwd l).val, by omega⟩) * b (ix2 r l)) * scale := by
  have e : k0_pay21 v c a b (ix2 r l) = turnV (extractStridedSlice S256x128 ![0, 384] v slices_S256x1024_o0_384_S256x128) c a b (ix2 r l) * scale := rfl
  rw [e, turnV_apply, cut384, cut384, cut384]

theorem pay24_apply (v : FVec Ideal S256x1024 .f32) (c a b : Vec Ideal S256x128 .f32) (r : Fin 256) (l : Fin 128) :
    k0_pay24 v c a b (ix2 r l) = (v (ix2 r ⟨640 + l.val, by omega⟩) * c (ix2 r l) + v (ix2 r ⟨640 + (fwd l).val, by omega⟩) * a (ix2 r l)
      + v (ix2 r ⟨640 + (bwd l).val, by omega⟩) * b (ix2 r l)) * scale := by
  have e : k0_pay24 v c a b (ix2 r l) = turnV (extractStridedSlice S256x128 ![0, 640] v slices_S256x1024_o0_640_S256x128) c a b (ix2 r l) * scale := rfl
  rw [e, turnV_apply, cut640, cut640, cut640]

theorem pay2_apply (v : FVec Ideal S256x1024 .f32) (c a b : Vec Ideal S256x128 .f32) (r : Fin 256) (l : Fin 128) :
    k0_pay2 v c a b (ix2 r l) = (v (ix2 r ⟨896 + l.val, by omega⟩) * c (ix2 r l) + v (ix2 r ⟨896 + (fwd l).val, by omega⟩) * a (ix2 r l)
      + v (ix2 r ⟨896 + (bwd l).val, by omega⟩) * b (ix2 r l)) * scale := by
  have e : k0_pay2 v c a b (ix2 r l) = turnV (extractStridedSlice S256x128 ![0, 896] v slices_S256x1024_o0_896_S256x128) c a b (ix2 r l) * scale := rfl
  rw [e, turnV_apply, cut896, cut896, cut896]

theorem pay19_apply (v : FVec Ideal S256x512 .f32) (r : Fin 256) (l : Fin 128) :
    k0_pay19 v (ix2 r l) = v (ix2 r ⟨0 + l.val, by omega⟩) := kcut0 v r l

theorem pay22_apply (v : FVec Ideal S256x512 .f32) (r : Fin 256) (l : Fin 128) :
    k0_pay22 v (ix2 r l) = v (ix2 r ⟨128 + l.val, by omega⟩) := kcut128 v r l

theorem pay25_apply (v : FVec Ideal S256x512 .f32) (r : Fin 256) (l : Fin 128) :
    k0_pay25 v (ix2 r l) = v (ix2 r ⟨256 + l.val, by omega⟩) := kcut256 v r l

theorem pay3_apply (v : FVec Ideal S256x512 .f32) (r : Fin 256) (l : Fin 128) :
    k0_pay3 v (ix2 r l) = v (ix2 r ⟨384 + l.val, by omega⟩) := kcut384 v r l

theorem pay9_apply (h : FVec Ideal S256x128 .bf16) (W : Vec Ideal S512x128 .bf16) (l : Fin 128) (r : Fin 256) :
    k0_pay9 h W (ix2 l r) = k0_pay7 h W (ix2 ⟨0 + l.val, by omega⟩ r) := vcut0 (k0_pay7 h W) l r

theorem pay10_apply (h : FVec Ideal S256x128 .bf16) (W : Vec Ideal S512x128 .bf16) (l : Fin 128) (r : Fin 256) :
    k0_pay10 h W (ix2 l r) = k0_pay7 h W (ix2 ⟨128 + l.val, by omega⟩ r) := vcut128 (k0_pay7 h W) l r

theorem pay11_apply (h : FVec Ideal S256x128 .bf16) (W : Vec Ideal S512x128 .bf16) (l : Fin 128) (r : Fin 256) :
    k0_pay11 h W (ix2 l r) = k0_pay7 h W (ix2 ⟨256 + l.val, by omega⟩ r) := vcut256 (k0_pay7 h W) l r

theorem pay12_apply (h : FVec Ideal S256x128 .bf16) (W : Vec Ideal S512x128 .bf16) (l : Fin 128) (r : Fin 256) :
    k0_pay12 h W (ix2 l r) = k0_pay7 h W (ix2 ⟨384 + l.val, by omega⟩ r) := vcut384 (k0_pay7 h W) l r

end Cert.Kernel8Ideal.Prep

end
-- ==== Proof.M.Blocks.lean ====
module

public import proofs.«01_k».proof.Proof.M.Pay
public import Idealize.ShloMosaic.Lib.Pipeline.ValueKit
public import Idealize.ShloMosaic.Lib.Pipeline.ValueKit.Partial

/-! Which elements of the arguments a point of the grid sees: point `t` is block `t` of the tokens. The weights come with
    zero columns after each head's, the angles as three tables. -/

@[expose] public section

set_option maxRecDepth 32768

noncomputable section

namespace Cert.Kernel8Ideal.Prep

open Idealize.ShloMosaic Idealize.ShloMosaic.TcCoe Idealize.ShloMosaic.Tactic Cert.Kernel8Ideal Cert.Kernel8Ideal.Gen
open Cert.Prep
open scoped BigOperators

variable (m : (ℓ : Loc nD τ sig) → Buf (Elt Ideal) ℓ)

/-- Where a block of tokens stands in the two sequences. -/
def seqB (b : ℕ) : ℕ := if b < 128 then b / 64 * 65 + 1 + b % 64 else (b - 128) * 65

theorem idx0 : ∀ t : Fin cfg0.N, win0_0.index t = ![t.val, 8] := (by decide +kernel : ∀ t : Fin grid0.N, _)
theorem idx1 : ∀ t : Fin cfg0.N, win0_1.index t = ![t.val, 27] := (by decide +kernel : ∀ t : Fin grid0.N, _)
theorem idx2 : ∀ t : Fin cfg0.N, win0_2.index t = ![t.val, 28] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![seqB t.val, 0] := (by decide +kernel : ∀ t : Fin grid0.N, _)
theorem idx13 : ∀ t : Fin cfg0.N, win0_13.index t = ![0, seqB t.val] := (by decide +kernel : ∀ t : Fin grid0.N, _)

theorem N_eq : cfg0.N = 130 := N_0

/-- Token `r` of the point's block, and its place in the sequences. -/
def row (t : Fin cfg0.N) (r : Fin 256) : Fin 33280 := ⟨t.val * 256 + r, by have := t.isLt; have := N_eq; omega⟩

theorem seqB_lt (t : Fin cfg0.N) : seqB t.val < 130 := by
  have := t.isLt
  have := N_eq
  unfold seqB
  split <;> omega

def place (t : Fin cfg0.N) (r : Fin 256) : Fin 33280 := ⟨seqB t.val * 256 + r, by have := seqB_lt t; omega⟩

theorem tok_place (t : Fin cfg0.N) (r : Fin 256) : tokF (place t r) = row t r := by
  refine Fin.ext ?_
  show tok (seqB t.val * 256 + r.val) = t.val * 256 + r.val
  have := t.isLt
  have := N_eq
  unfold tok seqB
  by_cases h : t.val < 128
  · rw [if_pos h, if_neg (by omega)]
    by_cases h' : t.val < 64
    · rw [if_pos (by omega)]; omega
    · rw [if_neg (by omega), if_neg (by omega)]; omega
  · rw [if_neg h]
    by_cases h' : t.val < 129
    · rw [if_pos (by omega)]; omega
    · rw [if_neg (by omega), if_neg (by omega), if_pos (by omega)]; omega

theorem blk0 (c : Dev nD) (t : Fin cfg0.N) (r : Fin 256) (k : Fin 384) :
    iblk m c 0 t (ix2 r k) = m ((c : Thread nD τ).loc main_arg0) (ix2 (row t r) (cq k)) := by
  unfold row cq
  blk_ext! [iblk, V, idx0 t]

theorem blk1 (c : Dev nD) (t : Fin cfg0.N) (r : Fin 256) (k : Fin 128) :
    iblk m c 1 t (ix2 r k) = m ((c : Thread nD τ).loc main_arg0) (ix2 (row t r) (ck k)) := by
  unfold row ck
  blk_ext! [iblk, V, idx1 t]

theorem blk2 (c : Dev nD) (t : Fin cfg0.N) (r : Fin 256) (k : Fin 128) :
    iblk m c 2 t (ix2 r k) = m ((c : Thread nD τ).loc main_arg0) (ix2 (row t r) (cr k)) := by
  unfold row cr
  blk_ext! [iblk, V, idx2 t]

theorem V_main_v19 (c : Dev nD) : V m c main_v19 = shapeCast S1x384 (m ((c : Thread nD τ).loc main_arg1)) shapeCasts_S384_S1x384 := by
  show StableHlo.after hostOps0 _ (Proc.devRef .tc main_v19) = _
  after_results
  rfl

theorem blk3 (c : Dev nD) (t : Fin cfg0.N) (l : Fin 384) :
    iblk m c 3 t (ix2 0 l) = m ((c : Thread nD τ).loc main_arg1) (ix1 l) := by
  have h : iblk m c 3 t (ix2 0 l) = V m c main_v19 (ix2 0 l) := by
    blk_ext! [iblk, idx3 t]
  rw [h, V_main_v19]
  exact shapeCast_apply _ shapeCasts_S384_S1x384 (ix2 0 l) (ix1 l)
    (by rw [Shape.rowMajor_val_two, Shape.rowMajor_val_one]; show l.val = 0 * 384 + l.val; omega)

theorem V_main_v20 (c : Dev nD) : V m c main_v20 = shapeCast S1x128 (m ((c : Thread nD τ).loc main_arg2)) shapeCasts_S128_S1x128 := by
  show StableHlo.after hostOps0 _ (Proc.devRef .tc main_v20) = _
  after_results
  rfl

theorem blk4 (c : Dev nD) (t : Fin cfg0.N) (l : Fin 128) :
    iblk m c 4 t (ix2 0 l) = m ((c : Thread nD τ).loc main_arg2) (ix1 l) := by
  have h : iblk m c 4 t (ix2 0 l) = V m c main_v20 (ix2 0 l) := by
    blk_ext! [iblk, idx4 t]
  rw [h, V_main_v20]
  exact shapeCast_apply _ shapeCasts_S128_S1x128 (ix2 0 l) (ix1 l)
    (by rw [Shape.rowMajor_val_two, Shape.rowMajor_val_one]; show l.val = 0 * 128 + l.val; omega)

/-- The queries' weights by heads, and the zero columns. -/
abbrev wq3 (c : Dev nD) : (⟨S384x4x192, .f32⟩ : BufTy).Contents (Elt Ideal) := shapeCast S384x4x192 (m ((c : Thread nD τ).loc main_arg3)) shapeCasts_S384x768_S384x4x192
abbrev z3 : (⟨S384x4x64, .f32⟩ : BufTy).Contents (Elt Ideal) := broadcastInDim S384x4x64 ![] bcast_S_S384x4x64 (constant (F := Ideal) S_ .f32 0x00000000#32)

theorem V_main_v16 (c : Dev nD) : V m c main_v16 = truncf (F := Ideal) .bf16 (shapeCast S384x1024 (concatenate S384x4x256 2 [⟨S384x4x192, wq3 m c⟩, ⟨S384x4x64, z3⟩]
    concatenates_S384x4x192_S384x4x64_S384x4x256_d2) shapeCasts_S384x4x256_S384x1024) bitsLt_bf16_f32 := by
  show StableHlo.after hostOps0 _ (Proc.devRef .tc main_v16) = _
  after_results
  rfl

theorem wq_at (c : Dev nD) (k : Fin 384) (j : Fin 1024) (h : Fin 4) (d : Fin 256) (e : j.val = h.val * 256 + d.val) :
    V m c main_v16 (ix2 k j) = concatenate S384x4x256 2 [⟨S384x4x192, wq3 m c⟩, ⟨S384x4x64, z3⟩] concatenates_S384x4x192_S384x4x64_S384x4x256_d2 (ix3 k h d) := by
  rw [V_main_v16]
  exact shapeCast_apply (concatenate S384x4x256 2 [⟨S384x4x192, wq3 m c⟩, ⟨S384x4x64, z3⟩] concatenates_S384x4x192_S384x4x64_S384x4x256_d2) shapeCasts_S384x4x256_S384x1024 (ix2 k j) (ix3 k h d)
    (by rw [Shape.rowMajor_val_three, Shape.rowMajor_val_two]; show (k.val * 4 + h.val) * 256 + d.val = k.val * 1024 + j.val; omega)

theorem ld5 (c : Dev nD) (t : Fin cfg0.N) (k : Fin 384) (j : Fin 1024) : iblk m c 5 t (ix2 k j) = V m c main_v16 (ix2 k j) := by
  blk_ext! [iblk, idx5 t]

/-- A weight of the queries. -/
theorem blk5_lo (c : Dev nD) (t : Fin cfg0.N) (k : Fin 384) (j : Fin 1024) (h : Fin 4) (l : Fin 192) (e : j.val = h.val * 256 + l.val) :
    iblk m c 5 t (ix2 k j) = m ((c : Thread nD τ).loc main_arg3) (ix2 k (hq h l)) := by
  rw [ld5, wq_at m c k j h ⟨l.val, by omega⟩ e]
  refine (concatenate_apply_piece (α := EReal) (t := S384x4x256) 2 [⟨S384x4x192, wq3 m c⟩, ⟨S384x4x64, z3⟩] concatenates_S384x4x192_S384x4x64_S384x4x256_d2 (ix3 k h ⟨l.val, by omega⟩) 0 (by show 0 < 2; omega) S384x4x192 (wq3 m c) rfl rfl 0 rfl (ix3 k h l)
        (fun b => match b with | ⟨0, _⟩ => fun _ => rfl | ⟨1, _⟩ => fun _ => rfl | ⟨2, _⟩ => fun hb => absurd rfl hb)  (Nat.zero_add _)).trans ?_
  exact shapeCast_apply _ shapeCasts_S384x768_S384x4x192 (ix3 k h l) (ix2 k (hq h l))
    (by rw [Shape.rowMajor_val_three, Shape.rowMajor_val_two]; show k.val * 768 + (h.val * 192 + l.val) = (k.val * 4 + h.val) * 192 + l.val; omega)

/-- A zero column. -/
theorem blk5_hi (c : Dev nD) (t : Fin cfg0.N) (k : Fin 384) (j : Fin 1024) (h : Fin 4) (l : Fin 64) (e : j.val = h.val * 256 + (192 + l.val)) :
    iblk m c 5 t (ix2 k j) = (0 : EReal) := by
  rw [ld5, wq_at m c k j h ⟨192 + l.val, by omega⟩ e]
  refine (concatenate_apply_piece (α := EReal) (t := S384x4x256) 2 [⟨S384x4x192, wq3 m c⟩, ⟨S384x4x64, z3⟩] concatenates_S384x4x192_S384x4x64_S384x4x256_d2 (ix3 k h ⟨192 + l.val, by omega⟩) 1 (by show 1 < 2; omega) S384x4x64 z3 rfl rfl 192 rfl (ix3 k h l)
        (fun b => match b with | ⟨0, _⟩ => fun _ => rfl | ⟨1, _⟩ => fun _ => rfl | ⟨2, _⟩ => fun hb => absurd rfl hb)  rfl).trans ?_
  exact Ideal.ofBits_zero_f32

/-- The keys' and the values' weights by heads. -/
abbrev wk3 (c : Dev nD) : (⟨S128x4x256, .f32⟩ : BufTy).Contents (Elt Ideal) := shapeCast S128x4x256 (m ((c : Thread nD τ).loc main_arg4)) shapeCasts_S128x1024_S128x4x256

theorem wk3_at (c : Dev nD) (k : Fin 128) (h : Fin 4) (l : Fin 256) : wk3 m c (ix3 k h l) = m ((c : Thread nD τ).loc main_arg4) (ix2 k (hk h l)) :=
  shapeCast_apply _ shapeCasts_S128x1024_S128x4x256 (ix3 k h l) (ix2 k (hk h l))
    (by rw [Shape.rowMajor_val_three, Shape.rowMajor_val_two]; show k.val * 1024 + (h.val * 256 + l.val) = (k.val * 4 + h.val) * 256 + l.val; omega)

theorem V_main_v17 (c : Dev nD) : V m c main_v17 = truncf (F := Ideal) .bf16 (shapeCast S128x512 (extractStridedSlice S128x4x128 ![0, 0, 0] (wk3 m c) slices_S128x4x256_S128x4x128_0_0_0)
    shapeCasts_S128x4x128_S128x512) bitsLt_bf16_f32 := by
  show StableHlo.after hostOps0 _ (Proc.devRef .tc main_v17) = _
  after_results
  rfl

theorem V_main_v18 (c : Dev nD) : V m c main_v18 = truncf (F := Ideal) .bf16 (transpose S512x128 [1, 0] (shapeCast S128x512 (extractStridedSlice S128x4x128 ![0, 0, 128] (wk3 m c) slices_S128x4x256_S128x4x128_0_0_128)
    shapeCasts_S128x4x128_S128x512) transposes_S128x512_S512x128_1_0) bitsLt_bf16_f32 := by
  show StableHlo.after hostOps0 _ (Proc.devRef .tc main_v18) = _
  after_results
  rfl

theorem ld6 (c : Dev nD) (t : Fin cfg0.N) (k : Fin 128) (j : Fin 512) : iblk m c 6 t (ix2 k j) = V m c main_v17 (ix2 k j) := by
  blk_ext! [iblk, idx6 t]

theorem ld7 (c : Dev nD) (t : Fin cfg0.N) (j : Fin 512) (k : Fin 128) : iblk m c 7 t (ix2 j k) = V m c main_v18 (ix2 j k) := by
  blk_ext! [iblk, idx7 t]

theorem kpart (c : Dev nD) (k : Fin 128) (j : Fin 512) (h : Fin 4) (l : Fin 128) (e : j.val = h.val * 128 + l.val) :
    shapeCast S128x512 (extractStridedSlice S128x4x128 ![0, 0, 0] (wk3 m c) slices_S128x4x256_S128x4x128_0_0_0) shapeCasts_S128x4x128_S128x512 (ix2 k j)
      = m ((c : Thread nD τ).loc main_arg4) (ix2 k (hk h ⟨0 + l.val, by omega⟩)) := by
  refine (shapeCast_apply _ shapeCasts_S128x4x128_S128x512 (ix2 k j) (ix3 k h l)
    (by rw [Shape.rowMajor_val_three, Shape.rowMajor_val_two]; show (k.val * 4 + h.val) * 128 + l.val = k.val * 512 + j.val; omega)).trans ?_
  refine (extractStridedSlice_apply ![0, 0, 0] (wk3 m c) slices_S128x4x256_S128x4x128_0_0_0 (ix3 k h l) (ix3 k h ⟨0 + l.val, by omega⟩) (fun a => match a with
    | ⟨0, _⟩ => by show k.val = 0 + k.val; omega
    | ⟨1, _⟩ => by show h.val = 0 + h.val; omega
    | ⟨2, _⟩ => rfl)).trans ?_
  exact wk3_at m c k h _

theorem vpart (c : Dev nD) (k : Fin 128) (j : Fin 512) (h : Fin 4) (l : Fin 128) (e : j.val = h.val * 128 + l.val) :
    shapeCast S128x512 (extractStridedSlice S128x4x128 ![0, 0, 128] (wk3 m c) slices_S128x4x256_S128x4x128_0_0_128) shapeCasts_S128x4x128_S128x512 (ix2 k j)
      = m ((c : Thread nD τ).loc main_arg4) (ix2 k (hk h ⟨128 + l.val, by omega⟩)) := by
  refine (shapeCast_apply _ shapeCasts_S128x4x128_S128x512 (ix2 k j) (ix3 k h l)
    (by rw [Shape.rowMajor_val_three, Shape.rowMajor_val_two]; show (k.val * 4 + h.val) * 128 + l.val = k.val * 512 + j.val; omega)).trans ?_
  refine (extractStridedSlice_apply ![0, 0, 128] (wk3 m c) slices_S128x4x256_S128x4x128_0_0_128 (ix3 k h l) (ix3 k h ⟨128 + l.val, by omega⟩) (fun a => match a with
    | ⟨0, _⟩ => by show k.val = 0 + k.val; omega
    | ⟨1, _⟩ => by show h.val = 0 + h.val; omega
    | ⟨2, _⟩ => rfl)).trans ?_
  exact wk3_at m c k h _

/-- A weight of the keys. -/
theorem blk6 (c : Dev nD) (t : Fin cfg0.N) (k : Fin 128) (j : Fin 512) (h : Fin 4) (l : Fin 128) (e : j.val = h.val * 128 + l.val) :
    iblk m c 6 t (ix2 k j) = m ((c : Thread nD τ).loc main_arg4) (ix2 k (hk h ⟨0 + l.val, by omega⟩)) := by
  rw [ld6, V_main_v17]
  exact kpart m c k j h l e

/-- A weight of the values. -/
theorem blk7 (c : Dev nD) (t : Fin cfg0.N) (k : Fin 128) (j : Fin 512) (h : Fin 4) (l : Fin 128) (e : j.val = h.val * 128 + l.val) :
    iblk m c 7 t (ix2 j k) = m ((c : Thread nD τ).loc main_arg4) (ix2 k (hk h ⟨128 + l.val, by omega⟩)) := by
  rw [ld7, V_main_v18]
  refine (transpose_apply [1, 0] (shapeCast S128x512 (extractStridedSlice S128x4x128 ![0, 0, 128] (wk3 m c) slices_S128x4x256_S128x4x128_0_0_128) shapeCasts_S128x4x128_S128x512) transposes_S128x512_S512x128_1_0 (ix2 j k) (ix2 k j) (fun b => match b with
    | ⟨0, _⟩ => rfl
    | ⟨1, _⟩ => rfl)).trans ?_
  exact vpart m c k j h l e

/-- The tables' zeros and ones. -/
abbrev z2 : (⟨S33280x32, .f32⟩ : BufTy).Contents (Elt Ideal) := broadcastInDim S33280x32 ![] bcast_S_S33280x32 (constant (F := Ideal) S_ .f32 0x00000000#32)
abbrev o2 : (⟨S33280x64, .f32⟩ : BufTy).Contents (Elt Ideal) := broadcastInDim S33280x64 ![] bcast_S_S33280x64 (constant (F := Ideal) S_ .f32 0x3F800000#32)
abbrev cs (c : Dev nD) : (⟨S33280x32, .f32⟩ : BufTy).Contents (Elt Ideal) := m ((c : Thread nD τ).loc main_arg5)
abbrev sn (c : Dev nD) : (⟨S33280x32, .f32⟩ : BufTy).Contents (Elt Ideal) := m ((c : Thread nD τ).loc main_arg6)
abbrev ng (c : Dev nD) : (⟨S33280x32, .f32⟩ : BufTy).Contents (Elt Ideal) := Host.negf (F := Ideal) (φ := .f32) (sn m c)

theorem z2_at (i : S33280x32.Idx) : z2 i = (0 : EReal) := Ideal.ofBits_zero_f32
theorem o2_at (i : S33280x64.Idx) : o2 i = (1 : EReal) := Ideal.ofBits_one_f32

theorem V_main_v12 (c : Dev nD) : V m c main_v12 = concatenate S33280x128 1 [⟨S33280x32, cs m c⟩, ⟨S33280x32, cs m c⟩, ⟨S33280x64, o2⟩] concatenates_S33280x32_S33280x32_S33280x64_S33280x128_d1 := by
  show StableHlo.after hostOps0 _ (Proc.devRef .tc main_v12) = _
  after_results
  rfl

theorem V_main_v14 (c : Dev nD) : V m c main_v14 = concatenate S33280x128 1 [⟨S33280x32, ng m c⟩, ⟨S33280x32, z2⟩, ⟨S33280x32, z2⟩, ⟨S33280x32, z2⟩] concatenates_S33280x32_S33280x32_S33280x32_S33280x32_S33280x128_d1 := by
  show StableHlo.after hostOps0 _ (Proc.devRef .tc main_v14) = _
  after_results
  rfl

theorem V_main_v15 (c : Dev nD) : V m c main_v15 = concatenate S33280x128 1 [⟨S33280x32, z2⟩, ⟨S33280x32, sn m c⟩, ⟨S33280x32, z2⟩, ⟨S33280x32, z2⟩] concatenates_S33280x32_S33280x32_S33280x32_S33280x32_S33280x128_d1 := by
  show StableHlo.after hostOps0 _ (Proc.devRef .tc main_v15) = _
  after_results
  rfl

theorem tab12 (c : Dev nD) (n : Fin 33280) (l : Fin 128) : V m c main_v12 (ix2 n l) = tc (fun l => m ((c : Thread nD τ).loc main_arg5) (ix2 n l)) l := by
  rw [V_main_v12]
  unfold tc
  by_cases h0 : l.val < 32
  · obtain ⟨q, hq⟩ : ∃ q : Fin 32, l.val = 0 + q.val := ⟨⟨l.val - 0, by omega⟩, by show l.val = 0 + (l.val - 0); omega⟩
    refine (concatenate_apply_piece (α := EReal) (t := S33280x128) 1 [⟨S33280x32, cs m c⟩, ⟨S33280x32, cs m c⟩, ⟨S33280x64, o2⟩] concatenates_S33280x32_S33280x32_S33280x64_S33280x128_d1 (ix2 n l) 0 (by show 0 < 3; omega) S33280x32 (cs m c) rfl rfl 0 rfl (ix2 n q)
        (fun b => match b with | ⟨0, _⟩ => fun _ => rfl | ⟨1, _⟩ => fun hb => absurd rfl hb)  hq.symm).trans ?_
    rw [dif_pos h0]; exact congrArg (fun q => cs m c (ix2 n q)) (Fin.ext (by show q.val = l.val; omega))
  · skip
    by_cases h1 : l.val < 64
    · obtain ⟨q, hq⟩ : ∃ q : Fin 32, l.val = 32 + q.val := ⟨⟨l.val - 32, by omega⟩, by show l.val = 32 + (l.val - 32); omega⟩
      refine (concatenate_apply_piece (α := EReal) (t := S33280x128) 1 [⟨S33280x32, cs m c⟩, ⟨S33280x32, cs m c⟩, ⟨S33280x64, o2⟩] concatenates_S33280x32_S33280x32_S33280x64_S33280x128_d1 (ix2 n l) 1 (by show 1 < 3; omega) S33280x32 (cs m c) rfl rfl 32 rfl (ix2 n q)
        (fun b => match b with | ⟨0, _⟩ => fun _ => rfl | ⟨1, _⟩ => fun hb => absurd rfl hb)  hq.symm).trans ?_
      rw [dif_neg h0, dif_pos h1]; exact congrArg (fun q => cs m c (ix2 n q)) (Fin.ext (by show q.val = l.val - 32; omega))
    · obtain ⟨q, hq⟩ : ∃ q : Fin 64, l.val = 64 + q.val := ⟨⟨l.val - 64, by omega⟩, by show l.val = 64 + (l.val - 64); omega⟩
      refine (concatenate_apply_piece (α := EReal) (t := S33280x128) 1 [⟨S33280x32, cs m c⟩, ⟨S33280x32, cs m c⟩, ⟨S33280x64, o2⟩] concatenates_S33280x32_S33280x32_S33280x64_S33280x128_d1 (ix2 n l) 2 (by show 2 < 3; omega) S33280x64 (o2) rfl rfl 64 rfl (ix2 n q)
        (fun b => match b with | ⟨0, _⟩ => fun _ => rfl | ⟨1, _⟩ => fun hb => absurd rfl hb)  hq.symm).trans ?_
      rw [dif_neg h0, dif_neg h1]; exact o2_at _

theorem tab14 (c : Dev nD) (n : Fin 33280) (l : Fin 128) : V m c main_v14 (ix2 n l) = ts1 (fun l => m ((c : Thread nD τ).loc main_arg6) (ix2 n l)) l := by
  rw [V_main_v14]
  unfold ts1
  by_cases h0 : l.val < 32
  · obtain ⟨q, hq⟩ : ∃ q : Fin 32, l.val = 0 + q.val := ⟨⟨l.val - 0, by omega⟩, by show l.val = 0 + (l.val - 0); omega⟩
    refine (concatenate_apply_piece (α := EReal) (t := S33280x128) 1 [⟨S33280x32, ng m c⟩, ⟨S33280x32, z2⟩, ⟨S33280x32, z2⟩, ⟨S33280x32, z2⟩] concatenates_S33280x32_S33280x32_S33280x32_S33280x32_S33280x128_d1 (ix2 n l) 0 (by show 0 < 4; omega) S33280x32 (ng m c) rfl rfl 0 rfl (ix2 n q)
        (fun b => match b with | ⟨0, _⟩ => fun _ => rfl | ⟨1, _⟩ => fun hb => absurd rfl hb)  hq.symm).trans ?_
    rw [dif_pos h0]; exact congrArg (fun q => -(sn m c (ix2 n q) : EReal)) (Fin.ext (by show q.val = l.val; omega))
  · skip
    by_cases h1 : l.val < 64
    · obtain ⟨q, hq⟩ : ∃ q : Fin 32, l.val = 32 + q.val := ⟨⟨l.val - 32, by omega⟩, by show l.val = 32 + (l.val - 32); omega⟩
      refine (concatenate_apply_piece (α := EReal) (t := S33280x128) 1 [⟨S33280x32, ng m c⟩, ⟨S33280x32, z2⟩, ⟨S33280x32, z2⟩, ⟨S33280x32, z2⟩] concatenates_S33280x32_S33280x32_S33280x32_S33280x32_S33280x128_d1 (ix2 n l) 1 (by show 1 < 4; omega) S33280x32 (z2) rfl rfl 32 rfl (ix2 n q)
        (fun b => match b with | ⟨0, _⟩ => fun _ => rfl | ⟨1, _⟩ => fun hb => absurd rfl hb)  hq.symm).trans ?_
      rw [dif_neg h0]; exact z2_at _
    · skip
      by_cases h2 : l.val < 96
      · obtain ⟨q, hq⟩ : ∃ q : Fin 32, l.val = 64 + q.val := ⟨⟨l.val - 64, by omega⟩, by show l.val = 64 + (l.val - 64); omega⟩
        refine (concatenate_apply_piece (α := EReal) (t := S33280x128) 1 [⟨S33280x32, ng m c⟩, ⟨S33280x32, z2⟩, ⟨S33280x32, z2⟩, ⟨S33280x32, z2⟩] concatenates_S33280x32_S33280x32_S33280x32_S33280x32_S33280x128_d1 (ix2 n l) 2 (by show 2 < 4; omega) S33280x32 (z2) rfl rfl 64 rfl (ix2 n q)
        (fun b => match b with | ⟨0, _⟩ => fun _ => rfl | ⟨1, _⟩ => fun hb => absurd rfl hb)  hq.symm).trans ?_
        rw [dif_neg h0]; exact z2_at _
      · obtain ⟨q, hq⟩ : ∃ q : Fin 32, l.val = 96 + q.val := ⟨⟨l.val - 96, by omega⟩, by show l.val = 96 + (l.val - 96); omega⟩
        refine (concatenate_apply_piece (α := EReal) (t := S33280x128) 1 [⟨S33280x32, ng m c⟩, ⟨S33280x32, z2⟩, ⟨S33280x32, z2⟩, ⟨S33280x32, z2⟩] concatenates_S33280x32_S33280x32_S33280x32_S33280x32_S33280x128_d1 (ix2 n l) 3 (by show 3 < 4; omega) S33280x32 (z2) rfl rfl 96 rfl (ix2 n q)
        (fun b => match b with | ⟨0, _⟩ => fun _ => rfl | ⟨1, _⟩ => fun hb => absurd rfl hb)  hq.symm).trans ?_
        rw [dif_neg h0]; exact z2_at _

theorem tab15 (c : Dev nD) (n : Fin 33280) (l : Fin 128) : V m c main_v15 (ix2 n l) = ts2 (fun l => m ((c : Thread nD τ).loc main_arg6) (ix2 n l)) l := by
  rw [V_main_v15]
  unfold ts2
  by_cases h0 : l.val < 32
  · obtain ⟨q, hq⟩ : ∃ q : Fin 32, l.val = 0 + q.val := ⟨⟨l.val - 0, by omega⟩, by show l.val = 0 + (l.val - 0); omega⟩
    refine (concatenate_apply_piece (α := EReal) (t := S33280x128) 1 [⟨S33280x32, z2⟩, ⟨S33280x32, sn m c⟩, ⟨S33280x32, z2⟩, ⟨S33280x32, z2⟩] concatenates_S33280x32_S33280x32_S33280x32_S33280x32_S33280x128_d1 (ix2 n l) 0 (by show 0 < 4; omega) S33280x32 (z2) rfl rfl 0 rfl (ix2 n q)
        (fun b => match b with | ⟨0, _⟩ => fun _ => rfl | ⟨1, _⟩ => fun hb => absurd rfl hb)  hq.symm).trans ?_
    rw [if_pos h0]; exact z2_at _
  · skip
    by_cases h1 : l.val < 64
    · obtain ⟨q, hq⟩ : ∃ q : Fin 32, l.val = 32 + q.val := ⟨⟨l.val - 32, by omega⟩, by show l.val = 32 + (l.val - 32); omega⟩
      refine (concatenate_apply_piece (α := EReal) (t := S33280x128) 1 [⟨S33280x32, z2⟩, ⟨S33280x32, sn m c⟩, ⟨S33280x32, z2⟩, ⟨S33280x32, z2⟩] concatenates_S33280x32_S33280x32_S33280x32_S33280x32_S33280x128_d1 (ix2 n l) 1 (by show 1 < 4; omega) S33280x32 (sn m c) rfl rfl 32 rfl (ix2 n q)
        (fun b => match b with | ⟨0, _⟩ => fun _ => rfl | ⟨1, _⟩ => fun hb => absurd rfl hb)  hq.symm).trans ?_
      rw [if_neg h0, dif_pos h1]; exact congrArg (fun q => sn m c (ix2 n q)) (Fin.ext (by show q.val = l.val - 32; omega))
    · skip
      by_cases h2 : l.val < 96
      · obtain ⟨q, hq⟩ : ∃ q : Fin 32, l.val = 64 + q.val := ⟨⟨l.val - 64, by omega⟩, by show l.val = 64 + (l.val - 64); omega⟩
        refine (concatenate_apply_piece (α := EReal) (t := S33280x128) 1 [⟨S33280x32, z2⟩, ⟨S33280x32, sn m c⟩, ⟨S33280x32, z2⟩, ⟨S33280x32, z2⟩] concatenates_S33280x32_S33280x32_S33280x32_S33280x32_S33280x128_d1 (ix2 n l) 2 (by show 2 < 4; omega) S33280x32 (z2) rfl rfl 64 rfl (ix2 n q)
        (fun b => match b with | ⟨0, _⟩ => fun _ => rfl | ⟨1, _⟩ => fun hb => absurd rfl hb)  hq.symm).trans ?_
        rw [if_neg h0, dif_neg h1]; exact z2_at _
      · obtain ⟨q, hq⟩ : ∃ q : Fin 32, l.val = 96 + q.val := ⟨⟨l.val - 96, by omega⟩, by show l.val = 96 + (l.val - 96); omega⟩
        refine (concatenate_apply_piece (α := EReal) (t := S33280x128) 1 [⟨S33280x32, z2⟩, ⟨S33280x32, sn m c⟩, ⟨S33280x32, z2⟩, ⟨S33280x32, z2⟩] concatenates_S33280x32_S33280x32_S33280x32_S33280x32_S33280x128_d1 (ix2 n l) 3 (by show 3 < 4; omega) S33280x32 (z2) rfl rfl 96 rfl (ix2 n q)
        (fun b => match b with | ⟨0, _⟩ => fun _ => rfl | ⟨1, _⟩ => fun hb => absurd rfl hb)  hq.symm).trans ?_
        rw [if_neg h0, dif_neg h1]; exact z2_at _

theorem blk8 (c : Dev nD) (t : Fin cfg0.N) (r : Fin 256) (l : Fin 128) :
    iblk m c 8 t (ix2 r l) = tc (fun l => m ((c : Thread nD τ).loc main_arg5) (ix2 (row t r) l)) l := by
  have h : iblk m c 8 t (ix2 r l) = V m c main_v12 (ix2 (row t r) l) := by
    unfold row
    blk_ext! [iblk, idx8 t]
  rw [h, tab12]

theorem blk9 (c : Dev nD) (t : Fin cfg0.N) (r : Fin 256) (l : Fin 128) :
    iblk m c 9 t (ix2 r l) = ts1 (fun l => m ((c : Thread nD τ).loc main_arg6) (ix2 (row t r) l)) l := by
  have h : iblk m c 9 t (ix2 r l) = V m c main_v14 (ix2 (row t r) l) := by
    unfold row
    blk_ext! [iblk, idx9 t]
  rw [h, tab14]

theorem blk10 (c : Dev nD) (t : Fin cfg0.N) (r : Fin 256) (l : Fin 128) :
    iblk m c 10 t (ix2 r l) = ts2 (fun l => m ((c : Thread nD τ).loc main_arg6) (ix2 (row t r) l)) l := by
  have h : iblk m c 10 t (ix2 r l) = V m c main_v15 (ix2 (row t r) l) := by
    unfold row
    blk_ext! [iblk, idx10 t]
  rw [h, tab15]

end Cert.Kernel8Ideal.Prep

end
-- ==== Proof.M.Ref.lean ====
module

public import proofs.«01_k».proof.Proof.Gen.Reference8Ideal.Read
public import proofs.«01_k».proof.Proof.M.Math
public import Idealize.ShloMosaic.Lib.Pipeline.ValueKit
public import Idealize.ShloMosaic.Lib.KernelVsHost

/-! The reference of the latent attention's queries, keys and values, one element at a time. -/

@[expose] public section

set_option maxRecDepth 16384

noncomputable section

namespace Cert.Reference8Ideal.Prep

open Idealize.ShloMosaic Idealize.ShloMosaic.TcCoe Idealize.ShloMosaic.Tactic Cert.Reference8Ideal Cert.Reference8Ideal.Gen Cert.Reference8Ideal.Read
open Cert.Prep
open scoped BigOperators

variable (x0 : (⟨S33280x3840, .f32⟩ : BufTy).Contents (Elt Ideal)) (x1 : (⟨S384, .f32⟩ : BufTy).Contents (Elt Ideal))
  (x2 : (⟨S128, .f32⟩ : BufTy).Contents (Elt Ideal)) (x3 : (⟨S384x768, .f32⟩ : BufTy).Contents (Elt Ideal))
  (x4 : (⟨S128x1024, .f32⟩ : BufTy).Contents (Elt Ideal)) (x5 x6 : (⟨S33280x32, .f32⟩ : BufTy).Contents (Elt Ideal))

/-- The arguments by their coordinates. -/
abbrev aP (n : Fin 33280) (k : Fin 3840) : EReal := x0 (ix2 n k)
abbrev aqw (k : Fin 384) : EReal := x1 (ix1 k)
abbrev akw (k : Fin 128) : EReal := x2 (ix1 k)
abbrev aWq (k : Fin 384) (j : Fin 768) : EReal := x3 (ix2 k j)
abbrev aWk (k : Fin 128) (j : Fin 1024) : EReal := x4 (ix2 k j)
abbrev aT (n : Fin 33280) (l : Fin 32) : EReal := x5 (ix2 n l)

/-- The normalised row. -/
theorem qnAt (i : S33280x384.Idx) : val_main_v13 (F := Ideal) x0 x1 i
    = nrm (Ideal.ofBits .f32 0x43C00000#32) (fun k => aP x0 (i 0) (cq k)) (fun k => x1 (ix1 k)) (i 1) := by
  have hx : ∀ (n : Fin 33280) (k : Fin 384), val_main_v0 (F := Ideal) x0 (ix2 n k) = aP x0 n (cq k) := fun n k => by
    rw [val_main_v0_apply]
    refine congrArg x0 (funext fun a => ?_)
    match a with
    | ⟨0, _⟩ => rfl
    | ⟨1, _⟩ => rfl
  have ei : i = ix2 (i 0) (i 1) := by
    funext a
    match a with
    | ⟨0, _⟩ => rfl
    | ⟨1, _⟩ => rfl
  rw [val_main_v13_apply, val_main_v12_apply, val_main_v11_apply, val_main_v10_apply, val_main_v9_apply, val_main_v8_apply,
    val_main_v7_apply, val_main_v6_apply, val_main_cst_1_apply, val_main_v5_apply, val_main_v4_apply, val_main_cst_0_apply,
    val_main_v3_apply, val_main_v2_apply]
  rw [show val_main_cst (F := Ideal) (Shape.Idx.first h_S_) = 0 from Ideal.ofBits_zero_f32, zero_add]
  unfold nrm
  have e1 : idx_main_v11 (idx_main_v12 i) = ix1 (i 1) := by
    funext a
    match a with
    | ⟨0, _⟩ => rfl
  have e2 : ∀ k, val_main_v1 (F := Ideal) x0 (idx_main_v2 (idx_main_v3 (idx_main_v9 i)) k)
      = aP x0 (i 0) (cq k) * aP x0 (i 0) (cq k) := fun k => by
    rw [val_main_v1_apply]
    have e : idx_main_v2 (idx_main_v3 (idx_main_v9 i)) k = ix2 (i 0) k := by
      funext a
      match a with
      | ⟨0, _⟩ => rfl
      | ⟨1, _⟩ => rfl
    have h := (congrArg (val_main_v0 (F := Ideal) x0) e).trans (hx (i 0) k)
    exact congr (congrArg HMul.hMul h) h
  rw [e1, show val_main_v0 (F := Ideal) x0 i = aP x0 (i 0) (cq (i 1)) from (congrArg _ ei).trans (hx _ _)]
  simp only [e2]
  rfl

/-- The normalised row. -/
theorem knAt (i : S33280x128.Idx) : val_main_v50 (F := Ideal) x0 x2 i
    = nrm (Ideal.ofBits .f32 0x43000000#32) (fun k => aP x0 (i 0) (ck k)) (fun k => x2 (ix1 k)) (i 1) := by
  have hx : ∀ (n : Fin 33280) (k : Fin 128), val_main_v37 (F := Ideal) x0 (ix2 n k) = aP x0 n (ck k) := fun n k => by
    rw [val_main_v37_apply]
    refine congrArg x0 (funext fun a => ?_)
    match a with
    | ⟨0, _⟩ => rfl
    | ⟨1, _⟩ => rfl
  have ei : i = ix2 (i 0) (i 1) := by
    funext a
    match a with
    | ⟨0, _⟩ => rfl
    | ⟨1, _⟩ => rfl
  rw [val_main_v50_apply, val_main_v49_apply, val_main_v48_apply, val_main_v47_apply, val_main_v46_apply, val_main_v45_apply,
    val_main_v44_apply, val_main_v43_apply, val_main_cst_6_apply, val_main_v42_apply, val_main_v41_apply, val_main_cst_5_apply,
    val_main_v40_apply, val_main_v39_apply]
  rw [show val_main_cst_4 (F := Ideal) (Shape.Idx.first h_S_) = 0 from Ideal.ofBits_zero_f32, zero_add]
  unfold nrm
  have e1 : idx_main_v48 (idx_main_v49 i) = ix1 (i 1) := by
    funext a
    match a with
    | ⟨0, _⟩ => rfl
  have e2 : ∀ k, val_main_v38 (F := Ideal) x0 (idx_main_v39 (idx_main_v40 (idx_main_v46 i)) k)
      = aP x0 (i 0) (ck k) * aP x0 (i 0) (ck k) := fun k => by
    rw [val_main_v38_apply]
    have e : idx_main_v39 (idx_main_v40 (idx_main_v46 i)) k = ix2 (i 0) k := by
      funext a
      match a with
      | ⟨0, _⟩ => rfl
      | ⟨1, _⟩ => rfl
    have h := (congrArg (val_main_v37 (F := Ideal) x0) e).trans (hx (i 0) k)
    exact congr (congrArg HMul.hMul h) h
  rw [e1, show val_main_v37 (F := Ideal) x0 i = aP x0 (i 0) (ck (i 1)) from (congrArg _ ei).trans (hx _ _)]
  simp only [e2]
  rfl

/-- The product. -/
theorem qAt (i : S33280x768.Idx) : val_main_v14 (F := Ideal) x0 x1 x3 i = qrow (aP x0) (aqw x1) (aWq x3) (i 0) (i 1) := by
  rw [val_main_v14_apply]
  unfold qrow
  refine Finset.sum_congr rfl fun k _ => ?_
  rw [qnAt]
  refine congr (congrArg HMul.hMul rfl) (congrArg x3 (funext fun a => ?_))
  match a with
  | ⟨0, _⟩ => rfl
  | ⟨1, _⟩ => rfl

/-- The product. -/
theorem kvAt (i : S33280x1024.Idx) : val_main_v51 (F := Ideal) x0 x2 x4 i = kvrow (aP x0) (akw x2) (aWk x4) (i 0) (i 1) := by
  rw [val_main_v51_apply]
  unfold kvrow
  refine Finset.sum_congr rfl fun k _ => ?_
  rw [knAt]
  refine congr (congrArg HMul.hMul rfl) (congrArg x4 (funext fun a => ?_))
  match a with
  | ⟨0, _⟩ => rfl
  | ⟨1, _⟩ => rfl

/-- A head's columns. -/
theorem qHead (n : Fin 33280) (h : Fin 4) (l : Fin 192) : val_main_v15 (F := Ideal) x0 x1 x3 (ix3 n h l) = qrow (aP x0) (aqw x1) (aWq x3) n (hq h l) := by
  rw [val_main_v15_apply, qAt]
  refine congr (congrArg _ (Fin.ext ?_)) (Fin.ext ?_)
  · show ((n.val * 4 + h.val) * 192 + l.val) / 768 = n.val; omega
  · show ((n.val * 4 + h.val) * 192 + l.val) % 768 = h.val * 192 + l.val; omega

theorem kvHead (n : Fin 33280) (h : Fin 4) (l : Fin 256) : val_main_v52 (F := Ideal) x0 x2 x4 (ix3 n h l) = kvrow (aP x0) (akw x2) (aWk x4) n (hk h l) := by
  rw [val_main_v52_apply, kvAt]
  refine congr (congrArg _ (Fin.ext ?_)) (Fin.ext ?_)
  · show ((n.val * 4 + h.val) * 256 + l.val) / 1024 = n.val; omega
  · show ((n.val * 4 + h.val) * 256 + l.val) % 1024 = h.val * 256 + l.val; omega

theorem qHi (n : Fin 33280) (h : Fin 4) (l : Fin 64) :
    val_main_v17 (F := Ideal) x0 x1 x3 (ix3 n h l) = qrow (aP x0) (aqw x1) (aWq x3) n (hq h ⟨128 + l.val, by omega⟩) := by
  rw [val_main_v17_apply]
  refine Eq.trans (congrArg _ (funext fun a => ?_)) (qHead x0 x1 x3 n h ⟨128 + l.val, by omega⟩)
  match a with
  | ⟨0, _⟩ => rfl
  | ⟨1, _⟩ => rfl
  | ⟨2, _⟩ => rfl

theorem qLo (n : Fin 33280) (h : Fin 4) (l : Fin 128) :
    val_main_v16 (F := Ideal) x0 x1 x3 (ix3 n h l) = qrow (aP x0) (aqw x1) (aWq x3) n (hq h ⟨l.val, by omega⟩) := by
  rw [val_main_v16_apply]
  refine Eq.trans (congrArg _ (funext fun a => ?_)) (qHead x0 x1 x3 n h ⟨l.val, by omega⟩)
  match a with
  | ⟨0, _⟩ => rfl
  | ⟨1, _⟩ => rfl
  | ⟨2, _⟩ => rfl

theorem kLo (n : Fin 33280) (h : Fin 4) (l : Fin 128) :
    val_main_v69 (F := Ideal) x0 x2 x4 (ix3 n h l) = kvrow (aP x0) (akw x2) (aWk x4) n (hk h ⟨l.val, by omega⟩) := by
  rw [val_main_v69_apply]
  refine Eq.trans (congrArg _ (funext fun a => ?_)) (kvHead x0 x2 x4 n h ⟨l.val, by omega⟩)
  match a with
  | ⟨0, _⟩ => rfl
  | ⟨1, _⟩ => rfl
  | ⟨2, _⟩ => rfl

theorem kHi (n : Fin 33280) (h : Fin 4) (l : Fin 128) :
    val_main_v72 (F := Ideal) x0 x2 x4 (ix3 n h l) = kvrow (aP x0) (akw x2) (aWk x4) n (hk h ⟨128 + l.val, by omega⟩) := by
  rw [val_main_v72_apply]
  refine Eq.trans (congrArg _ (funext fun a => ?_)) (kvHead x0 x2 x4 n h ⟨128 + l.val, by omega⟩)
  match a with
  | ⟨0, _⟩ => rfl
  | ⟨1, _⟩ => rfl
  | ⟨2, _⟩ => rfl

theorem t22 (n : Fin 33280) (h : Fin 4) (l : Fin 32) : val_main_v22 (F := Ideal) x5 (ix3 n h l) = aT x5 n l := by
  rw [val_main_v22_apply, val_main_v18_apply]
  refine congrArg x5 (funext fun a => ?_)
  match a with
  | ⟨0, _⟩ => rfl
  | ⟨1, _⟩ => rfl

theorem t24 (n : Fin 33280) (h : Fin 4) (l : Fin 32) : val_main_v24 (F := Ideal) x6 (ix3 n h l) = aT x6 n l := by
  rw [val_main_v24_apply, val_main_v19_apply]
  refine congrArg x6 (funext fun a => ?_)
  match a with
  | ⟨0, _⟩ => rfl
  | ⟨1, _⟩ => rfl

theorem t27 (n : Fin 33280) (h : Fin 4) (l : Fin 32) : val_main_v27 (F := Ideal) x6 (ix3 n h l) = aT x6 n l := by
  rw [val_main_v27_apply, val_main_v19_apply]
  refine congrArg x6 (funext fun a => ?_)
  match a with
  | ⟨0, _⟩ => rfl
  | ⟨1, _⟩ => rfl

theorem t29 (n : Fin 33280) (h : Fin 4) (l : Fin 32) : val_main_v29 (F := Ideal) x5 (ix3 n h l) = aT x5 n l := by
  rw [val_main_v29_apply, val_main_v18_apply]
  refine congrArg x5 (funext fun a => ?_)
  match a with
  | ⟨0, _⟩ => rfl
  | ⟨1, _⟩ => rfl

theorem t55 (n : Fin 33280) (h : Fin 1) (l : Fin 32) : val_main_v55 (F := Ideal) x5 (ix3 n h l) = aT x5 n l := by
  rw [val_main_v55_apply]
  refine congrArg x5 (funext fun a => ?_)
  match a with
  | ⟨0, _⟩ => rfl
  | ⟨1, _⟩ => rfl

theorem t56 (n : Fin 33280) (h : Fin 1) (l : Fin 32) : val_main_v56 (F := Ideal) x6 (ix3 n h l) = aT x6 n l := by
  rw [val_main_v56_apply]
  refine congrArg x6 (funext fun a => ?_)
  match a with
  | ⟨0, _⟩ => rfl
  | ⟨1, _⟩ => rfl

theorem s20 (n : Fin 33280) (h : Fin 4) (l : Fin 32) : val_main_v20 (F := Ideal) x0 x1 x3 (ix3 n h l) = val_main_v17 (F := Ideal) x0 x1 x3 (ix3 n h ⟨l.val, by omega⟩) := by
  rw [val_main_v20_apply]
  refine congrArg _ (funext fun a => ?_)
  match a with
  | ⟨0, _⟩ => rfl
  | ⟨1, _⟩ => rfl
  | ⟨2, _⟩ => rfl

theorem s21 (n : Fin 33280) (h : Fin 4) (l : Fin 32) : val_main_v21 (F := Ideal) x0 x1 x3 (ix3 n h l) = val_main_v17 (F := Ideal) x0 x1 x3 (ix3 n h ⟨32 + l.val, by omega⟩) := by
  rw [val_main_v21_apply]
  refine congrArg _ (funext fun a => ?_)
  match a with
  | ⟨0, _⟩ => rfl
  | ⟨1, _⟩ => rfl
  | ⟨2, _⟩ => rfl

theorem s57 (n : Fin 33280) (h : Fin 1) (l : Fin 32) : val_main_v57 (F := Ideal) x0 (ix3 n h l) = val_main_v54 (F := Ideal) x0 (ix3 n h ⟨l.val, by omega⟩) := by
  rw [val_main_v57_apply]
  refine congrArg _ (funext fun a => ?_)
  match a with
  | ⟨0, _⟩ => rfl
  | ⟨1, _⟩ => rfl
  | ⟨2, _⟩ => rfl

theorem s58 (n : Fin 33280) (h : Fin 1) (l : Fin 32) : val_main_v58 (F := Ideal) x0 (ix3 n h l) = val_main_v54 (F := Ideal) x0 (ix3 n h ⟨32 + l.val, by omega⟩) := by
  rw [val_main_v58_apply]
  refine congrArg _ (funext fun a => ?_)
  match a with
  | ⟨0, _⟩ => rfl
  | ⟨1, _⟩ => rfl
  | ⟨2, _⟩ => rfl

/-- The turned columns. -/
theorem rotQ (n : Fin 33280) (h : Fin 4) (l : Fin 64) : val_main_v32 (F := Ideal) x0 x1 x3 x5 x6 (ix3 n h l)
    = rot (fun l => val_main_v17 (F := Ideal) x0 x1 x3 (ix3 n h l)) (aT x5 n) (aT x6 n) l := by
  unfold val_main_v32 rot
  by_cases hl : l.val < 32
  · rw [dif_pos hl]
    refine (concatenate_apply_piece (α := EReal) (t := S33280x4x64) 2 [⟨S33280x4x32, val_main_v26 (F := Ideal) x0 x1 x3 x5 x6⟩, ⟨S33280x4x32, val_main_v31 (F := Ideal) x0 x1 x3 x5 x6⟩] concatenates_S33280x4x32_S33280x4x32_S33280x4x64_d2 (ix3 n h l) 0 (by show 0 < 2; omega) S33280x4x32 (val_main_v26 (F := Ideal) x0 x1 x3 x5 x6) rfl rfl 0 rfl (ix3 n h ⟨l.val, hl⟩)
        (fun b => match b with | ⟨0, _⟩ => fun _ => rfl | ⟨1, _⟩ => fun _ => rfl | ⟨2, _⟩ => fun hb => absurd rfl hb)  (Nat.zero_add _)).trans ?_
    rw [val_main_v26_apply, val_main_v23_apply, val_main_v25_apply, s20, s21, t22, t24]
    rfl
  · rw [dif_neg hl]
    refine (concatenate_apply_piece (α := EReal) (t := S33280x4x64) 2 [⟨S33280x4x32, val_main_v26 (F := Ideal) x0 x1 x3 x5 x6⟩, ⟨S33280x4x32, val_main_v31 (F := Ideal) x0 x1 x3 x5 x6⟩] concatenates_S33280x4x32_S33280x4x32_S33280x4x64_d2 (ix3 n h l) 1 (by show 1 < 2; omega) S33280x4x32 (val_main_v31 (F := Ideal) x0 x1 x3 x5 x6) rfl rfl 32 rfl (ix3 n h ⟨l.val - 32, by omega⟩)
        (fun b => match b with | ⟨0, _⟩ => fun _ => rfl | ⟨1, _⟩ => fun _ => rfl | ⟨2, _⟩ => fun hb => absurd rfl hb)  (by show 32 + (l.val - 32) = l.val; omega)).trans ?_
    rw [val_main_v31_apply, val_main_v28_apply, val_main_v30_apply, s20, s21, t27, t29]
    have e : (⟨32 + (l.val - 32), by omega⟩ : Fin 64) = l := Fin.ext (by show 32 + (l.val - 32) = l.val; omega)
    rw [e]
    rfl

/-- The turned columns. -/
theorem rotK (n : Fin 33280) (h : Fin 1) (l : Fin 64) : val_main_v65 (F := Ideal) x0 x5 x6 (ix3 n h l)
    = rot (fun l => val_main_v54 (F := Ideal) x0 (ix3 n h l)) (aT x5 n) (aT x6 n) l := by
  unfold val_main_v65 rot
  by_cases hl : l.val < 32
  · rw [dif_pos hl]
    refine (concatenate_apply_piece (α := EReal) (t := S33280x1x64) 2 [⟨S33280x1x32, val_main_v61 (F := Ideal) x0 x5 x6⟩, ⟨S33280x1x32, val_main_v64 (F := Ideal) x0 x5 x6⟩] concatenates_S33280x1x32_S33280x1x32_S33280x1x64_d2 (ix3 n h l) 0 (by show 0 < 2; omega) S33280x1x32 (val_main_v61 (F := Ideal) x0 x5 x6) rfl rfl 0 rfl (ix3 n h ⟨l.val, hl⟩)
        (fun b => match b with | ⟨0, _⟩ => fun _ => rfl | ⟨1, _⟩ => fun _ => rfl | ⟨2, _⟩ => fun hb => absurd rfl hb)  (Nat.zero_add _)).trans ?_
    rw [val_main_v61_apply, val_main_v59_apply, val_main_v60_apply, s57, s58, t55, t56]
    rfl
  · rw [dif_neg hl]
    refine (concatenate_apply_piece (α := EReal) (t := S33280x1x64) 2 [⟨S33280x1x32, val_main_v61 (F := Ideal) x0 x5 x6⟩, ⟨S33280x1x32, val_main_v64 (F := Ideal) x0 x5 x6⟩] concatenates_S33280x1x32_S33280x1x32_S33280x1x64_d2 (ix3 n h l) 1 (by show 1 < 2; omega) S33280x1x32 (val_main_v64 (F := Ideal) x0 x5 x6) rfl rfl 32 rfl (ix3 n h ⟨l.val - 32, by omega⟩)
        (fun b => match b with | ⟨0, _⟩ => fun _ => rfl | ⟨1, _⟩ => fun _ => rfl | ⟨2, _⟩ => fun hb => absurd rfl hb)  (by show 32 + (l.val - 32) = l.val; omega)).trans ?_
    rw [val_main_v64_apply, val_main_v62_apply, val_main_v63_apply, s57, s58, t56, t55]
    have e : (⟨32 + (l.val - 32), by omega⟩ : Fin 64) = l := Fin.ext (by show 32 + (l.val - 32) = l.val; omega)
    rw [e]
    rfl

/-- A query. -/
theorem queryAt (n : Fin 33280) (h : Fin 4) (d : Fin 256) : val_main_v36 (F := Ideal) x0 x1 x3 x5 x6 (ix3 n h d)
    = query (aP x0) (aqw x1) (aWq x3) (aT x5) (aT x6) n h d := by
  rw [val_main_v36_apply, val_main_v35_apply, val_main_cst_3_apply]
  unfold query
  refine congrArg (fun s : EReal => s * scale) ?_
  unfold val_main_v34
  by_cases h1 : d.val < 128
  · rw [dif_pos h1]
    exact (concatenate_apply_piece (α := EReal) (t := S33280x4x256) 2 [⟨S33280x4x128, val_main_v16 (F := Ideal) x0 x1 x3⟩, ⟨S33280x4x64, val_main_v32 (F := Ideal) x0 x1 x3 x5 x6⟩, ⟨S33280x4x64, val_main_v33 (F := Ideal)⟩] concatenates_S33280x4x128_S33280x4x64_S33280x4x64_S33280x4x256_d2 (ix3 n h d) 0 (by show 0 < 3; omega) S33280x4x128 (val_main_v16 (F := Ideal) x0 x1 x3) rfl rfl 0 rfl (ix3 n h ⟨d.val, h1⟩)
        (fun b => match b with | ⟨0, _⟩ => fun _ => rfl | ⟨1, _⟩ => fun _ => rfl | ⟨2, _⟩ => fun hb => absurd rfl hb)  (Nat.zero_add _)).trans (qLo x0 x1 x3 n h _)
  · rw [dif_neg h1]
    by_cases h2 : d.val < 192
    · rw [dif_pos h2]
      refine (concatenate_apply_piece (α := EReal) (t := S33280x4x256) 2 [⟨S33280x4x128, val_main_v16 (F := Ideal) x0 x1 x3⟩, ⟨S33280x4x64, val_main_v32 (F := Ideal) x0 x1 x3 x5 x6⟩, ⟨S33280x4x64, val_main_v33 (F := Ideal)⟩] concatenates_S33280x4x128_S33280x4x64_S33280x4x64_S33280x4x256_d2 (ix3 n h d) 1 (by show 1 < 3; omega) S33280x4x64 (val_main_v32 (F := Ideal) x0 x1 x3 x5 x6) rfl rfl 128 rfl (ix3 n h ⟨d.val - 128, by omega⟩)
        (fun b => match b with | ⟨0, _⟩ => fun _ => rfl | ⟨1, _⟩ => fun _ => rfl | ⟨2, _⟩ => fun hb => absurd rfl hb)  (by show 128 + (d.val - 128) = d.val; omega)).trans ?_
      rw [rotQ]
      simp only [qHi]
    · rw [dif_neg h2]
      refine (concatenate_apply_piece (α := EReal) (t := S33280x4x256) 2 [⟨S33280x4x128, val_main_v16 (F := Ideal) x0 x1 x3⟩, ⟨S33280x4x64, val_main_v32 (F := Ideal) x0 x1 x3 x5 x6⟩, ⟨S33280x4x64, val_main_v33 (F := Ideal)⟩] concatenates_S33280x4x128_S33280x4x64_S33280x4x64_S33280x4x256_d2 (ix3 n h d) 2 (by show 2 < 3; omega) S33280x4x64 (val_main_v33 (F := Ideal)) rfl rfl 192 rfl (ix3 n h ⟨d.val - 192, by omega⟩)
        (fun b => match b with | ⟨0, _⟩ => fun _ => rfl | ⟨1, _⟩ => fun _ => rfl | ⟨2, _⟩ => fun hb => absurd rfl hb)  (by show 192 + (d.val - 192) = d.val; omega)).trans ?_
      rw [val_main_v33_apply, val_main_cst_2_apply]
      exact Ideal.ofBits_zero_f32

theorem k54 (n : Fin 33280) (l : Fin 64) : val_main_v54 (F := Ideal) x0 (ix3 n 0 l) = aP x0 n (cr ⟨l.val, by omega⟩) := by
  rw [val_main_v54_apply, val_main_v53_apply]
  refine congrArg x0 (funext fun a => Fin.ext ?_)
  match a with
  | ⟨0, _⟩ => show ((n.val * 1 + 0) * 64 + l.val) / 64 = n.val; omega
  | ⟨1, _⟩ => show 3584 + ((n.val * 1 + 0) * 64 + l.val) % 64 = 3584 + (l.val); omega

theorem k67 (n : Fin 33280) (l : Fin 64) : val_main_v67 (F := Ideal) x0 (ix3 n 0 l) = aP x0 n (cr ⟨64 + l.val, by omega⟩) := by
  rw [val_main_v67_apply, val_main_v66_apply]
  refine congrArg x0 (funext fun a => Fin.ext ?_)
  match a with
  | ⟨0, _⟩ => show ((n.val * 1 + 0) * 64 + l.val) / 64 = n.val; omega
  | ⟨1, _⟩ => show 3648 + ((n.val * 1 + 0) * 64 + l.val) % 64 = 3584 + (64 + l.val); omega

/-- The part of the key every head shares. -/
theorem sharedAt (n : Fin 33280) (l : Fin 128) : val_main_v68 (F := Ideal) x0 x5 x6 (ix3 n 0 l) = shared (aP x0) (aT x5) (aT x6) n l := by
  unfold val_main_v68 shared
  by_cases hl : l.val < 64
  · rw [dif_pos hl]
    refine (concatenate_apply_piece (α := EReal) (t := S33280x1x128) 2 [⟨S33280x1x64, val_main_v65 (F := Ideal) x0 x5 x6⟩, ⟨S33280x1x64, val_main_v67 (F := Ideal) x0⟩] concatenates_S33280x1x64_S33280x1x64_S33280x1x128_d2 (ix3 n 0 l) 0 (by show 0 < 2; omega) S33280x1x64 (val_main_v65 (F := Ideal) x0 x5 x6) rfl rfl 0 rfl (ix3 n 0 ⟨l.val, hl⟩)
        (fun b => match b with | ⟨0, _⟩ => fun _ => rfl | ⟨1, _⟩ => fun _ => rfl | ⟨2, _⟩ => fun hb => absurd rfl hb)  (Nat.zero_add _)).trans ?_
    rw [rotK]
    simp only [k54]
  · rw [dif_neg hl]
    refine (concatenate_apply_piece (α := EReal) (t := S33280x1x128) 2 [⟨S33280x1x64, val_main_v65 (F := Ideal) x0 x5 x6⟩, ⟨S33280x1x64, val_main_v67 (F := Ideal) x0⟩] concatenates_S33280x1x64_S33280x1x64_S33280x1x128_d2 (ix3 n 0 l) 1 (by show 1 < 2; omega) S33280x1x64 (val_main_v67 (F := Ideal) x0) rfl rfl 64 rfl (ix3 n 0 ⟨l.val - 64, by omega⟩)
        (fun b => match b with | ⟨0, _⟩ => fun _ => rfl | ⟨1, _⟩ => fun _ => rfl | ⟨2, _⟩ => fun hb => absurd rfl hb)  (by show 64 + (l.val - 64) = l.val; omega)).trans ?_
    rw [k67]
    exact congrArg (fun k => aP x0 n (cr k)) (Fin.ext (by show 64 + (l.val - 64) = l.val; omega))

theorem s70 (n : Fin 33280) (h : Fin 4) (l : Fin 128) : val_main_v70 (F := Ideal) x0 x5 x6 (ix3 n h l) = shared (aP x0) (aT x5) (aT x6) n l := by
  rw [val_main_v70_apply]
  refine Eq.trans (congrArg _ (funext fun a => ?_)) (sharedAt x0 x5 x6 n l)
  match a with
  | ⟨0, _⟩ => rfl
  | ⟨1, _⟩ => rfl
  | ⟨2, _⟩ => rfl

/-- A key. -/
theorem keyAt (n : Fin 33280) (h : Fin 4) (d : Fin 256) : val_main_v71 (F := Ideal) x0 x2 x4 x5 x6 (ix3 n h d)
    = key (aP x0) (akw x2) (aWk x4) (aT x5) (aT x6) n h d := by
  unfold val_main_v71 key
  by_cases h1 : d.val < 128
  · rw [dif_pos h1]
    exact (concatenate_apply_piece (α := EReal) (t := S33280x4x256) 2 [⟨S33280x4x128, val_main_v69 (F := Ideal) x0 x2 x4⟩, ⟨S33280x4x128, val_main_v70 (F := Ideal) x0 x5 x6⟩] concatenates_S33280x4x128_S33280x4x128_S33280x4x256_d2 (ix3 n h d) 0 (by show 0 < 2; omega) S33280x4x128 (val_main_v69 (F := Ideal) x0 x2 x4) rfl rfl 0 rfl (ix3 n h ⟨d.val, h1⟩)
        (fun b => match b with | ⟨0, _⟩ => fun _ => rfl | ⟨1, _⟩ => fun _ => rfl | ⟨2, _⟩ => fun hb => absurd rfl hb)  (Nat.zero_add _)).trans (kLo x0 x2 x4 n h _)
  · rw [dif_neg h1]
    exact (concatenate_apply_piece (α := EReal) (t := S33280x4x256) 2 [⟨S33280x4x128, val_main_v69 (F := Ideal) x0 x2 x4⟩, ⟨S33280x4x128, val_main_v70 (F := Ideal) x0 x5 x6⟩] concatenates_S33280x4x128_S33280x4x128_S33280x4x256_d2 (ix3 n h d) 1 (by show 1 < 2; omega) S33280x4x128 (val_main_v70 (F := Ideal) x0 x5 x6) rfl rfl 128 rfl (ix3 n h ⟨d.val - 128, by omega⟩)
        (fun b => match b with | ⟨0, _⟩ => fun _ => rfl | ⟨1, _⟩ => fun _ => rfl | ⟨2, _⟩ => fun hb => absurd rfl hb)  (by show 128 + (d.val - 128) = d.val; omega)).trans (s70 x0 x5 x6 n h _)

/-- A value. -/
theorem valueAt (n : Fin 33280) (h : Fin 4) (d : Fin 144) : val_main_v75 (F := Ideal) x0 x2 x4 (ix3 n h d)
    = value (aP x0) (akw x2) (aWk x4) n h d := by
  unfold val_main_v75 value
  by_cases h1 : d.val < 128
  · rw [dif_pos h1]
    exact (concatenate_apply_piece (α := EReal) (t := S33280x4x144) 2 [⟨S33280x4x128, val_main_v72 (F := Ideal) x0 x2 x4⟩, ⟨S33280x4x1, val_main_v73 (F := Ideal)⟩, ⟨S33280x4x15, val_main_v74 (F := Ideal)⟩] concatenates_S33280x4x128_S33280x4x1_S33280x4x15_S33280x4x144_d2 (ix3 n h d) 0 (by show 0 < 3; omega) S33280x4x128 (val_main_v72 (F := Ideal) x0 x2 x4) rfl rfl 0 rfl (ix3 n h ⟨d.val, h1⟩)
        (fun b => match b with | ⟨0, _⟩ => fun _ => rfl | ⟨1, _⟩ => fun _ => rfl | ⟨2, _⟩ => fun hb => absurd rfl hb)  (Nat.zero_add _)).trans (kHi x0 x2 x4 n h _)
  · rw [dif_neg h1]
    by_cases h2 : d.val = 128
    · rw [if_pos h2]
      refine (concatenate_apply_piece (α := EReal) (t := S33280x4x144) 2 [⟨S33280x4x128, val_main_v72 (F := Ideal) x0 x2 x4⟩, ⟨S33280x4x1, val_main_v73 (F := Ideal)⟩, ⟨S33280x4x15, val_main_v74 (F := Ideal)⟩] concatenates_S33280x4x128_S33280x4x1_S33280x4x15_S33280x4x144_d2 (ix3 n h d) 1 (by show 1 < 3; omega) S33280x4x1 (val_main_v73 (F := Ideal)) rfl rfl 128 rfl (ix3 n h 0)
        (fun b => match b with | ⟨0, _⟩ => fun _ => rfl | ⟨1, _⟩ => fun _ => rfl | ⟨2, _⟩ => fun hb => absurd rfl hb)  (by show 128 + 0 = d.val; omega)).trans ?_
      rw [val_main_v73_apply, val_main_cst_7_apply]
      exact Ideal.ofBits_one_f32
    · rw [if_neg h2]
      refine (concatenate_apply_piece (α := EReal) (t := S33280x4x144) 2 [⟨S33280x4x128, val_main_v72 (F := Ideal) x0 x2 x4⟩, ⟨S33280x4x1, val_main_v73 (F := Ideal)⟩, ⟨S33280x4x15, val_main_v74 (F := Ideal)⟩] concatenates_S33280x4x128_S33280x4x1_S33280x4x15_S33280x4x144_d2 (ix3 n h d) 2 (by show 2 < 3; omega) S33280x4x15 (val_main_v74 (F := Ideal)) rfl rfl 129 rfl (ix3 n h ⟨d.val - 129, by omega⟩)
        (fun b => match b with | ⟨0, _⟩ => fun _ => rfl | ⟨1, _⟩ => fun _ => rfl | ⟨2, _⟩ => fun hb => absurd rfl hb)  (by show 129 + (d.val - 129) = d.val; omega)).trans ?_
      rw [val_main_v74_apply, val_main_cst_8_apply]
      exact Ideal.ofBits_zero_f32

/-- The queries' array. -/
theorem resultQ (n : Fin 33280) (j : Fin 1024) (h : Fin 4) (d : Fin 256) (e : j.val = h.val * 256 + d.val) :
    val_main_v77 (F := Ideal) x0 x1 x3 x5 x6 (ix2 n j) = query (aP x0) (aqw x1) (aWq x3) (aT x5) (aT x6) n h d := by
  rw [val_main_v77_apply]
  show val_main_v76 (F := Ideal) x0 x1 x3 x5 x6 (ix2 n j) = _
  rw [val_main_v76_apply]
  refine Eq.trans (congrArg _ (funext fun a => Fin.ext ?_)) (queryAt x0 x1 x3 x5 x6 n h d)
  match a with
  | ⟨0, _⟩ => show (n.val * 1024 + j.val) / 1024 = n.val; omega
  | ⟨1, _⟩ => show (n.val * 1024 + j.val) / 256 % 4 = h.val; omega
  | ⟨2, _⟩ => show (n.val * 1024 + j.val) % 256 = d.val; omega

theorem keys (n : Fin 33280) (j : Fin 1024) (h : Fin 4) (d : Fin 256) (e : j.val = h.val * 256 + d.val) :
    val_main_v78 (F := Ideal) x0 x2 x4 x5 x6 (ix2 n j) = key (aP x0) (akw x2) (aWk x4) (aT x5) (aT x6) n h d := by
  rw [val_main_v78_apply]
  refine Eq.trans (congrArg _ (funext fun a => Fin.ext ?_)) (keyAt x0 x2 x4 x5 x6 n h d)
  match a with
  | ⟨0, _⟩ => show (n.val * 1024 + j.val) / 1024 = n.val; omega
  | ⟨1, _⟩ => show (n.val * 1024 + j.val) / 256 % 4 = h.val; omega
  | ⟨2, _⟩ => show (n.val * 1024 + j.val) % 256 = d.val; omega

theorem values (n : Fin 33280) (j : Fin 576) (h : Fin 4) (d : Fin 144) (e : j.val = h.val * 144 + d.val) :
    val_main_v85 (F := Ideal) x0 x2 x4 (ix2 n j) = value (aP x0) (akw x2) (aWk x4) n h d := by
  rw [val_main_v85_apply]
  refine Eq.trans (congrArg _ (funext fun a => Fin.ext ?_)) (valueAt x0 x2 x4 n h d)
  match a with
  | ⟨0, _⟩ => show (n.val * 576 + j.val) / 576 = n.val; omega
  | ⟨1, _⟩ => show (n.val * 576 + j.val) / 144 % 4 = h.val; omega
  | ⟨2, _⟩ => show (n.val * 576 + j.val) % 144 = d.val; omega

/-- The rows in the two sequences' order. -/
theorem kSeq (s : Fin 33280) (j : Fin 1024) : val_main_v83 (F := Ideal) x0 x2 x4 x5 x6 (ix2 s j) = val_main_v78 (F := Ideal) x0 x2 x4 x5 x6 (ix2 (tokF s) j) := by
  unfold val_main_v83
  have hs := s.isLt
  by_cases h0 : s.val < 256
  · obtain ⟨q, hq⟩ : ∃ q : Fin 256, q.val = s.val - 0 := ⟨⟨s.val - 0, by omega⟩, rfl⟩
    refine (concatenate_apply_piece (α := EReal) (t := S33280x1024) 0 [⟨S256x1024, val_main_v79 (F := Ideal) x0 x2 x4 x5 x6⟩, ⟨S16384x1024, val_main_v80 (F := Ideal) x0 x2 x4 x5 x6⟩, ⟨S256x1024, val_main_v81 (F := Ideal) x0 x2 x4 x5 x6⟩, ⟨S16384x1024, val_main_v82 (F := Ideal) x0 x2 x4 x5 x6⟩] concatenates_S256x1024_S16384x1024_S256x1024_S16384x1024_S33280x1024_d0 (ix2 s j) 0 (by show 0 < 4; omega) S256x1024 (val_main_v79 (F := Ideal) x0 x2 x4 x5 x6) rfl rfl 0 rfl (ix2 q j)
        (fun b => match b with | ⟨0, _⟩ => fun hb => absurd rfl hb | ⟨1, _⟩ => fun _ => rfl)  (by show 0 + q.val = s.val; omega)).trans ?_
    rw [val_main_v79_apply]
    refine congrArg _ (funext fun a => Fin.ext ?_)
    match a with
    | ⟨0, _⟩ =>
      have e : tok s.val = 32768 + s.val := by
        unfold tok
        rw [if_pos h0]
      show 32768 + q.val = tok s.val
      omega
    | ⟨1, _⟩ => rfl
  · skip
    by_cases h1 : s.val < 16640
    · obtain ⟨q, hq⟩ : ∃ q : Fin 16384, q.val = s.val - 256 := ⟨⟨s.val - 256, by omega⟩, rfl⟩
      refine (concatenate_apply_piece (α := EReal) (t := S33280x1024) 0 [⟨S256x1024, val_main_v79 (F := Ideal) x0 x2 x4 x5 x6⟩, ⟨S16384x1024, val_main_v80 (F := Ideal) x0 x2 x4 x5 x6⟩, ⟨S256x1024, val_main_v81 (F := Ideal) x0 x2 x4 x5 x6⟩, ⟨S16384x1024, val_main_v82 (F := Ideal) x0 x2 x4 x5 x6⟩] concatenates_S256x1024_S16384x1024_S256x1024_S16384x1024_S33280x1024_d0 (ix2 s j) 1 (by show 1 < 4; omega) S16384x1024 (val_main_v80 (F := Ideal) x0 x2 x4 x5 x6) rfl rfl 256 rfl (ix2 q j)
        (fun b => match b with | ⟨0, _⟩ => fun hb => absurd rfl hb | ⟨1, _⟩ => fun _ => rfl)  (by show 256 + q.val = s.val; omega)).trans ?_
      rw [val_main_v80_apply]
      refine congrArg _ (funext fun a => Fin.ext ?_)
      match a with
      | ⟨0, _⟩ =>
        have e : tok s.val = s.val - 256 := by
          unfold tok
          rw [if_neg h0, if_pos h1]
        show q.val = tok s.val
        omega
      | ⟨1, _⟩ => rfl
    · skip
      by_cases h2 : s.val < 16896
      · obtain ⟨q, hq⟩ : ∃ q : Fin 256, q.val = s.val - 16640 := ⟨⟨s.val - 16640, by omega⟩, rfl⟩
        refine (concatenate_apply_piece (α := EReal) (t := S33280x1024) 0 [⟨S256x1024, val_main_v79 (F := Ideal) x0 x2 x4 x5 x6⟩, ⟨S16384x1024, val_main_v80 (F := Ideal) x0 x2 x4 x5 x6⟩, ⟨S256x1024, val_main_v81 (F := Ideal) x0 x2 x4 x5 x6⟩, ⟨S16384x1024, val_main_v82 (F := Ideal) x0 x2 x4 x5 x6⟩] concatenates_S256x1024_S16384x1024_S256x1024_S16384x1024_S33280x1024_d0 (ix2 s j) 2 (by show 2 < 4; omega) S256x1024 (val_main_v81 (F := Ideal) x0 x2 x4 x5 x6) rfl rfl 16640 rfl (ix2 q j)
        (fun b => match b with | ⟨0, _⟩ => fun hb => absurd rfl hb | ⟨1, _⟩ => fun _ => rfl)  (by show 16640 + q.val = s.val; omega)).trans ?_
        rw [val_main_v81_apply]
        refine congrArg _ (funext fun a => Fin.ext ?_)
        match a with
        | ⟨0, _⟩ =>
          have e : tok s.val = 16384 + s.val := by
            unfold tok
            rw [if_neg h0, if_neg h1, if_pos h2]
          show 33024 + q.val = tok s.val
          omega
        | ⟨1, _⟩ => rfl
      · obtain ⟨q, hq⟩ : ∃ q : Fin 16384, q.val = s.val - 16896 := ⟨⟨s.val - 16896, by omega⟩, rfl⟩
        refine (concatenate_apply_piece (α := EReal) (t := S33280x1024) 0 [⟨S256x1024, val_main_v79 (F := Ideal) x0 x2 x4 x5 x6⟩, ⟨S16384x1024, val_main_v80 (F := Ideal) x0 x2 x4 x5 x6⟩, ⟨S256x1024, val_main_v81 (F := Ideal) x0 x2 x4 x5 x6⟩, ⟨S16384x1024, val_main_v82 (F := Ideal) x0 x2 x4 x5 x6⟩] concatenates_S256x1024_S16384x1024_S256x1024_S16384x1024_S33280x1024_d0 (ix2 s j) 3 (by show 3 < 4; omega) S16384x1024 (val_main_v82 (F := Ideal) x0 x2 x4 x5 x6) rfl rfl 16896 rfl (ix2 q j)
        (fun b => match b with | ⟨0, _⟩ => fun hb => absurd rfl hb | ⟨1, _⟩ => fun _ => rfl)  (by show 16896 + q.val = s.val; omega)).trans ?_
        rw [val_main_v82_apply]
        refine congrArg _ (funext fun a => Fin.ext ?_)
        match a with
        | ⟨0, _⟩ =>
          have e : tok s.val = s.val - 512 := by
            unfold tok
            rw [if_neg h0, if_neg h1, if_neg h2]
          show 16384 + q.val = tok s.val
          omega
        | ⟨1, _⟩ => rfl

/-- The rows in the two sequences' order. -/
theorem vSeq (s : Fin 33280) (j : Fin 576) : val_main_v90 (F := Ideal) x0 x2 x4 (ix2 s j) = val_main_v85 (F := Ideal) x0 x2 x4 (ix2 (tokF s) j) := by
  unfold val_main_v90
  have hs := s.isLt
  by_cases h0 : s.val < 256
  · obtain ⟨q, hq⟩ : ∃ q : Fin 256, q.val = s.val - 0 := ⟨⟨s.val - 0, by omega⟩, rfl⟩
    refine (concatenate_apply_piece (α := EReal) (t := S33280x576) 0 [⟨S256x576, val_main_v86 (F := Ideal) x0 x2 x4⟩, ⟨S16384x576, val_main_v87 (F := Ideal) x0 x2 x4⟩, ⟨S256x576, val_main_v88 (F := Ideal) x0 x2 x4⟩, ⟨S16384x576, val_main_v89 (F := Ideal) x0 x2 x4⟩] concatenates_S256x576_S16384x576_S256x576_S16384x576_S33280x576_d0 (ix2 s j) 0 (by show 0 < 4; omega) S256x576 (val_main_v86 (F := Ideal) x0 x2 x4) rfl rfl 0 rfl (ix2 q j)
        (fun b => match b with | ⟨0, _⟩ => fun hb => absurd rfl hb | ⟨1, _⟩ => fun _ => rfl)  (by show 0 + q.val = s.val; omega)).trans ?_
    rw [val_main_v86_apply]
    refine congrArg _ (funext fun a => Fin.ext ?_)
    match a with
    | ⟨0, _⟩ =>
      have e : tok s.val = 32768 + s.val := by
        unfold tok
        rw [if_pos h0]
      show 32768 + q.val = tok s.val
      omega
    | ⟨1, _⟩ => rfl
  · skip
    by_cases h1 : s.val < 16640
    · obtain ⟨q, hq⟩ : ∃ q : Fin 16384, q.val = s.val - 256 := ⟨⟨s.val - 256, by omega⟩, rfl⟩
      refine (concatenate_apply_piece (α := EReal) (t := S33280x576) 0 [⟨S256x576, val_main_v86 (F := Ideal) x0 x2 x4⟩, ⟨S16384x576, val_main_v87 (F := Ideal) x0 x2 x4⟩, ⟨S256x576, val_main_v88 (F := Ideal) x0 x2 x4⟩, ⟨S16384x576, val_main_v89 (F := Ideal) x0 x2 x4⟩] concatenates_S256x576_S16384x576_S256x576_S16384x576_S33280x576_d0 (ix2 s j) 1 (by show 1 < 4; omega) S16384x576 (val_main_v87 (F := Ideal) x0 x2 x4) rfl rfl 256 rfl (ix2 q j)
        (fun b => match b with | ⟨0, _⟩ => fun hb => absurd rfl hb | ⟨1, _⟩ => fun _ => rfl)  (by show 256 + q.val = s.val; omega)).trans ?_
      rw [val_main_v87_apply]
      refine congrArg _ (funext fun a => Fin.ext ?_)
      match a with
      | ⟨0, _⟩ =>
        have e : tok s.val = s.val - 256 := by
          unfold tok
          rw [if_neg h0, if_pos h1]
        show q.val = tok s.val
        omega
      | ⟨1, _⟩ => rfl
    · skip
      by_cases h2 : s.val < 16896
      · obtain ⟨q, hq⟩ : ∃ q : Fin 256, q.val = s.val - 16640 := ⟨⟨s.val - 16640, by omega⟩, rfl⟩
        refine (concatenate_apply_piece (α := EReal) (t := S33280x576) 0 [⟨S256x576, val_main_v86 (F := Ideal) x0 x2 x4⟩, ⟨S16384x576, val_main_v87 (F := Ideal) x0 x2 x4⟩, ⟨S256x576, val_main_v88 (F := Ideal) x0 x2 x4⟩, ⟨S16384x576, val_main_v89 (F := Ideal) x0 x2 x4⟩] concatenates_S256x576_S16384x576_S256x576_S16384x576_S33280x576_d0 (ix2 s j) 2 (by show 2 < 4; omega) S256x576 (val_main_v88 (F := Ideal) x0 x2 x4) rfl rfl 16640 rfl (ix2 q j)
        (fun b => match b with | ⟨0, _⟩ => fun hb => absurd rfl hb | ⟨1, _⟩ => fun _ => rfl)  (by show 16640 + q.val = s.val; omega)).trans ?_
        rw [val_main_v88_apply]
        refine congrArg _ (funext fun a => Fin.ext ?_)
        match a with
        | ⟨0, _⟩ =>
          have e : tok s.val = 16384 + s.val := by
            unfold tok
            rw [if_neg h0, if_neg h1, if_pos h2]
          show 33024 + q.val = tok s.val
          omega
        | ⟨1, _⟩ => rfl
      · obtain ⟨q, hq⟩ : ∃ q : Fin 16384, q.val = s.val - 16896 := ⟨⟨s.val - 16896, by omega⟩, rfl⟩
        refine (concatenate_apply_piece (α := EReal) (t := S33280x576) 0 [⟨S256x576, val_main_v86 (F := Ideal) x0 x2 x4⟩, ⟨S16384x576, val_main_v87 (F := Ideal) x0 x2 x4⟩, ⟨S256x576, val_main_v88 (F := Ideal) x0 x2 x4⟩, ⟨S16384x576, val_main_v89 (F := Ideal) x0 x2 x4⟩] concatenates_S256x576_S16384x576_S256x576_S16384x576_S33280x576_d0 (ix2 s j) 3 (by show 3 < 4; omega) S16384x576 (val_main_v89 (F := Ideal) x0 x2 x4) rfl rfl 16896 rfl (ix2 q j)
        (fun b => match b with | ⟨0, _⟩ => fun hb => absurd rfl hb | ⟨1, _⟩ => fun _ => rfl)  (by show 16896 + q.val = s.val; omega)).trans ?_
        rw [val_main_v89_apply]
        refine congrArg _ (funext fun a => Fin.ext ?_)
        match a with
        | ⟨0, _⟩ =>
          have e : tok s.val = s.val - 512 := by
            unfold tok
            rw [if_neg h0, if_neg h1, if_neg h2]
          show 16384 + q.val = tok s.val
          omega
        | ⟨1, _⟩ => rfl

/-- The keys' array. -/
theorem resultK (s : Fin 33280) (j : Fin 1024) (h : Fin 4) (d : Fin 256) (e : j.val = h.val * 256 + d.val) :
    val_main_v84 (F := Ideal) x0 x2 x4 x5 x6 (ix2 s j) = key (aP x0) (akw x2) (aWk x4) (aT x5) (aT x6) (tokF s) h d := by
  rw [val_main_v84_apply]
  show val_main_v83 (F := Ideal) x0 x2 x4 x5 x6 (ix2 s j) = _
  rw [kSeq]
  exact keys x0 x2 x4 x5 x6 (tokF s) j h d e

/-- The values' array. -/
theorem resultV (j : Fin 576) (s : Fin 33280) (h : Fin 4) (d : Fin 144) (e : j.val = h.val * 144 + d.val) :
    val_main_v92 (F := Ideal) x0 x2 x4 (ix2 j s) = value (aP x0) (akw x2) (aWk x4) (tokF s) h d := by
  rw [val_main_v92_apply]
  show val_main_v91 (F := Ideal) x0 x2 x4 (ix2 j s) = _
  rw [val_main_v91_apply]
  refine Eq.trans (congrArg _ (funext fun a => ?_)) ((vSeq x0 x2 x4 s j).trans (values x0 x2 x4 (tokF s) j h d e))
  match a with
  | ⟨0, _⟩ => rfl
  | ⟨1, _⟩ => rfl

end Cert.Reference8Ideal.Prep

end
-- ==== Proof.M.Value.lean ====
module

public import proofs.«01_k».proof.Proof.M.Blocks
public import proofs.«01_k».proof.Proof.M.Ref

/-! The call that makes the latent attention's queries, keys and values: what each store leaves, and the three results. -/

@[expose] public section

set_option maxRecDepth 32768

noncomputable section

namespace Cert.Kernel8Ideal.Prep

open Idealize.ShloMosaic Idealize.ShloMosaic.TcCoe Idealize.ShloMosaic.Tactic Cert.Kernel8Ideal Cert.Kernel8Ideal.Gen
open Cert.Prep Cert.Reference8Ideal.Prep
open scoped BigOperators

variable (m : (ℓ : Loc nD τ sig) → Buf (Elt Ideal) ℓ)

/-- What device `c`'s results are shown to hold. -/
abbrev wantQ (c : Dev nD) : Buf (Elt Ideal) ((c : Thread nD τ).loc main_v21_0) := Cert.Reference8Ideal.Read.val_main_v77 (F := Ideal) (m ((c : Thread nD τ).loc main_arg0)) (m ((c : Thread nD τ).loc main_arg1)) (m ((c : Thread nD τ).loc main_arg3)) (m ((c : Thread nD τ).loc main_arg5)) (m ((c : Thread nD τ).loc main_arg6))
abbrev wantK (c : Dev nD) : Buf (Elt Ideal) ((c : Thread nD τ).loc main_v21_1) := Cert.Reference8Ideal.Read.val_main_v84 (F := Ideal) (m ((c : Thread nD τ).loc main_arg0)) (m ((c : Thread nD τ).loc main_arg2)) (m ((c : Thread nD τ).loc main_arg4)) (m ((c : Thread nD τ).loc main_arg5)) (m ((c : Thread nD τ).loc main_arg6))
abbrev wantV (c : Dev nD) : Buf (Elt Ideal) ((c : Thread nD τ).loc main_v21_2) := Cert.Reference8Ideal.Read.val_main_v92 (F := Ideal) (m ((c : Thread nD τ).loc main_arg0)) (m ((c : Thread nD τ).loc main_arg2)) (m ((c : Thread nD τ).loc main_arg4))

abbrev qm (c : Dev nD) (n : Fin 33280) (j : Fin 768) : EReal := qrow (aP (m ((c : Thread nD τ).loc main_arg0))) (aqw (m ((c : Thread nD τ).loc main_arg1))) (aWq (m ((c : Thread nD τ).loc main_arg3))) n j
abbrev km (c : Dev nD) (n : Fin 33280) (j : Fin 1024) : EReal := kvrow (aP (m ((c : Thread nD τ).loc main_arg0))) (akw (m ((c : Thread nD τ).loc main_arg2))) (aWk (m ((c : Thread nD τ).loc main_arg4))) n j
abbrev qv (c : Dev nD) (n : Fin 33280) (h : Fin 4) (d : Fin 256) : EReal := query (aP (m ((c : Thread nD τ).loc main_arg0))) (aqw (m ((c : Thread nD τ).loc main_arg1))) (aWq (m ((c : Thread nD τ).loc main_arg3))) (aT (m ((c : Thread nD τ).loc main_arg5))) (aT (m ((c : Thread nD τ).loc main_arg6))) n h d
abbrev kv (c : Dev nD) (n : Fin 33280) (h : Fin 4) (d : Fin 256) : EReal := key (aP (m ((c : Thread nD τ).loc main_arg0))) (akw (m ((c : Thread nD τ).loc main_arg2))) (aWk (m ((c : Thread nD τ).loc main_arg4))) (aT (m ((c : Thread nD τ).loc main_arg5))) (aT (m ((c : Thread nD τ).loc main_arg6))) n h d
abbrev vv (c : Dev nD) (n : Fin 33280) (h : Fin 4) (d : Fin 144) : EReal := value (aP (m ((c : Thread nD τ).loc main_arg0))) (akw (m ((c : Thread nD τ).loc main_arg2))) (aWk (m ((c : Thread nD τ).loc main_arg4))) n h d

/-- The point's products. -/
abbrev Qb (c : Dev nD) (t : Fin cfg0.N) : FVec Ideal S256x1024 .f32 := k0_pay4 (iblk m c 0 t) (iblk m c 3 t) (iblk m c 5 t)
abbrev Kb (c : Dev nD) (t : Fin cfg0.N) : FVec Ideal S256x512 .f32 := k0_pay6 (iblk m c 1 t) (iblk m c 4 t) (iblk m c 6 t)

theorem Q_lo (c : Dev nD) (t : Fin cfg0.N) (r : Fin 256) (j : Fin 1024) (h : Fin 4) (l : Fin 192) (e : j.val = h.val * 256 + l.val) :
    Qb m c t (ix2 r j) = qm m c (row t r) (hq h l) := by
  refine (pay4_apply _ _ _ r j).trans ?_
  simp only [blk0, blk3, blk5_lo m c t _ j h l e]
  rfl

theorem Q_hi (c : Dev nD) (t : Fin cfg0.N) (r : Fin 256) (j : Fin 1024) (h : Fin 4) (l : Fin 64) (e : j.val = h.val * 256 + (192 + l.val)) :
    Qb m c t (ix2 r j) = (0 : EReal) := by
  refine (pay4_apply _ _ _ r j).trans ?_
  refine Finset.sum_eq_zero fun k _ => ?_
  rw [blk5_hi m c t k j h l e]
  exact mul_zero _

theorem K_at (c : Dev nD) (t : Fin cfg0.N) (r : Fin 256) (j : Fin 512) (h : Fin 4) (l : Fin 128) (e : j.val = h.val * 128 + l.val) :
    Kb m c t (ix2 r j) = km m c (row t r) (hk h ⟨0 + l.val, by omega⟩) := by
  refine (pay6_apply _ _ _ r j).trans ?_
  simp only [blk1, blk4, blk6 m c t _ j h l e]
  rfl

theorem V_at (c : Dev nD) (t : Fin cfg0.N) (r : Fin 256) (j : Fin 512) (h : Fin 4) (l : Fin 128) (e : j.val = h.val * 128 + l.val) :
    k0_pay7 (k0_pay5 (iblk m c 1 t) (iblk m c 4 t)) (iblk m c 7 t) (ix2 j r) = km m c (row t r) (hk h ⟨128 + l.val, by omega⟩) := by
  refine (pay7_apply _ _ _ j r).trans ?_
  simp only [blk1, blk4, blk7 m c t _ j h l e]
  rfl

/-- A head's plain columns. -/
theorem plainQ (c : Dev nD) (t : Fin cfg0.N) (r : Fin 256) (l : Fin 128) (j : Fin 1024) (h : Fin 4) (e : j.val = h.val * 256 + l.val) :
    (Qb m c t (ix2 r j) : EReal) * scale = qv m c (row t r) h ⟨l.val, by omega⟩ := by
  rw [Q_lo m c t r j h ⟨l.val, by omega⟩ e]
  unfold qv query
  rw [dif_pos (show l.val < 128 from l.isLt)]

/-- A head's turned columns. -/
theorem turnedQ (c : Dev nD) (t : Fin cfg0.N) (r : Fin 256) (l : Fin 128) (off : ℕ) (h : Fin 4) (e : off = h.val * 256 + 128)
    (b : ∀ l : Fin 128, off + l.val < 1024) :
    ((Qb m c t (ix2 r ⟨off + l.val, b l⟩) : EReal) * (iblk m c 8 t) (ix2 r l) + Qb m c t (ix2 r ⟨off + (fwd l).val, b (fwd l)⟩) * (iblk m c 9 t) (ix2 r l)
      + Qb m c t (ix2 r ⟨off + (bwd l).val, b (bwd l)⟩) * (iblk m c 10 t) (ix2 r l)) * scale = qv m c (row t r) h ⟨128 + l.val, by omega⟩ := by
  rw [blk8, blk9, blk10]
  refine congrArg (fun s : EReal => s * scale) ?_
  show turned (fun l => Qb m c t (ix2 r ⟨off + l.val, b l⟩)) (aT (m ((c : Thread nD τ).loc main_arg5)) (row t r)) (aT (m ((c : Thread nD τ).loc main_arg6)) (row t r)) l = _
  rw [dif_neg (show ¬128 + l.val < 128 by omega)]
  by_cases hl : l.val < 64
  · rw [turned_lo _ _ _ l hl, dif_pos (show 128 + l.val < 192 by omega)]
    have e1 : (fun l : Fin 64 => (Qb m c t (ix2 r ⟨off + l.val, b ⟨l.val, by omega⟩⟩) : EReal)) = fun l : Fin 64 => qm m c (row t r) (hq h ⟨128 + l.val, by omega⟩) :=
      funext fun l => Q_lo m c t r _ h ⟨128 + l.val, by omega⟩ (by show off + l.val = h.val * 256 + (128 + l.val); omega)
    refine (congrArg (fun v : Fin 64 → EReal => rot v (aT (m ((c : Thread nD τ).loc main_arg5)) (row t r)) (aT (m ((c : Thread nD τ).loc main_arg6)) (row t r)) ⟨l.val, hl⟩) e1).trans ?_
    exact congrArg (rot _ _ _) (Fin.ext (by show l.val = 128 + l.val - 128; omega))
  · rw [turned_hi _ _ _ l hl, dif_neg (show ¬128 + l.val < 192 by omega)]
    exact Q_hi m c t r _ h ⟨l.val - 64, by omega⟩ (by show off + l.val = h.val * 256 + (192 + (l.val - 64)); omega)

/-- The shared part of the key. -/
theorem sharedK (c : Dev nD) (t : Fin cfg0.N) (r : Fin 256) (l : Fin 128) :
    k0_pay16 (iblk m c 8 t) (iblk m c 9 t) (iblk m c 10 t) (iblk m c 2 t) (ix2 r l)
      = shared (aP (m ((c : Thread nD τ).loc main_arg0))) (aT (m ((c : Thread nD τ).loc main_arg5))) (aT (m ((c : Thread nD τ).loc main_arg6))) (row t r) l := by
  refine (pay16_apply _ _ _ _ r l).trans ?_
  simp only [blk2, blk8, blk9, blk10]
  show turned (fun l => aP (m ((c : Thread nD τ).loc main_arg0)) (row t r) (cr l)) (aT (m ((c : Thread nD τ).loc main_arg5)) (row t r)) (aT (m ((c : Thread nD τ).loc main_arg6)) (row t r)) l = _
  unfold shared
  by_cases hl : l.val < 64
  · rw [turned_lo _ _ _ l hl, dif_pos hl]
  · rw [turned_hi _ _ _ l hl, dif_neg hl]

/-- The store at column 0 of the queries. -/
theorem q0 (c : Dev nD) (t : Fin cfg0.N) (x : S256x128.Idx) (r : Fin 256) (j : Fin 1024) (er : r.val = (x 0 : ℕ)) (ej : j.val = 0 + (x 1 : ℕ)) :
    k0_pay17 (Qb m c t) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 0 + q.val := ej
  obtain rfl : p = r := Fin.ext er.symm

  refine ((pay17_apply (Qb m c t) p q).trans ?_)
  refine (plainQ m c t p q _ 0 (by show 0 + q.val = 0 * 256 + q.val; omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 0 ⟨q.val, by omega⟩ (by show j.val = 0 * 256 + q.val; omega)).symm

/-- The store at column 256 of the queries. -/
theorem q256 (c : Dev nD) (t : Fin cfg0.N) (x : S256x128.Idx) (r : Fin 256) (j : Fin 1024) (er : r.val = (x 0 : ℕ)) (ej : j.val = 256 + (x 1 : ℕ)) :
    k0_pay20 (Qb m c t) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 256 + q.val := ej
  obtain rfl : p = r := Fin.ext er.symm

  refine ((pay20_apply (Qb m c t) p q).trans ?_)
  refine (plainQ m c t p q _ 1 (by show 256 + q.val = 1 * 256 + q.val; omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 1 ⟨q.val, by omega⟩ (by show j.val = 1 * 256 + q.val; omega)).symm

/-- The store at column 512 of the queries. -/
theorem q512 (c : Dev nD) (t : Fin cfg0.N) (x : S256x128.Idx) (r : Fin 256) (j : Fin 1024) (er : r.val = (x 0 : ℕ)) (ej : j.val = 512 + (x 1 : ℕ)) :
    k0_pay23 (Qb m c t) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 512 + q.val := ej
  obtain rfl : p = r := Fin.ext er.symm

  refine ((pay23_apply (Qb m c t) p q).trans ?_)
  refine (plainQ m c t p q _ 2 (by show 512 + q.val = 2 * 256 + q.val; omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 2 ⟨q.val, by omega⟩ (by show j.val = 2 * 256 + q.val; omega)).symm

/-- The store at column 768 of the queries. -/
theorem q768 (c : Dev nD) (t : Fin cfg0.N) (x : S256x128.Idx) (r : Fin 256) (j : Fin 1024) (er : r.val = (x 0 : ℕ)) (ej : j.val = 768 + (x 1 : ℕ)) :
    k0_pay1 (Qb m c t) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 768 + q.val := ej
  obtain rfl : p = r := Fin.ext er.symm

  refine ((pay1_apply (Qb m c t) p q).trans ?_)
  refine (plainQ m c t p q _ 3 (by show 768 + q.val = 3 * 256 + q.val; omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 3 ⟨q.val, by omega⟩ (by show j.val = 3 * 256 + q.val; omega)).symm

/-- The store at column 128 of the queries. -/
theorem q128 (c : Dev nD) (t : Fin cfg0.N) (x : S256x128.Idx) (r : Fin 256) (j : Fin 1024) (er : r.val = (x 0 : ℕ)) (ej : j.val = 128 + (x 1 : ℕ)) :
    k0_pay18 (Qb m c t) (k0_pay13 (iblk m c 8 t)) (k0_pay14 (iblk m c 9 t)) (iblk m c 10 t) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 128 + q.val := ej
  obtain rfl : p = r := Fin.ext er.symm

  rw [pay13_apply, pay14_apply]
  refine ((pay18_apply (Qb m c t) _ _ _ p q).trans ?_)
  refine (turnedQ m c t p q 128 0 (by decide) (fun l => by omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 0 ⟨128 + q.val, by omega⟩ (by show j.val = 0 * 256 + (128 + q.val); omega)).symm

/-- The store at column 384 of the queries. -/
theorem q384 (c : Dev nD) (t : Fin cfg0.N) (x : S256x128.Idx) (r : Fin 256) (j : Fin 1024) (er : r.val = (x 0 : ℕ)) (ej : j.val = 384 + (x 1 : ℕ)) :
    k0_pay21 (Qb m c t) (k0_pay13 (iblk m c 8 t)) (k0_pay14 (iblk m c 9 t)) (k0_pay15 (iblk m c 10 t)) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 384 + q.val := ej
  obtain rfl : p = r := Fin.ext er.symm

  rw [pay13_apply, pay14_apply, pay15_apply]
  refine ((pay21_apply (Qb m c t) _ _ _ p q).trans ?_)
  refine (turnedQ m c t p q 384 1 (by decide) (fun l => by omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 1 ⟨128 + q.val, by omega⟩ (by show j.val = 1 * 256 + (128 + q.val); omega)).symm

/-- The store at column 640 of the queries. -/
theorem q640 (c : Dev nD) (t : Fin cfg0.N) (x : S256x128.Idx) (r : Fin 256) (j : Fin 1024) (er : r.val = (x 0 : ℕ)) (ej : j.val = 640 + (x 1 : ℕ)) :
    k0_pay24 (Qb m c t) (k0_pay13 (iblk m c 8 t)) (k0_pay14 (iblk m c 9 t)) (k0_pay15 (iblk m c 10 t)) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 640 + q.val := ej
  obtain rfl : p = r := Fin.ext er.symm

  rw [pay13_apply, pay14_apply, pay15_apply]
  refine ((pay24_apply (Qb m c t) _ _ _ p q).trans ?_)
  refine (turnedQ m c t p q 640 2 (by decide) (fun l => by omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 2 ⟨128 + q.val, by omega⟩ (by show j.val = 2 * 256 + (128 + q.val); omega)).symm

/-- The store at column 896 of the queries. -/
theorem q896 (c : Dev nD) (t : Fin cfg0.N) (x : S256x128.Idx) (r : Fin 256) (j : Fin 1024) (er : r.val = (x 0 : ℕ)) (ej : j.val = 896 + (x 1 : ℕ)) :
    k0_pay2 (Qb m c t) (k0_pay13 (iblk m c 8 t)) (k0_pay14 (iblk m c 9 t)) (k0_pay15 (iblk m c 10 t)) x = wantQ m c (ix2 (row t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 896 + q.val := ej
  obtain rfl : p = r := Fin.ext er.symm

  rw [pay13_apply, pay14_apply, pay15_apply]
  refine ((pay2_apply (Qb m c t) _ _ _ p q).trans ?_)
  refine (turnedQ m c t p q 896 3 (by decide) (fun l => by omega)).trans ?_
  exact (resultQ (m ((c : Thread nD τ).loc main_arg0)) (m ((c : Thread nD τ).loc main_arg1)) (m ((c : Thread nD τ).loc main_arg3)) (m ((c : Thread nD τ).loc main_arg5)) (m ((c : Thread nD τ).loc main_arg6)) (row t p) j 3 ⟨128 + q.val, by omega⟩ (by show j.val = 3 * 256 + (128 + q.val); omega)).symm

abbrev sh (c : Dev nD) (t : Fin cfg0.N) : FVec Ideal S256x128 .bf16 := k0_pay16 (k0_pay13 (iblk m c 8 t)) (k0_pay14 (iblk m c 9 t)) (iblk m c 10 t) (iblk m c 2 t)

/-- The stores at columns 0 and 128 of the keys. -/
theorem k0 (c : Dev nD) (t : Fin cfg0.N) (x : S256x128.Idx) (r : Fin 256) (j : Fin 1024) (er : r.val = (x 0 : ℕ)) (ej : j.val = 0 + (x 1 : ℕ)) :
    k0_pay19 (Kb m c t) x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 0 + q.val := ej
  obtain rfl : p = r := Fin.ext er.symm

  refine ((pay19_apply (Kb m c t) p q).trans ?_)
  refine (K_at m c t p _ 0 q (by show 0 + q.val = 0 * 128 + q.val; omega)).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 0 ⟨q.val, by omega⟩ (by show j.val = 0 * 256 + q.val; omega)).symm
  rw [tok_place]
  unfold key
  rw [dif_pos (show q.val < 128 from q.isLt)]
  exact congrArg (fun d => km m c (row t p) (hk 0 d)) (Fin.ext (by show 0 + q.val = q.val; omega))

theorem k128 (c : Dev nD) (t : Fin cfg0.N) (x : S256x128.Idx) (r : Fin 256) (j : Fin 1024) (er : r.val = (x 0 : ℕ)) (ej : j.val = 128 + (x 1 : ℕ)) :
    sh m c t x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 128 + q.val := ej
  obtain rfl : p = r := Fin.ext er.symm

  unfold sh
  rw [pay13_apply, pay14_apply]
  refine (sharedK m c t p q).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 0 ⟨128 + q.val, by omega⟩ (by show j.val = 0 * 256 + (128 + q.val); omega)).symm
  rw [tok_place]
  unfold key
  rw [dif_neg (show ¬128 + q.val < 128 by omega)]
  exact congrArg (shared _ _ _ (row t p)) (Fin.ext (by show q.val = 128 + q.val - 128; omega))

/-- The stores at columns 256 and 384 of the keys. -/
theorem k256 (c : Dev nD) (t : Fin cfg0.N) (x : S256x128.Idx) (r : Fin 256) (j : Fin 1024) (er : r.val = (x 0 : ℕ)) (ej : j.val = 256 + (x 1 : ℕ)) :
    k0_pay22 (Kb m c t) x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 256 + q.val := ej
  obtain rfl : p = r := Fin.ext er.symm

  refine ((pay22_apply (Kb m c t) p q).trans ?_)
  refine (K_at m c t p _ 1 q (by show 128 + q.val = 1 * 128 + q.val; omega)).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 1 ⟨q.val, by omega⟩ (by show j.val = 1 * 256 + q.val; omega)).symm
  rw [tok_place]
  unfold key
  rw [dif_pos (show q.val < 128 from q.isLt)]
  exact congrArg (fun d => km m c (row t p) (hk 1 d)) (Fin.ext (by show 0 + q.val = q.val; omega))

theorem k384 (c : Dev nD) (t : Fin cfg0.N) (x : S256x128.Idx) (r : Fin 256) (j : Fin 1024) (er : r.val = (x 0 : ℕ)) (ej : j.val = 384 + (x 1 : ℕ)) :
    sh m c t x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 384 + q.val := ej
  obtain rfl : p = r := Fin.ext er.symm

  unfold sh
  rw [pay13_apply, pay14_apply]
  refine (sharedK m c t p q).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 1 ⟨128 + q.val, by omega⟩ (by show j.val = 1 * 256 + (128 + q.val); omega)).symm
  rw [tok_place]
  unfold key
  rw [dif_neg (show ¬128 + q.val < 128 by omega)]
  exact congrArg (shared _ _ _ (row t p)) (Fin.ext (by show q.val = 128 + q.val - 128; omega))

/-- The stores at columns 512 and 640 of the keys. -/
theorem k512 (c : Dev nD) (t : Fin cfg0.N) (x : S256x128.Idx) (r : Fin 256) (j : Fin 1024) (er : r.val = (x 0 : ℕ)) (ej : j.val = 512 + (x 1 : ℕ)) :
    k0_pay25 (Kb m c t) x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 512 + q.val := ej
  obtain rfl : p = r := Fin.ext er.symm

  refine ((pay25_apply (Kb m c t) p q).trans ?_)
  refine (K_at m c t p _ 2 q (by show 256 + q.val = 2 * 128 + q.val; omega)).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 2 ⟨q.val, by omega⟩ (by show j.val = 2 * 256 + q.val; omega)).symm
  rw [tok_place]
  unfold key
  rw [dif_pos (show q.val < 128 from q.isLt)]
  exact congrArg (fun d => km m c (row t p) (hk 2 d)) (Fin.ext (by show 0 + q.val = q.val; omega))

theorem k640 (c : Dev nD) (t : Fin cfg0.N) (x : S256x128.Idx) (r : Fin 256) (j : Fin 1024) (er : r.val = (x 0 : ℕ)) (ej : j.val = 640 + (x 1 : ℕ)) :
    sh m c t x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 640 + q.val := ej
  obtain rfl : p = r := Fin.ext er.symm

  unfold sh
  rw [pay13_apply, pay14_apply]
  refine (sharedK m c t p q).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 2 ⟨128 + q.val, by omega⟩ (by show j.val = 2 * 256 + (128 + q.val); omega)).symm
  rw [tok_place]
  unfold key
  rw [dif_neg (show ¬128 + q.val < 128 by omega)]
  exact congrArg (shared _ _ _ (row t p)) (Fin.ext (by show q.val = 128 + q.val - 128; omega))

/-- The stores at columns 768 and 896 of the keys. -/
theorem k768 (c : Dev nD) (t : Fin cfg0.N) (x : S256x128.Idx) (r : Fin 256) (j : Fin 1024) (er : r.val = (x 0 : ℕ)) (ej : j.val = 768 + (x 1 : ℕ)) :
    k0_pay3 (Kb m c t) x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 768 + q.val := ej
  obtain rfl : p = r := Fin.ext er.symm

  refine ((pay3_apply (Kb m c t) p q).trans ?_)
  refine (K_at m c t p _ 3 q (by show 384 + q.val = 3 * 128 + q.val; omega)).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 3 ⟨q.val, by omega⟩ (by show j.val = 3 * 256 + q.val; omega)).symm
  rw [tok_place]
  unfold key
  rw [dif_pos (show q.val < 128 from q.isLt)]
  exact congrArg (fun d => km m c (row t p) (hk 3 d)) (Fin.ext (by show 0 + q.val = q.val; omega))

theorem k896 (c : Dev nD) (t : Fin cfg0.N) (x : S256x128.Idx) (r : Fin 256) (j : Fin 1024) (er : r.val = (x 0 : ℕ)) (ej : j.val = 896 + (x 1 : ℕ)) :
    sh m c t x = wantK m c (ix2 (place t r) j) := by
  obtain ⟨p, q, rfl⟩ : ∃ p q, x = ix2 p q := ⟨x 0, x 1, funext fun a => match a with
    | ⟨0, _⟩ => rfl
    | ⟨1, _⟩ => rfl⟩
  replace er : r.val = p.val := er
  replace ej : j.val = 896 + q.val := ej
  obtain rfl : p = r := Fin.ext er.symm

  unfold sh
  rw [pay13_apply, pay14_apply]
  refine (sharedK m c t p q).trans ?_
  refine Eq.trans ?_ (resultK (m ((c : Thread nD τ).loc main_arg0)) (m ((c : Thread nD τ).loc main_arg2)) (m ((c : Thread nD τ).loc main_arg4)) (m ((c : Thread nD τ).loc main_arg5)) (m ((c : Thread nD τ).loc main_arg6)) (place t p) j 3 ⟨128 + q.val, by omega⟩ (by show j.val = 3 * 256 + (128 + q.val); omega)).symm
  rw [tok_place]
  unfold key
  rw [dif_neg (show ¬128 + q.val < 128 by omega)]
  exact congrArg (shared _ _ _ (row t p)) (Fin.ext (by show q.val = 128 + q.val - 128; omega))

/-- The stores at rows 0 and 128 of the values. -/
theorem v0 (c : Dev nD) (t : Fin cfg0.N) (x : S128x256.Idx) (j : Fin 576) (r : Fin 256) (ej : j.val = 0 + (x 0 : ℕ)) (er : r.val = (x 1 : ℕ)) :
    k0_pay9 (k0_pay5 (iblk m c 1 t) (iblk m c 4 t)) (iblk m c 7 t) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 0 + p.val := ej
  obtain rfl : q = r := Fin.ext er.symm

  refine ((pay9_apply _ _ p q).trans ?_)
  refine (V_at m c t q _ 0 p (by show 0 + p.val = 0 * 128 + p.val; omega)).trans ?_
  refine Eq.trans ?_ (resultV (m ((c : Thread nD τ).loc main_arg0)) (m ((c : Thread nD τ).loc main_arg2)) (m ((c : Thread nD τ).loc main_arg4)) j (place t q) 0 ⟨p.val, by omega⟩ (by show j.val = 0 * 144 + p.val; omega)).symm
  rw [tok_place]
  unfold value
  rw [dif_pos (show p.val < 128 from p.isLt)]

theorem v128 (c : Dev nD) (t : Fin cfg0.N) (x : S16x256.Idx) (j : Fin 576) (r : Fin 256) (ej : j.val = 128 + (x 0 : ℕ)) (er : r.val = (x 1 : ℕ)) :
    k0_pay8 (F := Ideal) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 128 + p.val := ej
  obtain rfl : q = r := Fin.ext er.symm

  refine ((pay8_apply p q).trans ?_)
  refine Eq.trans ?_ (resultV (m ((c : Thread nD τ).loc main_arg0)) (m ((c : Thread nD τ).loc main_arg2)) (m ((c : Thread nD τ).loc main_arg4)) j (place t q) 0 ⟨128 + p.val, by omega⟩ (by show j.val = 0 * 144 + (128 + p.val); omega)).symm
  rw [tok_place]
  unfold value
  rw [dif_neg (show ¬128 + p.val < 128 by omega)]
  exact if_congr ⟨fun h => by show 128 + p.val = 128; omega, fun h => by have h' : 128 + p.val = 128 := h; omega⟩ rfl rfl

/-- The stores at rows 144 and 272 of the values. -/
theorem v144 (c : Dev nD) (t : Fin cfg0.N) (x : S128x256.Idx) (j : Fin 576) (r : Fin 256) (ej : j.val = 144 + (x 0 : ℕ)) (er : r.val = (x 1 : ℕ)) :
    k0_pay10 (k0_pay5 (iblk m c 1 t) (iblk m c 4 t)) (iblk m c 7 t) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 144 + p.val := ej
  obtain rfl : q = r := Fin.ext er.symm

  refine ((pay10_apply _ _ p q).trans ?_)
  refine (V_at m c t q _ 1 p (by show 128 + p.val = 1 * 128 + p.val; omega)).trans ?_
  refine Eq.trans ?_ (resultV (m ((c : Thread nD τ).loc main_arg0)) (m ((c : Thread nD τ).loc main_arg2)) (m ((c : Thread nD τ).loc main_arg4)) j (place t q) 1 ⟨p.val, by omega⟩ (by show j.val = 1 * 144 + p.val; omega)).symm
  rw [tok_place]
  unfold value
  rw [dif_pos (show p.val < 128 from p.isLt)]

theorem v272 (c : Dev nD) (t : Fin cfg0.N) (x : S16x256.Idx) (j : Fin 576) (r : Fin 256) (ej : j.val = 272 + (x 0 : ℕ)) (er : r.val = (x 1 : ℕ)) :
    k0_pay8 (F := Ideal) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 272 + p.val := ej
  obtain rfl : q = r := Fin.ext er.symm

  refine ((pay8_apply p q).trans ?_)
  refine Eq.trans ?_ (resultV (m ((c : Thread nD τ).loc main_arg0)) (m ((c : Thread nD τ).loc main_arg2)) (m ((c : Thread nD τ).loc main_arg4)) j (place t q) 1 ⟨128 + p.val, by omega⟩ (by show j.val = 1 * 144 + (128 + p.val); omega)).symm
  rw [tok_place]
  unfold value
  rw [dif_neg (show ¬128 + p.val < 128 by omega)]
  exact if_congr ⟨fun h => by show 128 + p.val = 128; omega, fun h => by have h' : 128 + p.val = 128 := h; omega⟩ rfl rfl

/-- The stores at rows 288 and 416 of the values. -/
theorem v288 (c : Dev nD) (t : Fin cfg0.N) (x : S128x256.Idx) (j : Fin 576) (r : Fin 256) (ej : j.val = 288 + (x 0 : ℕ)) (er : r.val = (x 1 : ℕ)) :
    k0_pay11 (k0_pay5 (iblk m c 1 t) (iblk m c 4 t)) (iblk m c 7 t) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 288 + p.val := ej
  obtain rfl : q = r := Fin.ext er.symm

  refine ((pay11_apply _ _ p q).trans ?_)
  refine (V_at m c t q _ 2 p (by show 256 + p.val = 2 * 128 + p.val; omega)).trans ?_
  refine Eq.trans ?_ (resultV (m ((c : Thread nD τ).loc main_arg0)) (m ((c : Thread nD τ).loc main_arg2)) (m ((c : Thread nD τ).loc main_arg4)) j (place t q) 2 ⟨p.val, by omega⟩ (by show j.val = 2 * 144 + p.val; omega)).symm
  rw [tok_place]
  unfold value
  rw [dif_pos (show p.val < 128 from p.isLt)]

theorem v416 (c : Dev nD) (t : Fin cfg0.N) (x : S16x256.Idx) (j : Fin 576) (r : Fin 256) (ej : j.val = 416 + (x 0 : ℕ)) (er : r.val = (x 1 : ℕ)) :
    k0_pay8 (F := Ideal) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 416 + p.val := ej
  obtain rfl : q = r := Fin.ext er.symm

  refine ((pay8_apply p q).trans ?_)
  refine Eq.trans ?_ (resultV (m ((c : Thread nD τ).loc main_arg0)) (m ((c : Thread nD τ).loc main_arg2)) (m ((c : Thread nD τ).loc main_arg4)) j (place t q) 2 ⟨128 + p.val, by omega⟩ (by show j.val = 2 * 144 + (128 + p.val); omega)).symm
  rw [tok_place]
  unfold value
  rw [dif_neg (show ¬128 + p.val < 128 by omega)]
  exact if_congr ⟨fun h => by show 128 + p.val = 128; omega, fun h => by have h' : 128 + p.val = 128 := h; omega⟩ rfl rfl

/-- The stores at rows 432 and 560 of the values. -/
theorem v432 (c : Dev nD) (t : Fin cfg0.N) (x : S128x256.Idx) (j : Fin 576) (r : Fin 256) (ej : j.val = 432 + (x 0 : ℕ)) (er : r.val = (x 1 : ℕ)) :
    k0_pay12 (k0_pay5 (iblk m c 1 t) (iblk m c 4 t)) (iblk m c 7 t) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 432 + p.val := ej
  obtain rfl : q = r := Fin.ext er.symm

  refine ((pay12_apply _ _ p q).trans ?_)
  refine (V_at m c t q _ 3 p (by show 384 + p.val = 3 * 128 + p.val; omega)).trans ?_
  refine Eq.trans ?_ (resultV (m ((c : Thread nD τ).loc main_arg0)) (m ((c : Thread nD τ).loc main_arg2)) (m ((c : Thread nD τ).loc main_arg4)) j (place t q) 3 ⟨p.val, by omega⟩ (by show j.val = 3 * 144 + p.val; omega)).symm
  rw [tok_place]
  unfold value
  rw [dif_pos (show p.val < 128 from p.isLt)]

theorem v560 (c : Dev nD) (t : Fin cfg0.N) (x : S16x256.Idx) (j : Fin 576) (r : Fin 256) (ej : j.val = 560 + (x 0 : ℕ)) (er : r.val = (x 1 : ℕ)) :
    k0_pay8 (F := Ideal) x = wantV m c (ix2 j (place t r)) := by
  obtain ⟨p, q, rfl⟩ : ∃ p q, x = ix2 p q := ⟨x 0, x 1, funext fun a => match a with
    | ⟨0, _⟩ => rfl
    | ⟨1, _⟩ => rfl⟩
  replace er : r.val = q.val := er
  replace ej : j.val = 560 + p.val := ej
  obtain rfl : q = r := Fin.ext er.symm

  refine ((pay8_apply p q).trans ?_)
  refine Eq.trans ?_ (resultV (m ((c : Thread nD τ).loc main_arg0)) (m ((c : Thread nD τ).loc main_arg2)) (m ((c : Thread nD τ).loc main_arg4)) j (place t q) 3 ⟨128 + p.val, by omega⟩ (by show j.val = 3 * 144 + (128 + p.val); omega)).symm
  rw [tok_place]
  unfold value
  rw [dif_neg (show ¬128 + p.val < 128 by omega)]
  exact if_congr ⟨fun h => by show 128 + p.val = 128; omega, fun h => by have h' : 128 + p.val = 128 := h; omega⟩ rfl rfl

/-- What a point leaves of result 0. -/
theorem done11 (c : Dev nD) (t : Fin cfg0.N) (y : S256x1024.Idx) : (outsAt0 m c t).1 y = wantQ m c (ix2 (row t (y 0)) (y 1)) := by
  unfold outsAt0
  dsimp only
  frame_out
  canon_tiles x h
  · exact q896 m c t x _ _ h0 h1
  · exact q768 m c t x _ _ h0 h1
  · exact q640 m c t x _ _ h0 h1
  · exact q512 m c t x _ _ h0 h1
  · exact q384 m c t x _ _ h0 h1
  · exact q256 m c t x _ _ h0 h1
  · exact q128 m c t x _ _ h0 h1
  · exact q0 m c t x _ _ h0 (h1.trans (Nat.zero_add _).symm)

/-- What a point leaves of result 1. -/
theorem done12 (c : Dev nD) (t : Fin cfg0.N) (y : S256x1024.Idx) : (outsAt0 m c t).2.1 y = wantK m c (ix2 (place t (y 0)) (y 1)) := by
  unfold outsAt0
  dsimp only
  frame_out
  canon_tiles x h
  · exact k896 m c t x _ _ h0 h1
  · exact k768 m c t x _ _ h0 h1
  · exact k640 m c t x _ _ h0 h1
  · exact k512 m c t x _ _ h0 h1
  · exact k384 m c t x _ _ h0 h1
  · exact k256 m c t x _ _ h0 h1
  · exact k128 m c t x _ _ h0 h1
  · exact k0 m c t x _ _ h0 (h1.trans (Nat.zero_add _).symm)

/-- What a point leaves of result 2. -/
theorem done13 (c : Dev nD) (t : Fin cfg0.N) (y : S576x256.Idx) : (outsAt0 m c t).2.2 y = wantV m c (ix2 (y 0) (place t (y 1))) := by
  unfold outsAt0
  dsimp only
  frame_out
  canon_tiles x h using View.cover_of_tiledBy _ ![16, 256] (by sl_kernel_rfl) y
  · exact v560 m c t x _ _ h0 h1
  · exact v432 m c t x _ _ h0 h1
  · exact v416 m c t x _ _ h0 h1
  · exact v288 m c t x _ _ h0 h1
  · exact v272 m c t x _ _ h0 h1
  · exact v144 m c t x _ _ h0 h1
  · exact v128 m c t x _ _ h0 h1
  · exact v0 m c t x _ _ (h0.trans (Nat.zero_add _).symm) h1

theorem point11 (c : Dev nD) (t : Fin cfg0.N) (y : S256x1024.Idx) (i : S33280x1024.Idx) (e0 : (i 0 : ℕ) = t.val * 256 + (y 0 : ℕ)) (e1 : (i 1 : ℕ) = (y 1 : ℕ)) :
    (outsAt0 m c t).1 y = wantQ m c i := by
  have ei : i = (ix2 (row t (y 0)) (y 1)) := funext fun a => match a with
    | ⟨0, _⟩ => Fin.ext e0
    | ⟨1, _⟩ => Fin.ext e1
  exact (done11 m c t y).trans (congrArg (wantQ m c) ei.symm)

theorem final11 (c : Dev nD) : (dats m 0 c).arrAt 11 cfg0.N = wantQ m c := by
  refine (dats m 0 c).arrAt_eq_of_covers 11 (wantQ m c) (by decide +kernel) fun t hf y => ?_
  blk_simp
  rw [after0_11]
  have h := idx11
  refine point11 m c t _ _ ?_ ?_ <;> blk_simp [h t] <;> first | rfl | omega

theorem point12 (c : Dev nD) (t : Fin cfg0.N) (y : S256x1024.Idx) (i : S33280x1024.Idx) (e0 : (i 0 : ℕ) = seqB t.val * 256 + (y 0 : ℕ)) (e1 : (i 1 : ℕ) = (y 1 : ℕ)) :
    (outsAt0 m c t).2.1 y = wantK m c i := by
  have ei : i = (ix2 (place t (y 0)) (y 1)) := funext fun a => match a with
    | ⟨0, _⟩ => Fin.ext e0
    | ⟨1, _⟩ => Fin.ext e1
  exact (done12 m c t y).trans (congrArg (wantK m c) ei.symm)

theorem final12 (c : Dev nD) : (dats m 0 c).arrAt 12 cfg0.N = wantK m c := by
  refine (dats m 0 c).arrAt_eq_of_covers 12 (wantK m c) (by decide +kernel) fun t hf y => ?_
  blk_simp
  rw [after0_12]
  have h := idx12
  refine point12 m c t _ _ ?_ ?_ <;> blk_simp [h t] <;> first | rfl | omega

theorem point13 (c : Dev nD) (t : Fin cfg0.N) (y : S576x256.Idx) (i : S576x33280.Idx) (e0 : (i 0 : ℕ) = (y 0 : ℕ)) (e1 : (i 1 : ℕ) = seqB t.val * 256 + (y 1 : ℕ)) :
    (outsAt0 m c t).2.2 y = wantV m c i := by
  have ei : i = (ix2 (y 0) (place t (y 1))) := funext fun a => match a with
    | ⟨0, _⟩ => Fin.ext e0
    | ⟨1, _⟩ => Fin.ext e1
  exact (done13 m c t y).trans (congrArg (wantV m c) ei.symm)

theorem final13 (c : Dev nD) : (dats m 0 c).arrAt 13 cfg0.N = wantV m c := by
  refine (dats m 0 c).arrAt_eq_of_covers 13 (wantV m c) (by decide +kernel) fun t hf y => ?_
  blk_simp
  rw [after0_13]
  have h := idx13
  refine point13 m c t _ _ ?_ ?_ <;> blk_simp [h t] <;> first | rfl | omega

/-- The result arrays after the launch. -/
theorem result (ρ : Dev nD → PrngReg) : θ_run defs (onTc (τ := τ) (main (F := Ideal))) ⟨m, fun _ => 0, ρ⟩ (fun r => ∀ c : Dev nD,
      r.2.mem ((c.tc : Thread nD τ).loc main_v21_0) = wantQ m c ∧ r.2.mem ((c.tc : Thread nD τ).loc main_v21_1) = wantK m c
      ∧ r.2.mem ((c.tc : Thread nD τ).loc main_v21_2) = wantV m c) := by
  refine (θ_run defs _ _).mono (fun r h c => ?_) (run_main m ρ)
  exact ⟨(h.out_eq c 11).trans (final11 m c), (h.out_eq c 12).trans (final12 m c), (h.out_eq c 13).trans (final13 m c)⟩

end Cert.Kernel8Ideal.Prep

end
-- ==== Proof.lean ====
module

public import proofs.«01_k».proof.Defs
public import proofs.«01_k».proof.Proof.K.Frame
public import proofs.«01_k».proof.Proof.A.Value
public import proofs.«01_k».proof.Proof.Gen.Kernel2.Frame
public import proofs.«01_k».proof.Proof.Gen.Kernel2Ideal.Frame
public import proofs.«01_k».proof.Proof.Gen.Reference2Ideal.Run
public import proofs.«01_k».proof.Proof.F.Value
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.G.Value
public import proofs.«01_k».proof.Proof.L.Frame
public import proofs.«01_k».proof.Proof.B.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.I.Value
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.O.Value
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.D.Value
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.M.Value
public import Idealize.ShloMosaic.Adequacy
public import Idealize.ShloMosaic.Init
public import Idealize.ShloMosaic.Lib.Quiescent

/-! The claims, put together. -/

@[expose] public section

noncomputable section

namespace Cert.Proof

open Idealize.ShloMosaic Idealize.SL.Sem

instance : Cert.Pre_finite_scores.Facts := Cert.ReferenceIdeal.Att.preFacts
instance : Cert.On_latent_rows.Facts := Cert.ReferenceIdeal.Att.onFacts

instance : Cert.Pre_finite_scores4.Facts := Cert.Reference4Ideal.Att.preFacts
instance : Cert.On_latent_rows4.Facts := Cert.Reference4Ideal.Att.onFacts

/-- The attention call ends, on the rows it writes, with the reference's result. -/
theorem attention : Cert.algebraic_KernelIdeal_ReferenceIdeal_on_latent_rows_pre_finite_scores := by
  intro m g m' g' hpre hagree
  refine ⟨fun c => Cert.KernelIdeal.Att.want m c, ?_, ?_⟩
  · refine (θ_run _ _ _).mono (fun r h c => ⟨fun i hi => ?_, h.2.1 c⟩)
      (θ_run_and (Cert.KernelIdeal.Att.result m g) (Cert.KernelIdeal.Att.quiet m g))
    obtain ⟨h0, h1, h2⟩ := Cert.ReferenceIdeal.Att.decode _ _ _ (hpre c)
    rw [h.1 c]
    exact Cert.KernelIdeal.Att.final m c h0 h1 h2 i (Cert.ReferenceIdeal.Att.masked _ _ _ i hi)
  · refine (θ_run _ _ _).mono (fun r h c => ⟨fun i hi => ?_, (h c).2⟩) (Cert.ReferenceIdeal.Value.run m' g')
    rw [(h c).1, (hagree c).1, (hagree c).2.1, (hagree c).2.2]
    exact congrFun (Cert.ReferenceIdeal.Read.val_main_v24_eq _ _ _) i

/-- The multi-head latent attention call ends, on the rows it writes, with the reference's result. -/
theorem latent_attention : Cert.algebraic_Kernel4Ideal_Reference4Ideal_on_latent_rows4_pre_finite_scores4 := by
  intro m g m' g' hpre hagree
  refine ⟨fun c => Cert.Kernel4Ideal.Att.want m c, ?_, ?_⟩
  · refine (θ_run _ _ _).mono (fun r h c => ⟨fun i hi => ?_, h.2.1 c⟩)
      (θ_run_and (Cert.Kernel4Ideal.Att.result m g) (Cert.Kernel4Ideal.Att.quiet m g))
    obtain ⟨h0, h1, h2⟩ := Cert.Reference4Ideal.Att.decode _ _ _ (hpre c)
    rw [h.1 c]
    exact Cert.Kernel4Ideal.Att.final m c h0 h1 h2 i (Cert.Reference4Ideal.Att.masked _ _ _ i hi)
  · refine (θ_run _ _ _).mono (fun r h c => ⟨fun i hi => ?_, (h c).2⟩) (Cert.Reference4Ideal.Value.run m' g')
    rw [(h c).1, (hagree c).1, (hagree c).2.1, (hagree c).2.2]
    exact congrFun (Cert.Reference4Ideal.Read.val_main_v23_eq _ _ _) i

/-- The half feed-forward call ends with the reference's result. -/
theorem ffn : Cert.algebraic_Kernel2Ideal_Reference2Ideal := by
  intro m g m' g' hpre hagree
  refine ⟨fun c => Cert.Kernel2Ideal.Half.want m c, ?_, ?_⟩
  · exact (θ_run _ _ _).mono (fun r h c => ⟨h.1 c, h.2 c⟩)
      (θ_run_and (Cert.Kernel2Ideal.Half.result m g) (Cert.Kernel2Ideal.Gen.unchanged m g))
  · refine (θ_run _ _ _).mono (fun r h c => ⟨?_, (h c).2⟩) (Cert.Reference2Ideal.Value.run m' g')
    refine (h c).1.trans (Eq.trans (Cert.Reference2Ideal.Read.val_main_v70_eq m' c) ?_)
    rw [(hagree c).1, (hagree c).2.1, (hagree c).2.2.1, (hagree c).2.2.2.1, (hagree c).2.2.2.2.1, (hagree c).2.2.2.2.2]

/-- The last half feed-forward call, with the final norm, ends with the reference's result. -/
theorem ffn_last : Cert.algebraic_Kernel3Ideal_Reference3Ideal := by
  intro m g m' g' hpre hagree
  refine ⟨fun c => Cert.Kernel3Ideal.Half.want m c, ?_, ?_⟩
  · exact (θ_run _ _ _).mono (fun r h c => ⟨h.1 c, h.2 c⟩)
      (θ_run_and (Cert.Kernel3Ideal.Half.result m g) (Cert.Kernel3Ideal.Gen.unchanged m g))
  · refine (θ_run _ _ _).mono (fun r h c => ⟨?_, (h c).2⟩) (Cert.Reference3Ideal.Value.run m' g')
    refine (h c).1.trans (Eq.trans (Cert.Reference3Ideal.Read.val_main_v75_eq m' c) ?_)
    rw [(hagree c).1, (hagree c).2.1, (hagree c).2.2.1, (hagree c).2.2.2.1, (hagree c).2.2.2.2.1, (hagree c).2.2.2.2.2.1,
      (hagree c).2.2.2.2.2.2]

/-- The in projection's call ends with the reference's result. -/
theorem in_proj : Cert.algebraic_Kernel5Ideal_Reference5Ideal := by
  intro m g m' g' hpre hagree
  refine ⟨fun c => Cert.Kernel5Ideal.Inp.want m c, ?_, ?_⟩
  · exact (θ_run _ _ _).mono (fun r h c => ⟨h.1 c, h.2 c⟩)
      (θ_run_and (Cert.Kernel5Ideal.Inp.result m g) (Cert.Kernel5Ideal.Gen.unchanged m g))
  · refine (θ_run _ _ _).mono (fun r h c => ⟨?_, (h c).2⟩) (Cert.Reference5Ideal.Value.run m' g')
    refine (h c).1.trans (Eq.trans (Cert.Reference5Ideal.Read.val_main_v42_eq _ _ _ _) ?_)
    rw [(hagree c).1, (hagree c).2.1, (hagree c).2.2.1, (hagree c).2.2.2]

/-- The out projection's call ends with the reference's result. -/
theorem out_proj : Cert.algebraic_Kernel6Ideal_Reference6Ideal := by
  intro m g m' g' hpre hagree
  refine ⟨fun c => Cert.Kernel6Ideal.Outp.want m c, ?_, ?_⟩
  · exact (θ_run _ _ _).mono (fun r h c => ⟨h.1 c, h.2 c⟩)
      (θ_run_and (Cert.Kernel6Ideal.Outp.result m g) (Cert.Kernel6Ideal.Gen.unchanged m g))
  · refine (θ_run _ _ _).mono (fun r h c => ⟨?_, (h c).2⟩) (Cert.Reference6Ideal.Value.run m' g')
    refine (h c).1.trans (Eq.trans (Cert.Reference6Ideal.Read.val_main_v72_eq m' c) ?_)
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

/-- The modulation's call ends with the reference's result. -/
theorem modulation : Cert.algebraic_Kernel7Ideal_Reference7Ideal := by
  intro m g m' g' hpre hagree
  refine ⟨fun c => Cert.Kernel7Ideal.Mod.want m c, ?_, ?_⟩
  · exact (θ_run _ _ _).mono (fun r h c => ⟨h.1 c, h.2 c⟩)
      (θ_run_and (Cert.Kernel7Ideal.Mod.result m g) (Cert.Kernel7Ideal.Gen.unchanged m g))
  · refine (θ_run _ _ _).mono (fun r h c => ⟨?_, (h c).2⟩) (Cert.Reference7Ideal.Value.run m' g')
    refine (h c).1.trans (Eq.trans (Cert.Reference7Ideal.Read.val_main_v8_eq _ _ _ _) ?_)
    rw [(hagree c).1, (hagree c).2.1, (hagree c).2.2.1, (hagree c).2.2.2]

/-- The MLA mixer's queries, keys and values: the call's results are the reference's. -/
theorem latent_inputs : Cert.algebraic_Kernel8Ideal_Reference8Ideal := by
  intro m g m' g' hpre hagree
  refine ⟨fun c => Cert.Kernel8Ideal.Prep.wantQ m c, fun c => Cert.Kernel8Ideal.Prep.wantK m c, fun c => Cert.Kernel8Ideal.Prep.wantV m c, ?_, ?_⟩
  · exact (θ_run _ _ _).mono (fun r h c => ⟨(h.1 c).1, (h.1 c).2.1, (h.1 c).2.2, h.2 c⟩)
      (θ_run_and (Cert.Kernel8Ideal.Prep.result m g) (Cert.Kernel8Ideal.Gen.unchanged m g))
  · refine (θ_run _ _ _).mono (fun r h c => ⟨?_, ?_, ?_, (h c).2.2.2⟩) (Cert.Reference8Ideal.Value.run m' g')
    · refine (h c).1.trans (Eq.trans (Cert.Reference8Ideal.Read.val_main_v77_eq m' c) ?_)
      rw [(hagree c).1, (hagree c).2.1, (hagree c).2.2.2.1, (hagree c).2.2.2.2.2.1, (hagree c).2.2.2.2.2.2]
    · refine (h c).2.1.trans (Eq.trans (Cert.Reference8Ideal.Read.val_main_v84_eq m' c) ?_)
      rw [(hagree c).1, (hagree c).2.2.1, (hagree c).2.2.2.2.1, (hagree c).2.2.2.2.2.1, (hagree c).2.2.2.2.2.2]
    · refine (h c).2.2.1.trans (Eq.trans (Cert.Reference8Ideal.Read.val_main_v92_eq m' c) ?_)
      rw [(hagree c).1, (hagree c).2.2.1, (hagree c).2.2.2.2.1]

theorem ref_quiet : Cert.quiescent_ReferenceIdeal := fun m g _ =>
  (θ_run _ _ _).mono (fun r h => ⟨fun c => (h c).2, sem_eq_zero_of_no_sems (by decide) r.2⟩) (Cert.ReferenceIdeal.Value.run m g)

theorem ref2_quiet : Cert.quiescent_Reference2Ideal := fun m g _ =>
  (θ_run _ _ _).mono (fun r h => ⟨fun c => (h c).2, sem_eq_zero_of_no_sems (by decide) r.2⟩) (Cert.Reference2Ideal.Value.run m g)

theorem ref3_quiet : Cert.quiescent_Reference3Ideal := fun m g _ =>
  (θ_run _ _ _).mono (fun r h => ⟨fun c => (h c).2, sem_eq_zero_of_no_sems (by decide) r.2⟩) (Cert.Reference3Ideal.Value.run m g)

theorem ref4_quiet : Cert.quiescent_Reference4Ideal := fun m g _ =>
  (θ_run _ _ _).mono (fun r h => ⟨fun c => (h c).2, sem_eq_zero_of_no_sems (by decide) r.2⟩) (Cert.Reference4Ideal.Value.run m g)

theorem ref5_quiet : Cert.quiescent_Reference5Ideal := fun m g _ =>
  (θ_run _ _ _).mono (fun r h => ⟨fun c => (h c).2, sem_eq_zero_of_no_sems (by decide) r.2⟩) (Cert.Reference5Ideal.Value.run m g)

theorem ref6_quiet : Cert.quiescent_Reference6Ideal := fun m g _ =>
  (θ_run _ _ _).mono (fun r h => ⟨fun c => (h c).2, sem_eq_zero_of_no_sems (by decide) r.2⟩) (Cert.Reference6Ideal.Value.run m g)

theorem ref7_quiet : Cert.quiescent_Reference7Ideal := fun m g _ =>
  (θ_run _ _ _).mono (fun r h => ⟨fun c => (h c).2, sem_eq_zero_of_no_sems (by decide) r.2⟩) (Cert.Reference7Ideal.Value.run m g)

theorem ref8_quiet : Cert.quiescent_Reference8Ideal := fun m g _ =>
  (θ_run _ _ _).mono (fun r h => ⟨fun c => (h c).2.2.2, sem_eq_zero_of_no_sems (by decide) r.2⟩) (Cert.Reference8Ideal.Value.run m g)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.ReferenceIdeal.Att.preFacts, Cert.Reference4Ideal.Att.preFacts,
  Cert.ReferenceIdeal.Att.onFacts, Cert.Reference4Ideal.Att.onFacts,
  fun m ρ _ => Cert.Kernel.Att.quiet m ρ, fun m ρ _ => Cert.KernelIdeal.Att.quiet m ρ, fun m ρ _ => Cert.KernelIdeal.Att.quiet m ρ,
  ref_quiet, fun m ρ _ => ref_quiet m ρ trivial,
  fun m ρ _ => Cert.Kernel2.Gen.frame m ρ, fun m ρ _ => Cert.Kernel2Ideal.Gen.frame m ρ, ref2_quiet,
  fun m ρ _ => Cert.Kernel3.Gen.frame m ρ, fun m ρ _ => Cert.Kernel3Ideal.Gen.frame m ρ, ref3_quiet,
  fun m ρ _ => Cert.Kernel4.Att.quiet m ρ, fun m ρ _ => Cert.Kernel4Ideal.Att.quiet m ρ, fun m ρ _ => Cert.Kernel4Ideal.Att.quiet m ρ,
  ref4_quiet, fun m ρ _ => ref4_quiet m ρ trivial,
  fun m ρ _ => Cert.Kernel5.Gen.frame m ρ, fun m ρ _ => Cert.Kernel5Ideal.Gen.frame m ρ, ref5_quiet,
  fun m ρ _ => Cert.Kernel6.Gen.frame m ρ, fun m ρ _ => Cert.Kernel6Ideal.Gen.frame m ρ, ref6_quiet,
  fun m ρ _ => Cert.Kernel7.Gen.frame m ρ, fun m ρ _ => Cert.Kernel7Ideal.Gen.frame m ρ, ref7_quiet,
  fun m ρ _ => Cert.Kernel8.Gen.frame m ρ, fun m ρ _ => Cert.Kernel8Ideal.Gen.frame m ρ, ref8_quiet,
  trivial, attention, trivial, ffn, trivial, ffn_last,
  trivial, latent_attention, trivial, in_proj, trivial, out_proj, trivial, modulation, trivial, latent_inputs⟩

end Cert.Proof

end
